-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwGate (m : (ℓ : Loc Cert.DwGate.nD Cert.DwGate.τ Cert.DwGate.sig) → Buf (Elt Bits) ℓ) : Prop :=
  True

def Pre_DwGateIdeal (m : (ℓ : Loc Cert.DwGateIdeal.nD Cert.DwGateIdeal.τ Cert.DwGateIdeal.sig) → Buf (Elt Ideal) ℓ) : Prop :=
  True

def Pre_DwGateRefIdeal (m : (ℓ : Loc Cert.DwGateRefIdeal.nD Cert.DwGateRefIdeal.τ Cert.DwGateRefIdeal.sig) → Buf (Elt Ideal) ℓ) : Prop :=
  True

def Pre_DwVal (m : (ℓ : Loc Cert.DwVal.nD Cert.DwVal.τ Cert.DwVal.sig) → Buf (Elt Bits) ℓ) : Prop :=
  True

def Pre_DwValIdeal (m : (ℓ : Loc Cert.DwValIdeal.nD Cert.DwValIdeal.τ Cert.DwValIdeal.sig) → Buf (Elt Ideal) ℓ) : Prop :=
  True

def Pre_DwValRefIdeal (m : (ℓ : Loc Cert.DwValRefIdeal.nD Cert.DwValRefIdeal.τ Cert.DwValRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormRefIdeal (m : (ℓ : Loc Cert.AdamNormRefIdeal.nD Cert.AdamNormRefIdeal.τ Cert.AdamNormRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamBias (m : (ℓ : Loc Cert.AdamBias.nD Cert.AdamBias.τ Cert.AdamBias.sig) → Buf (Elt Bits) ℓ) : Prop :=
  True

def Pre_AdamBiasIdeal (m : (ℓ : Loc Cert.AdamBiasIdeal.nD Cert.AdamBiasIdeal.τ Cert.AdamBiasIdeal.sig) → Buf (Elt Ideal) ℓ) : Prop :=
  True

def Pre_AdamBiasRefIdeal (m : (ℓ : Loc Cert.AdamBiasRefIdeal.nD Cert.AdamBiasRefIdeal.τ Cert.AdamBiasRefIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadRefIdeal (m : (ℓ : Loc Cert.AdamHeadRefIdeal.nD Cert.AdamHeadRefIdeal.τ Cert.AdamHeadRefIdeal.sig) → Buf (Elt Ideal) ℓ) : Prop :=
  True

def Pre_AdamConvF (m : (ℓ : Loc Cert.AdamConvF.nD Cert.AdamConvF.τ Cert.AdamConvF.sig) → Buf (Elt Bits) ℓ) : Prop :=
  True

def Pre_AdamConvFIdeal (m : (ℓ : Loc Cert.AdamConvFIdeal.nD Cert.AdamConvFIdeal.τ Cert.AdamConvFIdeal.sig) → Buf (Elt Ideal) ℓ) : Prop :=
  True

def Pre_AdamConvFRefIdeal (m : (ℓ : Loc Cert.AdamConvFRefIdeal.nD Cert.AdamConvFRefIdeal.τ Cert.AdamConvFRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2)
      ∧ r.2.mem ((c.tc : Thread Cert.DwDown.nD Cert.DwDown.τ).loc Cert.DwDown.main_arg3) = m ((c.tc : Thread Cert.DwDown.nD Cert.DwDown.τ).loc Cert.DwDown.main_arg3))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
      ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2)
      ∧ r.2.mem ((c.tc : Thread Cert.DwDownRefIdeal.nD Cert.DwDownRefIdeal.τ).loc Cert.DwDownRefIdeal.main_arg3) = m ((c.tc : Thread Cert.DwDownRefIdeal.nD Cert.DwDownRefIdeal.τ).loc Cert.DwDownRefIdeal.main_arg3))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1)
      ∧ r.2.mem ((c.tc : Thread Cert.DwInRefIdeal.nD Cert.DwInRefIdeal.τ).loc Cert.DwInRefIdeal.main_arg2) = m ((c.tc : Thread Cert.DwInRefIdeal.nD Cert.DwInRefIdeal.τ).loc Cert.DwInRefIdeal.main_arg2)
      ∧ r.2.mem ((c.tc : Thread Cert.DwInRefIdeal.nD Cert.DwInRefIdeal.τ).loc Cert.DwInRefIdeal.main_arg3) = m ((c.tc : Thread Cert.DwInRefIdeal.nD Cert.DwInRefIdeal.τ).loc Cert.DwInRefIdeal.main_arg3))
      ∧ r.2.sem = fun _ => 0)

def quiescent_DwGate [hDwGate : Cert.DwGate.Facts] : Prop :=
  ∀ (m : (ℓ : Loc Cert.DwGate.nD Cert.DwGate.τ Cert.DwGate.sig) → Buf (Elt Bits) ℓ) (g : Dev Cert.DwGate.nD → PrngReg), Pre_DwGate m →
    θ_run (Cert.DwGate.defs (F := Bits)) (onTc (τ := Cert.DwGate.τ) (Cert.DwGate.main (F := Bits))) ⟨m, fun _ => 0, g⟩ (fun r => (∀ c : Dev Cert.DwGate.nD,
      r.2.mem ((c.tc : Thread Cert.DwGate.nD Cert.DwGate.τ).loc Cert.DwGate.main_arg0) = m ((c.tc : Thread Cert.DwGate.nD Cert.DwGate.τ).loc Cert.DwGate.main_arg0)
      ∧ r.2.mem ((c.tc : Thread Cert.DwGate.nD Cert.DwGate.τ).loc Cert.DwGate.main_arg1) = m ((c.tc : Thread Cert.DwGate.nD Cert.DwGate.τ).loc Cert.DwGate.main_arg1)
      ∧ r.2.mem ((c.tc : Thread Cert.DwGate.nD Cert.DwGate.τ).loc Cert.DwGate.main_arg2) = m ((c.tc : Thread Cert.DwGate.nD Cert.DwGate.τ).loc Cert.DwGate.main_arg2)
      ∧ r.2.mem ((c.tc : Thread Cert.DwGate.nD Cert.DwGate.τ).loc Cert.DwGate.main_arg3) = m ((c.tc : Thread Cert.DwGate.nD Cert.DwGate.τ).loc Cert.DwGate.main_arg3)
      ∧ r.2.mem ((c.tc : Thread Cert.DwGate.nD Cert.DwGate.τ).loc Cert.DwGate.main_arg4) = m ((c.tc : Thread Cert.DwGate.nD Cert.DwGate.τ).loc Cert.DwGate.main_arg4))
      ∧ r.2.sem = fun _ => 0)

def quiescent_DwGateIdeal [hDwGateIdeal : Cert.DwGateIdeal.Facts] : Prop :=
  ∀ (m : (ℓ : Loc Cert.DwGateIdeal.nD Cert.DwGateIdeal.τ Cert.DwGateIdeal.sig) → Buf (Elt Ideal) ℓ) (g : Dev Cert.DwGateIdeal.nD → PrngReg), Pre_DwGateIdeal m →
    θ_run (Cert.DwGateIdeal.defs (F := Ideal)) (onTc (τ := Cert.DwGateIdeal.τ) (Cert.DwGateIdeal.main (F := Ideal))) ⟨m, fun _ => 0, g⟩ (fun r => (∀ c : Dev Cert.DwGateIdeal.nD,
      r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
      ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
      ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2)
      ∧ r.2.mem ((c.tc : Thread Cert.DwGateIdeal.nD Cert.DwGateIdeal.τ).loc Cert.DwGateIdeal.main_arg3) = m ((c.tc : Thread Cert.DwGateIdeal.nD Cert.DwGateIdeal.τ).loc Cert.DwGateIdeal.main_arg3)
      ∧ r.2.mem ((c.tc : Thread Cert.DwGateIdeal.nD Cert.DwGateIdeal.τ).loc Cert.DwGateIdeal.main_arg4) = m ((c.tc : Thread Cert.DwGateIdeal.nD Cert.DwGateIdeal.τ).loc Cert.DwGateIdeal.main_arg4))
      ∧ r.2.sem = fun _ => 0)

def quiescent_DwGateRefIdeal [hDwGateRefIdeal : Cert.DwGateRefIdeal.Facts] : Prop :=
  ∀ (m : (ℓ : Loc Cert.DwGateRefIdeal.nD Cert.DwGateRefIdeal.τ Cert.DwGateRefIdeal.sig) → Buf (Elt Ideal) ℓ) (g : Dev Cert.DwGateRefIdeal.nD → PrngReg), Pre_DwGateRefIdeal m →
    θ_run (Cert.DwGateRefIdeal.defs (F := Ideal)) (onTc (τ := Cert.DwGateRefIdeal.τ) (Cert.DwGateRefIdeal.main (F := Ideal))) ⟨m, fun _ => 0, g⟩ (fun r => (∀ c : Dev Cert.DwGateRefIdeal.nD,
      r.2.mem ((c.tc : Thread Cert.DwGateRefIdeal.nD Cert.DwGateRefIdeal.τ).loc Cert.DwGateRefIdeal.main_arg0) = m ((c.tc : Thread Cert.DwGateRefIdeal.nD Cert.DwGateRefIdeal.τ).loc Cert.DwGateRefIdeal.main_arg0)
      ∧ r.2.mem ((c.tc : Thread Cert.DwGateRefIdeal.nD Cert.DwGateRefIdeal.τ).loc Cert.DwGateRefIdeal.main_arg1) = m ((c.tc : Thread Cert.DwGateRefIdeal.nD Cert.DwGateRefIdeal.τ).loc Cert.DwGateRefIdeal.main_arg1)
      ∧ r.2.mem ((c.tc : Thread Cert.DwGateRefIdeal.nD Cert.DwGateRefIdeal.τ).loc Cert.DwGateRefIdeal.main_arg2) = m ((c.tc : Thread Cert.DwGateRefIdeal.nD Cert.DwGateRefIdeal.τ).loc Cert.DwGateRefIdeal.main_arg2)
      ∧ r.2.mem ((c.tc : Thread Cert.DwGateRefIdeal.nD Cert.DwGateRefIdeal.τ).loc Cert.DwGateRefIdeal.main_arg3) = m ((c.tc : Thread Cert.DwGateRefIdeal.nD Cert.DwGateRefIdeal.τ).loc Cert.DwGateRefIdeal.main_arg3)
      ∧ r.2.mem ((c.tc : Thread Cert.DwGateRefIdeal.nD Cert.DwGateRefIdeal.τ).loc Cert.DwGateRefIdeal.main_arg4) = m ((c.tc : Thread Cert.DwGateRefIdeal.nD Cert.DwGateRefIdeal.τ).loc Cert.DwGateRefIdeal.main_arg4))
      ∧ r.2.sem = fun _ => 0)

def quiescent_DwVal [hDwVal : Cert.DwVal.Facts] : Prop :=
  ∀ (m : (ℓ : Loc Cert.DwVal.nD Cert.DwVal.τ Cert.DwVal.sig) → Buf (Elt Bits) ℓ) (g : Dev Cert.DwVal.nD → PrngReg), Pre_DwVal m →
    θ_run (Cert.DwVal.defs (F := Bits)) (onTc (τ := Cert.DwVal.τ) (Cert.DwVal.main (F := Bits))) ⟨m, fun _ => 0, g⟩ (fun r => (∀ c : Dev Cert.DwVal.nD,
      r.2.mem ((c.tc : Thread Cert.DwVal.nD Cert.DwVal.τ).loc Cert.DwVal.main_arg0) = m ((c.tc : Thread Cert.DwVal.nD Cert.DwVal.τ).loc Cert.DwVal.main_arg0)
      ∧ r.2.mem ((c.tc : Thread Cert.DwVal.nD Cert.DwVal.τ).loc Cert.DwVal.main_arg1) = m ((c.tc : Thread Cert.DwVal.nD Cert.DwVal.τ).loc Cert.DwVal.main_arg1)
      ∧ r.2.mem ((c.tc : Thread Cert.DwVal.nD Cert.DwVal.τ).loc Cert.DwVal.main_arg2) = m ((c.tc : Thread Cert.DwVal.nD Cert.DwVal.τ).loc Cert.DwVal.main_arg2)
      ∧ r.2.mem ((c.tc : Thread Cert.DwVal.nD Cert.DwVal.τ).loc Cert.DwVal.main_arg3) = m ((c.tc : Thread Cert.DwVal.nD Cert.DwVal.τ).loc Cert.DwVal.main_arg3)
      ∧ r.2.mem ((c.tc : Thread Cert.DwVal.nD Cert.DwVal.τ).loc Cert.DwVal.main_arg4) = m ((c.tc : Thread Cert.DwVal.nD Cert.DwVal.τ).loc Cert.DwVal.main_arg4))
      ∧ r.2.sem = fun _ => 0)

def quiescent_DwValIdeal [hDwValIdeal : Cert.DwValIdeal.Facts] : Prop :=
  ∀ (m : (ℓ : Loc Cert.DwValIdeal.nD Cert.DwValIdeal.τ Cert.DwValIdeal.sig) → Buf (Elt Ideal) ℓ) (g : Dev Cert.DwValIdeal.nD → PrngReg), Pre_DwValIdeal m →
    θ_run (Cert.DwValIdeal.defs (F := Ideal)) (onTc (τ := Cert.DwValIdeal.τ) (Cert.DwValIdeal.main (F := Ideal))) ⟨m, fun _ => 0, g⟩ (fun r => (∀ c : Dev Cert.DwValIdeal.nD,
      r.2.mem ((c.tc : Thread Cert.DwValIdeal.nD Cert.DwValIdeal.τ).loc Cert.DwValIdeal.main_arg0) = m ((c.tc : Thread Cert.DwValIdeal.nD Cert.DwValIdeal.τ).loc Cert.DwValIdeal.main_arg0)
      ∧ r.2.mem ((c.tc : Thread Cert.DwValIdeal.nD Cert.DwValIdeal.τ).loc Cert.DwValIdeal.main_arg1) = m ((c.tc : Thread Cert.DwValIdeal.nD Cert.DwValIdeal.τ).loc Cert.DwValIdeal.main_arg1)
      ∧ r.2.mem ((c.tc : Thread Cert.DwValIdeal.nD Cert.DwValIdeal.τ).loc Cert.DwValIdeal.main_arg2) = m ((c.tc : Thread Cert.DwValIdeal.nD Cert.DwValIdeal.τ).loc Cert.DwValIdeal.main_arg2)
      ∧ r.2.mem ((c.tc : Thread Cert.DwValIdeal.nD Cert.DwValIdeal.τ).loc Cert.DwValIdeal.main_arg3) = m ((c.tc : Thread Cert.DwValIdeal.nD Cert.DwValIdeal.τ).loc Cert.DwValIdeal.main_arg3)
      ∧ r.2.mem ((c.tc : Thread Cert.DwValIdeal.nD Cert.DwValIdeal.τ).loc Cert.DwValIdeal.main_arg4) = m ((c.tc : Thread Cert.DwValIdeal.nD Cert.DwValIdeal.τ).loc Cert.DwValIdeal.main_arg4))
      ∧ r.2.sem = fun _ => 0)

def quiescent_DwValRefIdeal [hDwValRefIdeal : Cert.DwValRefIdeal.Facts] : Prop :=
  ∀ (m : (ℓ : Loc Cert.DwValRefIdeal.nD Cert.DwValRefIdeal.τ Cert.DwValRefIdeal.sig) → Buf (Elt Ideal) ℓ) (g : Dev Cert.DwValRefIdeal.nD → PrngReg), Pre_DwValRefIdeal m →
    θ_run (Cert.DwValRefIdeal.defs (F := Ideal)) (onTc (τ := Cert.DwValRefIdeal.τ) (Cert.DwValRefIdeal.main (F := Ideal))) ⟨m, fun _ => 0, g⟩ (fun r => (∀ c : Dev Cert.DwValRefIdeal.nD,
      r.2.mem ((c.tc : Thread Cert.DwValRefIdeal.nD Cert.DwValRefIdeal.τ).loc Cert.DwValRefIdeal.main_arg0) = m ((c.tc : Thread Cert.DwValRefIdeal.nD Cert.DwValRefIdeal.τ).loc Cert.DwValRefIdeal.main_arg0)
      ∧ r.2.mem ((c.tc : Thread Cert.DwValRefIdeal.nD Cert.DwValRefIdeal.τ).loc Cert.DwValRefIdeal.main_arg1) = m ((c.tc : Thread Cert.DwValRefIdeal.nD Cert.DwValRefIdeal.τ).loc Cert.DwValRefIdeal.main_arg1)
      ∧ r.2.mem ((c.tc : Thread Cert.DwValRefIdeal.nD Cert.DwValRefIdeal.τ).loc Cert.DwValRefIdeal.main_arg2) = m ((c.tc : Thread Cert.DwValRefIdeal.nD Cert.DwValRefIdeal.τ).loc Cert.DwValRefIdeal.main_arg2)
      ∧ r.2.mem ((c.tc : Thread Cert.DwValRefIdeal.nD Cert.DwValRefIdeal.τ).loc Cert.DwValRefIdeal.main_arg3) = m ((c.tc : Thread Cert.DwValRefIdeal.nD Cert.DwValRefIdeal.τ).loc Cert.DwValRefIdeal.main_arg3)
      ∧ r.2.mem ((c.tc : Thread Cert.DwValRefIdeal.nD Cert.DwValRefIdeal.τ).loc Cert.DwValRefIdeal.main_arg4) = m ((c.tc : Thread Cert.DwValRefIdeal.nD Cert.DwValRefIdeal.τ).loc Cert.DwValRefIdeal.main_arg4))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1)
      ∧ r.2.mem ((c.tc : Thread Cert.ProjInRefIdeal.nD Cert.ProjInRefIdeal.τ).loc Cert.ProjInRefIdeal.main_arg2) = m ((c.tc : Thread Cert.ProjInRefIdeal.nD Cert.ProjInRefIdeal.τ).loc Cert.ProjInRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormRefIdeal [hAdamNormRefIdeal : Cert.AdamNormRefIdeal.Facts] : Prop :=
  ∀ (m : (ℓ : Loc Cert.AdamNormRefIdeal.nD Cert.AdamNormRefIdeal.τ Cert.AdamNormRefIdeal.sig) → Buf (Elt Ideal) ℓ) (g : Dev Cert.AdamNormRefIdeal.nD → PrngReg), Pre_AdamNormRefIdeal m →
    θ_run (Cert.AdamNormRefIdeal.defs (F := Ideal)) (onTc (τ := Cert.AdamNormRefIdeal.τ) (Cert.AdamNormRefIdeal.main (F := Ideal))) ⟨m, fun _ => 0, g⟩ (fun r => (∀ c : Dev Cert.AdamNormRefIdeal.nD,
      r.2.mem ((c.tc : Thread Cert.AdamNormRefIdeal.nD Cert.AdamNormRefIdeal.τ).loc Cert.AdamNormRefIdeal.main_arg0) = m ((c.tc : Thread Cert.AdamNormRefIdeal.nD Cert.AdamNormRefIdeal.τ).loc Cert.AdamNormRefIdeal.main_arg0)
      ∧ r.2.mem ((c.tc : Thread Cert.AdamNormRefIdeal.nD Cert.AdamNormRefIdeal.τ).loc Cert.AdamNormRefIdeal.main_arg1) = m ((c.tc : Thread Cert.AdamNormRefIdeal.nD Cert.AdamNormRefIdeal.τ).loc Cert.AdamNormRefIdeal.main_arg1)
      ∧ r.2.mem ((c.tc : Thread Cert.AdamNormRefIdeal.nD Cert.AdamNormRefIdeal.τ).loc Cert.AdamNormRefIdeal.main_arg2) = m ((c.tc : Thread Cert.AdamNormRefIdeal.nD Cert.AdamNormRefIdeal.τ).loc Cert.AdamNormRefIdeal.main_arg2)
      ∧ r.2.mem ((c.tc : Thread Cert.AdamNormRefIdeal.nD Cert.AdamNormRefIdeal.τ).loc Cert.AdamNormRefIdeal.main_arg3) = m ((c.tc : Thread Cert.AdamNormRefIdeal.nD Cert.AdamNormRefIdeal.τ).loc Cert.AdamNormRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamBias [hAdamBias : Cert.AdamBias.Facts] : Prop :=
  ∀ (m : (ℓ : Loc Cert.AdamBias.nD Cert.AdamBias.τ Cert.AdamBias.sig) → Buf (Elt Bits) ℓ) (g : Dev Cert.AdamBias.nD → PrngReg), Pre_AdamBias m →
    θ_run (Cert.AdamBias.defs (F := Bits)) (onTc (τ := Cert.AdamBias.τ) (Cert.AdamBias.main (F := Bits))) ⟨m, fun _ => 0, g⟩ (fun r => (∀ c : Dev Cert.AdamBias.nD,
      r.2.mem ((c.tc : Thread Cert.AdamBias.nD Cert.AdamBias.τ).loc Cert.AdamBias.main_arg0) = m ((c.tc : Thread Cert.AdamBias.nD Cert.AdamBias.τ).loc Cert.AdamBias.main_arg0)
      ∧ r.2.mem ((c.tc : Thread Cert.AdamBias.nD Cert.AdamBias.τ).loc Cert.AdamBias.main_arg1) = m ((c.tc : Thread Cert.AdamBias.nD Cert.AdamBias.τ).loc Cert.AdamBias.main_arg1)
      ∧ r.2.mem ((c.tc : Thread Cert.AdamBias.nD Cert.AdamBias.τ).loc Cert.AdamBias.main_arg2) = m ((c.tc : Thread Cert.AdamBias.nD Cert.AdamBias.τ).loc Cert.AdamBias.main_arg2)
      ∧ r.2.mem ((c.tc : Thread Cert.AdamBias.nD Cert.AdamBias.τ).loc Cert.AdamBias.main_arg3) = m ((c.tc : Thread Cert.AdamBias.nD Cert.AdamBias.τ).loc Cert.AdamBias.main_arg3))
      ∧ r.2.sem = fun _ => 0)

def quiescent_AdamBiasIdeal [hAdamBiasIdeal : Cert.AdamBiasIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg), Pre_AdamBiasIdeal m →
    θ_run (Cert.AdamBiasIdeal.defs (F := Ideal)) (onTc (τ := Cert.AdamBiasIdeal.τ) (Cert.AdamBiasIdeal.main (F := Ideal))) ⟨m, fun _ => 0, g⟩ (fun r => (∀ c : Dev Cert.AdamBiasIdeal.nD,
      r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
      ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
      ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
      ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ r.2.sem = fun _ => 0)

def quiescent_AdamBiasRefIdeal [hAdamBiasRefIdeal : Cert.AdamBiasRefIdeal.Facts] : Prop :=
  ∀ (m : (ℓ : Loc Cert.AdamBiasRefIdeal.nD Cert.AdamBiasRefIdeal.τ Cert.AdamBiasRefIdeal.sig) → Buf (Elt Ideal) ℓ) (g : Dev Cert.AdamBiasRefIdeal.nD → PrngReg), Pre_AdamBiasRefIdeal m →
    θ_run (Cert.AdamBiasRefIdeal.defs (F := Ideal)) (onTc (τ := Cert.AdamBiasRefIdeal.τ) (Cert.AdamBiasRefIdeal.main (F := Ideal))) ⟨m, fun _ => 0, g⟩ (fun r => (∀ c : Dev Cert.AdamBiasRefIdeal.nD,
      r.2.mem ((c.tc : Thread Cert.AdamBiasRefIdeal.nD Cert.AdamBiasRefIdeal.τ).loc Cert.AdamBiasRefIdeal.main_arg0) = m ((c.tc : Thread Cert.AdamBiasRefIdeal.nD Cert.AdamBiasRefIdeal.τ).loc Cert.AdamBiasRefIdeal.main_arg0)
      ∧ r.2.mem ((c.tc : Thread Cert.AdamBiasRefIdeal.nD Cert.AdamBiasRefIdeal.τ).loc Cert.AdamBiasRefIdeal.main_arg1) = m ((c.tc : Thread Cert.AdamBiasRefIdeal.nD Cert.AdamBiasRefIdeal.τ).loc Cert.AdamBiasRefIdeal.main_arg1)
      ∧ r.2.mem ((c.tc : Thread Cert.AdamBiasRefIdeal.nD Cert.AdamBiasRefIdeal.τ).loc Cert.AdamBiasRefIdeal.main_arg2) = m ((c.tc : Thread Cert.AdamBiasRefIdeal.nD Cert.AdamBiasRefIdeal.τ).loc Cert.AdamBiasRefIdeal.main_arg2)
      ∧ r.2.mem ((c.tc : Thread Cert.AdamBiasRefIdeal.nD Cert.AdamBiasRefIdeal.τ).loc Cert.AdamBiasRefIdeal.main_arg3) = m ((c.tc : Thread Cert.AdamBiasRefIdeal.nD Cert.AdamBiasRefIdeal.τ).loc Cert.AdamBiasRefIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadRefIdeal [hAdamHeadRefIdeal : Cert.AdamHeadRefIdeal.Facts] : Prop :=
  ∀ (m : (ℓ : Loc Cert.AdamHeadRefIdeal.nD Cert.AdamHeadRefIdeal.τ Cert.AdamHeadRefIdeal.sig) → Buf (Elt Ideal) ℓ) (g : Dev Cert.AdamHeadRefIdeal.nD → PrngReg), Pre_AdamHeadRefIdeal m →
    θ_run (Cert.AdamHeadRefIdeal.defs (F := Ideal)) (onTc (τ := Cert.AdamHeadRefIdeal.τ) (Cert.AdamHeadRefIdeal.main (F := Ideal))) ⟨m, fun _ => 0, g⟩ (fun r => (∀ c : Dev Cert.AdamHeadRefIdeal.nD,
      r.2.mem ((c.tc : Thread Cert.AdamHeadRefIdeal.nD Cert.AdamHeadRefIdeal.τ).loc Cert.AdamHeadRefIdeal.main_arg0) = m ((c.tc : Thread Cert.AdamHeadRefIdeal.nD Cert.AdamHeadRefIdeal.τ).loc Cert.AdamHeadRefIdeal.main_arg0)
      ∧ r.2.mem ((c.tc : Thread Cert.AdamHeadRefIdeal.nD Cert.AdamHeadRefIdeal.τ).loc Cert.AdamHeadRefIdeal.main_arg1) = m ((c.tc : Thread Cert.AdamHeadRefIdeal.nD Cert.AdamHeadRefIdeal.τ).loc Cert.AdamHeadRefIdeal.main_arg1)
      ∧ r.2.mem ((c.tc : Thread Cert.AdamHeadRefIdeal.nD Cert.AdamHeadRefIdeal.τ).loc Cert.AdamHeadRefIdeal.main_arg2) = m ((c.tc : Thread Cert.AdamHeadRefIdeal.nD Cert.AdamHeadRefIdeal.τ).loc Cert.AdamHeadRefIdeal.main_arg2)
      ∧ r.2.mem ((c.tc : Thread Cert.AdamHeadRefIdeal.nD Cert.AdamHeadRefIdeal.τ).loc Cert.AdamHeadRefIdeal.main_arg3) = m ((c.tc : Thread Cert.AdamHeadRefIdeal.nD Cert.AdamHeadRefIdeal.τ).loc Cert.AdamHeadRefIdeal.main_arg3))
      ∧ r.2.sem = fun _ => 0)

def quiescent_AdamConvF [hAdamConvF : Cert.AdamConvF.Facts] : Prop :=
  ∀ (m : (ℓ : Loc Cert.AdamConvF.nD Cert.AdamConvF.τ Cert.AdamConvF.sig) → Buf (Elt Bits) ℓ) (g : Dev Cert.AdamConvF.nD → PrngReg), Pre_AdamConvF m →
    θ_run (Cert.AdamConvF.defs (F := Bits)) (onTc (τ := Cert.AdamConvF.τ) (Cert.AdamConvF.main (F := Bits))) ⟨m, fun _ => 0, g⟩ (fun r => (∀ c : Dev Cert.AdamConvF.nD,
      r.2.mem ((c.tc : Thread Cert.AdamConvF.nD Cert.AdamConvF.τ).loc Cert.AdamConvF.main_arg0) = m ((c.tc : Thread Cert.AdamConvF.nD Cert.AdamConvF.τ).loc Cert.AdamConvF.main_arg0)
      ∧ r.2.mem ((c.tc : Thread Cert.AdamConvF.nD Cert.AdamConvF.τ).loc Cert.AdamConvF.main_arg1) = m ((c.tc : Thread Cert.AdamConvF.nD Cert.AdamConvF.τ).loc Cert.AdamConvF.main_arg1)
      ∧ r.2.mem ((c.tc : Thread Cert.AdamConvF.nD Cert.AdamConvF.τ).loc Cert.AdamConvF.main_arg2) = m ((c.tc : Thread Cert.AdamConvF.nD Cert.AdamConvF.τ).loc Cert.AdamConvF.main_arg2)
      ∧ r.2.mem ((c.tc : Thread Cert.AdamConvF.nD Cert.AdamConvF.τ).loc Cert.AdamConvF.main_arg3) = m ((c.tc : Thread Cert.AdamConvF.nD Cert.AdamConvF.τ).loc Cert.AdamConvF.main_arg3))
      ∧ r.2.sem = fun _ => 0)

def quiescent_AdamConvFIdeal [hAdamConvFIdeal : Cert.AdamConvFIdeal.Facts] : Prop :=
  ∀ (m : (ℓ : Loc Cert.AdamConvFIdeal.nD Cert.AdamConvFIdeal.τ Cert.AdamConvFIdeal.sig) → Buf (Elt Ideal) ℓ) (g : Dev Cert.AdamConvFIdeal.nD → PrngReg), Pre_AdamConvFIdeal m →
    θ_run (Cert.AdamConvFIdeal.defs (F := Ideal)) (onTc (τ := Cert.AdamConvFIdeal.τ) (Cert.AdamConvFIdeal.main (F := Ideal))) ⟨m, fun _ => 0, g⟩ (fun r => (∀ c : Dev Cert.AdamConvFIdeal.nD,
      r.2.mem ((c.tc : Thread Cert.AdamConvFIdeal.nD Cert.AdamConvFIdeal.τ).loc Cert.AdamConvFIdeal.main_arg0) = m ((c.tc : Thread Cert.AdamConvFIdeal.nD Cert.AdamConvFIdeal.τ).loc Cert.AdamConvFIdeal.main_arg0)
      ∧ r.2.mem ((c.tc : Thread Cert.AdamConvFIdeal.nD Cert.AdamConvFIdeal.τ).loc Cert.AdamConvFIdeal.main_arg1) = m ((c.tc : Thread Cert.AdamConvFIdeal.nD Cert.AdamConvFIdeal.τ).loc Cert.AdamConvFIdeal.main_arg1)
      ∧ r.2.mem ((c.tc : Thread Cert.AdamConvFIdeal.nD Cert.AdamConvFIdeal.τ).loc Cert.AdamConvFIdeal.main_arg2) = m ((c.tc : Thread Cert.AdamConvFIdeal.nD Cert.AdamConvFIdeal.τ).loc Cert.AdamConvFIdeal.main_arg2)
      ∧ r.2.mem ((c.tc : Thread Cert.AdamConvFIdeal.nD Cert.AdamConvFIdeal.τ).loc Cert.AdamConvFIdeal.main_arg3) = m ((c.tc : Thread Cert.AdamConvFIdeal.nD Cert.AdamConvFIdeal.τ).loc Cert.AdamConvFIdeal.main_arg3))
      ∧ r.2.sem = fun _ => 0)

def quiescent_AdamConvFRefIdeal [hAdamConvFRefIdeal : Cert.AdamConvFRefIdeal.Facts] : Prop :=
  ∀ (m : (ℓ : Loc Cert.AdamConvFRefIdeal.nD Cert.AdamConvFRefIdeal.τ Cert.AdamConvFRefIdeal.sig) → Buf (Elt Ideal) ℓ) (g : Dev Cert.AdamConvFRefIdeal.nD → PrngReg), Pre_AdamConvFRefIdeal m →
    θ_run (Cert.AdamConvFRefIdeal.defs (F := Ideal)) (onTc (τ := Cert.AdamConvFRefIdeal.τ) (Cert.AdamConvFRefIdeal.main (F := Ideal))) ⟨m, fun _ => 0, g⟩ (fun r => (∀ c : Dev Cert.AdamConvFRefIdeal.nD,
      r.2.mem ((c.tc : Thread Cert.AdamConvFRefIdeal.nD Cert.AdamConvFRefIdeal.τ).loc Cert.AdamConvFRefIdeal.main_arg0) = m ((c.tc : Thread Cert.AdamConvFRefIdeal.nD Cert.AdamConvFRefIdeal.τ).loc Cert.AdamConvFRefIdeal.main_arg0)
      ∧ r.2.mem ((c.tc : Thread Cert.AdamConvFRefIdeal.nD Cert.AdamConvFRefIdeal.τ).loc Cert.AdamConvFRefIdeal.main_arg1) = m ((c.tc : Thread Cert.AdamConvFRefIdeal.nD Cert.AdamConvFRefIdeal.τ).loc Cert.AdamConvFRefIdeal.main_arg1)
      ∧ r.2.mem ((c.tc : Thread Cert.AdamConvFRefIdeal.nD Cert.AdamConvFRefIdeal.τ).loc Cert.AdamConvFRefIdeal.main_arg2) = m ((c.tc : Thread Cert.AdamConvFRefIdeal.nD Cert.AdamConvFRefIdeal.τ).loc Cert.AdamConvFRefIdeal.main_arg2)
      ∧ r.2.mem ((c.tc : Thread Cert.AdamConvFRefIdeal.nD Cert.AdamConvFRefIdeal.τ).loc Cert.AdamConvFRefIdeal.main_arg3) = m ((c.tc : Thread Cert.AdamConvFRefIdeal.nD Cert.AdamConvFRefIdeal.τ).loc Cert.AdamConvFRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)) (v2 : (c : Dev Cert.KernelIdeal.nD) → Buf (Elt Ideal) ((c.tc : Thread Cert.KernelIdeal.nD Cert.KernelIdeal.τ).loc Cert.KernelIdeal.main_v47_2)) (v3 : (c : Dev Cert.KernelIdeal.nD) → Buf (Elt Ideal) ((c.tc : Thread Cert.KernelIdeal.nD Cert.KernelIdeal.τ).loc Cert.KernelIdeal.main_v47_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_v47_2) = v2 c
          ∧ r.2.mem ((c.tc : Thread Cert.KernelIdeal.nD Cert.KernelIdeal.τ).loc Cert.KernelIdeal.main_v47_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v115) = v2 c
          ∧ r.2.mem ((c.tc : Thread Cert.ReferenceIdeal.nD Cert.ReferenceIdeal.τ).loc Cert.ReferenceIdeal.main_v116) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)
      ∧ m' ((c.tc : Thread Cert.DwDownRefIdeal.nD Cert.DwDownRefIdeal.τ).loc Cert.DwDownRefIdeal.main_arg3) = m ((c.tc : Thread Cert.DwDownIdeal.nD Cert.DwDownIdeal.τ).loc Cert.DwDownIdeal.main_arg3)) →
    ∃ (v0 : (c : Dev Cert.DwDownIdeal.nD) → Buf (Elt Ideal) ((c.tc : Thread Cert.DwDownIdeal.nD Cert.DwDownIdeal.τ).loc Cert.DwDownIdeal.main_v28)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v28) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
          ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v28) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2)
          ∧ r.2.mem ((c.tc : Thread Cert.DwDownRefIdeal.nD Cert.DwDownRefIdeal.τ).loc Cert.DwDownRefIdeal.main_arg3) = m' ((c.tc : Thread Cert.DwDownRefIdeal.nD Cert.DwDownRefIdeal.τ).loc Cert.DwDownRefIdeal.main_arg3))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)
      ∧ m' ((c.tc : Thread Cert.DwInRefIdeal.nD Cert.DwInRefIdeal.τ).loc Cert.DwInRefIdeal.main_arg2) = m ((c.tc : Thread Cert.DwInIdeal.nD Cert.DwInIdeal.τ).loc Cert.DwInIdeal.main_arg2)
      ∧ m' ((c.tc : Thread Cert.DwInRefIdeal.nD Cert.DwInRefIdeal.τ).loc Cert.DwInRefIdeal.main_arg3) = m ((c.tc : Thread Cert.DwInIdeal.nD Cert.DwInIdeal.τ).loc Cert.DwInIdeal.main_arg3)) →
    ∃ (v0 : (c : Dev Cert.DwInIdeal.nD) → Buf (Elt Ideal) ((c.tc : Thread Cert.DwInIdeal.nD Cert.DwInIdeal.τ).loc Cert.DwInIdeal.main_v16)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v16) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v16) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1)
          ∧ r.2.mem ((c.tc : Thread Cert.DwInRefIdeal.nD Cert.DwInRefIdeal.τ).loc Cert.DwInRefIdeal.main_arg2) = m' ((c.tc : Thread Cert.DwInRefIdeal.nD Cert.DwInRefIdeal.τ).loc Cert.DwInRefIdeal.main_arg2)
          ∧ r.2.mem ((c.tc : Thread Cert.DwInRefIdeal.nD Cert.DwInRefIdeal.τ).loc Cert.DwInRefIdeal.main_arg3) = m' ((c.tc : Thread Cert.DwInRefIdeal.nD Cert.DwInRefIdeal.τ).loc Cert.DwInRefIdeal.main_arg3))

def preserves_DwGate_DwGateIdeal : Prop :=
  True

def algebraic_DwGateIdeal_DwGateRefIdeal [hDwGateIdeal : Cert.DwGateIdeal.Facts] [hDwGateRefIdeal : Cert.DwGateRefIdeal.Facts] : Prop :=
  ∀ (m : (ℓ : Loc Cert.DwGateIdeal.nD Cert.DwGateIdeal.τ Cert.DwGateIdeal.sig) → Buf (Elt Ideal) ℓ) (g : Dev Cert.DwGateIdeal.nD → PrngReg)
    (m' : (ℓ : Loc Cert.DwGateRefIdeal.nD Cert.DwGateRefIdeal.τ Cert.DwGateRefIdeal.sig) → Buf (Elt Ideal) ℓ) (g' : Dev Cert.DwGateRefIdeal.nD → PrngReg), Pre_DwGateIdeal m →
    (∀ c : Dev Cert.DwGateIdeal.nD,
      m' ((c.tc : Thread Cert.DwGateRefIdeal.nD Cert.DwGateRefIdeal.τ).loc Cert.DwGateRefIdeal.main_arg0) = m ((c.tc : Thread Cert.DwGateIdeal.nD Cert.DwGateIdeal.τ).loc Cert.DwGateIdeal.main_arg0)
      ∧ m' ((c.tc : Thread Cert.DwGateRefIdeal.nD Cert.DwGateRefIdeal.τ).loc Cert.DwGateRefIdeal.main_arg1) = m ((c.tc : Thread Cert.DwGateIdeal.nD Cert.DwGateIdeal.τ).loc Cert.DwGateIdeal.main_arg1)
      ∧ m' ((c.tc : Thread Cert.DwGateRefIdeal.nD Cert.DwGateRefIdeal.τ).loc Cert.DwGateRefIdeal.main_arg2) = m ((c.tc : Thread Cert.DwGateIdeal.nD Cert.DwGateIdeal.τ).loc Cert.DwGateIdeal.main_arg2)
      ∧ m' ((c.tc : Thread Cert.DwGateRefIdeal.nD Cert.DwGateRefIdeal.τ).loc Cert.DwGateRefIdeal.main_arg3) = m ((c.tc : Thread Cert.DwGateIdeal.nD Cert.DwGateIdeal.τ).loc Cert.DwGateIdeal.main_arg3)
      ∧ m' ((c.tc : Thread Cert.DwGateRefIdeal.nD Cert.DwGateRefIdeal.τ).loc Cert.DwGateRefIdeal.main_arg4) = m ((c.tc : Thread Cert.DwGateIdeal.nD Cert.DwGateIdeal.τ).loc Cert.DwGateIdeal.main_arg4)) →
    ∃ (v0 : (c : Dev Cert.DwGateIdeal.nD) → Buf (Elt Ideal) ((c.tc : Thread Cert.DwGateIdeal.nD Cert.DwGateIdeal.τ).loc Cert.DwGateIdeal.main_v16)),
      θ_run (Cert.DwGateIdeal.defs (F := Ideal)) (onTc (τ := Cert.DwGateIdeal.τ) (Cert.DwGateIdeal.main (F := Ideal))) ⟨m, fun _ => 0, g⟩ (fun r => ∀ c : Dev Cert.DwGateIdeal.nD,
          r.2.mem ((c.tc : Thread Cert.DwGateIdeal.nD Cert.DwGateIdeal.τ).loc Cert.DwGateIdeal.main_v16) = v0 c
          ∧ r.2.mem ((c.tc : Thread Cert.DwGateIdeal.nD Cert.DwGateIdeal.τ).loc Cert.DwGateIdeal.main_arg0) = m ((c.tc : Thread Cert.DwGateIdeal.nD Cert.DwGateIdeal.τ).loc Cert.DwGateIdeal.main_arg0)
          ∧ r.2.mem ((c.tc : Thread Cert.DwGateIdeal.nD Cert.DwGateIdeal.τ).loc Cert.DwGateIdeal.main_arg1) = m ((c.tc : Thread Cert.DwGateIdeal.nD Cert.DwGateIdeal.τ).loc Cert.DwGateIdeal.main_arg1)
          ∧ r.2.mem ((c.tc : Thread Cert.DwGateIdeal.nD Cert.DwGateIdeal.τ).loc Cert.DwGateIdeal.main_arg2) = m ((c.tc : Thread Cert.DwGateIdeal.nD Cert.DwGateIdeal.τ).loc Cert.DwGateIdeal.main_arg2)
          ∧ r.2.mem ((c.tc : Thread Cert.DwGateIdeal.nD Cert.DwGateIdeal.τ).loc Cert.DwGateIdeal.main_arg3) = m ((c.tc : Thread Cert.DwGateIdeal.nD Cert.DwGateIdeal.τ).loc Cert.DwGateIdeal.main_arg3)
          ∧ r.2.mem ((c.tc : Thread Cert.DwGateIdeal.nD Cert.DwGateIdeal.τ).loc Cert.DwGateIdeal.main_arg4) = m ((c.tc : Thread Cert.DwGateIdeal.nD Cert.DwGateIdeal.τ).loc Cert.DwGateIdeal.main_arg4))
      ∧ θ_run (Cert.DwGateRefIdeal.defs (F := Ideal)) (onTc (τ := Cert.DwGateRefIdeal.τ) (Cert.DwGateRefIdeal.main (F := Ideal))) ⟨m', fun _ => 0, g'⟩ (fun r => ∀ c : Dev Cert.DwGateRefIdeal.nD,
          r.2.mem ((c.tc : Thread Cert.DwGateRefIdeal.nD Cert.DwGateRefIdeal.τ).loc Cert.DwGateRefIdeal.main_v20) = v0 c
          ∧ r.2.mem ((c.tc : Thread Cert.DwGateRefIdeal.nD Cert.DwGateRefIdeal.τ).loc Cert.DwGateRefIdeal.main_arg0) = m' ((c.tc : Thread Cert.DwGateRefIdeal.nD Cert.DwGateRefIdeal.τ).loc Cert.DwGateRefIdeal.main_arg0)
          ∧ r.2.mem ((c.tc : Thread Cert.DwGateRefIdeal.nD Cert.DwGateRefIdeal.τ).loc Cert.DwGateRefIdeal.main_arg1) = m' ((c.tc : Thread Cert.DwGateRefIdeal.nD Cert.DwGateRefIdeal.τ).loc Cert.DwGateRefIdeal.main_arg1)
          ∧ r.2.mem ((c.tc : Thread Cert.DwGateRefIdeal.nD Cert.DwGateRefIdeal.τ).loc Cert.DwGateRefIdeal.main_arg2) = m' ((c.tc : Thread Cert.DwGateRefIdeal.nD Cert.DwGateRefIdeal.τ).loc Cert.DwGateRefIdeal.main_arg2)
          ∧ r.2.mem ((c.tc : Thread Cert.DwGateRefIdeal.nD Cert.DwGateRefIdeal.τ).loc Cert.DwGateRefIdeal.main_arg3) = m' ((c.tc : Thread Cert.DwGateRefIdeal.nD Cert.DwGateRefIdeal.τ).loc Cert.DwGateRefIdeal.main_arg3)
          ∧ r.2.mem ((c.tc : Thread Cert.DwGateRefIdeal.nD Cert.DwGateRefIdeal.τ).loc Cert.DwGateRefIdeal.main_arg4) = m' ((c.tc : Thread Cert.DwGateRefIdeal.nD Cert.DwGateRefIdeal.τ).loc Cert.DwGateRefIdeal.main_arg4))

def preserves_DwVal_DwValIdeal : Prop :=
  True

def algebraic_DwValIdeal_DwValRefIdeal [hDwValIdeal : Cert.DwValIdeal.Facts] [hDwValRefIdeal : Cert.DwValRefIdeal.Facts] : Prop :=
  ∀ (m : (ℓ : Loc Cert.DwValIdeal.nD Cert.DwValIdeal.τ Cert.DwValIdeal.sig) → Buf (Elt Ideal) ℓ) (g : Dev Cert.DwValIdeal.nD → PrngReg)
    (m' : (ℓ : Loc Cert.DwValRefIdeal.nD Cert.DwValRefIdeal.τ Cert.DwValRefIdeal.sig) → Buf (Elt Ideal) ℓ) (g' : Dev Cert.DwValRefIdeal.nD → PrngReg), Pre_DwValIdeal m →
    (∀ c : Dev Cert.DwValIdeal.nD,
      m' ((c.tc : Thread Cert.DwValRefIdeal.nD Cert.DwValRefIdeal.τ).loc Cert.DwValRefIdeal.main_arg0) = m ((c.tc : Thread Cert.DwValIdeal.nD Cert.DwValIdeal.τ).loc Cert.DwValIdeal.main_arg0)
      ∧ m' ((c.tc : Thread Cert.DwValRefIdeal.nD Cert.DwValRefIdeal.τ).loc Cert.DwValRefIdeal.main_arg1) = m ((c.tc : Thread Cert.DwValIdeal.nD Cert.DwValIdeal.τ).loc Cert.DwValIdeal.main_arg1)
      ∧ m' ((c.tc : Thread Cert.DwValRefIdeal.nD Cert.DwValRefIdeal.τ).loc Cert.DwValRefIdeal.main_arg2) = m ((c.tc : Thread Cert.DwValIdeal.nD Cert.DwValIdeal.τ).loc Cert.DwValIdeal.main_arg2)
      ∧ m' ((c.tc : Thread Cert.DwValRefIdeal.nD Cert.DwValRefIdeal.τ).loc Cert.DwValRefIdeal.main_arg3) = m ((c.tc : Thread Cert.DwValIdeal.nD Cert.DwValIdeal.τ).loc Cert.DwValIdeal.main_arg3)
      ∧ m' ((c.tc : Thread Cert.DwValRefIdeal.nD Cert.DwValRefIdeal.τ).loc Cert.DwValRefIdeal.main_arg4) = m ((c.tc : Thread Cert.DwValIdeal.nD Cert.DwValIdeal.τ).loc Cert.DwValIdeal.main_arg4)) →
    ∃ (v0 : (c : Dev Cert.DwValIdeal.nD) → Buf (Elt Ideal) ((c.tc : Thread Cert.DwValIdeal.nD Cert.DwValIdeal.τ).loc Cert.DwValIdeal.main_v16)),
      θ_run (Cert.DwValIdeal.defs (F := Ideal)) (onTc (τ := Cert.DwValIdeal.τ) (Cert.DwValIdeal.main (F := Ideal))) ⟨m, fun _ => 0, g⟩ (fun r => ∀ c : Dev Cert.DwValIdeal.nD,
          r.2.mem ((c.tc : Thread Cert.DwValIdeal.nD Cert.DwValIdeal.τ).loc Cert.DwValIdeal.main_v16) = v0 c
          ∧ r.2.mem ((c.tc : Thread Cert.DwValIdeal.nD Cert.DwValIdeal.τ).loc Cert.DwValIdeal.main_arg0) = m ((c.tc : Thread Cert.DwValIdeal.nD Cert.DwValIdeal.τ).loc Cert.DwValIdeal.main_arg0)
          ∧ r.2.mem ((c.tc : Thread Cert.DwValIdeal.nD Cert.DwValIdeal.τ).loc Cert.DwValIdeal.main_arg1) = m ((c.tc : Thread Cert.DwValIdeal.nD Cert.DwValIdeal.τ).loc Cert.DwValIdeal.main_arg1)
          ∧ r.2.mem ((c.tc : Thread Cert.DwValIdeal.nD Cert.DwValIdeal.τ).loc Cert.DwValIdeal.main_arg2) = m ((c.tc : Thread Cert.DwValIdeal.nD Cert.DwValIdeal.τ).loc Cert.DwValIdeal.main_arg2)
          ∧ r.2.mem ((c.tc : Thread Cert.DwValIdeal.nD Cert.DwValIdeal.τ).loc Cert.DwValIdeal.main_arg3) = m ((c.tc : Thread Cert.DwValIdeal.nD Cert.DwValIdeal.τ).loc Cert.DwValIdeal.main_arg3)
          ∧ r.2.mem ((c.tc : Thread Cert.DwValIdeal.nD Cert.DwValIdeal.τ).loc Cert.DwValIdeal.main_arg4) = m ((c.tc : Thread Cert.DwValIdeal.nD Cert.DwValIdeal.τ).loc Cert.DwValIdeal.main_arg4))
      ∧ θ_run (Cert.DwValRefIdeal.defs (F := Ideal)) (onTc (τ := Cert.DwValRefIdeal.τ) (Cert.DwValRefIdeal.main (F := Ideal))) ⟨m', fun _ => 0, g'⟩ (fun r => ∀ c : Dev Cert.DwValRefIdeal.nD,
          r.2.mem ((c.tc : Thread Cert.DwValRefIdeal.nD Cert.DwValRefIdeal.τ).loc Cert.DwValRefIdeal.main_v20) = v0 c
          ∧ r.2.mem ((c.tc : Thread Cert.DwValRefIdeal.nD Cert.DwValRefIdeal.τ).loc Cert.DwValRefIdeal.main_arg0) = m' ((c.tc : Thread Cert.DwValRefIdeal.nD Cert.DwValRefIdeal.τ).loc Cert.DwValRefIdeal.main_arg0)
          ∧ r.2.mem ((c.tc : Thread Cert.DwValRefIdeal.nD Cert.DwValRefIdeal.τ).loc Cert.DwValRefIdeal.main_arg1) = m' ((c.tc : Thread Cert.DwValRefIdeal.nD Cert.DwValRefIdeal.τ).loc Cert.DwValRefIdeal.main_arg1)
          ∧ r.2.mem ((c.tc : Thread Cert.DwValRefIdeal.nD Cert.DwValRefIdeal.τ).loc Cert.DwValRefIdeal.main_arg2) = m' ((c.tc : Thread Cert.DwValRefIdeal.nD Cert.DwValRefIdeal.τ).loc Cert.DwValRefIdeal.main_arg2)
          ∧ r.2.mem ((c.tc : Thread Cert.DwValRefIdeal.nD Cert.DwValRefIdeal.τ).loc Cert.DwValRefIdeal.main_arg3) = m' ((c.tc : Thread Cert.DwValRefIdeal.nD Cert.DwValRefIdeal.τ).loc Cert.DwValRefIdeal.main_arg3)
          ∧ r.2.mem ((c.tc : Thread Cert.DwValRefIdeal.nD Cert.DwValRefIdeal.τ).loc Cert.DwValRefIdeal.main_arg4) = m' ((c.tc : Thread Cert.DwValRefIdeal.nD Cert.DwValRefIdeal.τ).loc Cert.DwValRefIdeal.main_arg4))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)
      ∧ m' ((c.tc : Thread Cert.ProjInRefIdeal.nD Cert.ProjInRefIdeal.τ).loc Cert.ProjInRefIdeal.main_arg2) = m ((c.tc : Thread Cert.ProjInIdeal.nD Cert.ProjInIdeal.τ).loc Cert.ProjInIdeal.main_arg2)) →
    ∃ (v0 : (c : Dev Cert.ProjInIdeal.nD) → Buf (Elt Ideal) ((c.tc : Thread Cert.ProjInIdeal.nD Cert.ProjInIdeal.τ).loc Cert.ProjInIdeal.main_v1_0)) (v1 : (c : Dev Cert.ProjInIdeal.nD) → Buf (Elt Ideal) ((c.tc : Thread Cert.ProjInIdeal.nD Cert.ProjInIdeal.τ).loc Cert.ProjInIdeal.main_v1_1)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v1_0) = v0 c
          ∧ r.2.mem ((c.tc : Thread Cert.ProjInIdeal.nD Cert.ProjInIdeal.τ).loc Cert.ProjInIdeal.main_v1_1) = v1 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v15) = v0 c
          ∧ r.2.mem ((c.tc : Thread Cert.ProjInRefIdeal.nD Cert.ProjInRefIdeal.τ).loc Cert.ProjInRefIdeal.main_v16) = v1 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1)
          ∧ r.2.mem ((c.tc : Thread Cert.ProjInRefIdeal.nD Cert.ProjInRefIdeal.τ).loc Cert.ProjInRefIdeal.main_arg2) = m' ((c.tc : Thread Cert.ProjInRefIdeal.nD Cert.ProjInRefIdeal.τ).loc Cert.ProjInRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)) (v2 : (c : Dev Cert.FfnIdeal.nD) → Buf (Elt Ideal) ((c.tc : Thread Cert.FfnIdeal.nD Cert.FfnIdeal.τ).loc Cert.FfnIdeal.main_v4_2)) (v3 : (c : Dev Cert.FfnIdeal.nD) → Buf (Elt Ideal) ((c.tc : Thread Cert.FfnIdeal.nD Cert.FfnIdeal.τ).loc Cert.FfnIdeal.main_v4_3)) (v4 : (c : Dev Cert.FfnIdeal.nD) → Buf (Elt Ideal) ((c.tc : Thread Cert.FfnIdeal.nD Cert.FfnIdeal.τ).loc Cert.FfnIdeal.main_v4_4)) (v5 : (c : Dev Cert.FfnIdeal.nD) → Buf (Elt Ideal) ((c.tc : Thread Cert.FfnIdeal.nD Cert.FfnIdeal.τ).loc Cert.FfnIdeal.main_v4_5)) (v6 : (c : Dev Cert.FfnIdeal.nD) → Buf (Elt Ideal) ((c.tc : Thread Cert.FfnIdeal.nD Cert.FfnIdeal.τ).loc Cert.FfnIdeal.main_v4_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_v4_2) = v2 c
          ∧ r.2.mem ((c.tc : Thread Cert.FfnIdeal.nD Cert.FfnIdeal.τ).loc Cert.FfnIdeal.main_v4_3) = v3 c
          ∧ r.2.mem ((c.tc : Thread Cert.FfnIdeal.nD Cert.FfnIdeal.τ).loc Cert.FfnIdeal.main_v4_4) = v4 c
          ∧ r.2.mem ((c.tc : Thread Cert.FfnIdeal.nD Cert.FfnIdeal.τ).loc Cert.FfnIdeal.main_v4_5) = v5 c
          ∧ r.2.mem ((c.tc : Thread Cert.FfnIdeal.nD Cert.FfnIdeal.τ).loc Cert.FfnIdeal.main_v4_6) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v42) = v0 c
          ∧ r.2.mem ((c.tc : Thread Cert.FfnRefIdeal.nD Cert.FfnRefIdeal.τ).loc Cert.FfnRefIdeal.main_v43) = v1 c
          ∧ r.2.mem ((c.tc : Thread Cert.FfnRefIdeal.nD Cert.FfnRefIdeal.τ).loc Cert.FfnRefIdeal.main_v44) = v2 c
          ∧ r.2.mem ((c.tc : Thread Cert.FfnRefIdeal.nD Cert.FfnRefIdeal.τ).loc Cert.FfnRefIdeal.main_v45) = v3 c
          ∧ r.2.mem ((c.tc : Thread Cert.FfnRefIdeal.nD Cert.FfnRefIdeal.τ).loc Cert.FfnRefIdeal.main_v46) = v4 c
          ∧ r.2.mem ((c.tc : Thread Cert.FfnRefIdeal.nD Cert.FfnRefIdeal.τ).loc Cert.FfnRefIdeal.main_v41) = v5 c
          ∧ r.2.mem ((c.tc : Thread Cert.FfnRefIdeal.nD Cert.FfnRefIdeal.τ).loc Cert.FfnRefIdeal.main_v61) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v9_0)) (v1 : (c : Dev Cert.MixIdeal.nD) → Buf (Elt Ideal) ((c.tc : Thread Cert.MixIdeal.nD Cert.MixIdeal.τ).loc Cert.MixIdeal.main_v9_1)) (v2 : (c : Dev Cert.MixIdeal.nD) → Buf (Elt Ideal) ((c.tc : Thread Cert.MixIdeal.nD Cert.MixIdeal.τ).loc Cert.MixIdeal.main_v9_2)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v9_0) = v0 c
          ∧ r.2.mem ((c.tc : Thread Cert.MixIdeal.nD Cert.MixIdeal.τ).loc Cert.MixIdeal.main_v9_1) = v1 c
          ∧ r.2.mem ((c.tc : Thread Cert.MixIdeal.nD Cert.MixIdeal.τ).loc Cert.MixIdeal.main_v9_2) = v2 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v53) = v0 c
          ∧ r.2.mem ((c.tc : Thread Cert.MixRefIdeal.nD Cert.MixRefIdeal.τ).loc Cert.MixRefIdeal.main_v52) = v1 c
          ∧ r.2.mem ((c.tc : Thread Cert.MixRefIdeal.nD Cert.MixRefIdeal.τ).loc Cert.MixRefIdeal.main_v68) = v2 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v4_0)) (v1 : (c : Dev Cert.AdamUpIdeal.nD) → Buf (Elt Ideal) ((c.tc : Thread Cert.AdamUpIdeal.nD Cert.AdamUpIdeal.τ).loc Cert.AdamUpIdeal.main_v4_1)) (v2 : (c : Dev Cert.AdamUpIdeal.nD) → Buf (Elt Ideal) ((c.tc : Thread Cert.AdamUpIdeal.nD Cert.AdamUpIdeal.τ).loc Cert.AdamUpIdeal.main_v4_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v4_0) = v0 c
          ∧ r.2.mem ((c.tc : Thread Cert.AdamUpIdeal.nD Cert.AdamUpIdeal.τ).loc Cert.AdamUpIdeal.main_v4_1) = v1 c
          ∧ r.2.mem ((c.tc : Thread Cert.AdamUpIdeal.nD Cert.AdamUpIdeal.τ).loc Cert.AdamUpIdeal.main_v4_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v24) = v0 c
          ∧ r.2.mem ((c.tc : Thread Cert.AdamUpRefIdeal.nD Cert.AdamUpRefIdeal.τ).loc Cert.AdamUpRefIdeal.main_v25) = v1 c
          ∧ r.2.mem ((c.tc : Thread Cert.AdamUpRefIdeal.nD Cert.AdamUpRefIdeal.τ).loc Cert.AdamUpRefIdeal.main_v26) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v4_0)) (v1 : (c : Dev Cert.AdamOutIdeal.nD) → Buf (Elt Ideal) ((c.tc : Thread Cert.AdamOutIdeal.nD Cert.AdamOutIdeal.τ).loc Cert.AdamOutIdeal.main_v4_1)) (v2 : (c : Dev Cert.AdamOutIdeal.nD) → Buf (Elt Ideal) ((c.tc : Thread Cert.AdamOutIdeal.nD Cert.AdamOutIdeal.τ).loc Cert.AdamOutIdeal.main_v4_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v4_0) = v0 c
          ∧ r.2.mem ((c.tc : Thread Cert.AdamOutIdeal.nD Cert.AdamOutIdeal.τ).loc Cert.AdamOutIdeal.main_v4_1) = v1 c
          ∧ r.2.mem ((c.tc : Thread Cert.AdamOutIdeal.nD Cert.AdamOutIdeal.τ).loc Cert.AdamOutIdeal.main_v4_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v24) = v0 c
          ∧ r.2.mem ((c.tc : Thread Cert.AdamOutRefIdeal.nD Cert.AdamOutRefIdeal.τ).loc Cert.AdamOutRefIdeal.main_v25) = v1 c
          ∧ r.2.mem ((c.tc : Thread Cert.AdamOutRefIdeal.nD Cert.AdamOutRefIdeal.τ).loc Cert.AdamOutRefIdeal.main_v26) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v4_0)) (v1 : (c : Dev Cert.AdamDownIdeal.nD) → Buf (Elt Ideal) ((c.tc : Thread Cert.AdamDownIdeal.nD Cert.AdamDownIdeal.τ).loc Cert.AdamDownIdeal.main_v4_1)) (v2 : (c : Dev Cert.AdamDownIdeal.nD) → Buf (Elt Ideal) ((c.tc : Thread Cert.AdamDownIdeal.nD Cert.AdamDownIdeal.τ).loc Cert.AdamDownIdeal.main_v4_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v4_0) = v0 c
          ∧ r.2.mem ((c.tc : Thread Cert.AdamDownIdeal.nD Cert.AdamDownIdeal.τ).loc Cert.AdamDownIdeal.main_v4_1) = v1 c
          ∧ r.2.mem ((c.tc : Thread Cert.AdamDownIdeal.nD Cert.AdamDownIdeal.τ).loc Cert.AdamDownIdeal.main_v4_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v24) = v0 c
          ∧ r.2.mem ((c.tc : Thread Cert.AdamDownRefIdeal.nD Cert.AdamDownRefIdeal.τ).loc Cert.AdamDownRefIdeal.main_v25) = v1 c
          ∧ r.2.mem ((c.tc : Thread Cert.AdamDownRefIdeal.nD Cert.AdamDownRefIdeal.τ).loc Cert.AdamDownRefIdeal.main_v26) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamNorm_AdamNormIdeal : Prop :=
  True

def algebraic_AdamNormIdeal_AdamNormRefIdeal [hAdamNormIdeal : Cert.AdamNormIdeal.Facts] [hAdamNormRefIdeal : Cert.AdamNormRefIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormRefIdeal.nD Cert.AdamNormRefIdeal.τ Cert.AdamNormRefIdeal.sig) → Buf (Elt Ideal) ℓ) (g' : Dev Cert.AdamNormRefIdeal.nD → PrngReg), Pre_AdamNormIdeal m →
    (∀ c : Dev Cert.AdamNormIdeal.nD,
      m' ((c.tc : Thread Cert.AdamNormRefIdeal.nD Cert.AdamNormRefIdeal.τ).loc Cert.AdamNormRefIdeal.main_arg0) = m ((c.tc : Thread Cert.AdamNormIdeal.nD Cert.AdamNormIdeal.τ).loc Cert.AdamNormIdeal.main_arg0)
      ∧ m' ((c.tc : Thread Cert.AdamNormRefIdeal.nD Cert.AdamNormRefIdeal.τ).loc Cert.AdamNormRefIdeal.main_arg1) = m ((c.tc : Thread Cert.AdamNormIdeal.nD Cert.AdamNormIdeal.τ).loc Cert.AdamNormIdeal.main_arg1)
      ∧ m' ((c.tc : Thread Cert.AdamNormRefIdeal.nD Cert.AdamNormRefIdeal.τ).loc Cert.AdamNormRefIdeal.main_arg2) = m ((c.tc : Thread Cert.AdamNormIdeal.nD Cert.AdamNormIdeal.τ).loc Cert.AdamNormIdeal.main_arg2)
      ∧ m' ((c.tc : Thread Cert.AdamNormRefIdeal.nD Cert.AdamNormRefIdeal.τ).loc Cert.AdamNormRefIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormRefIdeal.defs (F := Ideal)) (onTc (τ := Cert.AdamNormRefIdeal.τ) (Cert.AdamNormRefIdeal.main (F := Ideal))) ⟨m', fun _ => 0, g'⟩ (fun r => ∀ c : Dev Cert.AdamNormRefIdeal.nD,
          r.2.mem ((c.tc : Thread Cert.AdamNormRefIdeal.nD Cert.AdamNormRefIdeal.τ).loc Cert.AdamNormRefIdeal.main_v23) = v0 c
          ∧ r.2.mem ((c.tc : Thread Cert.AdamNormRefIdeal.nD Cert.AdamNormRefIdeal.τ).loc Cert.AdamNormRefIdeal.main_v4) = v1 c
          ∧ r.2.mem ((c.tc : Thread Cert.AdamNormRefIdeal.nD Cert.AdamNormRefIdeal.τ).loc Cert.AdamNormRefIdeal.main_v10) = v2 c
          ∧ r.2.mem ((c.tc : Thread Cert.AdamNormRefIdeal.nD Cert.AdamNormRefIdeal.τ).loc Cert.AdamNormRefIdeal.main_arg0) = m' ((c.tc : Thread Cert.AdamNormRefIdeal.nD Cert.AdamNormRefIdeal.τ).loc Cert.AdamNormRefIdeal.main_arg0)
          ∧ r.2.mem ((c.tc : Thread Cert.AdamNormRefIdeal.nD Cert.AdamNormRefIdeal.τ).loc Cert.AdamNormRefIdeal.main_arg1) = m' ((c.tc : Thread Cert.AdamNormRefIdeal.nD Cert.AdamNormRefIdeal.τ).loc Cert.AdamNormRefIdeal.main_arg1)
          ∧ r.2.mem ((c.tc : Thread Cert.AdamNormRefIdeal.nD Cert.AdamNormRefIdeal.τ).loc Cert.AdamNormRefIdeal.main_arg2) = m' ((c.tc : Thread Cert.AdamNormRefIdeal.nD Cert.AdamNormRefIdeal.τ).loc Cert.AdamNormRefIdeal.main_arg2)
          ∧ r.2.mem ((c.tc : Thread Cert.AdamNormRefIdeal.nD Cert.AdamNormRefIdeal.τ).loc Cert.AdamNormRefIdeal.main_arg3) = m' ((c.tc : Thread Cert.AdamNormRefIdeal.nD Cert.AdamNormRefIdeal.τ).loc Cert.AdamNormRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v4_0)) (v1 : (c : Dev Cert.AdamConvIdeal.nD) → Buf (Elt Ideal) ((c.tc : Thread Cert.AdamConvIdeal.nD Cert.AdamConvIdeal.τ).loc Cert.AdamConvIdeal.main_v4_1)) (v2 : (c : Dev Cert.AdamConvIdeal.nD) → Buf (Elt Ideal) ((c.tc : Thread Cert.AdamConvIdeal.nD Cert.AdamConvIdeal.τ).loc Cert.AdamConvIdeal.main_v4_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v4_0) = v0 c
          ∧ r.2.mem ((c.tc : Thread Cert.AdamConvIdeal.nD Cert.AdamConvIdeal.τ).loc Cert.AdamConvIdeal.main_v4_1) = v1 c
          ∧ r.2.mem ((c.tc : Thread Cert.AdamConvIdeal.nD Cert.AdamConvIdeal.τ).loc Cert.AdamConvIdeal.main_v4_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v24) = v0 c
          ∧ r.2.mem ((c.tc : Thread Cert.AdamConvRefIdeal.nD Cert.AdamConvRefIdeal.τ).loc Cert.AdamConvRefIdeal.main_v25) = v1 c
          ∧ r.2.mem ((c.tc : Thread Cert.AdamConvRefIdeal.nD Cert.AdamConvRefIdeal.τ).loc Cert.AdamConvRefIdeal.main_v26) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v4_0)) (v1 : (c : Dev Cert.AdamGateIdeal.nD) → Buf (Elt Ideal) ((c.tc : Thread Cert.AdamGateIdeal.nD Cert.AdamGateIdeal.τ).loc Cert.AdamGateIdeal.main_v4_1)) (v2 : (c : Dev Cert.AdamGateIdeal.nD) → Buf (Elt Ideal) ((c.tc : Thread Cert.AdamGateIdeal.nD Cert.AdamGateIdeal.τ).loc Cert.AdamGateIdeal.main_v4_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v4_0) = v0 c
          ∧ r.2.mem ((c.tc : Thread Cert.AdamGateIdeal.nD Cert.AdamGateIdeal.τ).loc Cert.AdamGateIdeal.main_v4_1) = v1 c
          ∧ r.2.mem ((c.tc : Thread Cert.AdamGateIdeal.nD Cert.AdamGateIdeal.τ).loc Cert.AdamGateIdeal.main_v4_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v24) = v0 c
          ∧ r.2.mem ((c.tc : Thread Cert.AdamGateRefIdeal.nD Cert.AdamGateRefIdeal.τ).loc Cert.AdamGateRefIdeal.main_v25) = v1 c
          ∧ r.2.mem ((c.tc : Thread Cert.AdamGateRefIdeal.nD Cert.AdamGateRefIdeal.τ).loc Cert.AdamGateRefIdeal.main_v26) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamBias_AdamBiasIdeal : Prop :=
  True

def algebraic_AdamBiasIdeal_AdamBiasRefIdeal [hAdamBiasIdeal : Cert.AdamBiasIdeal.Facts] [hAdamBiasRefIdeal : Cert.AdamBiasRefIdeal.Facts] : Prop :=
  ∀ (m : (ℓ : Loc Cert.AdamBiasIdeal.nD Cert.AdamBiasIdeal.τ Cert.AdamBiasIdeal.sig) → Buf (Elt Ideal) ℓ) (g : Dev Cert.AdamBiasIdeal.nD → PrngReg)
    (m' : (ℓ : Loc Cert.AdamBiasRefIdeal.nD Cert.AdamBiasRefIdeal.τ Cert.AdamBiasRefIdeal.sig) → Buf (Elt Ideal) ℓ) (g' : Dev Cert.AdamBiasRefIdeal.nD → PrngReg), Pre_AdamBiasIdeal m →
    (∀ c : Dev Cert.AdamBiasIdeal.nD,
      m' ((c.tc : Thread Cert.AdamBiasRefIdeal.nD Cert.AdamBiasRefIdeal.τ).loc Cert.AdamBiasRefIdeal.main_arg0) = m ((c.tc : Thread Cert.AdamBiasIdeal.nD Cert.AdamBiasIdeal.τ).loc Cert.AdamBiasIdeal.main_arg0)
      ∧ m' ((c.tc : Thread Cert.AdamBiasRefIdeal.nD Cert.AdamBiasRefIdeal.τ).loc Cert.AdamBiasRefIdeal.main_arg1) = m ((c.tc : Thread Cert.AdamBiasIdeal.nD Cert.AdamBiasIdeal.τ).loc Cert.AdamBiasIdeal.main_arg1)
      ∧ m' ((c.tc : Thread Cert.AdamBiasRefIdeal.nD Cert.AdamBiasRefIdeal.τ).loc Cert.AdamBiasRefIdeal.main_arg2) = m ((c.tc : Thread Cert.AdamBiasIdeal.nD Cert.AdamBiasIdeal.τ).loc Cert.AdamBiasIdeal.main_arg2)
      ∧ m' ((c.tc : Thread Cert.AdamBiasRefIdeal.nD Cert.AdamBiasRefIdeal.τ).loc Cert.AdamBiasRefIdeal.main_arg3) = m ((c.tc : Thread Cert.AdamBiasIdeal.nD Cert.AdamBiasIdeal.τ).loc Cert.AdamBiasIdeal.main_arg3)) →
    ∃ (v0 : (c : Dev Cert.AdamBiasIdeal.nD) → Buf (Elt Ideal) ((c.tc : Thread Cert.AdamBiasIdeal.nD Cert.AdamBiasIdeal.τ).loc Cert.AdamBiasIdeal.main_v0_0)) (v1 : (c : Dev Cert.AdamBiasIdeal.nD) → Buf (Elt Ideal) ((c.tc : Thread Cert.AdamBiasIdeal.nD Cert.AdamBiasIdeal.τ).loc Cert.AdamBiasIdeal.main_v0_1)) (v2 : (c : Dev Cert.AdamBiasIdeal.nD) → Buf (Elt Ideal) ((c.tc : Thread Cert.AdamBiasIdeal.nD Cert.AdamBiasIdeal.τ).loc Cert.AdamBiasIdeal.main_v0_2)),
      θ_run (Cert.AdamBiasIdeal.defs (F := Ideal)) (onTc (τ := Cert.AdamBiasIdeal.τ) (Cert.AdamBiasIdeal.main (F := Ideal))) ⟨m, fun _ => 0, g⟩ (fun r => ∀ c : Dev Cert.AdamBiasIdeal.nD,
          r.2.mem ((c.tc : Thread Cert.AdamBiasIdeal.nD Cert.AdamBiasIdeal.τ).loc Cert.AdamBiasIdeal.main_v0_0) = v0 c
          ∧ r.2.mem ((c.tc : Thread Cert.AdamBiasIdeal.nD Cert.AdamBiasIdeal.τ).loc Cert.AdamBiasIdeal.main_v0_1) = v1 c
          ∧ r.2.mem ((c.tc : Thread Cert.AdamBiasIdeal.nD Cert.AdamBiasIdeal.τ).loc Cert.AdamBiasIdeal.main_v0_2) = v2 c
          ∧ r.2.mem ((c.tc : Thread Cert.AdamBiasIdeal.nD Cert.AdamBiasIdeal.τ).loc Cert.AdamBiasIdeal.main_arg0) = m ((c.tc : Thread Cert.AdamBiasIdeal.nD Cert.AdamBiasIdeal.τ).loc Cert.AdamBiasIdeal.main_arg0)
          ∧ r.2.mem ((c.tc : Thread Cert.AdamBiasIdeal.nD Cert.AdamBiasIdeal.τ).loc Cert.AdamBiasIdeal.main_arg1) = m ((c.tc : Thread Cert.AdamBiasIdeal.nD Cert.AdamBiasIdeal.τ).loc Cert.AdamBiasIdeal.main_arg1)
          ∧ r.2.mem ((c.tc : Thread Cert.AdamBiasIdeal.nD Cert.AdamBiasIdeal.τ).loc Cert.AdamBiasIdeal.main_arg2) = m ((c.tc : Thread Cert.AdamBiasIdeal.nD Cert.AdamBiasIdeal.τ).loc Cert.AdamBiasIdeal.main_arg2)
          ∧ r.2.mem ((c.tc : Thread Cert.AdamBiasIdeal.nD Cert.AdamBiasIdeal.τ).loc Cert.AdamBiasIdeal.main_arg3) = m ((c.tc : Thread Cert.AdamBiasIdeal.nD Cert.AdamBiasIdeal.τ).loc Cert.AdamBiasIdeal.main_arg3))
      ∧ θ_run (Cert.AdamBiasRefIdeal.defs (F := Ideal)) (onTc (τ := Cert.AdamBiasRefIdeal.τ) (Cert.AdamBiasRefIdeal.main (F := Ideal))) ⟨m', fun _ => 0, g'⟩ (fun r => ∀ c : Dev Cert.AdamBiasRefIdeal.nD,
          r.2.mem ((c.tc : Thread Cert.AdamBiasRefIdeal.nD Cert.AdamBiasRefIdeal.τ).loc Cert.AdamBiasRefIdeal.main_v23) = v0 c
          ∧ r.2.mem ((c.tc : Thread Cert.AdamBiasRefIdeal.nD Cert.AdamBiasRefIdeal.τ).loc Cert.AdamBiasRefIdeal.main_v4) = v1 c
          ∧ r.2.mem ((c.tc : Thread Cert.AdamBiasRefIdeal.nD Cert.AdamBiasRefIdeal.τ).loc Cert.AdamBiasRefIdeal.main_v10) = v2 c
          ∧ r.2.mem ((c.tc : Thread Cert.AdamBiasRefIdeal.nD Cert.AdamBiasRefIdeal.τ).loc Cert.AdamBiasRefIdeal.main_arg0) = m' ((c.tc : Thread Cert.AdamBiasRefIdeal.nD Cert.AdamBiasRefIdeal.τ).loc Cert.AdamBiasRefIdeal.main_arg0)
          ∧ r.2.mem ((c.tc : Thread Cert.AdamBiasRefIdeal.nD Cert.AdamBiasRefIdeal.τ).loc Cert.AdamBiasRefIdeal.main_arg1) = m' ((c.tc : Thread Cert.AdamBiasRefIdeal.nD Cert.AdamBiasRefIdeal.τ).loc Cert.AdamBiasRefIdeal.main_arg1)
          ∧ r.2.mem ((c.tc : Thread Cert.AdamBiasRefIdeal.nD Cert.AdamBiasRefIdeal.τ).loc Cert.AdamBiasRefIdeal.main_arg2) = m' ((c.tc : Thread Cert.AdamBiasRefIdeal.nD Cert.AdamBiasRefIdeal.τ).loc Cert.AdamBiasRefIdeal.main_arg2)
          ∧ r.2.mem ((c.tc : Thread Cert.AdamBiasRefIdeal.nD Cert.AdamBiasRefIdeal.τ).loc Cert.AdamBiasRefIdeal.main_arg3) = m' ((c.tc : Thread Cert.AdamBiasRefIdeal.nD Cert.AdamBiasRefIdeal.τ).loc Cert.AdamBiasRefIdeal.main_arg3))

def preserves_AdamHead_AdamHeadIdeal : Prop :=
  True

def algebraic_AdamHeadIdeal_AdamHeadRefIdeal [hAdamHeadIdeal : Cert.AdamHeadIdeal.Facts] [hAdamHeadRefIdeal : Cert.AdamHeadRefIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadRefIdeal.nD Cert.AdamHeadRefIdeal.τ Cert.AdamHeadRefIdeal.sig) → Buf (Elt Ideal) ℓ) (g' : Dev Cert.AdamHeadRefIdeal.nD → PrngReg), Pre_AdamHeadIdeal m →
    (∀ c : Dev Cert.AdamHeadIdeal.nD,
      m' ((c.tc : Thread Cert.AdamHeadRefIdeal.nD Cert.AdamHeadRefIdeal.τ).loc Cert.AdamHeadRefIdeal.main_arg0) = m ((c.tc : Thread Cert.AdamHeadIdeal.nD Cert.AdamHeadIdeal.τ).loc Cert.AdamHeadIdeal.main_arg0)
      ∧ m' ((c.tc : Thread Cert.AdamHeadRefIdeal.nD Cert.AdamHeadRefIdeal.τ).loc Cert.AdamHeadRefIdeal.main_arg1) = m ((c.tc : Thread Cert.AdamHeadIdeal.nD Cert.AdamHeadIdeal.τ).loc Cert.AdamHeadIdeal.main_arg1)
      ∧ m' ((c.tc : Thread Cert.AdamHeadRefIdeal.nD Cert.AdamHeadRefIdeal.τ).loc Cert.AdamHeadRefIdeal.main_arg2) = m ((c.tc : Thread Cert.AdamHeadIdeal.nD Cert.AdamHeadIdeal.τ).loc Cert.AdamHeadIdeal.main_arg2)
      ∧ m' ((c.tc : Thread Cert.AdamHeadRefIdeal.nD Cert.AdamHeadRefIdeal.τ).loc Cert.AdamHeadRefIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadRefIdeal.defs (F := Ideal)) (onTc (τ := Cert.AdamHeadRefIdeal.τ) (Cert.AdamHeadRefIdeal.main (F := Ideal))) ⟨m', fun _ => 0, g'⟩ (fun r => ∀ c : Dev Cert.AdamHeadRefIdeal.nD,
          r.2.mem ((c.tc : Thread Cert.AdamHeadRefIdeal.nD Cert.AdamHeadRefIdeal.τ).loc Cert.AdamHeadRefIdeal.main_v23) = v0 c
          ∧ r.2.mem ((c.tc : Thread Cert.AdamHeadRefIdeal.nD Cert.AdamHeadRefIdeal.τ).loc Cert.AdamHeadRefIdeal.main_v4) = v1 c
          ∧ r.2.mem ((c.tc : Thread Cert.AdamHeadRefIdeal.nD Cert.AdamHeadRefIdeal.τ).loc Cert.AdamHeadRefIdeal.main_v10) = v2 c
          ∧ r.2.mem ((c.tc : Thread Cert.AdamHeadRefIdeal.nD Cert.AdamHeadRefIdeal.τ).loc Cert.AdamHeadRefIdeal.main_arg0) = m' ((c.tc : Thread Cert.AdamHeadRefIdeal.nD Cert.AdamHeadRefIdeal.τ).loc Cert.AdamHeadRefIdeal.main_arg0)
          ∧ r.2.mem ((c.tc : Thread Cert.AdamHeadRefIdeal.nD Cert.AdamHeadRefIdeal.τ).loc Cert.AdamHeadRefIdeal.main_arg1) = m' ((c.tc : Thread Cert.AdamHeadRefIdeal.nD Cert.AdamHeadRefIdeal.τ).loc Cert.AdamHeadRefIdeal.main_arg1)
          ∧ r.2.mem ((c.tc : Thread Cert.AdamHeadRefIdeal.nD Cert.AdamHeadRefIdeal.τ).loc Cert.AdamHeadRefIdeal.main_arg2) = m' ((c.tc : Thread Cert.AdamHeadRefIdeal.nD Cert.AdamHeadRefIdeal.τ).loc Cert.AdamHeadRefIdeal.main_arg2)
          ∧ r.2.mem ((c.tc : Thread Cert.AdamHeadRefIdeal.nD Cert.AdamHeadRefIdeal.τ).loc Cert.AdamHeadRefIdeal.main_arg3) = m' ((c.tc : Thread Cert.AdamHeadRefIdeal.nD Cert.AdamHeadRefIdeal.τ).loc Cert.AdamHeadRefIdeal.main_arg3))

def preserves_AdamConvF_AdamConvFIdeal : Prop :=
  True

def algebraic_AdamConvFIdeal_AdamConvFRefIdeal [hAdamConvFIdeal : Cert.AdamConvFIdeal.Facts] [hAdamConvFRefIdeal : Cert.AdamConvFRefIdeal.Facts] : Prop :=
  ∀ (m : (ℓ : Loc Cert.AdamConvFIdeal.nD Cert.AdamConvFIdeal.τ Cert.AdamConvFIdeal.sig) → Buf (Elt Ideal) ℓ) (g : Dev Cert.AdamConvFIdeal.nD → PrngReg)
    (m' : (ℓ : Loc Cert.AdamConvFRefIdeal.nD Cert.AdamConvFRefIdeal.τ Cert.AdamConvFRefIdeal.sig) → Buf (Elt Ideal) ℓ) (g' : Dev Cert.AdamConvFRefIdeal.nD → PrngReg), Pre_AdamConvFIdeal m →
    (∀ c : Dev Cert.AdamConvFIdeal.nD,
      m' ((c.tc : Thread Cert.AdamConvFRefIdeal.nD Cert.AdamConvFRefIdeal.τ).loc Cert.AdamConvFRefIdeal.main_arg0) = m ((c.tc : Thread Cert.AdamConvFIdeal.nD Cert.AdamConvFIdeal.τ).loc Cert.AdamConvFIdeal.main_arg0)
      ∧ m' ((c.tc : Thread Cert.AdamConvFRefIdeal.nD Cert.AdamConvFRefIdeal.τ).loc Cert.AdamConvFRefIdeal.main_arg1) = m ((c.tc : Thread Cert.AdamConvFIdeal.nD Cert.AdamConvFIdeal.τ).loc Cert.AdamConvFIdeal.main_arg1)
      ∧ m' ((c.tc : Thread Cert.AdamConvFRefIdeal.nD Cert.AdamConvFRefIdeal.τ).loc Cert.AdamConvFRefIdeal.main_arg2) = m ((c.tc : Thread Cert.AdamConvFIdeal.nD Cert.AdamConvFIdeal.τ).loc Cert.AdamConvFIdeal.main_arg2)
      ∧ m' ((c.tc : Thread Cert.AdamConvFRefIdeal.nD Cert.AdamConvFRefIdeal.τ).loc Cert.AdamConvFRefIdeal.main_arg3) = m ((c.tc : Thread Cert.AdamConvFIdeal.nD Cert.AdamConvFIdeal.τ).loc Cert.AdamConvFIdeal.main_arg3)) →
    ∃ (v0 : (c : Dev Cert.AdamConvFIdeal.nD) → Buf (Elt Ideal) ((c.tc : Thread Cert.AdamConvFIdeal.nD Cert.AdamConvFIdeal.τ).loc Cert.AdamConvFIdeal.main_v4_0)) (v1 : (c : Dev Cert.AdamConvFIdeal.nD) → Buf (Elt Ideal) ((c.tc : Thread Cert.AdamConvFIdeal.nD Cert.AdamConvFIdeal.τ).loc Cert.AdamConvFIdeal.main_v4_1)) (v2 : (c : Dev Cert.AdamConvFIdeal.nD) → Buf (Elt Ideal) ((c.tc : Thread Cert.AdamConvFIdeal.nD Cert.AdamConvFIdeal.τ).loc Cert.AdamConvFIdeal.main_v4_2)),
      θ_run (Cert.AdamConvFIdeal.defs (F := Ideal)) (onTc (τ := Cert.AdamConvFIdeal.τ) (Cert.AdamConvFIdeal.main (F := Ideal))) ⟨m, fun _ => 0, g⟩ (fun r => ∀ c : Dev Cert.AdamConvFIdeal.nD,
          r.2.mem ((c.tc : Thread Cert.AdamConvFIdeal.nD Cert.AdamConvFIdeal.τ).loc Cert.AdamConvFIdeal.main_v4_0) = v0 c
          ∧ r.2.mem ((c.tc : Thread Cert.AdamConvFIdeal.nD Cert.AdamConvFIdeal.τ).loc Cert.AdamConvFIdeal.main_v4_1) = v1 c
          ∧ r.2.mem ((c.tc : Thread Cert.AdamConvFIdeal.nD Cert.AdamConvFIdeal.τ).loc Cert.AdamConvFIdeal.main_v4_2) = v2 c
          ∧ r.2.mem ((c.tc : Thread Cert.AdamConvFIdeal.nD Cert.AdamConvFIdeal.τ).loc Cert.AdamConvFIdeal.main_arg0) = m ((c.tc : Thread Cert.AdamConvFIdeal.nD Cert.AdamConvFIdeal.τ).loc Cert.AdamConvFIdeal.main_arg0)
          ∧ r.2.mem ((c.tc : Thread Cert.AdamConvFIdeal.nD Cert.AdamConvFIdeal.τ).loc Cert.AdamConvFIdeal.main_arg1) = m ((c.tc : Thread Cert.AdamConvFIdeal.nD Cert.AdamConvFIdeal.τ).loc Cert.AdamConvFIdeal.main_arg1)
          ∧ r.2.mem ((c.tc : Thread Cert.AdamConvFIdeal.nD Cert.AdamConvFIdeal.τ).loc Cert.AdamConvFIdeal.main_arg2) = m ((c.tc : Thread Cert.AdamConvFIdeal.nD Cert.AdamConvFIdeal.τ).loc Cert.AdamConvFIdeal.main_arg2)
          ∧ r.2.mem ((c.tc : Thread Cert.AdamConvFIdeal.nD Cert.AdamConvFIdeal.τ).loc Cert.AdamConvFIdeal.main_arg3) = m ((c.tc : Thread Cert.AdamConvFIdeal.nD Cert.AdamConvFIdeal.τ).loc Cert.AdamConvFIdeal.main_arg3))
      ∧ θ_run (Cert.AdamConvFRefIdeal.defs (F := Ideal)) (onTc (τ := Cert.AdamConvFRefIdeal.τ) (Cert.AdamConvFRefIdeal.main (F := Ideal))) ⟨m', fun _ => 0, g'⟩ (fun r => ∀ c : Dev Cert.AdamConvFRefIdeal.nD,
          r.2.mem ((c.tc : Thread Cert.AdamConvFRefIdeal.nD Cert.AdamConvFRefIdeal.τ).loc Cert.AdamConvFRefIdeal.main_v24) = v0 c
          ∧ r.2.mem ((c.tc : Thread Cert.AdamConvFRefIdeal.nD Cert.AdamConvFRefIdeal.τ).loc Cert.AdamConvFRefIdeal.main_v25) = v1 c
          ∧ r.2.mem ((c.tc : Thread Cert.AdamConvFRefIdeal.nD Cert.AdamConvFRefIdeal.τ).loc Cert.AdamConvFRefIdeal.main_v26) = v2 c
          ∧ r.2.mem ((c.tc : Thread Cert.AdamConvFRefIdeal.nD Cert.AdamConvFRefIdeal.τ).loc Cert.AdamConvFRefIdeal.main_arg0) = m' ((c.tc : Thread Cert.AdamConvFRefIdeal.nD Cert.AdamConvFRefIdeal.τ).loc Cert.AdamConvFRefIdeal.main_arg0)
          ∧ r.2.mem ((c.tc : Thread Cert.AdamConvFRefIdeal.nD Cert.AdamConvFRefIdeal.τ).loc Cert.AdamConvFRefIdeal.main_arg1) = m' ((c.tc : Thread Cert.AdamConvFRefIdeal.nD Cert.AdamConvFRefIdeal.τ).loc Cert.AdamConvFRefIdeal.main_arg1)
          ∧ r.2.mem ((c.tc : Thread Cert.AdamConvFRefIdeal.nD Cert.AdamConvFRefIdeal.τ).loc Cert.AdamConvFRefIdeal.main_arg2) = m' ((c.tc : Thread Cert.AdamConvFRefIdeal.nD Cert.AdamConvFRefIdeal.τ).loc Cert.AdamConvFRefIdeal.main_arg2)
          ∧ r.2.mem ((c.tc : Thread Cert.AdamConvFRefIdeal.nD Cert.AdamConvFRefIdeal.τ).loc Cert.AdamConvFRefIdeal.main_arg3) = m' ((c.tc : Thread Cert.AdamConvFRefIdeal.nD Cert.AdamConvFRefIdeal.τ).loc Cert.AdamConvFRefIdeal.main_arg3))

def Claim : Prop :=
  ∃ (hKernel : Cert.Kernel.Facts) (hKernelIdeal : Cert.KernelIdeal.Facts) (hReferenceIdeal : Cert.ReferenceIdeal.Facts) (hDwDown : Cert.DwDown.Facts) (hDwDownIdeal : Cert.DwDownIdeal.Facts) (hDwDownRefIdeal : Cert.DwDownRefIdeal.Facts) (hDwIn : Cert.DwIn.Facts) (hDwInIdeal : Cert.DwInIdeal.Facts) (hDwInRefIdeal : Cert.DwInRefIdeal.Facts) (hDwGate : Cert.DwGate.Facts) (hDwGateIdeal : Cert.DwGateIdeal.Facts) (hDwGateRefIdeal : Cert.DwGateRefIdeal.Facts) (hDwVal : Cert.DwVal.Facts) (hDwValIdeal : Cert.DwValIdeal.Facts) (hDwValRefIdeal : Cert.DwValRefIdeal.Facts) (hProjIn : Cert.ProjIn.Facts) (hProjInIdeal : Cert.ProjInIdeal.Facts) (hProjInRefIdeal : Cert.ProjInRefIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hAdamUp : Cert.AdamUp.Facts) (hAdamUpIdeal : Cert.AdamUpIdeal.Facts) (hAdamUpRefIdeal : Cert.AdamUpRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamDown : Cert.AdamDown.Facts) (hAdamDownIdeal : Cert.AdamDownIdeal.Facts) (hAdamDownRefIdeal : Cert.AdamDownRefIdeal.Facts) (hAdamNorm : Cert.AdamNorm.Facts) (hAdamNormIdeal : Cert.AdamNormIdeal.Facts) (hAdamNormRefIdeal : Cert.AdamNormRefIdeal.Facts) (hAdamConv : Cert.AdamConv.Facts) (hAdamConvIdeal : Cert.AdamConvIdeal.Facts) (hAdamConvRefIdeal : Cert.AdamConvRefIdeal.Facts) (hAdamGate : Cert.AdamGate.Facts) (hAdamGateIdeal : Cert.AdamGateIdeal.Facts) (hAdamGateRefIdeal : Cert.AdamGateRefIdeal.Facts) (hAdamBias : Cert.AdamBias.Facts) (hAdamBiasIdeal : Cert.AdamBiasIdeal.Facts) (hAdamBiasRefIdeal : Cert.AdamBiasRefIdeal.Facts) (hAdamHead : Cert.AdamHead.Facts) (hAdamHeadIdeal : Cert.AdamHeadIdeal.Facts) (hAdamHeadRefIdeal : Cert.AdamHeadRefIdeal.Facts) (hAdamConvF : Cert.AdamConvF.Facts) (hAdamConvFIdeal : Cert.AdamConvFIdeal.Facts) (hAdamConvFRefIdeal : Cert.AdamConvFRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_DwGate (hDwGate := hDwGate)
    ∧ quiescent_DwGateIdeal (hDwGateIdeal := hDwGateIdeal)
    ∧ quiescent_DwGateRefIdeal (hDwGateRefIdeal := hDwGateRefIdeal)
    ∧ quiescent_DwVal (hDwVal := hDwVal)
    ∧ quiescent_DwValIdeal (hDwValIdeal := hDwValIdeal)
    ∧ quiescent_DwValRefIdeal (hDwValRefIdeal := hDwValRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamNorm (hAdamNorm := hAdamNorm)
    ∧ quiescent_AdamNormIdeal (hAdamNormIdeal := hAdamNormIdeal)
    ∧ quiescent_AdamNormRefIdeal (hAdamNormRefIdeal := hAdamNormRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamBias (hAdamBias := hAdamBias)
    ∧ quiescent_AdamBiasIdeal (hAdamBiasIdeal := hAdamBiasIdeal)
    ∧ quiescent_AdamBiasRefIdeal (hAdamBiasRefIdeal := hAdamBiasRefIdeal)
    ∧ quiescent_AdamHead (hAdamHead := hAdamHead)
    ∧ quiescent_AdamHeadIdeal (hAdamHeadIdeal := hAdamHeadIdeal)
    ∧ quiescent_AdamHeadRefIdeal (hAdamHeadRefIdeal := hAdamHeadRefIdeal)
    ∧ quiescent_AdamConvF (hAdamConvF := hAdamConvF)
    ∧ quiescent_AdamConvFIdeal (hAdamConvFIdeal := hAdamConvFIdeal)
    ∧ quiescent_AdamConvFRefIdeal (hAdamConvFRefIdeal := hAdamConvFRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwDown_DwDownIdeal
    ∧ algebraic_DwDownIdeal_DwDownRefIdeal (hDwDownIdeal := hDwDownIdeal) (hDwDownRefIdeal := hDwDownRefIdeal)
    ∧ preserves_DwIn_DwInIdeal
    ∧ algebraic_DwInIdeal_DwInRefIdeal (hDwInIdeal := hDwInIdeal) (hDwInRefIdeal := hDwInRefIdeal)
    ∧ preserves_DwGate_DwGateIdeal
    ∧ algebraic_DwGateIdeal_DwGateRefIdeal (hDwGateIdeal := hDwGateIdeal) (hDwGateRefIdeal := hDwGateRefIdeal)
    ∧ preserves_DwVal_DwValIdeal
    ∧ algebraic_DwValIdeal_DwValRefIdeal (hDwValIdeal := hDwValIdeal) (hDwValRefIdeal := hDwValRefIdeal)
    ∧ preserves_ProjIn_ProjInIdeal
    ∧ algebraic_ProjInIdeal_ProjInRefIdeal (hProjInIdeal := hProjInIdeal) (hProjInRefIdeal := hProjInRefIdeal)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamNorm_AdamNormIdeal
    ∧ algebraic_AdamNormIdeal_AdamNormRefIdeal (hAdamNormIdeal := hAdamNormIdeal) (hAdamNormRefIdeal := hAdamNormRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamBias_AdamBiasIdeal
    ∧ algebraic_AdamBiasIdeal_AdamBiasRefIdeal (hAdamBiasIdeal := hAdamBiasIdeal) (hAdamBiasRefIdeal := hAdamBiasRefIdeal)
    ∧ preserves_AdamHead_AdamHeadIdeal
    ∧ algebraic_AdamHeadIdeal_AdamHeadRefIdeal (hAdamHeadIdeal := hAdamHeadIdeal) (hAdamHeadRefIdeal := hAdamHeadRefIdeal)
    ∧ preserves_AdamConvF_AdamConvFIdeal
    ∧ algebraic_AdamConvFIdeal_AdamConvFRefIdeal (hAdamConvFIdeal := hAdamConvFIdeal) (hAdamConvFRefIdeal := hAdamConvFRefIdeal)
-- ==== Pre_finite.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S3x5632 : S_.BroadcastsInDim S3x5632 (![] : Fin 0 → Fin S3x5632.rank)
  reducesTo_S3x5632_S_d0_1 : S3x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v14 : IVec S_ 1) (main_v15 : FVec F S3x5632 .f32) (main_cst_5 : FVec F S_ .f32) : IVec S_ 1 :=
  let main_v16 : FVec F S3x5632 .f32 := broadcastInDim S3x5632 ![] bcast_S_S3x5632 main_cst_5
  let main_v17 : IVec S3x5632 1 := cmpf .olt main_v15 main_v16
  let main_c_6 : IVec S_ 1 := constantI S_ 1 1#1
  let main_v18 : IVec S_ 1 := (fun x v => Host.reduce IntOp.andi x v reducesTo_S3x5632_S_d0_1 h_S_) main_v17 main_c_6
  let main_v19 : IVec S_ 1 := andi main_v14 main_v18
  let main_v20 : FVec F S2816x1024 .f32 := Host.absf main_arg4
  let main_cst_7 : FVec F S_ .f32 := constant S_ .f32 0x7F800000#32
  let main_v21 : FVec F S2816x1024 .f32 := broadcastInDim S2816x1024 ![] bcast_S_S2816x1024 main_cst_7
  let main_v22 : IVec S2816x1024 1 := cmpf .olt main_v20 main_v21
  let main_c_8 : IVec S_ 1 := constantI S_ 1 1#1
  let main_v23 : IVec S_ 1 := (fun x v => Host.reduce IntOp.andi x v reducesTo_S2816x1024_S_d0_1 h_S_) main_v22 main_c_8
  let main_v24 : IVec S_ 1 := andi main_v19 main_v23
  let main_v25 : FVec F S8192x1024 .f32 := Host.absf main_arg5
  let main_cst_9 : FVec F S_ .f32 := constant S_ .f32 0x7F800000#32
  let main_v26 : FVec F S8192x1024 .f32 := broadcastInDim S8192x1024 ![] bcast_S_S8192x1024 main_cst_9
  let main_v27 : IVec S8192x1024 1 := cmpf .olt main_v25 main_v26
  let main_c_10 : IVec S_ 1 := constantI S_ 1 1#1
  let main_v28 : IVec S_ 1 := (fun x v => Host.reduce IntOp.andi x v reducesTo_S8192x1024_S_d0_1 h_S_) main_v27 main_c_10
  let main_v29 : IVec S_ 1 := andi main_v24 main_v28
  main_v29

def fn {F : FTy → Type} [FloatOps F] (main_arg0 : FVec F S8192x1024 .f32) (main_arg1 : FVec F S1x1024 .f32) (main_arg2 : FVec F S1024x5632 .f32) (main_arg3 : FVec F S3x5632 .f32) (main_arg4 : FVec F S2816x1024 .f32) (main_arg5 : FVec F S8192x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1x1024 .f32 := Host.absf main_arg1
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1024x5632 .f32 := Host.absf main_arg2
  let main_cst_3 : FVec F S_ .f32 := constant S_ .f32 0x7F800000#32
  let main_v11 : FVec F S1024x5632 .f32 := broadcastInDim S1024x5632 ![] bcast_S_S1024x5632 main_cst_3
  let main_v12 : IVec S1024x5632 1 := cmpf .olt main_v10 main_v11
  let main_c_4 : IVec S_ 1 := constantI S_ 1 1#1
  let main_v13 : IVec S_ 1 := (fun x v => Host.reduce IntOp.andi x v reducesTo_S1024x5632_S_d0_1 h_S_) main_v12 main_c_4
  let main_v14 : IVec S_ 1 := andi main_v9 main_v13
  let main_v15 : FVec F S3x5632 .f32 := Host.absf main_arg3
  let main_cst_5 : FVec F S_ .f32 := constant S_ .f32 0x7F800000#32
  fn_part1 (F := F) main_arg4 main_arg5 main_v14 main_v15 main_cst_5
-- ==== Kernel.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1x5632 : Shape := ⟨2, ![1, 5632]⟩
abbrev S8194x5632 : Shape := ⟨2, ![8194, 5632]⟩
abbrev S5632 : Shape := ⟨1, ![5632]⟩
abbrev S8192x2816 : Shape := ⟨2, ![8192, 2816]⟩
abbrev S1024x4x1408 : Shape := ⟨3, ![1024, 4, 1408]⟩
abbrev S4x1024x1408 : Shape := ⟨3, ![4, 1024, 1408]⟩
abbrev S8x2816 : Shape := ⟨2, ![8, 2816]⟩
abbrev S256x1024 : Shape := ⟨2, ![256, 1024]⟩
abbrev S16x1024 : Shape := ⟨2, ![16, 1024]⟩
abbrev S256x2816 : Shape := ⟨2, ![256, 2816]⟩
abbrev S16x2816 : Shape := ⟨2, ![16, 2816]⟩
abbrev S256x5632 : Shape := ⟨2, ![256, 5632]⟩
abbrev S288x1024 : Shape := ⟨2, ![288, 1024]⟩
abbrev S1408x1024 : Shape := ⟨2, ![1408, 1024]⟩
abbrev S288x1408 : Shape := ⟨2, ![288, 1408]⟩
abbrev S16x512 : Shape := ⟨2, ![16, 512]⟩
abbrev S256x512 : Shape := ⟨2, ![256, 512]⟩
abbrev S288x512 : Shape := ⟨2, ![288, 512]⟩
abbrev S8x512 : Shape := ⟨2, ![8, 512]⟩
abbrev S272x512 : Shape := ⟨2, ![272, 512]⟩
abbrev S1x512 : Shape := ⟨2, ![1, 512]⟩
abbrev S512 : Shape := ⟨1, ![512]⟩
abbrev S1x1024x512 : Shape := ⟨3, ![1, 1024, 512]⟩
abbrev S1024x512 : Shape := ⟨2, ![1024, 512]⟩
abbrev S16x384 : Shape := ⟨2, ![16, 384]⟩
abbrev S256x384 : Shape := ⟨2, ![256, 384]⟩
abbrev S288x384 : Shape := ⟨2, ![288, 384]⟩
abbrev S8x384 : Shape := ⟨2, ![8, 384]⟩
abbrev S272x384 : Shape := ⟨2, ![272, 384]⟩
abbrev S1x384 : Shape := ⟨2, ![1, 384]⟩
abbrev S384 : Shape := ⟨1, ![384]⟩
abbrev S1x1024x384 : Shape := ⟨3, ![1, 1024, 384]⟩
abbrev S1024x384 : Shape := ⟨2, ![1024, 384]⟩
abbrev S256 : Shape := ⟨1, ![256]⟩
abbrev S256x1 : Shape := ⟨2, ![256, 1]⟩

abbrev nBuf : Space → Nat
  | .hbm => 64
  | .vmem => 37
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x5632, .f32⟩
  | .hbm, ⟨25, _⟩ => ⟨S_, .f32⟩
  | .hbm, ⟨26, _⟩ => ⟨S1x5632, .f32⟩
  | .hbm, ⟨27, _⟩ => ⟨S8194x5632, .f32⟩
  | .hbm, ⟨28, _⟩ => ⟨S1x5632, .f32⟩
  | .hbm, ⟨29, _⟩ => ⟨S5632, .f32⟩
  | .hbm, ⟨30, _⟩ => ⟨S8192x5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S1x5632, .f32⟩
  | .hbm, ⟨35, _⟩ => ⟨S5632, .f32⟩
  | .hbm, ⟨36, _⟩ => ⟨S8192x5632, .f32⟩
  | .hbm, ⟨37, _⟩ => ⟨S1x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S1x5632, .f32⟩
  | .hbm, ⟨42, _⟩ => ⟨S5632, .f32⟩
  | .hbm, ⟨43, _⟩ => ⟨S8192x5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S8192x5632, .f32⟩
  | .hbm, ⟨48, _⟩ => ⟨S8192x2816, .f32⟩
  | .hbm, ⟨49, _⟩ => ⟨S8192x2816, .f32⟩
  | .hbm, ⟨50, _⟩ => ⟨S1024x4x1408, .f32⟩
  | .hbm, ⟨51, _⟩ => ⟨S4x1024x1408, .f32⟩
  | .hbm, ⟨52, _⟩ => ⟨S8192x1024, .bf16⟩
  | .hbm, ⟨53, _⟩ => ⟨S8192x2816, .bf16⟩
  | .hbm, ⟨54, _⟩ => ⟨S8192x2816, .bf16⟩
  | .hbm, ⟨55, _⟩ => ⟨S8192x5632, .bf16⟩
  | .hbm, ⟨56, _⟩ => ⟨S2816x1024, .bf16⟩
  | .hbm, ⟨57, _⟩ => ⟨S4x1024x1408, .bf16⟩
  | .hbm, ⟨58, _⟩ => ⟨S8192x2816, .bf16⟩
  | .hbm, ⟨59, _⟩ => ⟨S8192x2816, .bf16⟩
  | .hbm, ⟨60, _⟩ => ⟨S8192x1024, .f32⟩
  | .hbm, ⟨61, _⟩ => ⟨S1x1024, .f32⟩
  | .hbm, ⟨62, _⟩ => ⟨S8x2816, .f32⟩
  | .hbm, ⟨63, _⟩ => ⟨S8x2816, .f32⟩
  | .local _ .vmem, ⟨0, _⟩ => ⟨S256x1024, .bf16⟩
  | .local _ .vmem, ⟨1, _⟩ => ⟨S256x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S256x2816, .bf16⟩
  | .local _ .vmem, ⟨7, _⟩ => ⟨S256x2816, .bf16⟩
  | .local _ .vmem, ⟨8, _⟩ => ⟨S16x2816, .bf16⟩
  | .local _ .vmem, ⟨9, _⟩ => ⟨S16x2816, .bf16⟩
  | .local _ .vmem, ⟨10, _⟩ => ⟨S16x2816, .bf16⟩
  | .local _ .vmem, ⟨11, _⟩ => ⟨S16x2816, .bf16⟩
  | .local _ .vmem, ⟨12, _⟩ => ⟨S256x2816, .bf16⟩
  | .local _ .vmem, ⟨13, _⟩ => ⟨S256x2816, .bf16⟩
  | .local _ .vmem, ⟨14, _⟩ => ⟨S16x2816, .bf16⟩
  | .local _ .vmem, ⟨15, _⟩ => ⟨S16x2816, .bf16⟩
  | .local _ .vmem, ⟨16, _⟩ => ⟨S16x2816, .bf16⟩
  | .local _ .vmem, ⟨17, _⟩ => ⟨S16x2816, .bf16⟩
  | .local _ .vmem, ⟨18, _⟩ => ⟨S256x5632, .bf16⟩
  | .local _ .vmem, ⟨19, _⟩ => ⟨S256x5632, .bf16⟩
  | .local _ .vmem, ⟨20, _⟩ => ⟨S3x5632, .f32⟩
  | .local _ .vmem, ⟨21, _⟩ => ⟨S2816x1024, .bf16⟩
  | .local _ .vmem, ⟨22, _⟩ => ⟨S4x1024x1408, .bf16⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S1x1024, .f32⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S256x2816, .bf16⟩
  | .local _ .vmem, ⟨32, _⟩ => ⟨S256x1024, .f32⟩
  | .local _ .vmem, ⟨33, _⟩ => ⟨S256x1024, .f32⟩
  | .local _ .vmem, ⟨34, _⟩ => ⟨S1x1024, .f32⟩
  | .local _ .vmem, ⟨35, _⟩ => ⟨S8x2816, .f32⟩
  | .local _ .vmem, ⟨36, _⟩ => ⟨S8x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47_0 : Ref sig .tc := ⟨.hbm, 58, rfl⟩
abbrev main_v47_1 : Ref sig .tc := ⟨.hbm, 59, rfl⟩
abbrev main_v47_2 : Ref sig .tc := ⟨.hbm, 60, rfl⟩
abbrev main_v47_3 : Ref sig .tc := ⟨.hbm, 61, rfl⟩
abbrev main_v47_4 : Ref sig .tc := ⟨.hbm, 62, rfl⟩
abbrev main_v47_5 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg20_0 : Ref sig .tc := ⟨.vmem, 35, rfl⟩
abbrev cc0_stg21_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem20_0 : DmaSem sig := 35
abbrev cc0_sem21_0 : DmaSem sig := 36

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x5632 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x1024x1408 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x2816 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S8x2816 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x2816 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== ReferenceIdeal.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1x5632 : Shape := ⟨2, ![1, 5632]⟩
abbrev S8194x5632 : Shape := ⟨2, ![8194, 5632]⟩
abbrev S5632 : Shape := ⟨1, ![5632]⟩
abbrev S8192x2816 : Shape := ⟨2, ![8192, 2816]⟩
abbrev S1024x2816 : Shape := ⟨2, ![1024, 2816]⟩
abbrev S5632x1024 : Shape := ⟨2, ![5632, 1024]⟩

abbrev nBuf : Space → Nat
  | .hbm => 163
  | .vmem => 0
  | .smem => 0
  | _ => 0

abbrev hbmTy0_0 (i : Nat) : BufTy := match i % 128 with
  | 0 => ⟨S8192x1024, .f32⟩
  | 1 => ⟨S1x1024, .f32⟩
  | 2 => ⟨S1024x5632, .f32⟩
  | 3 => ⟨S3x5632, .f32⟩
  | 4 => ⟨S2816x1024, .f32⟩
  | 5 => ⟨S8192x1024, .f32⟩
  | 6 => ⟨S8192x1024, .f32⟩
  | 7 => ⟨S1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x5632, .f32⟩
  | 29 => ⟨S_, .f32⟩
  | 30 => ⟨S1x5632, .f32⟩
  | 31 => ⟨S8194x5632, .f32⟩
  | 32 => ⟨S_, .f32⟩
  | 33 => ⟨S1x5632, .f32⟩
  | 34 => ⟨S_, .f32⟩
  | 35 => ⟨S1x5632, .f32⟩
  | 36 => ⟨S1x5632, .f32⟩
  | 37 => ⟨S5632, .f32⟩
  | 38 => ⟨S8192x5632, .f32⟩
  | 39 => ⟨S1x5632, .f32⟩
  | 40 => ⟨S8192x5632, .f32⟩
  | 41 => ⟨S8192x5632, .f32⟩
  | 42 => ⟨S1x5632, .f32⟩
  | 43 => ⟨S5632, .f32⟩
  | 44 => ⟨S8192x5632, .f32⟩
  | 45 => ⟨S1x5632, .f32⟩
  | 46 => ⟨S8192x5632, .f32⟩
  | 47 => ⟨S8192x5632, .f32⟩
  | 48 => ⟨S8192x5632, .f32⟩
  | 49 => ⟨S1x5632, .f32⟩
  | 50 => ⟨S5632, .f32⟩
  | 51 => ⟨S8192x5632, .f32⟩
  | 52 => ⟨S1x5632, .f32⟩
  | 53 => ⟨S8192x5632, .f32⟩
  | 54 => ⟨S8192x5632, .f32⟩
  | 55 => ⟨S8192x5632, .f32⟩
  | 56 => ⟨S8192x2816, .f32⟩
  | 57 => ⟨S8192x2816, .f32⟩
  | 58 => ⟨S8192x2816, .f32⟩
  | 59 => ⟨S8192x2816, .f32⟩
  | 60 => ⟨S_, .f32⟩
  | 61 => ⟨S8192x2816, .f32⟩
  | 62 => ⟨S8192x2816, .f32⟩
  | 63 => ⟨S_, .f32⟩
  | 64 => ⟨S8192x2816, .f32⟩
  | 65 => ⟨S8192x2816, .f32⟩
  | 66 => ⟨S_, .f32⟩
  | 67 => ⟨S8192x2816, .f32⟩
  | 68 => ⟨S8192x2816, .f32⟩
  | 69 => ⟨S8192x2816, .f32⟩
  | 70 => ⟨S8192x2816, .f32⟩
  | 71 => ⟨S8192x2816, .f32⟩
  | 72 => ⟨S8192x1024, .f32⟩
  | 73 => ⟨S1024x2816, .f32⟩
  | 74 => ⟨S2816x1024, .f32⟩
  | 75 => ⟨S8192x2816, .f32⟩
  | 76 => ⟨S8192x2816, .f32⟩
  | 77 => ⟨S8192x2816, .f32⟩
  | 78 => ⟨S8192x2816, .f32⟩
  | 79 => ⟨S8192x2816, .f32⟩
  | 80 => ⟨S8192x2816, .f32⟩
  | 81 => ⟨S8192x2816, .f32⟩
  | 82 => ⟨S8192x5632, .f32⟩
  | 83 => ⟨S8192x5632, .f32⟩
  | 84 => ⟨S8192x5632, .f32⟩
  | 85 => ⟨S8192x5632, .f32⟩
  | 86 => ⟨S_, .f32⟩
  | 87 => ⟨S5632, .f32⟩
  | 88 => ⟨S1x5632, .f32⟩
  | 89 => ⟨S_, .f32⟩
  | 90 => ⟨S5632, .f32⟩
  | 91 => ⟨S_, .f32⟩
  | 92 => ⟨S8194x5632, .f32⟩
  | 93 => ⟨S1x5632, .f32⟩
  | 94 => ⟨S_, .f32⟩
  | 95 => ⟨S3x5632, .f32⟩
  | 96 => ⟨S8192x5632, .f32⟩
  | 97 => ⟨S8192x5632, .f32⟩
  | 98 => ⟨S8192x5632, .f32⟩
  | 99 => ⟨S_, .f32⟩
  | 100 => ⟨S5632, .f32⟩
  | 101 => ⟨S1x5632, .f32⟩
  | 102 => ⟨S_, .f32⟩
  | 103 => ⟨S5632, .f32⟩
  | 104 => ⟨S_, .f32⟩
  | 105 => ⟨S8194x5632, .f32⟩
  | 106 => ⟨S8194x5632, .f32⟩
  | 107 => ⟨S1x5632, .f32⟩
  | 108 => ⟨S_, .f32⟩
  | 109 => ⟨S3x5632, .f32⟩
  | 110 => ⟨S3x5632, .f32⟩
  | 111 => ⟨S8192x5632, .f32⟩
  | 112 => ⟨S8192x5632, .f32⟩
  | 113 => ⟨S8192x5632, .f32⟩
  | 114 => ⟨S_, .f32⟩
  | 115 => ⟨S5632, .f32⟩
  | 116 => ⟨S1x5632, .f32⟩
  | 117 => ⟨S_, .f32⟩
  | 118 => ⟨S5632, .f32⟩
  | 119 => ⟨S_, .f32⟩
  | 120 => ⟨S8194x5632, .f32⟩
  | 121 => ⟨S8194x5632, .f32⟩
  | 122 => ⟨S1x5632, .f32⟩
  | 123 => ⟨S_, .f32⟩
  | 124 => ⟨S3x5632, .f32⟩
  | 125 => ⟨S3x5632, .f32⟩
  | 126 => ⟨S1x5632, .f32⟩
  | 127 => ⟨S8192x5632, .f32⟩
  | _ => ⟨S8192x1024, .f32⟩

abbrev hbmTy0_1 (i : Nat) : BufTy := match i % 128 with
  | 0 => ⟨S1x5632, .f32⟩
  | 1 => ⟨S5632x1024, .f32⟩
  | 2 => ⟨S1024x5632, .f32⟩
  | 3 => ⟨S8192x1024, .f32⟩
  | 4 => ⟨S8192x1024, .f32⟩
  | 5 => ⟨S_, .f32⟩
  | 6 => ⟨S1024, .f32⟩
  | 7 => ⟨S1x1024, .f32⟩
  | 8 => ⟨S8192x1024, .f32⟩
  | 9 => ⟨S8192x1024, .f32⟩
  | 10 => ⟨S_, .f32⟩
  | 11 => ⟨S1024, .f32⟩
  | 12 => ⟨S8192x1024, .f32⟩
  | 13 => ⟨S_, .f32⟩
  | 14 => ⟨S8192, .f32⟩
  | 15 => ⟨S8192x1, .f32⟩
  | 16 => ⟨S8192x1024, .f32⟩
  | 17 => ⟨S8192x1024, .f32⟩
  | 18 => ⟨S8192x1, .f32⟩
  | 19 => ⟨S_, .f32⟩
  | 20 => ⟨S8192x1, .f32⟩
  | 21 => ⟨S8192x1, .f32⟩
  | 22 => ⟨S_, .f32⟩
  | 23 => ⟨S8192, .f32⟩
  | 24 => ⟨S8192x1024, .f32⟩
  | 25 => ⟨S8192x1024, .f32⟩
  | 26 => ⟨S8192x1024, .f32⟩
  | 27 => ⟨S8192x1024, .f32⟩
  | 28 => ⟨S8192x1024, .f32⟩
  | 29 => ⟨S8192x2816, .f32⟩
  | 30 => ⟨S8192x2816, .bf16⟩
  | 31 => ⟨S8192x2816, .f32⟩
  | 32 => ⟨S8192x2816, .bf16⟩
  | 33 => ⟨S8192x1024, .f32⟩
  | 34 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_v44_2 : Ref sig .tc := ⟨.hbm, 65, rfl⟩
abbrev main_call0_cst_1 : Ref sig .tc := ⟨.hbm, 66, rfl⟩
abbrev main_call0_v6 : Ref sig .tc := ⟨.hbm, 67, rfl⟩
abbrev main_call0_v7 : Ref sig .tc := ⟨.hbm, 68, rfl⟩
abbrev main_v44_1 : Ref sig .tc := ⟨.hbm, 69, rfl⟩
abbrev main_v44_0 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_6 : Ref sig .tc := ⟨.hbm, 86, rfl⟩
abbrev main_v57 : Ref sig .tc := ⟨.hbm, 87, rfl⟩
abbrev main_v58 : Ref sig .tc := ⟨.hbm, 88, rfl⟩
abbrev main_cst_7 : Ref sig .tc := ⟨.hbm, 89, rfl⟩
abbrev main_v59 : Ref sig .tc := ⟨.hbm, 90, rfl⟩
abbrev main_cst_8 : Ref sig .tc := ⟨.hbm, 91, rfl⟩
abbrev main_v60 : Ref sig .tc := ⟨.hbm, 92, rfl⟩
abbrev main_v61 : Ref sig .tc := ⟨.hbm, 93, rfl⟩
abbrev main_cst_9 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_10 : Ref sig .tc := ⟨.hbm, 99, rfl⟩
abbrev main_v66 : Ref sig .tc := ⟨.hbm, 100, rfl⟩
abbrev main_v67 : Ref sig .tc := ⟨.hbm, 101, rfl⟩
abbrev main_cst_11 : Ref sig .tc := ⟨.hbm, 102, rfl⟩
abbrev main_v68 : Ref sig .tc := ⟨.hbm, 103, rfl⟩
abbrev main_cst_12 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_14 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_cst_16 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_cst_17 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_18 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_cst_19 : Ref sig .tc := ⟨.hbm, 138, rfl⟩
abbrev main_v96 : Ref sig .tc := ⟨.hbm, 139, rfl⟩
abbrev main_v97 : Ref sig .tc := ⟨.hbm, 140, rfl⟩
abbrev main_cst_20 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_21 : Ref sig .tc := ⟨.hbm, 147, rfl⟩
abbrev main_v103 : Ref sig .tc := ⟨.hbm, 148, rfl⟩
abbrev main_v104 : Ref sig .tc := ⟨.hbm, 149, rfl⟩
abbrev main_cst_22 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩

abbrev nD : Nat := 1
abbrev τ : Topo := Topo.v7x

variable {F : FTy → Type} [FloatOps F]
-- ==== DwDown.lean ====
abbrev S8192x5632 : Shape := ⟨2, ![8192, 5632]⟩
abbrev S3x5632 : Shape := ⟨2, ![3, 5632]⟩
abbrev S2816x1024 : Shape := ⟨2, ![2816, 1024]⟩
abbrev S8192x1024 : Shape := ⟨2, ![8192, 1024]⟩
abbrev S_ : Shape := ⟨0, ![]⟩
abbrev S1x5632 : Shape := ⟨2, ![1, 5632]⟩
abbrev S8194x5632 : Shape := ⟨2, ![8194, 5632]⟩
abbrev S5632 : Shape := ⟨1, ![5632]⟩
abbrev S8192x2816 : Shape := ⟨2, ![8192, 2816]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 42
  | .vmem => 6
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S2816x1024, .f32⟩
  | .hbm, ⟨3, _⟩ => ⟨S8192x1024, .f32⟩
  | .hbm, ⟨4, _⟩ => ⟨S_, .f32⟩
  | .hbm, ⟨5, _⟩ => ⟨S1x5632, .f32⟩
  | .hbm, ⟨6, _⟩ => ⟨S8194x5632, .f32⟩
  | .hbm, ⟨7, _⟩ => ⟨S1x5632, .f32⟩
  | .hbm, ⟨8, _⟩ => ⟨S5632, .f32⟩
  | .hbm, ⟨9, _⟩ => ⟨S8192x5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S8192x5632, .f32⟩
  | .hbm, ⟨16, _⟩ => ⟨S1x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S5632, .f32⟩
  | .hbm, ⟨22, _⟩ => ⟨S8192x5632, .f32⟩
  | .hbm, ⟨23, _⟩ => ⟨S1x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .bf16⟩
  | .hbm, ⟨40, _⟩ => ⟨S8192x1024, .bf16⟩
  | .hbm, ⟨41, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x5632 : Shape := ⟨2, ![8192, 5632]⟩
abbrev S3x5632 : Shape := ⟨2, ![3, 5632]⟩
abbrev S2816x1024 : Shape := ⟨2, ![2816, 1024]⟩
abbrev S8192x1024 : Shape := ⟨2, ![8192, 1024]⟩
abbrev S_ : Shape := ⟨0, ![]⟩
abbrev S1x5632 : Shape := ⟨2, ![1, 5632]⟩
abbrev S8194x5632 : Shape := ⟨2, ![8194, 5632]⟩
abbrev S5632 : Shape := ⟨1, ![5632]⟩
abbrev S8192x2816 : Shape := ⟨2, ![8192, 2816]⟩
abbrev S1024x2816 : Shape := ⟨2, ![1024, 2816]⟩

abbrev nBuf : Space → Nat
  | .hbm => 42
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S2816x1024, .f32⟩
  | .hbm, ⟨3, _⟩ => ⟨S8192x1024, .f32⟩
  | .hbm, ⟨4, _⟩ => ⟨S_, .f32⟩
  | .hbm, ⟨5, _⟩ => ⟨S1x5632, .f32⟩
  | .hbm, ⟨6, _⟩ => ⟨S8194x5632, .f32⟩
  | .hbm, ⟨7, _⟩ => ⟨S1x5632, .f32⟩
  | .hbm, ⟨8, _⟩ => ⟨S5632, .f32⟩
  | .hbm, ⟨9, _⟩ => ⟨S8192x5632, .f32⟩
  | .hbm, ⟨10, _⟩ => ⟨S1x5632, .f32⟩
  | .hbm, ⟨11, _⟩ => ⟨S8192x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S8192x5632, .f32⟩
  | .hbm, ⟨16, _⟩ => ⟨S1x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S5632, .f32⟩
  | .hbm, ⟨22, _⟩ => ⟨S8192x5632, .f32⟩
  | .hbm, ⟨23, _⟩ => ⟨S1x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x1024, .f32⟩
  | .hbm, ⟨40, _⟩ => ⟨S1024x2816, .f32⟩
  | .hbm, ⟨41, _⟩ => ⟨S2816x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]
-- ==== DwIn.lean ====
abbrev S8192x1024 : Shape := ⟨2, ![8192, 1024]⟩
abbrev S1x1024 : Shape := ⟨2, ![1, 1024]⟩
abbrev S1024x3200 : Shape := ⟨2, ![1024, 3200]⟩
abbrev S8192x3200 : Shape := ⟨2, ![8192, 3200]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2048x512 : Shape := ⟨2, ![2048, 512]⟩
abbrev S2048x3200 : Shape := ⟨2, ![2048, 3200]⟩
abbrev S512x3200 : Shape := ⟨2, ![512, 3200]⟩

abbrev nBuf : Space → Nat
  | .hbm => 24
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3200, .f32⟩
  | .hbm, ⟨3, _⟩ => ⟨S8192x3200, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S8192x3200, .bf16⟩
  | .hbm, ⟨23, _⟩ => ⟨S1024x3200, .f32⟩
  | .local _ .vmem, ⟨0, _⟩ => ⟨S2048x512, .bf16⟩
  | .local _ .vmem, ⟨1, _⟩ => ⟨S2048x512, .bf16⟩
  | .local _ .vmem, ⟨2, _⟩ => ⟨S2048x3200, .bf16⟩
  | .local _ .vmem, ⟨3, _⟩ => ⟨S2048x3200, .bf16⟩
  | .local _ .vmem, ⟨4, _⟩ => ⟨S512x3200, .f32⟩
  | .local _ .vmem, ⟨5, _⟩ => ⟨S512x3200, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S8192x1024 : Shape := ⟨2, ![8192, 1024]⟩
abbrev S1x1024 : Shape := ⟨2, ![1, 1024]⟩
abbrev S1024x3200 : Shape := ⟨2, ![1024, 3200]⟩
abbrev S8192x3200 : Shape := ⟨2, ![8192, 3200]⟩
abbrev S1024 : Shape := ⟨1, ![1024]⟩
abbrev S_ : Shape := ⟨0, ![]⟩
abbrev S8192 : Shape := ⟨1, ![8192]⟩
abbrev S8192x1 : Shape := ⟨2, ![8192, 1]⟩
abbrev S3200x1024 : Shape := ⟨2, ![3200, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3200, .f32⟩
  | .hbm, ⟨3, _⟩ => ⟨S8192x3200, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x3200, .f32⟩
  | .hbm, ⟨22, _⟩ => ⟨S3200x1024, .f32⟩
  | .hbm, ⟨23, _⟩ => ⟨S1024x3200, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DwGate.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S4x1x1024x1408 : Shape := ⟨4, ![4, 1, 1024, 1408]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 25
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S8192x2816, .f32⟩
  | .hbm, ⟨4, _⟩ => ⟨S4x1x1024x1408, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x2816, .bf16⟩
  | .hbm, ⟨24, _⟩ => ⟨S4x1x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwGateRefIdeal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S4x1x1024x1408 : Shape := ⟨4, ![4, 1, 1024, 1408]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S1024x2x1x1408 : Shape := ⟨4, ![1024, 2, 1, 1408]⟩
abbrev S2x1x1024x1408 : Shape := ⟨4, ![2, 1, 1024, 1408]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S8192x2816, .f32⟩
  | .hbm, ⟨4, _⟩ => ⟨S4x1x1024x1408, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S2816x1024, .f32⟩
  | .hbm, ⟨24, _⟩ => ⟨S1024x2816, .f32⟩
  | .hbm, ⟨25, _⟩ => ⟨S1024x2x1x1408, .f32⟩
  | .hbm, ⟨26, _⟩ => ⟨S2x1x1024x1408, .f32⟩
  | .hbm, ⟨27, _⟩ => ⟨S2x1x1024x1408, .f32⟩
  | .hbm, ⟨28, _⟩ => ⟨S4x1x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== DwVal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S4x1x1024x1408 : Shape := ⟨4, ![4, 1, 1024, 1408]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2048x1024 : Shape := ⟨2, ![2048, 1024]⟩
abbrev S2048x1408 : Shape := ⟨2, ![2048, 1408]⟩
abbrev S1x1x1024x1408 : Shape := ⟨4, ![1, 1, 1024, 1408]⟩
abbrev S1024x1408 : Shape := ⟨2, ![1024, 1408]⟩

abbrev nBuf : Space → Nat
  | .hbm => 25
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S8192x2816, .f32⟩
  | .hbm, ⟨4, _⟩ => ⟨S4x1x1024x1408, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S8192x2816, .bf16⟩
  | .hbm, ⟨24, _⟩ => ⟨S4x1x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1x1024x1408, .f32⟩
  | .local _ .vmem, ⟨5, _⟩ => ⟨S1x1x1024x1408, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwValRefIdeal.lean ====
abbrev S8192x1024 : Shape := ⟨2, ![8192, 1024]⟩
abbrev S1x1024 : Shape := ⟨2, ![1, 1024]⟩
abbrev S1024x2816 : Shape := ⟨2, ![1024, 2816]⟩
abbrev S8192x2816 : Shape := ⟨2, ![8192, 2816]⟩
abbrev S4x1x1024x1408 : Shape := ⟨4, ![4, 1, 1024, 1408]⟩
abbrev S1024 : Shape := ⟨1, ![1024]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S2x1x1024x1408 : Shape := ⟨4, ![2, 1, 1024, 1408]⟩
abbrev S1024x2x1x1408 : Shape := ⟨4, ![1024, 2, 1, 1408]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S8192x2816, .f32⟩
  | .hbm, ⟨4, _⟩ => ⟨S4x1x1024x1408, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S2816x1024, .f32⟩
  | .hbm, ⟨24, _⟩ => ⟨S1024x2816, .f32⟩
  | .hbm, ⟨25, _⟩ => ⟨S2x1x1024x1408, .f32⟩
  | .hbm, ⟨26, _⟩ => ⟨S1024x2x1x1408, .f32⟩
  | .hbm, ⟨27, _⟩ => ⟨S2x1x1024x1408, .f32⟩
  | .hbm, ⟨28, _⟩ => ⟨S4x1x1024x1408, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== ProjIn.lean ====
abbrev S8192x1024 : Shape := ⟨2, ![8192, 1024]⟩
abbrev S1x1024 : Shape := ⟨2, ![1, 1024]⟩
abbrev S1024x3200 : Shape := ⟨2, ![1024, 3200]⟩
abbrev S8192x3200 : Shape := ⟨2, ![8192, 3200]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3200, .f32⟩
  | .hbm, ⟨3, _⟩ => ⟨S1024x3200, .bf16⟩
  | .hbm, ⟨4, _⟩ => ⟨S8192x3200, .bf16⟩
  | .hbm, ⟨5, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3200, .bf16⟩
  | .local _ .vmem, ⟨4, _⟩ => ⟨S1024x3200, .bf16⟩
  | .local _ .vmem, ⟨5, _⟩ => ⟨S1024x3200, .bf16⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x3200 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ProjInRefIdeal.lean ====
abbrev S8192x1024 : Shape := ⟨2, ![8192, 1024]⟩
abbrev S1x1024 : Shape := ⟨2, ![1, 1024]⟩
abbrev S1024x3200 : Shape := ⟨2, ![1024, 3200]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x3200 : Shape := ⟨2, ![8192, 3200]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x3200, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x3200, .f32⟩
  | .hbm, ⟨21, _⟩ => ⟨S8192x3200, .bf16⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Ffn.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S1024x4x1408 : Shape := ⟨3, ![1024, 4, 1408]⟩
abbrev S4x1024x1408 : Shape := ⟨3, ![4, 1024, 1408]⟩
abbrev S8192x5632 : Shape := ⟨2, ![8192, 5632]⟩
abbrev S8192x2816 : Shape := ⟨2, ![8192, 2816]⟩
abbrev S256x1024 : Shape := ⟨2, ![256, 1024]⟩
abbrev S8x1024 : Shape := ⟨2, ![8, 1024]⟩
abbrev S256x5632 : Shape := ⟨2, ![256, 5632]⟩
abbrev S256x2816 : Shape := ⟨2, ![256, 2816]⟩
abbrev S272x1024 : Shape := ⟨2, ![272, 1024]⟩
abbrev S272 : Shape := ⟨1, ![272]⟩
abbrev S272x1 : Shape := ⟨2, ![272, 1]⟩
abbrev S1x1024x1408 : Shape := ⟨3, ![1, 1024, 1408]⟩
abbrev S1024x1408 : Shape := ⟨2, ![1024, 1408]⟩
abbrev S272x1408 : Shape := ⟨2, ![272, 1408]⟩
abbrev S8x1408 : Shape := ⟨2, ![8, 1408]⟩
abbrev S256x1408 : Shape := ⟨2, ![256, 1408]⟩
abbrev S3x1408 : Shape := ⟨2, ![3, 1408]⟩
abbrev S1x1408 : Shape := ⟨2, ![1, 1408]⟩
abbrev S1408x1024 : Shape := ⟨2, ![1408, 1024]⟩
abbrev S256 : Shape := ⟨1, ![256]⟩
abbrev S256x1 : Shape := ⟨2, ![256, 1]⟩

abbrev nBuf : Space → Nat
  | .hbm => 17
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1x1024, .f32⟩
  | .hbm, ⟨6, _⟩ => ⟨S1024x4x1408, .f32⟩
  | .hbm, ⟨7, _⟩ => ⟨S4x1024x1408, .f32⟩
  | .hbm, ⟨8, _⟩ => ⟨S4x1024x1408, .bf16⟩
  | .hbm, ⟨9, _⟩ => ⟨S2816x1024, .bf16⟩
  | .hbm, ⟨10, _⟩ => ⟨S8192x5632, .bf16⟩
  | .hbm, ⟨11, _⟩ => ⟨S8192x1024, .bf16⟩
  | .hbm, ⟨12, _⟩ => ⟨S8192x2816, .bf16⟩
  | .hbm, ⟨13, _⟩ => ⟨S8192x2816, .bf16⟩
  | .hbm, ⟨14, _⟩ => ⟨S8192x2816, .bf16⟩
  | .hbm, ⟨15, _⟩ => ⟨S8192x1024, .f32⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S4x1024x1408, .bf16⟩
  | .local _ .vmem, ⟨8, _⟩ => ⟨S3x5632, .f32⟩
  | .local _ .vmem, ⟨9, _⟩ => ⟨S2816x1024, .bf16⟩
  | .local _ .vmem, ⟨10, _⟩ => ⟨S1x1024, .f32⟩
  | .local _ .vmem, ⟨11, _⟩ => ⟨S256x5632, .bf16⟩
  | .local _ .vmem, ⟨12, _⟩ => ⟨S256x5632, .bf16⟩
  | .local _ .vmem, ⟨13, _⟩ => ⟨S256x1024, .bf16⟩
  | .local _ .vmem, ⟨14, _⟩ => ⟨S256x1024, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x5632 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== FfnRefIdeal.lean ====
abbrev S8192x1024 : Shape := ⟨2, ![8192, 1024]⟩
abbrev S1x1024 : Shape := ⟨2, ![1, 1024]⟩
abbrev S1024x5632 : Shape := ⟨2, ![1024, 5632]⟩
abbrev S3x5632 : Shape := ⟨2, ![3, 5632]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1x5632 : Shape := ⟨2, ![1, 5632]⟩
abbrev S8194x5632 : Shape := ⟨2, ![8194, 5632]⟩
abbrev S5632 : Shape := ⟨1, ![5632]⟩
abbrev S8192x2816 : Shape := ⟨2, ![8192, 2816]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x5632, .f32⟩
  | .hbm, ⟨3, _⟩ => ⟨S3x5632, .f32⟩
  | .hbm, ⟨4, _⟩ => ⟨S2816x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x5632, .f32⟩
  | .hbm, ⟨24, _⟩ => ⟨S_, .f32⟩
  | .hbm, ⟨25, _⟩ => ⟨S1x5632, .f32⟩
  | .hbm, ⟨26, _⟩ => ⟨S8194x5632, .f32⟩
  | .hbm, ⟨27, _⟩ => ⟨S1x5632, .f32⟩
  | .hbm, ⟨28, _⟩ => ⟨S5632, .f32⟩
  | .hbm, ⟨29, _⟩ => ⟨S8192x5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S1x5632, .f32⟩
  | .hbm, ⟨34, _⟩ => ⟨S5632, .f32⟩
  | .hbm, ⟨35, _⟩ => ⟨S8192x5632, .f32⟩
  | .hbm, ⟨36, _⟩ => ⟨S1x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S1x5632, .f32⟩
  | .hbm, ⟨41, _⟩ => ⟨S5632, .f32⟩
  | .hbm, ⟨42, _⟩ => ⟨S8192x5632, .f32⟩
  | .hbm, ⟨43, _⟩ => ⟨S1x5632, .f32⟩
  | .hbm, ⟨44, _⟩ => ⟨S8192x5632, .f32⟩
  | .hbm, ⟨45, _⟩ => ⟨S8192x5632, .f32⟩
  | .hbm, ⟨46, _⟩ => ⟨S8192x5632, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S_, .f32⟩
  | .hbm, ⟨52, _⟩ => ⟨S8192x2816, .f32⟩
  | .hbm, ⟨53, _⟩ => ⟨S8192x2816, .f32⟩
  | .hbm, ⟨54, _⟩ => ⟨S_, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x1024, .f32⟩
  | .hbm, ⟨60, _⟩ => ⟨S8192x5632, .bf16⟩
  | .hbm, ⟨61, _⟩ => ⟨S8192x1024, .bf16⟩
  | .hbm, ⟨62, _⟩ => ⟨S8192x2816, .bf16⟩
  | .hbm, ⟨63, _⟩ => ⟨S8192x2816, .bf16⟩
  | .hbm, ⟨64, _⟩ => ⟨S8192x2816, .bf16⟩
  | .hbm, ⟨65, _⟩ => ⟨S1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_3 : Ref sig .tc := ⟨.hbm, 67, rfl⟩
abbrev main_v49 : Ref sig .tc := ⟨.hbm, 68, rfl⟩
abbrev main_v50 : Ref sig .tc := ⟨.hbm, 69, rfl⟩
abbrev main_cst_4 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]
-- ==== Mix.lean ====
abbrev S8192x3200 : Shape := ⟨2, ![8192, 3200]⟩
abbrev S8192x512 : Shape := ⟨2, ![8192, 512]⟩
abbrev S3x512 : Shape := ⟨2, ![3, 512]⟩
abbrev S1x128 : Shape := ⟨2, ![1, 128]⟩
abbrev S1024x1024 : Shape := ⟨2, ![1024, 1024]⟩
abbrev S1x1024 : Shape := ⟨2, ![1, 1024]⟩
abbrev S8192x1024 : Shape := ⟨2, ![8192, 1024]⟩
abbrev S128 : Shape := ⟨1, ![128]⟩
abbrev S4x128 : Shape := ⟨2, ![4, 128]⟩
abbrev S512 : Shape := ⟨1, ![512]⟩
abbrev S1x512 : Shape := ⟨2, ![1, 512]⟩
abbrev S512x512 : Shape := ⟨2, ![512, 512]⟩
abbrev S16x512 : Shape := ⟨2, ![16, 512]⟩
abbrev S512x1024 : Shape := ⟨2, ![512, 1024]⟩
abbrev S8x512 : Shape := ⟨2, ![8, 512]⟩
abbrev S528x512 : Shape := ⟨2, ![528, 512]⟩
abbrev S512x128 : Shape := ⟨2, ![512, 128]⟩
abbrev S512x1 : Shape := ⟨2, ![512, 1]⟩

abbrev nBuf : Space → Nat
  | .hbm => 20
  | .vmem => 32
  | .smem => 0
  | _ => 0

abbrev bufTy : (tb : Table) → Fin (tcTables nBuf tb) → BufTy
  | .hbm, ⟨0, _⟩ => ⟨S8192x3200, .f32⟩
  | .hbm, ⟨1, _⟩ => ⟨S8192x512, .f32⟩
  | .hbm, ⟨2, _⟩ => ⟨S8192x512, .f32⟩
  | .hbm, ⟨3, _⟩ => ⟨S3x512, .f32⟩
  | .hbm, ⟨4, _⟩ => ⟨S1x128, .f32⟩
  | .hbm, ⟨5, _⟩ => ⟨S1024x1024, .f32⟩
  | .hbm, ⟨6, _⟩ => ⟨S1x1024, .f32⟩
  | .hbm, ⟨7, _⟩ => ⟨S8192x1024, .f32⟩
  | .hbm, ⟨8, _⟩ => ⟨S128, .f32⟩
  | .hbm, ⟨9, _⟩ => ⟨S1x128, .f32⟩
  | .hbm, ⟨10, _⟩ => ⟨S4x128, .f32⟩
  | .hbm, ⟨11, _⟩ => ⟨S512, .f32⟩
  | .hbm, ⟨12, _⟩ => ⟨S1x512, .f32⟩
  | .hbm, ⟨13, _⟩ => ⟨S8192x3200, .bf16⟩
  | .hbm, ⟨14, _⟩ => ⟨S8192x512, .bf16⟩
  | .hbm, ⟨15, _⟩ => ⟨S8192x512, .bf16⟩
  | .hbm, ⟨16, _⟩ => ⟨S1024x1024, .bf16⟩
  | .hbm, ⟨17, _⟩ => ⟨S8192x1024, .bf16⟩
  | .hbm, ⟨18, _⟩ => ⟨S8192x1024, .f32⟩
  | .hbm, ⟨19, _⟩ => ⟨S8192x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S16x512, .bf16⟩
  | .local _ .vmem, ⟨14, _⟩ => ⟨S16x512, .bf16⟩
  | .local _ .vmem, ⟨15, _⟩ => ⟨S16x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S3x512, .f32⟩
  | .local _ .vmem, ⟨21, _⟩ => ⟨S1x512, .f32⟩
  | .local _ .vmem, ⟨22, _⟩ => ⟨S1024x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | .local _ .vmem, ⟨31, _⟩ => ⟨S512x1024, .f32⟩
  | _, _ => ⟨S8192x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c2_i32 : BitVec 32 := 2#32
  let c0_i32 : BitVec 32 := 0#32
  ![v2.toNat, c2_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== MixRefIdeal.lean ====
abbrev S8192x3200 : Shape := ⟨2, ![8192, 3200]⟩
abbrev S8192x512 : Shape := ⟨2, ![8192, 512]⟩
abbrev S3x512 : Shape := ⟨2, ![3, 512]⟩
abbrev S1x128 : Shape := ⟨2, ![1, 128]⟩
abbrev S1024x1024 : Shape := ⟨2, ![1024, 1024]⟩
abbrev S1x1024 : Shape := ⟨2, ![1, 1024]⟩
abbrev S8192x1024 : Shape := ⟨2, ![8192, 1024]⟩
abbrev S8192x256 : Shape := ⟨2, ![8192, 256]⟩
abbrev S8192x128 : Shape := ⟨2, ![8192, 128]⟩
abbrev S_ : Shape := ⟨0, ![]⟩
abbrev S1x512 : Shape := ⟨2, ![1, 512]⟩
abbrev S8194x512 : Shape := ⟨2, ![8194, 512]⟩
abbrev S512 : Shape := ⟨1, ![512]⟩
abbrev S8192x4x128 : Shape := ⟨3, ![8192, 4, 128]⟩
abbrev S8192x4 : Shape := ⟨2, ![8192, 4]⟩
abbrev S8192x4x1 : Shape := ⟨3, ![8192, 4, 1]⟩
abbrev S128 : Shape := ⟨1, ![128]⟩
abbrev S1x1x128 : Shape := ⟨3, ![1, 1, 128]⟩
abbrev S1024 : Shape := ⟨1, ![1024]⟩
abbrev S8192 : Shape := ⟨1, ![8192]⟩
abbrev S8192x1 : Shape := ⟨2, ![8192, 1]⟩

abbrev nBuf : Space → Nat
  | .hbm => 92
  | .vmem => 0
  | .smem => 0
  | _ => 0

abbrev bufTy : (tb : Table) → Fin (tcTables nBuf tb) → BufTy
  | .hbm, ⟨0, _⟩ => ⟨S8192x3200, .f32⟩
  | .hbm, ⟨1, _⟩ => ⟨S8192x512, .f32⟩
  | .hbm, ⟨2, _⟩ => ⟨S8192x512, .f32⟩
  | .hbm, ⟨3, _⟩ => ⟨S3x512, .f32⟩
  | .hbm, ⟨4, _⟩ => ⟨S1x128, .f32⟩
  | .hbm, ⟨5, _⟩ => ⟨S1024x1024, .f32⟩
  | .hbm, ⟨6, _⟩ => ⟨S1x1024, .f32⟩
  | .hbm, ⟨7, _⟩ => ⟨S8192x1024, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x256, .f32⟩
  | .hbm, ⟨12, _⟩ => ⟨S8192x256, .f32⟩
  | .hbm, ⟨13, _⟩ => ⟨S8192x512, .f32⟩
  | .hbm, ⟨14, _⟩ => ⟨S8192x512, .f32⟩
  | .hbm, ⟨15, _⟩ => ⟨S8192x128, .f32⟩
  | .hbm, ⟨16, _⟩ => ⟨S8192x512, .f32⟩
  | .hbm, ⟨17, _⟩ => ⟨S_, .f32⟩
  | .hbm, ⟨18, _⟩ => ⟨S1x512, .f32⟩
  | .hbm, ⟨19, _⟩ => ⟨S8194x512, .f32⟩
  | .hbm, ⟨20, _⟩ => ⟨S1x512, .f32⟩
  | .hbm, ⟨21, _⟩ => ⟨S512, .f32⟩
  | .hbm, ⟨22, _⟩ => ⟨S8192x512, .f32⟩
  | .hbm, ⟨23, _⟩ => ⟨S1x512, .f32⟩
  | .hbm, ⟨24, _⟩ => ⟨S8192x512, .f32⟩
  | .hbm, ⟨25, _⟩ => ⟨S8192x512, .f32⟩
  | .hbm, ⟨26, _⟩ => ⟨S1x512, .f32⟩
  | .hbm, ⟨27, _⟩ => ⟨S512, .f32⟩
  | .hbm, ⟨28, _⟩ => ⟨S8192x512, .f32⟩
  | .hbm, ⟨29, _⟩ => ⟨S1x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S1x512, .f32⟩
  | .hbm, ⟨34, _⟩ => ⟨S512, .f32⟩
  | .hbm, ⟨35, _⟩ => ⟨S8192x512, .f32⟩
  | .hbm, ⟨36, _⟩ => ⟨S1x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x4x128, .f32⟩
  | .hbm, ⟨43, _⟩ => ⟨S8192x4x128, .f32⟩
  | .hbm, ⟨44, _⟩ => ⟨S_, .f32⟩
  | .hbm, ⟨45, _⟩ => ⟨S8192x4, .f32⟩
  | .hbm, ⟨46, _⟩ => ⟨S8192x4x1, .f32⟩
  | .hbm, ⟨47, _⟩ => ⟨S_, .f32⟩
  | .hbm, ⟨48, _⟩ => ⟨S8192x4x1, .f32⟩
  | .hbm, ⟨49, _⟩ => ⟨S8192x4x1, .f32⟩
  | .hbm, ⟨50, _⟩ => ⟨S_, .f32⟩
  | .hbm, ⟨51, _⟩ => ⟨S8192x4x1, .f32⟩
  | .hbm, ⟨52, _⟩ => ⟨S8192x4x1, .f32⟩
  | .hbm, ⟨53, _⟩ => ⟨S8192x4x1, .f32⟩
  | .hbm, ⟨54, _⟩ => ⟨S8192x4x128, .f32⟩
  | .hbm, ⟨55, _⟩ => ⟨S8192x4x128, .f32⟩
  | .hbm, ⟨56, _⟩ => ⟨S128, .f32⟩
  | .hbm, ⟨57, _⟩ => ⟨S1x1x128, .f32⟩
  | .hbm, ⟨58, _⟩ => ⟨S8192x4x128, .f32⟩
  | .hbm, ⟨59, _⟩ => ⟨S8192x4x128, .f32⟩
  | .hbm, ⟨60, _⟩ => ⟨S8192x512, .f32⟩
  | .hbm, ⟨61, _⟩ => ⟨S8192x512, .f32⟩
  | .hbm, ⟨62, _⟩ => ⟨S_, .f32⟩
  | .hbm, ⟨63, _⟩ => ⟨S8192x512, .f32⟩
  | .hbm, ⟨64, _⟩ => ⟨S8192x512, .f32⟩
  | .hbm, ⟨65, _⟩ => ⟨S_, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x1024, .f32⟩
  | .hbm, ⟨72, _⟩ => ⟨S8192x1024, .f32⟩
  | .hbm, ⟨73, _⟩ => ⟨S8192x1024, .bf16⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192x1, .f32⟩
  | .hbm, ⟨84, _⟩ => ⟨S8192x1, .f32⟩
  | .hbm, ⟨85, _⟩ => ⟨S8192x1, .f32⟩
  | .hbm, ⟨86, _⟩ => ⟨S8192x1024, .f32⟩
  | .hbm, ⟨87, _⟩ => ⟨S8192x1024, .f32⟩
  | .hbm, ⟨88, _⟩ => ⟨S1x1024, .f32⟩
  | .hbm, ⟨89, _⟩ => ⟨S8192x1024, .f32⟩
  | .hbm, ⟨90, _⟩ => ⟨S8192x1024, .f32⟩
  | .hbm, ⟨91, _⟩ => ⟨S8192x1024, .f32⟩
  | _, _ => ⟨S8192x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_0 : Ref sig .tc := ⟨.hbm, 44, rfl⟩
abbrev main_v35 : Ref sig .tc := ⟨.hbm, 45, rfl⟩
abbrev main_v36 : Ref sig .tc := ⟨.hbm, 46, rfl⟩
abbrev main_cst_1 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call0_v0 : Ref sig .tc := ⟨.hbm, 60, rfl⟩
abbrev main_call0_v1 : Ref sig .tc := ⟨.hbm, 61, rfl⟩
abbrev main_call0_cst : Ref sig .tc := ⟨.hbm, 62, rfl⟩
abbrev main_call0_v2 : Ref sig .tc := ⟨.hbm, 63, rfl⟩
abbrev main_call0_v3 : Ref sig .tc := ⟨.hbm, 64, rfl⟩
abbrev main_call0_cst_0 : Ref sig .tc := ⟨.hbm, 65, rfl⟩
abbrev main_call0_v4 : Ref sig .tc := ⟨.hbm, 66, rfl⟩
abbrev main_call0_v5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_3 : Ref sig .tc := ⟨.hbm, 76, rfl⟩
abbrev main_v56 : Ref sig .tc := ⟨.hbm, 77, rfl⟩
abbrev main_v57 : Ref sig .tc := ⟨.hbm, 78, rfl⟩
abbrev main_cst_4 : Ref sig .tc := ⟨.hbm, 79, rfl⟩
abbrev main_v58 : Ref sig .tc := ⟨.hbm, 80, rfl⟩
abbrev main_v59 : Ref sig .tc := ⟨.hbm, 81, rfl⟩
abbrev main_cst_5 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== AdamUp.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpIdeal.lean ====
abbrev S4x1024x1408 : Shape := ⟨3, ![4, 1024, 1408]⟩
abbrev S4096x1408 : Shape := ⟨2, ![4096, 1408]⟩
abbrev S256x1408 : Shape := ⟨2, ![256, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .hbm, ⟨9, _⟩ => ⟨S4096x1408, .f32⟩
  | .hbm, ⟨10, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamUpRefIdeal.lean ====
abbrev S4x1024x1408 : Shape := ⟨3, ![4, 1024, 1408]⟩
abbrev S_ : Shape := ⟨0, ![]⟩
abbrev S4096x1408 : Shape := ⟨2, ![4096, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S4x1024x1408, .f32⟩
  | .hbm, ⟨2, _⟩ => ⟨S4x1024x1408, .f32⟩
  | .hbm, ⟨3, _⟩ => ⟨S4x1024x1408, .f32⟩
  | .hbm, ⟨4, _⟩ => ⟨S_, .f32⟩
  | .hbm, ⟨5, _⟩ => ⟨S4x1024x1408, .f32⟩
  | .hbm, ⟨6, _⟩ => ⟨S4x1024x1408, .f32⟩
  | .hbm, ⟨7, _⟩ => ⟨S_, .f32⟩
  | .hbm, ⟨8, _⟩ => ⟨S4x1024x1408, .f32⟩
  | .hbm, ⟨9, _⟩ => ⟨S4x1024x1408, .f32⟩
  | .hbm, ⟨10, _⟩ => ⟨S4x1024x1408, .f32⟩
  | .hbm, ⟨11, _⟩ => ⟨S_, .f32⟩
  | .hbm, ⟨12, _⟩ => ⟨S4x1024x1408, .f32⟩
  | .hbm, ⟨13, _⟩ => ⟨S4x1024x1408, .f32⟩
  | .hbm, ⟨14, _⟩ => ⟨S4x1024x1408, .f32⟩
  | .hbm, ⟨15, _⟩ => ⟨S_, .f32⟩
  | .hbm, ⟨16, _⟩ => ⟨S4x1024x1408, .f32⟩
  | .hbm, ⟨17, _⟩ => ⟨S4x1024x1408, .f32⟩
  | .hbm, ⟨18, _⟩ => ⟨S4x1024x1408, .f32⟩
  | .hbm, ⟨19, _⟩ => ⟨S_, .f32⟩
  | .hbm, ⟨20, _⟩ => ⟨S4x1024x1408, .f32⟩
  | .hbm, ⟨21, _⟩ => ⟨S4x1024x1408, .f32⟩
  | .hbm, ⟨22, _⟩ => ⟨S_, .f32⟩
  | .hbm, ⟨23, _⟩ => ⟨S4x1024x1408, .f32⟩
  | .hbm, ⟨24, _⟩ => ⟨S4x1024x1408, .f32⟩
  | .hbm, ⟨25, _⟩ => ⟨S4x1024x1408, .f32⟩
  | .hbm, ⟨26, _⟩ => ⟨S_, .f32⟩
  | .hbm, ⟨27, _⟩ => ⟨S4x1024x1408, .f32⟩
  | .hbm, ⟨28, _⟩ => ⟨S4x1024x1408, .f32⟩
  | .hbm, ⟨29, _⟩ => ⟨S4x1024x1408, .f32⟩
  | .hbm, ⟨30, _⟩ => ⟨S_, .f32⟩
  | .hbm, ⟨31, _⟩ => ⟨S4x1024x1408, .f32⟩
  | .hbm, ⟨32, _⟩ => ⟨S4x1024x1408, .f32⟩
  | .hbm, ⟨33, _⟩ => ⟨S4x1024x1408, .f32⟩
  | .hbm, ⟨34, _⟩ => ⟨S_, .f32⟩
  | .hbm, ⟨35, _⟩ => ⟨S4x1024x1408, .f32⟩
  | .hbm, ⟨36, _⟩ => ⟨S4x1024x1408, .f32⟩
  | .hbm, ⟨37, _⟩ => ⟨S4096x1408, .f32⟩
  | .hbm, ⟨38, _⟩ => ⟨S4096x1408, .f32⟩
  | .hbm, ⟨39, _⟩ => ⟨S4096x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamIn.lean ====
abbrev S4x1024x776 : Shape := ⟨3, ![4, 1024, 776]⟩
abbrev S4096x776 : Shape := ⟨2, ![4096, 776]⟩
abbrev S512x776 : Shape := ⟨2, ![512, 776]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x776, .f32⟩
  | .hbm, ⟨1, _⟩ => ⟨S4x1024x776, .f32⟩
  | .hbm, ⟨2, _⟩ => ⟨S4x1024x776, .f32⟩
  | .hbm, ⟨3, _⟩ => ⟨S4x1024x776, .f32⟩
  | .hbm, ⟨4, _⟩ => ⟨S4096x776, .f32⟩
  | .hbm, ⟨5, _⟩ => ⟨S4096x776, .f32⟩
  | .hbm, ⟨6, _⟩ => ⟨S4096x776, .f32⟩
  | .hbm, ⟨7, _⟩ => ⟨S4096x776, .f32⟩
  | .hbm, ⟨8, _⟩ => ⟨S4096x776, .f32⟩
  | .hbm, ⟨9, _⟩ => ⟨S4096x776, .f32⟩
  | .hbm, ⟨10, _⟩ => ⟨S4096x776, .f32⟩
  | .local _ .vmem, ⟨0, _⟩ => ⟨S512x776, .f32⟩
  | .local _ .vmem, ⟨1, _⟩ => ⟨S512x776, .f32⟩
  | .local _ .vmem, ⟨2, _⟩ => ⟨S512x776, .f32⟩
  | .local _ .vmem, ⟨3, _⟩ => ⟨S512x776, .f32⟩
  | .local _ .vmem, ⟨4, _⟩ => ⟨S512x776, .f32⟩
  | .local _ .vmem, ⟨5, _⟩ => ⟨S512x776, .f32⟩
  | .local _ .vmem, ⟨6, _⟩ => ⟨S512x776, .f32⟩
  | .local _ .vmem, ⟨7, _⟩ => ⟨S512x776, .f32⟩
  | .local _ .vmem, ⟨8, _⟩ => ⟨S512x776, .f32⟩
  | .local _ .vmem, ⟨9, _⟩ => ⟨S512x776, .f32⟩
  | .local _ .vmem, ⟨10, _⟩ => ⟨S512x776, .f32⟩
  | .local _ .vmem, ⟨11, _⟩ => ⟨S512x776, .f32⟩
  | .local _ .vmem, ⟨12, _⟩ => ⟨S512x776, .f32⟩
  | .local _ .vmem, ⟨13, _⟩ => ⟨S512x776, .f32⟩
  | _, _ => ⟨S4x1024x776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x776 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x776 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x776 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x776 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x776 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x776 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x776 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S4x1024x776 : Shape := ⟨3, ![4, 1024, 776]⟩
abbrev S4096x776 : Shape := ⟨2, ![4096, 776]⟩
abbrev S512x776 : Shape := ⟨2, ![512, 776]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x776, .f32⟩
  | .hbm, ⟨1, _⟩ => ⟨S4x1024x776, .f32⟩
  | .hbm, ⟨2, _⟩ => ⟨S4x1024x776, .f32⟩
  | .hbm, ⟨3, _⟩ => ⟨S4x1024x776, .f32⟩
  | .hbm, ⟨4, _⟩ => ⟨S4096x776, .f32⟩
  | .hbm, ⟨5, _⟩ => ⟨S4096x776, .f32⟩
  | .hbm, ⟨6, _⟩ => ⟨S4096x776, .f32⟩
  | .hbm, ⟨7, _⟩ => ⟨S4096x776, .f32⟩
  | .hbm, ⟨8, _⟩ => ⟨S4096x776, .f32⟩
  | .hbm, ⟨9, _⟩ => ⟨S4096x776, .f32⟩
  | .hbm, ⟨10, _⟩ => ⟨S4096x776, .f32⟩
  | .local _ .vmem, ⟨0, _⟩ => ⟨S512x776, .f32⟩
  | .local _ .vmem, ⟨1, _⟩ => ⟨S512x776, .f32⟩
  | .local _ .vmem, ⟨2, _⟩ => ⟨S512x776, .f32⟩
  | .local _ .vmem, ⟨3, _⟩ => ⟨S512x776, .f32⟩
  | .local _ .vmem, ⟨4, _⟩ => ⟨S512x776, .f32⟩
  | .local _ .vmem, ⟨5, _⟩ => ⟨S512x776, .f32⟩
  | .local _ .vmem, ⟨6, _⟩ => ⟨S512x776, .f32⟩
  | .local _ .vmem, ⟨7, _⟩ => ⟨S512x776, .f32⟩
  | .local _ .vmem, ⟨8, _⟩ => ⟨S512x776, .f32⟩
  | .local _ .vmem, ⟨9, _⟩ => ⟨S512x776, .f32⟩
  | .local _ .vmem, ⟨10, _⟩ => ⟨S512x776, .f32⟩
  | .local _ .vmem, ⟨11, _⟩ => ⟨S512x776, .f32⟩
  | .local _ .vmem, ⟨12, _⟩ => ⟨S512x776, .f32⟩
  | .local _ .vmem, ⟨13, _⟩ => ⟨S512x776, .f32⟩
  | _, _ => ⟨S4x1024x776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x776 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x776 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x776 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x776 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x776 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x776 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x776 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S4x1024x776 : Shape := ⟨3, ![4, 1024, 776]⟩
abbrev S_ : Shape := ⟨0, ![]⟩
abbrev S4096x776 : Shape := ⟨2, ![4096, 776]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x776, .f32⟩
  | .hbm, ⟨1, _⟩ => ⟨S4x1024x776, .f32⟩
  | .hbm, ⟨2, _⟩ => ⟨S4x1024x776, .f32⟩
  | .hbm, ⟨3, _⟩ => ⟨S4x1024x776, .f32⟩
  | .hbm, ⟨4, _⟩ => ⟨S_, .f32⟩
  | .hbm, ⟨5, _⟩ => ⟨S4x1024x776, .f32⟩
  | .hbm, ⟨6, _⟩ => ⟨S4x1024x776, .f32⟩
  | .hbm, ⟨7, _⟩ => ⟨S_, .f32⟩
  | .hbm, ⟨8, _⟩ => ⟨S4x1024x776, .f32⟩
  | .hbm, ⟨9, _⟩ => ⟨S4x1024x776, .f32⟩
  | .hbm, ⟨10, _⟩ => ⟨S4x1024x776, .f32⟩
  | .hbm, ⟨11, _⟩ => ⟨S_, .f32⟩
  | .hbm, ⟨12, _⟩ => ⟨S4x1024x776, .f32⟩
  | .hbm, ⟨13, _⟩ => ⟨S4x1024x776, .f32⟩
  | .hbm, ⟨14, _⟩ => ⟨S4x1024x776, .f32⟩
  | .hbm, ⟨15, _⟩ => ⟨S_, .f32⟩
  | .hbm, ⟨16, _⟩ => ⟨S4x1024x776, .f32⟩
  | .hbm, ⟨17, _⟩ => ⟨S4x1024x776, .f32⟩
  | .hbm, ⟨18, _⟩ => ⟨S4x1024x776, .f32⟩
  | .hbm, ⟨19, _⟩ => ⟨S_, .f32⟩
  | .hbm, ⟨20, _⟩ => ⟨S4x1024x776, .f32⟩
  | .hbm, ⟨21, _⟩ => ⟨S4x1024x776, .f32⟩
  | .hbm, ⟨22, _⟩ => ⟨S_, .f32⟩
  | .hbm, ⟨23, _⟩ => ⟨S4x1024x776, .f32⟩
  | .hbm, ⟨24, _⟩ => ⟨S4x1024x776, .f32⟩
  | .hbm, ⟨25, _⟩ => ⟨S4x1024x776, .f32⟩
  | .hbm, ⟨26, _⟩ => ⟨S_, .f32⟩
  | .hbm, ⟨27, _⟩ => ⟨S4x1024x776, .f32⟩
  | .hbm, ⟨28, _⟩ => ⟨S4x1024x776, .f32⟩
  | .hbm, ⟨29, _⟩ => ⟨S4x1024x776, .f32⟩
  | .hbm, ⟨30, _⟩ => ⟨S_, .f32⟩
  | .hbm, ⟨31, _⟩ => ⟨S4x1024x776, .f32⟩
  | .hbm, ⟨32, _⟩ => ⟨S4x1024x776, .f32⟩
  | .hbm, ⟨33, _⟩ => ⟨S4x1024x776, .f32⟩
  | .hbm, ⟨34, _⟩ => ⟨S_, .f32⟩
  | .hbm, ⟨35, _⟩ => ⟨S4x1024x776, .f32⟩
  | .hbm, ⟨36, _⟩ => ⟨S4x1024x776, .f32⟩
  | .hbm, ⟨37, _⟩ => ⟨S4096x776, .f32⟩
  | .hbm, ⟨38, _⟩ => ⟨S4096x776, .f32⟩
  | .hbm, ⟨39, _⟩ => ⟨S4096x776, .f32⟩
  | _, _ => ⟨S4x1024x776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamOut.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutIdeal.lean ====
abbrev S4x256x1024 : Shape := ⟨3, ![4, 256, 1024]⟩
abbrev S1024x1024 : Shape := ⟨2, ![1024, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamOutRefIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamDown.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S4x704x1024 : Shape := ⟨3, ![4, 704, 1024]⟩
abbrev S2816x1024 : Shape := ⟨2, ![2816, 1024]⟩
abbrev S352x1024 : Shape := ⟨2, ![352, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S2816x1024, .f32⟩
  | .hbm, ⟨5, _⟩ => ⟨S2816x1024, .f32⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S2816x1024, .f32⟩
  | .hbm, ⟨10, _⟩ => ⟨S2816x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S4x704x1024 : Shape := ⟨3, ![4, 704, 1024]⟩
abbrev S_ : Shape := ⟨0, ![]⟩
abbrev S2816x1024 : Shape := ⟨2, ![2816, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | .hbm, ⟨37, _⟩ => ⟨S2816x1024, .f32⟩
  | .hbm, ⟨38, _⟩ => ⟨S2816x1024, .f32⟩
  | .hbm, ⟨39, _⟩ => ⟨S2816x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S4x3x128 : Shape := ⟨3, ![4, 3, 128]⟩
abbrev S12x128 : Shape := ⟨2, ![12, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x3x128, .f32⟩
  | .hbm, ⟨1, _⟩ => ⟨S4x3x128, .f32⟩
  | .hbm, ⟨2, _⟩ => ⟨S4x3x128, .f32⟩
  | .hbm, ⟨3, _⟩ => ⟨S4x3x128, .f32⟩
  | .hbm, ⟨4, _⟩ => ⟨S12x128, .f32⟩
  | .hbm, ⟨5, _⟩ => ⟨S12x128, .f32⟩
  | .hbm, ⟨6, _⟩ => ⟨S12x128, .f32⟩
  | .hbm, ⟨7, _⟩ => ⟨S12x128, .f32⟩
  | .hbm, ⟨8, _⟩ => ⟨S12x128, .f32⟩
  | .hbm, ⟨9, _⟩ => ⟨S12x128, .f32⟩
  | .hbm, ⟨10, _⟩ => ⟨S12x128, .f32⟩
  | .local _ .vmem, ⟨0, _⟩ => ⟨S12x128, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | _, _ => ⟨S4x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S4x3x128 : Shape := ⟨3, ![4, 3, 128]⟩
abbrev S12x128 : Shape := ⟨2, ![12, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x3x128, .f32⟩
  | .hbm, ⟨1, _⟩ => ⟨S4x3x128, .f32⟩
  | .hbm, ⟨2, _⟩ => ⟨S4x3x128, .f32⟩
  | .hbm, ⟨3, _⟩ => ⟨S4x3x128, .f32⟩
  | .hbm, ⟨4, _⟩ => ⟨S12x128, .f32⟩
  | .hbm, ⟨5, _⟩ => ⟨S12x128, .f32⟩
  | .hbm, ⟨6, _⟩ => ⟨S12x128, .f32⟩
  | .hbm, ⟨7, _⟩ => ⟨S12x128, .f32⟩
  | .hbm, ⟨8, _⟩ => ⟨S12x128, .f32⟩
  | .hbm, ⟨9, _⟩ => ⟨S12x128, .f32⟩
  | .hbm, ⟨10, _⟩ => ⟨S12x128, .f32⟩
  | .local _ .vmem, ⟨0, _⟩ => ⟨S12x128, .f32⟩
  | .local _ .vmem, ⟨1, _⟩ => ⟨S12x128, .f32⟩
  | .local _ .vmem, ⟨2, _⟩ => ⟨S12x128, .f32⟩
  | .local _ .vmem, ⟨3, _⟩ => ⟨S12x128, .f32⟩
  | .local _ .vmem, ⟨4, _⟩ => ⟨S12x128, .f32⟩
  | .local _ .vmem, ⟨5, _⟩ => ⟨S12x128, .f32⟩
  | .local _ .vmem, ⟨6, _⟩ => ⟨S12x128, .f32⟩
  | _, _ => ⟨S4x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S4x3x128 : Shape := ⟨3, ![4, 3, 128]⟩
abbrev S_ : Shape := ⟨0, ![]⟩
abbrev S12x128 : Shape := ⟨2, ![12, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x3x128, .f32⟩
  | .hbm, ⟨1, _⟩ => ⟨S4x3x128, .f32⟩
  | .hbm, ⟨2, _⟩ => ⟨S4x3x128, .f32⟩
  | .hbm, ⟨3, _⟩ => ⟨S4x3x128, .f32⟩
  | .hbm, ⟨4, _⟩ => ⟨S_, .f32⟩
  | .hbm, ⟨5, _⟩ => ⟨S4x3x128, .f32⟩
  | .hbm, ⟨6, _⟩ => ⟨S4x3x128, .f32⟩
  | .hbm, ⟨7, _⟩ => ⟨S_, .f32⟩
  | .hbm, ⟨8, _⟩ => ⟨S4x3x128, .f32⟩
  | .hbm, ⟨9, _⟩ => ⟨S4x3x128, .f32⟩
  | .hbm, ⟨10, _⟩ => ⟨S4x3x128, .f32⟩
  | .hbm, ⟨11, _⟩ => ⟨S_, .f32⟩
  | .hbm, ⟨12, _⟩ => ⟨S4x3x128, .f32⟩
  | .hbm, ⟨13, _⟩ => ⟨S4x3x128, .f32⟩
  | .hbm, ⟨14, _⟩ => ⟨S4x3x128, .f32⟩
  | .hbm, ⟨15, _⟩ => ⟨S_, .f32⟩
  | .hbm, ⟨16, _⟩ => ⟨S4x3x128, .f32⟩
  | .hbm, ⟨17, _⟩ => ⟨S4x3x128, .f32⟩
  | .hbm, ⟨18, _⟩ => ⟨S4x3x128, .f32⟩
  | .hbm, ⟨19, _⟩ => ⟨S_, .f32⟩
  | .hbm, ⟨20, _⟩ => ⟨S4x3x128, .f32⟩
  | .hbm, ⟨21, _⟩ => ⟨S4x3x128, .f32⟩
  | .hbm, ⟨22, _⟩ => ⟨S_, .f32⟩
  | .hbm, ⟨23, _⟩ => ⟨S4x3x128, .f32⟩
  | .hbm, ⟨24, _⟩ => ⟨S4x3x128, .f32⟩
  | .hbm, ⟨25, _⟩ => ⟨S4x3x128, .f32⟩
  | .hbm, ⟨26, _⟩ => ⟨S_, .f32⟩
  | .hbm, ⟨27, _⟩ => ⟨S4x3x128, .f32⟩
  | .hbm, ⟨28, _⟩ => ⟨S4x3x128, .f32⟩
  | .hbm, ⟨29, _⟩ => ⟨S4x3x128, .f32⟩
  | .hbm, ⟨30, _⟩ => ⟨S_, .f32⟩
  | .hbm, ⟨31, _⟩ => ⟨S4x3x128, .f32⟩
  | .hbm, ⟨32, _⟩ => ⟨S4x3x128, .f32⟩
  | .hbm, ⟨33, _⟩ => ⟨S4x3x128, .f32⟩
  | .hbm, ⟨34, _⟩ => ⟨S_, .f32⟩
  | .hbm, ⟨35, _⟩ => ⟨S4x3x128, .f32⟩
  | .hbm, ⟨36, _⟩ => ⟨S4x3x128, .f32⟩
  | .hbm, ⟨37, _⟩ => ⟨S12x128, .f32⟩
  | .hbm, ⟨38, _⟩ => ⟨S12x128, .f32⟩
  | .hbm, ⟨39, _⟩ => ⟨S12x128, .f32⟩
  | _, _ => ⟨S4x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamGate.lean ====
abbrev S4x16x64 : Shape := ⟨3, ![4, 16, 64]⟩
abbrev S64x64 : Shape := ⟨2, ![64, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x16x64, .f32⟩
  | .hbm, ⟨1, _⟩ => ⟨S4x16x64, .f32⟩
  | .hbm, ⟨2, _⟩ => ⟨S4x16x64, .f32⟩
  | .hbm, ⟨3, _⟩ => ⟨S4x16x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S4x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateIdeal.lean ====
abbrev S4x16x64 : Shape := ⟨3, ![4, 16, 64]⟩
abbrev S64x64 : Shape := ⟨2, ![64, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x16x64, .f32⟩
  | .hbm, ⟨1, _⟩ => ⟨S4x16x64, .f32⟩
  | .hbm, ⟨2, _⟩ => ⟨S4x16x64, .f32⟩
  | .hbm, ⟨3, _⟩ => ⟨S4x16x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | _, _ => ⟨S4x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateRefIdeal.lean ====
abbrev S4x16x64 : Shape := ⟨3, ![4, 16, 64]⟩
abbrev S_ : Shape := ⟨0, ![]⟩
abbrev S64x64 : Shape := ⟨2, ![64, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x16x64, .f32⟩
  | .hbm, ⟨1, _⟩ => ⟨S4x16x64, .f32⟩
  | .hbm, ⟨2, _⟩ => ⟨S4x16x64, .f32⟩
  | .hbm, ⟨3, _⟩ => ⟨S4x16x64, .f32⟩
  | .hbm, ⟨4, _⟩ => ⟨S_, .f32⟩
  | .hbm, ⟨5, _⟩ => ⟨S4x16x64, .f32⟩
  | .hbm, ⟨6, _⟩ => ⟨S4x16x64, .f32⟩
  | .hbm, ⟨7, _⟩ => ⟨S_, .f32⟩
  | .hbm, ⟨8, _⟩ => ⟨S4x16x64, .f32⟩
  | .hbm, ⟨9, _⟩ => ⟨S4x16x64, .f32⟩
  | .hbm, ⟨10, _⟩ => ⟨S4x16x64, .f32⟩
  | .hbm, ⟨11, _⟩ => ⟨S_, .f32⟩
  | .hbm, ⟨12, _⟩ => ⟨S4x16x64, .f32⟩
  | .hbm, ⟨13, _⟩ => ⟨S4x16x64, .f32⟩
  | .hbm, ⟨14, _⟩ => ⟨S4x16x64, .f32⟩
  | .hbm, ⟨15, _⟩ => ⟨S_, .f32⟩
  | .hbm, ⟨16, _⟩ => ⟨S4x16x64, .f32⟩
  | .hbm, ⟨17, _⟩ => ⟨S4x16x64, .f32⟩
  | .hbm, ⟨18, _⟩ => ⟨S4x16x64, .f32⟩
  | .hbm, ⟨19, _⟩ => ⟨S_, .f32⟩
  | .hbm, ⟨20, _⟩ => ⟨S4x16x64, .f32⟩
  | .hbm, ⟨21, _⟩ => ⟨S4x16x64, .f32⟩
  | .hbm, ⟨22, _⟩ => ⟨S_, .f32⟩
  | .hbm, ⟨23, _⟩ => ⟨S4x16x64, .f32⟩
  | .hbm, ⟨24, _⟩ => ⟨S4x16x64, .f32⟩
  | .hbm, ⟨25, _⟩ => ⟨S4x16x64, .f32⟩
  | .hbm, ⟨26, _⟩ => ⟨S_, .f32⟩
  | .hbm, ⟨27, _⟩ => ⟨S4x16x64, .f32⟩
  | .hbm, ⟨28, _⟩ => ⟨S4x16x64, .f32⟩
  | .hbm, ⟨29, _⟩ => ⟨S4x16x64, .f32⟩
  | .hbm, ⟨30, _⟩ => ⟨S_, .f32⟩
  | .hbm, ⟨31, _⟩ => ⟨S4x16x64, .f32⟩
  | .hbm, ⟨32, _⟩ => ⟨S4x16x64, .f32⟩
  | .hbm, ⟨33, _⟩ => ⟨S4x16x64, .f32⟩
  | .hbm, ⟨34, _⟩ => ⟨S_, .f32⟩
  | .hbm, ⟨35, _⟩ => ⟨S4x16x64, .f32⟩
  | .hbm, ⟨36, _⟩ => ⟨S4x16x64, .f32⟩
  | .hbm, ⟨37, _⟩ => ⟨S64x64, .f32⟩
  | .hbm, ⟨38, _⟩ => ⟨S64x64, .f32⟩
  | .hbm, ⟨39, _⟩ => ⟨S64x64, .f32⟩
  | _, _ => ⟨S4x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamBias.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasIdeal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamBiasRefIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadIdeal.lean ====
abbrev S4x128 : Shape := ⟨2, ![4, 128]⟩

abbrev nBuf : Space → Nat
  | .hbm => 7
  | .vmem => 7
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .local _ .vmem, ⟨0, _⟩ => ⟨S4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | _, _ => ⟨S4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamHeadRefIdeal.lean ====
abbrev S4x128 : Shape := ⟨2, ![4, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S4x128, .f32⟩
  | .hbm, ⟨7, _⟩ => ⟨S_, .f32⟩
  | .hbm, ⟨8, _⟩ => ⟨S4x128, .f32⟩
  | .hbm, ⟨9, _⟩ => ⟨S4x128, .f32⟩
  | .hbm, ⟨10, _⟩ => ⟨S4x128, .f32⟩
  | .hbm, ⟨11, _⟩ => ⟨S_, .f32⟩
  | .hbm, ⟨12, _⟩ => ⟨S4x128, .f32⟩
  | .hbm, ⟨13, _⟩ => ⟨S4x128, .f32⟩
  | .hbm, ⟨14, _⟩ => ⟨S4x128, .f32⟩
  | .hbm, ⟨15, _⟩ => ⟨S_, .f32⟩
  | .hbm, ⟨16, _⟩ => ⟨S4x128, .f32⟩
  | .hbm, ⟨17, _⟩ => ⟨S4x128, .f32⟩
  | .hbm, ⟨18, _⟩ => ⟨S4x128, .f32⟩
  | .hbm, ⟨19, _⟩ => ⟨S_, .f32⟩
  | .hbm, ⟨20, _⟩ => ⟨S4x128, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S4x128, .f32⟩
  | .hbm, ⟨25, _⟩ => ⟨S4x128, .f32⟩
  | .hbm, ⟨26, _⟩ => ⟨S_, .f32⟩
  | .hbm, ⟨27, _⟩ => ⟨S4x128, .f32⟩
  | .hbm, ⟨28, _⟩ => ⟨S4x128, .f32⟩
  | .hbm, ⟨29, _⟩ => ⟨S4x128, .f32⟩
  | .hbm, ⟨30, _⟩ => ⟨S_, .f32⟩
  | .hbm, ⟨31, _⟩ => ⟨S4x128, .f32⟩
  | .hbm, ⟨32, _⟩ => ⟨S4x128, .f32⟩
  | .hbm, ⟨33, _⟩ => ⟨S4x128, .f32⟩
  | .hbm, ⟨34, _⟩ => ⟨S_, .f32⟩
  | .hbm, ⟨35, _⟩ => ⟨S4x128, .f32⟩
  | .hbm, ⟨36, _⟩ => ⟨S4x128, .f32⟩
  | _, _ => ⟨S4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConvF.lean ====
abbrev S4x3x1408 : Shape := ⟨3, ![4, 3, 1408]⟩
abbrev S12x1408 : Shape := ⟨2, ![12, 1408]⟩

abbrev nBuf : Space → Nat
  | .hbm => 11
  | .vmem => 7
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S12x1408, .f32⟩
  | .hbm, ⟨5, _⟩ => ⟨S12x1408, .f32⟩
  | .hbm, ⟨6, _⟩ => ⟨S12x1408, .f32⟩
  | .hbm, ⟨7, _⟩ => ⟨S12x1408, .f32⟩
  | .hbm, ⟨8, _⟩ => ⟨S12x1408, .f32⟩
  | .hbm, ⟨9, _⟩ => ⟨S12x1408, .f32⟩
  | .hbm, ⟨10, _⟩ => ⟨S12x1408, .f32⟩
  | .local _ .vmem, ⟨0, _⟩ => ⟨S12x1408, .f32⟩
  | .local _ .vmem, ⟨1, _⟩ => ⟨S12x1408, .f32⟩
  | .local _ .vmem, ⟨2, _⟩ => ⟨S12x1408, .f32⟩
  | .local _ .vmem, ⟨3, _⟩ => ⟨S12x1408, .f32⟩
  | .local _ .vmem, ⟨4, _⟩ => ⟨S12x1408, .f32⟩
  | .local _ .vmem, ⟨5, _⟩ => ⟨S12x1408, .f32⟩
  | .local _ .vmem, ⟨6, _⟩ => ⟨S12x1408, .f32⟩
  | _, _ => ⟨S4x3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvFRefIdeal.lean ====
abbrev S4x3x1408 : Shape := ⟨3, ![4, 3, 1408]⟩
abbrev S_ : Shape := ⟨0, ![]⟩
abbrev S12x1408 : Shape := ⟨2, ![12, 1408]⟩

abbrev nBuf : Space → Nat
  | .hbm => 40
  | .vmem => 0
  | .smem => 0
  | _ => 0

abbrev bufTy : (tb : Table) → Fin (tcTables nBuf tb) → BufTy
  | .hbm, ⟨0, _⟩ => ⟨S4x3x1408, .f32⟩
  | .hbm, ⟨1, _⟩ => ⟨S4x3x1408, .f32⟩
  | .hbm, ⟨2, _⟩ => ⟨S4x3x1408, .f32⟩
  | .hbm, ⟨3, _⟩ => ⟨S4x3x1408, .f32⟩
  | .hbm, ⟨4, _⟩ => ⟨S_, .f32⟩
  | .hbm, ⟨5, _⟩ => ⟨S4x3x1408, .f32⟩
  | .hbm, ⟨6, _⟩ => ⟨S4x3x1408, .f32⟩
  | .hbm, ⟨7, _⟩ => ⟨S_, .f32⟩
  | .hbm, ⟨8, _⟩ => ⟨S4x3x1408, .f32⟩
  | .hbm, ⟨9, _⟩ => ⟨S4x3x1408, .f32⟩
  | .hbm, ⟨10, _⟩ => ⟨S4x3x1408, .f32⟩
  | .hbm, ⟨11, _⟩ => ⟨S_, .f32⟩
  | .hbm, ⟨12, _⟩ => ⟨S4x3x1408, .f32⟩
  | .hbm, ⟨13, _⟩ => ⟨S4x3x1408, .f32⟩
  | .hbm, ⟨14, _⟩ => ⟨S4x3x1408, .f32⟩
  | .hbm, ⟨15, _⟩ => ⟨S_, .f32⟩
  | .hbm, ⟨16, _⟩ => ⟨S4x3x1408, .f32⟩
  | .hbm, ⟨17, _⟩ => ⟨S4x3x1408, .f32⟩
  | .hbm, ⟨18, _⟩ => ⟨S4x3x1408, .f32⟩
  | .hbm, ⟨19, _⟩ => ⟨S_, .f32⟩
  | .hbm, ⟨20, _⟩ => ⟨S4x3x1408, .f32⟩
  | .hbm, ⟨21, _⟩ => ⟨S4x3x1408, .f32⟩
  | .hbm, ⟨22, _⟩ => ⟨S_, .f32⟩
  | .hbm, ⟨23, _⟩ => ⟨S4x3x1408, .f32⟩
  | .hbm, ⟨24, _⟩ => ⟨S4x3x1408, .f32⟩
  | .hbm, ⟨25, _⟩ => ⟨S4x3x1408, .f32⟩
  | .hbm, ⟨26, _⟩ => ⟨S_, .f32⟩
  | .hbm, ⟨27, _⟩ => ⟨S4x3x1408, .f32⟩
  | .hbm, ⟨28, _⟩ => ⟨S4x3x1408, .f32⟩
  | .hbm, ⟨29, _⟩ => ⟨S4x3x1408, .f32⟩
  | .hbm, ⟨30, _⟩ => ⟨S_, .f32⟩
  | .hbm, ⟨31, _⟩ => ⟨S4x3x1408, .f32⟩
  | .hbm, ⟨32, _⟩ => ⟨S4x3x1408, .f32⟩
  | .hbm, ⟨33, _⟩ => ⟨S4x3x1408, .f32⟩
  | .hbm, ⟨34, _⟩ => ⟨S_, .f32⟩
  | .hbm, ⟨35, _⟩ => ⟨S4x3x1408, .f32⟩
  | .hbm, ⟨36, _⟩ => ⟨S4x3x1408, .f32⟩
  | .hbm, ⟨37, _⟩ => ⟨S12x1408, .f32⟩
  | .hbm, ⟨38, _⟩ => ⟨S12x1408, .f32⟩
  | .hbm, ⟨39, _⟩ => ⟨S12x1408, .f32⟩
  | _, _ => ⟨S4x3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Base.lean ====
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The body's one branch: whether the grid point is the first. -/
abbrev cond0_0 (i : grid0.Coords) : Prop := (Scalar.cmpi .ne (Scalar.extui (Scalar.cmpi .eq (BitVec.ofNat 32 (i 0).val) 0#32)) 0#32) = 1#1
/-- It holds at the first point of the grid and at no other. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2816 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x2816 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2816 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x2816 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x2816 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x5632 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x5632 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2816x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x1024x1408 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x2816 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x2816 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S8x2816 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S8x2816 .f32 := win0_21.stage (cfg0.slots t 21)
abbrev hs0_21 (t : Fin cfg0.N) : (ms0_21 t).IsWhole := hstage0_21 ((cfg0.slots t 21).cast nbuf0_21)

end Cert.KernelIdeal.Hand

end
-- ==== Proof.RunA.lean ====
module

public import proofs.«01_k».proof.Proof.Base

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1384000 in
/-- The pieces the body writes into each of its six outputs at the first point (the sums start from zero), with the run that leaves them. -/
def runA (c : Dev nD) (i : grid0.Coords) (arg1 : Memref sig .tc .vmem S256x1024 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S256x2816 .bf16) (harg4 : arg4.IsWhole) (arg5 : Memref sig .tc .vmem S16x2816 .bf16) (harg5 : arg5.IsWhole) (arg6 : Memref sig .tc .vmem S16x2816 .bf16) (harg6 : arg6.IsWhole) (arg7 : Memref sig .tc .vmem S256x2816 .bf16) (harg7 : arg7.IsWhole) (arg8 : Memref sig .tc .vmem S16x2816 .bf16) (harg8 : arg8.IsWhole) (arg9 : Memref sig .tc .vmem S16x2816 .bf16) (harg9 : arg9.IsWhole) (arg10 : Memref sig .tc .vmem S256x5632 .bf16) (harg10 : arg10.IsWhole) (arg11 : Memref sig .tc .vmem S3x5632 .f32) (harg11 : arg11.IsWhole) (arg12 : Memref sig .tc .vmem S2816x1024 .bf16) (harg12 : arg12.IsWhole) (arg13 : Memref sig .tc .vmem S4x1024x1408 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S1x1024 .f32) (harg16 : arg16.IsWhole) (arg17 : Memref sig .tc .vmem S256x2816 .bf16) (harg17 : arg17.IsWhole) (arg18 : Memref sig .tc .vmem S256x2816 .bf16) (harg18 : arg18.IsWhole) (arg19 : Memref sig .tc .vmem S256x1024 .f32) (harg19 : arg19.IsWhole) (arg20 : Memref sig .tc .vmem S1x1024 .f32) (harg20 : arg20.IsWhole) (arg21 : Memref sig .tc .vmem S8x2816 .f32) (harg21 : arg21.IsWhole) (arg22 : Memref sig .tc .vmem S8x2816 .f32) (harg22 : arg22.IsWhole) (hc0 : cond0_0 i)
    (x0 : Vec F S256x1024 .bf16) (x1 : Vec F S16x1024 .bf16) (x2 : Vec F S16x1024 .bf16) (x3 : Vec F S256x2816 .bf16) (x4 : Vec F S16x2816 .bf16) (x5 : Vec F S16x2816 .bf16) (x6 : Vec F S256x2816 .bf16) (x7 : Vec F S16x2816 .bf16) (x8 : Vec F S16x2816 .bf16) (x9 : Vec F S256x5632 .bf16) (x10 : Vec F S3x5632 .f32) (x11 : Vec F S2816x1024 .bf16) (x12 : Vec F S4x1024x1408 .bf16) (x13 : Vec F S256x1024 .f32) (x14 : Vec F S256x1024 .f32) (x15 : Vec F S1x1024 .f32) :
    Σ' (L16 : List (View.Piece (Elt F) S256x2816 .bf16)), Σ' (L17 : List (View.Piece (Elt F) S256x2816 .bf16)), Σ' (L18 : List (View.Piece (Elt F) S256x1024 .f32)), Σ' (L19 : List (View.Piece (Elt F) S1x1024 .f32)), Σ' (L20 : List (View.Piece (Elt F) S8x2816 .f32)), { L21 : List (View.Piece (Elt F) S8x2816 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21)) -∗ K ⟨⟩))
          ⊢ wp frame (wpE (defs₀ (F := F)) Variants.none c none) E (cc0_ffn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

end Cert.KernelIdeal.Hand

end
-- ==== Proof.Sem.lean ====
module

public import proofs.«01_k».proof.Proof.Base
public import Idealize.ShloMosaic.Lib.Pointwise

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The entry of a matrix at two natural numbers (read modulo the extents, so that no bound has to be shown). -/
def at2 {α : Type} {m n : ℕ} [NeZero m] [NeZero n] (x : (⟨2, ![m, n]⟩ : Shape).Idx → α) (r c : ℕ) : α :=
  x (ix2 (Fin.ofNat m r) (Fin.ofNat n c))

/-- The entry of a stack of matrices at three natural numbers. -/
def at3 {α : Type} {l m n : ℕ} [NeZero l] [NeZero m] [NeZero n] (x : (⟨3, ![l, m, n]⟩ : Shape).Idx → α) (b r c : ℕ) : α :=
  x (ix3 (Fin.ofNat l b) (Fin.ofNat m r) (Fin.ofNat n c))

/-- The sixteen rows before a block, the block and the sixteen rows after it, as one column of rows. -/
def ext3 (p a n : ℕ → ℕ → EReal) (r c : ℕ) : EReal :=
  if r < 16 then p r c else if r - 16 < 256 then a (r - 16) c else n (r - 16 - 256) c

/-- One half, as the kernel's constant. -/
def half : EReal := Ideal.ofBits FTy.f32 1056964608#32

/-- The logistic function by the hyperbolic tangent. -/
def sgm (g : EReal) : EReal := half * Ideal.tanh (half * g) + half

/-- The derivative of `g · σ(g)`. -/
def dsl (g : EReal) : EReal := sgm g + g * sgm g * (1 - sgm g)

/-- The cotangent of the gated product: a row of `dy` times a row of the down projection. -/
def dzv (dy wd : ℕ → ℕ → EReal) (r n : ℕ) : EReal := ∑ d : Fin 1024, dy r d.val * wd n d.val

/-- The cotangent of the gate. -/
def cG (dy wd g v : ℕ → ℕ → EReal) (r n : ℕ) : EReal := dzv dy wd r n * v r n * dsl (g r n)

/-- The cotangent of the value. -/
def cV (dy wd g : ℕ → ℕ → EReal) (r n : ℕ) : EReal := dzv dy wd r n * (g r n * sgm (g r n))

/-- Rows 8 to 279 of `f`, the eight rows before the block zero at the first point, the eight after it zero at the last. -/
def halo (w : BitVec 32) (f : ℕ → ℕ → EReal) (k n : ℕ) : EReal :=
  if k < 8 then Scalar.select (Scalar.cmpi .eq w 0#32) 0 (f (8 + k) n)
  else if k - 8 < 256 then f (16 + (k - 8)) n
  else Scalar.select (Scalar.cmpi .eq w 31#32) 0 (f (272 + (k - 8 - 256)) n)

/-- The row before. -/
def rowM (w : BitVec 32) (f : ℕ → ℕ → EReal) (r n : ℕ) : EReal := halo w f ((8 + r + 272 - 1) % 272) n

/-- The row after. -/
def rowP (w : BitVec 32) (f : ℕ → ℕ → EReal) (r n : ℕ) : EReal := halo w f ((8 + r + 272 - 271) % 272) n

/-- The transposed convolution over three rows; `co` is where the columns of `f` begin among the weight's. -/
def du (w : BitVec 32) (cw f : ℕ → ℕ → EReal) (co r n : ℕ) : EReal :=
  cw 0 (co + n) * rowP w f r n + cw 1 (co + n) * f (16 + r) n + cw 2 (co + n) * rowM w f r n

/-- A part of the product with the up projection: `K` columns of `u` from `off + o`, against those from `o`. -/
def pdt (K : ℕ) (u w : ℕ → ℕ → EReal) (o off r d : ℕ) : EReal := ∑ k : Fin K, u r (off + (o + k.val)) * w d (o + k.val)

theorem at2_eq {α : Type} {m n : ℕ} [NeZero m] [NeZero n] (x : (⟨2, ![m, n]⟩ : Shape).Idx → α) (j : (⟨2, ![m, n]⟩ : Shape).Idx) :
    at2 x (j 0).val (j 1).val = x j := by
  have h : ix2 (Fin.ofNat m (j 0).val) (Fin.ofNat n (j 1).val) = j := by
    ext a
    fin_cases a
    · exact Nat.mod_eq_of_lt (j 0).isLt
    · exact Nat.mod_eq_of_lt (j 1).isLt
  exact congrArg x h

theorem at3_eq {α : Type} {l m n : ℕ} [NeZero l] [NeZero m] [NeZero n] (x : (⟨3, ![l, m, n]⟩ : Shape).Idx → α)
    (j : (⟨3, ![l, m, n]⟩ : Shape).Idx) : at3 x (j 0).val (j 1).val (j 2).val = x j := by
  have h : ix3 (Fin.ofNat l (j 0).val) (Fin.ofNat m (j 1).val) (Fin.ofNat n (j 2).val) = j := by
    ext a
    fin_cases a
    · exact Nat.mod_eq_of_lt (j 0).isLt
    · exact Nat.mod_eq_of_lt (j 1).isLt
    · exact Nat.mod_eq_of_lt (j 2).isLt
  exact congrArg x h

/-- A load of a part of a block held whole. -/
theorem rd2 {m n p q a b : ℕ} [NeZero m] [NeZero n] {e : EltTy} (A : Memref sig .tc .vmem ⟨2, ![m, n]⟩ e) (hA : A.IsWhole)
    (x : Vec Ideal ⟨2, ![m, n]⟩ e) (inb : ∀ k, (![a, b] : Fin 2 → ℕ) k + (![p, q] : Fin 2 → ℕ) k ≤ (⟨2, ![m, n]⟩ : Shape).size k)
    (y : (⟨2, ![p, q]⟩ : Shape).Idx) :
    View.readAt (Elt Ideal) A.view (Rect.unit (s := ⟨2, ![m, n]⟩) ![a, b] ![p, q] inb).toLoadRect (hA.unread x) y
      = at2 x (a + (y 0).val) (b + (y 1).val) := by
  rw [View.readAt_apply, hA.read_unread, ← at2_eq x]
  congr 1 <;> simp [Rect.unit, LoadRect.idx, Rect.toLoadRect]

theorem rd3 {l m n k p q c a b : ℕ} [NeZero l] [NeZero m] [NeZero n] {e : EltTy} (A : Memref sig .tc .vmem ⟨3, ![l, m, n]⟩ e) (hA : A.IsWhole)
    (x : Vec Ideal ⟨3, ![l, m, n]⟩ e)
    (inb : ∀ i, (![c, a, b] : Fin 3 → ℕ) i + (![k, p, q] : Fin 3 → ℕ) i ≤ (⟨3, ![l, m, n]⟩ : Shape).size i)
    (y : (⟨3, ![k, p, q]⟩ : Shape).Idx) :
    View.readAt (Elt Ideal) A.view (Rect.unit (s := ⟨3, ![l, m, n]⟩) ![c, a, b] ![k, p, q] inb).toLoadRect (hA.unread x) y
      = at3 x (c + (y 0).val) (a + (y 1).val) (b + (y 2).val) := by
  rw [View.readAt_apply, hA.read_unread, ← at3_eq x]
  congr 1 <;> simp [Rect.unit, LoadRect.idx, Rect.toLoadRect]

theorem ix2v0 {m n : ℕ} (a : Fin m) (b : Fin n) : ((ix2 a b) 0).val = a.val := rfl

theorem ix2v1 {m n : ℕ} (a : Fin m) (b : Fin n) : ((ix2 a b) 1).val = b.val := rfl

theorem ix3v0 {l m n : ℕ} (h : Fin l) (a : Fin m) (b : Fin n) : ((ix3 h a b) 0).val = h.val := rfl

theorem ix3v1 {l m n : ℕ} (h : Fin l) (a : Fin m) (b : Fin n) : ((ix3 h a b) 1).val = a.val := rfl

theorem ix3v2 {l m n : ℕ} (h : Fin l) (a : Fin m) (b : Fin n) : ((ix3 h a b) 2).val = b.val := rfl

end Cert.KernelIdeal.Hand

end
-- ==== Proof.LeafA.lean ====
module

public import proofs.«01_k».proof.Proof.RunA
public import proofs.«01_k».proof.Proof.Sem
public import Idealize.ShloMosaic.Lib.Pointwise

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg1 : Memref sig .tc .vmem S256x1024 .bf16) (harg1 : arg1.IsWhole)
variable (arg2 : Memref sig .tc .vmem S16x1024 .bf16) (harg2 : arg2.IsWhole)
variable (arg3 : Memref sig .tc .vmem S16x1024 .bf16) (harg3 : arg3.IsWhole)
variable (arg4 : Memref sig .tc .vmem S256x2816 .bf16) (harg4 : arg4.IsWhole)
variable (arg5 : Memref sig .tc .vmem S16x2816 .bf16) (harg5 : arg5.IsWhole)
variable (arg6 : Memref sig .tc .vmem S16x2816 .bf16) (harg6 : arg6.IsWhole)
variable (arg7 : Memref sig .tc .vmem S256x2816 .bf16) (harg7 : arg7.IsWhole)
variable (arg8 : Memref sig .tc .vmem S16x2816 .bf16) (harg8 : arg8.IsWhole)
variable (arg9 : Memref sig .tc .vmem S16x2816 .bf16) (harg9 : arg9.IsWhole)
variable (arg11 : Memref sig .tc .vmem S3x5632 .f32) (harg11 : arg11.IsWhole)
variable (arg12 : Memref sig .tc .vmem S2816x1024 .bf16) (harg12 : arg12.IsWhole)
variable (arg13 : Memref sig .tc .vmem S4x1024x1408 .bf16) (harg13 : arg13.IsWhole)
variable (x0 : Vec Ideal S256x1024 .bf16) (x1 : Vec Ideal S16x1024 .bf16) (x2 : Vec Ideal S16x1024 .bf16) (x3 : Vec Ideal S256x2816 .bf16) (x4 : Vec Ideal S16x2816 .bf16) (x5 : Vec Ideal S16x2816 .bf16) (x6 : Vec Ideal S256x2816 .bf16) (x7 : Vec Ideal S16x2816 .bf16) (x8 : Vec Ideal S16x2816 .bf16) (x10 : Vec Ideal S3x5632 .f32) (x11 : Vec Ideal S2816x1024 .bf16) (x12 : Vec Ideal S4x1024x1408 .bf16)

theorem A_r_1 :
    runA.sl.r_1 (F := Ideal) c arg1 harg1 arg2 harg2 arg3 harg3 arg12 harg12 x0 x1 x2 x11
      = fun y => dzv (ext3 (at2 x1) (at2 x0) (at2 x2)) (at2 x11) (y 0).val (y 1).val := by
  funext y
  simp only [runA.sl.r_1]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite, dzv]
  all_goals try rfl

theorem A_r_2 :
    runA.sl.r_2 (F := Ideal) c arg4 harg4 arg5 harg5 arg6 harg6 x3 x4 x5
      = fun y => (ext3 (at2 x4) (at2 x3) (at2 x5)) (y 0).val (y 1).val := by
  funext y
  simp only [runA.sl.r_2]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_3 :
    runA.sl.r_3 (F := Ideal) c arg7 harg7 arg8 harg8 arg9 harg9 x6 x7 x8
      = fun y => (ext3 (at2 x7) (at2 x6) (at2 x8)) (y 0).val (y 1).val := by
  funext y
  simp only [runA.sl.r_3]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_4 :
    runA.sl.r_4 (F := Ideal) c arg4 harg4 arg5 harg5 arg6 harg6 x3 x4 x5
      = fun y => Ideal.tanh (half * ((ext3 (at2 x4) (at2 x3) (at2 x5)) (y 0).val (y 1).val)) := by
  funext y
  simp only [runA.sl.r_4]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_9 :
    runA.sl.r_9 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11
      = fun y => du (BitVec.ofNat 32 (i 0).val) (at2 x10) (cG (ext3 (at2 x1) (at2 x0) (at2 x2)) (at2 x11) (ext3 (at2 x4) (at2 x3) (at2 x5)) (ext3 (at2 x7) (at2 x6) (at2 x8))) 0 (y 0).val (y 1).val := by
  funext y
  simp only [runA.sl.r_9, A_r_1, A_r_2, A_r_3, A_r_4]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r_5 :
    runA.sl.r_5 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (y 0).val (y 1).val := by
  funext y
  simp only [runA.sl.r_5, A_r_1, A_r_2, A_r_4]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_11 :
    runA.sl.r_11 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (16 + (y 0).val) (y 1).val := by
  funext y
  simp only [runA.sl.r_11, A_r_5]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_12 :
    runA.sl.r_12 (F := Ideal) c i arg1 harg1 arg2 harg2 arg3 harg3 arg4 harg4 arg5 harg5 arg6 harg6 arg12 harg12 x0 x1 x2 x3 x4 x5 x11
      = fun y => Scalar.select (Scalar.cmpi .eq (BitVec.ofNat 32 (i 0).val) 0#32) 0 ((cV (ext3 (at2 x1) (at2 x0) (at2 x2)) (at2 x11) (ext3 (at2 x4) (at2 x3) (at2 x5))) (8 + (y 0).val) (y 1).val) := by
  funext y
  simp only [runA.sl.r_12, A_r_5]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_13 :
    runA.sl.r_13 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (272 + (y 0).val) (y 1).val := by
  funext y
  simp only [runA.sl.r_13, A_r_5]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_15 :
    runA.sl.r_15 (F := Ideal) c i arg1 harg1 arg2 harg2 arg3 harg3 arg4 harg4 arg5 harg5 arg6 harg6 arg11 harg11 arg12 harg12 x0 x1 x2 x3 x4 x5 x10 x11
      = fun y => du (BitVec.ofNat 32 (i 0).val) (at2 x10) (cV (ext3 (at2 x1) (at2 x0) (at2 x2)) (at2 x11) (ext3 (at2 x4) (at2 x3) (at2 x5))) 2816 (y 0).val (y 1).val := by
  funext y
  simp only [runA.sl.r_15, A_r_11, A_r_12, A_r_13, runA.sl.v106]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r_19 :
    runA.sl.r_19 (F := Ideal) c arg4 harg4 arg5 harg5 arg6 harg6 x3 x4 x5
      = fun y => (ext3 (at2 x4) (at2 x3) (at2 x5)) (y 0).val (512 + (y 1).val) := by
  funext y
  simp only [runA.sl.r_19]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_20 :
    runA.sl.r_20 (F := Ideal) c arg7 harg7 arg8 harg8 arg9 harg9 x6 x7 x8
      = fun y => (ext3 (at2 x7) (at2 x6) (at2 x8)) (y 0).val (512 + (y 1).val) := by
  funext y
  simp only [runA.sl.r_20]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_21 :
    runA.sl.r_21 (F := Ideal) c arg4 harg4 arg5 harg5 arg6 harg6 x3 x4 x5
      = fun y => half * Ideal.tanh (half * ((ext3 (at2 x4) (at2 x3) (at2 x5)) (y 0).val (512 + (y 1).val))) := by
  funext y
  simp only [runA.sl.r_21]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_26 :
    runA.sl.r_26 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11
      = fun y => du (BitVec.ofNat 32 (i 0).val) (at2 x10) (cG (ext3 (at2 x1) (at2 x0) (at2 x2)) (at2 x11) (ext3 (at2 x4) (at2 x3) (at2 x5)) (ext3 (at2 x7) (at2 x6) (at2 x8))) 0 (y 0).val (512 + (y 1).val) := by
  funext y
  simp only [runA.sl.r_26, A_r_1, A_r_19, A_r_20, A_r_21, runA.sl.cst_102]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r_22 :
    runA.sl.r_22 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (y 0).val (512 + (y 1).val) := by
  funext y
  simp only [runA.sl.r_22, A_r_1, A_r_19, A_r_21, runA.sl.cst_102]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_29 :
    runA.sl.r_29 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (16 + (y 0).val) (512 + (y 1).val) := by
  funext y
  simp only [runA.sl.r_29, A_r_22]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_30 :
    runA.sl.r_30 (F := Ideal) c i arg1 harg1 arg2 harg2 arg3 harg3 arg4 harg4 arg5 harg5 arg6 harg6 arg12 harg12 x0 x1 x2 x3 x4 x5 x11
      = fun y => halo (BitVec.ofNat 32 (i 0).val) (cV (ext3 (at2 x1) (at2 x0) (at2 x2)) (at2 x11) (ext3 (at2 x4) (at2 x3) (at2 x5))) (y 0).val (512 + (y 1).val) := by
  funext y
  simp only [runA.sl.r_30, A_r_22]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, halo, cG, cV, dsl, sgm]
  all_goals try rfl

theorem A_r_32 :
    runA.sl.r_32 (F := Ideal) c i arg1 harg1 arg2 harg2 arg3 harg3 arg4 harg4 arg5 harg5 arg6 harg6 arg11 harg11 arg12 harg12 x0 x1 x2 x3 x4 x5 x10 x11
      = fun y => du (BitVec.ofNat 32 (i 0).val) (at2 x10) (cV (ext3 (at2 x1) (at2 x0) (at2 x2)) (at2 x11) (ext3 (at2 x4) (at2 x3) (at2 x5))) 2816 (y 0).val (512 + (y 1).val) := by
  funext y
  simp only [runA.sl.r_32, A_r_29, A_r_30]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r_35 :
    runA.sl.r_35 (F := Ideal) c arg7 harg7 arg8 harg8 arg9 harg9 x6 x7 x8
      = fun y => (ext3 (at2 x7) (at2 x6) (at2 x8)) (y 0).val (1024 + (y 1).val) := by
  funext y
  simp only [runA.sl.r_35]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_36 :
    runA.sl.r_36 (F := Ideal) c arg4 harg4 arg5 harg5 arg6 harg6 x3 x4 x5
      = fun y => sgm ((ext3 (at2 x4) (at2 x3) (at2 x5)) (y 0).val (1024 + (y 1).val)) := by
  funext y
  simp only [runA.sl.r_36]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite, sgm]
  all_goals try rfl

theorem A_r_37 :
    runA.sl.r_37 (F := Ideal) c arg4 harg4 arg5 harg5 arg6 harg6 x3 x4 x5
      = fun y => ((ext3 (at2 x4) (at2 x3) (at2 x5)) (y 0).val (1024 + (y 1).val)) * sgm ((ext3 (at2 x4) (at2 x3) (at2 x5)) (y 0).val (1024 + (y 1).val)) := by
  funext y
  simp only [runA.sl.r_37]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_38 :
    runA.sl.r_38 (F := Ideal) c arg1 harg1 arg2 harg2 arg3 harg3 arg12 harg12 x0 x1 x2 x11
      = fun y => dzv (ext3 (at2 x1) (at2 x0) (at2 x2)) (at2 x11) (y 0).val (1024 + (y 1).val) := by
  funext y
  simp only [runA.sl.r_38, A_r_1]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, dzv]
  all_goals try rfl

theorem A_r_42 :
    runA.sl.r_42 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11
      = fun y => du (BitVec.ofNat 32 (i 0).val) (at2 x10) (cG (ext3 (at2 x1) (at2 x0) (at2 x2)) (at2 x11) (ext3 (at2 x4) (at2 x3) (at2 x5)) (ext3 (at2 x7) (at2 x6) (at2 x8))) 0 (y 0).val (1024 + (y 1).val) := by
  funext y
  simp only [runA.sl.r_42, A_r_35, A_r_36, A_r_37, A_r_38]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r_39 :
    runA.sl.r_39 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (y 0).val (1024 + (y 1).val) := by
  funext y
  simp only [runA.sl.r_39, A_r_37, A_r_38]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_47 :
    runA.sl.r_47 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (16 + (y 0).val) (1024 + (y 1).val) := by
  funext y
  simp only [runA.sl.r_47, A_r_39]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_48 :
    runA.sl.r_48 (F := Ideal) c i arg1 harg1 arg2 harg2 arg3 harg3 arg4 harg4 arg5 harg5 arg6 harg6 arg12 harg12 x0 x1 x2 x3 x4 x5 x11
      = fun y => halo (BitVec.ofNat 32 (i 0).val) (cV (ext3 (at2 x1) (at2 x0) (at2 x2)) (at2 x11) (ext3 (at2 x4) (at2 x3) (at2 x5))) (y 0).val (1024 + (y 1).val) := by
  funext y
  simp only [runA.sl.r_48, A_r_39]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, halo, cG, cV, dsl, sgm]
  all_goals try rfl

theorem A_r_49 :
    runA.sl.r_49 (F := Ideal) c i arg1 harg1 arg2 harg2 arg3 harg3 arg4 harg4 arg5 harg5 arg6 harg6 arg12 harg12 x0 x1 x2 x3 x4 x5 x11
      = fun y => rowM (BitVec.ofNat 32 (i 0).val) (cV (ext3 (at2 x1) (at2 x0) (at2 x2)) (at2 x11) (ext3 (at2 x4) (at2 x3) (at2 x5))) (y 0).val (1024 + (y 1).val) := by
  funext y
  simp only [runA.sl.r_49, A_r_39]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, rowM, halo, cG, cV, dsl, sgm]
  all_goals try rfl

theorem A_r_50 :
    runA.sl.r_50 (F := Ideal) c i arg1 harg1 arg2 harg2 arg3 harg3 arg4 harg4 arg5 harg5 arg6 harg6 arg11 harg11 arg12 harg12 x0 x1 x2 x3 x4 x5 x10 x11
      = fun y => du (BitVec.ofNat 32 (i 0).val) (at2 x10) (cV (ext3 (at2 x1) (at2 x0) (at2 x2)) (at2 x11) (ext3 (at2 x4) (at2 x3) (at2 x5))) 2816 (y 0).val (1024 + (y 1).val) := by
  funext y
  simp only [runA.sl.r_50, A_r_47, A_r_48, A_r_49]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r (c : Dev nD) (arg1 : Memref sig .tc .vmem S256x1024 .bf16) (harg1 : arg1.IsWhole) (arg2 : Memref sig .tc .vmem S16x1024 .bf16) (harg2 : arg2.IsWhole) (arg3 : Memref sig .tc .vmem S16x1024 .bf16) (harg3 : arg3.IsWhole) (x0 : Vec Ideal S256x1024 .bf16) (x1 : Vec Ideal S16x1024 .bf16) (x2 : Vec Ideal S16x1024 .bf16) :
    runA.sl.r (F := Ideal) c arg1 harg1 arg2 harg2 arg3 harg3 x0 x1 x2
      = fun y => (ext3 (at2 x1) (at2 x0) (at2 x2)) (y 0).val (y 1).val := by
  funext y
  simp only [runA.sl.r]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_54 :
    runA.sl.r_54 (F := Ideal) c arg1 harg1 arg2 harg2 arg3 harg3 arg12 harg12 x0 x1 x2 x11
      = fun y => dzv (ext3 (at2 x1) (at2 x0) (at2 x2)) (at2 x11) (y 0).val (1408 + (y 1).val) := by
  funext y
  simp only [runA.sl.r_54, A_r]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, dzv]
  all_goals try rfl

theorem A_r_55 :
    runA.sl.r_55 (F := Ideal) c arg4 harg4 arg5 harg5 arg6 harg6 x3 x4 x5
      = fun y => (ext3 (at2 x4) (at2 x3) (at2 x5)) (y 0).val (1408 + (y 1).val) := by
  funext y
  simp only [runA.sl.r_55]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_56 :
    runA.sl.r_56 (F := Ideal) c arg7 harg7 arg8 harg8 arg9 harg9 x6 x7 x8
      = fun y => (ext3 (at2 x7) (at2 x6) (at2 x8)) (y 0).val (1408 + (y 1).val) := by
  funext y
  simp only [runA.sl.r_56]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_57 :
    runA.sl.r_57 (F := Ideal) c arg4 harg4 arg5 harg5 arg6 harg6 x3 x4 x5
      = fun y => sgm ((ext3 (at2 x4) (at2 x3) (at2 x5)) (y 0).val (1408 + (y 1).val)) := by
  funext y
  simp only [runA.sl.r_57]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite, sgm]
  all_goals try rfl

theorem A_r_62 :
    runA.sl.r_62 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11
      = fun y => du (BitVec.ofNat 32 (i 0).val) (at2 x10) (cG (ext3 (at2 x1) (at2 x0) (at2 x2)) (at2 x11) (ext3 (at2 x4) (at2 x3) (at2 x5)) (ext3 (at2 x7) (at2 x6) (at2 x8))) 0 (y 0).val (1408 + (y 1).val) := by
  funext y
  simp only [runA.sl.r_62, A_r_54, A_r_55, A_r_56, A_r_57]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r_58 :
    runA.sl.r_58 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (y 0).val (1408 + (y 1).val) := by
  funext y
  simp only [runA.sl.r_58, A_r_54, A_r_55, A_r_57]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_65 :
    runA.sl.r_65 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (16 + (y 0).val) (1408 + (y 1).val) := by
  funext y
  simp only [runA.sl.r_65, A_r_58]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_66 :
    runA.sl.r_66 (F := Ideal) c i arg1 harg1 arg2 harg2 arg3 harg3 arg4 harg4 arg5 harg5 arg6 harg6 arg12 harg12 x0 x1 x2 x3 x4 x5 x11
      = fun y => halo (BitVec.ofNat 32 (i 0).val) (cV (ext3 (at2 x1) (at2 x0) (at2 x2)) (at2 x11) (ext3 (at2 x4) (at2 x3) (at2 x5))) (y 0).val (1408 + (y 1).val) := by
  funext y
  simp only [runA.sl.r_66, A_r_58]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, halo, cG, cV, dsl, sgm]
  all_goals try rfl

theorem A_r_67 :
    runA.sl.r_67 (F := Ideal) c i arg1 harg1 arg2 harg2 arg3 harg3 arg4 harg4 arg5 harg5 arg6 harg6 arg12 harg12 x0 x1 x2 x3 x4 x5 x11
      = fun y => halo (BitVec.ofNat 32 (i 0).val) (cV (ext3 (at2 x1) (at2 x0) (at2 x2)) (at2 x11) (ext3 (at2 x4) (at2 x3) (at2 x5))) (((y 0).val + 272 - 1) % 272) (1408 + (y 1).val) := by
  funext y
  simp only [runA.sl.r_67, A_r_58]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, halo, cG, cV, dsl, sgm]
  all_goals try rfl

theorem A_r_69 :
    runA.sl.r_69 (F := Ideal) c i arg1 harg1 arg2 harg2 arg3 harg3 arg4 harg4 arg5 harg5 arg6 harg6 arg11 harg11 arg12 harg12 x0 x1 x2 x3 x4 x5 x10 x11
      = fun y => du (BitVec.ofNat 32 (i 0).val) (at2 x10) (cV (ext3 (at2 x1) (at2 x0) (at2 x2)) (at2 x11) (ext3 (at2 x4) (at2 x3) (at2 x5))) 2816 (y 0).val (1408 + (y 1).val) := by
  funext y
  simp only [runA.sl.r_69, A_r_65, A_r_66, A_r_67]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r_72 :
    runA.sl.r_72 (F := Ideal) c arg4 harg4 arg5 harg5 arg6 harg6 x3 x4 x5
      = fun y => sgm ((ext3 (at2 x4) (at2 x3) (at2 x5)) (y 0).val (1920 + (y 1).val)) := by
  funext y
  simp only [runA.sl.r_72]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite, sgm]
  all_goals try rfl

theorem A_r_73 :
    runA.sl.r_73 (F := Ideal) c arg4 harg4 arg5 harg5 arg6 harg6 x3 x4 x5
      = fun y => ((ext3 (at2 x4) (at2 x3) (at2 x5)) (y 0).val (1920 + (y 1).val)) * sgm ((ext3 (at2 x4) (at2 x3) (at2 x5)) (y 0).val (1920 + (y 1).val)) := by
  funext y
  simp only [runA.sl.r_73]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_75 :
    runA.sl.r_75 (F := Ideal) c arg1 harg1 arg2 harg2 arg3 harg3 arg7 harg7 arg8 harg8 arg9 harg9 arg12 harg12 x0 x1 x2 x6 x7 x8 x11
      = fun y => dzv (ext3 (at2 x1) (at2 x0) (at2 x2)) (at2 x11) (y 0).val (1920 + (y 1).val) * (ext3 (at2 x7) (at2 x6) (at2 x8)) (y 0).val (1920 + (y 1).val) := by
  funext y
  simp only [runA.sl.r_75, A_r_54]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_79 :
    runA.sl.r_79 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11
      = fun y => du (BitVec.ofNat 32 (i 0).val) (at2 x10) (cG (ext3 (at2 x1) (at2 x0) (at2 x2)) (at2 x11) (ext3 (at2 x4) (at2 x3) (at2 x5)) (ext3 (at2 x7) (at2 x6) (at2 x8))) 0 (y 0).val (1920 + (y 1).val) := by
  funext y
  simp only [runA.sl.r_79, A_r_72, A_r_73, A_r_75, runA.sl.cst_357]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r_74 :
    runA.sl.r_74 (F := Ideal) c arg1 harg1 arg2 harg2 arg3 harg3 arg12 harg12 x0 x1 x2 x11
      = fun y => dzv (ext3 (at2 x1) (at2 x0) (at2 x2)) (at2 x11) (y 0).val (1920 + (y 1).val) := by
  funext y
  simp only [runA.sl.r_74, A_r_54]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, dzv]
  all_goals try rfl

theorem A_r_76 :
    runA.sl.r_76 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (y 0).val (1920 + (y 1).val) := by
  funext y
  simp only [runA.sl.r_76, A_r_73, A_r_74]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_84 :
    runA.sl.r_84 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (16 + (y 0).val) (1920 + (y 1).val) := by
  funext y
  simp only [runA.sl.r_84, A_r_76]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_85 :
    runA.sl.r_85 (F := Ideal) c i arg1 harg1 arg2 harg2 arg3 harg3 arg4 harg4 arg5 harg5 arg6 harg6 arg12 harg12 x0 x1 x2 x3 x4 x5 x11
      = fun y => rowM (BitVec.ofNat 32 (i 0).val) (cV (ext3 (at2 x1) (at2 x0) (at2 x2)) (at2 x11) (ext3 (at2 x4) (at2 x3) (at2 x5))) (y 0).val (1920 + (y 1).val) := by
  funext y
  simp only [runA.sl.r_85, A_r_76]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, rowM, halo, cG, cV, dsl, sgm]
  all_goals try rfl

theorem A_r_86 :
    runA.sl.r_86 (F := Ideal) c i arg1 harg1 arg2 harg2 arg3 harg3 arg4 harg4 arg5 harg5 arg6 harg6 arg12 harg12 x0 x1 x2 x3 x4 x5 x11
      = fun y => rowP (BitVec.ofNat 32 (i 0).val) (cV (ext3 (at2 x1) (at2 x0) (at2 x2)) (at2 x11) (ext3 (at2 x4) (at2 x3) (at2 x5))) (y 0).val (1920 + (y 1).val) := by
  funext y
  simp only [runA.sl.r_86, A_r_76]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, rowP, halo, cG, cV, dsl, sgm]
  all_goals try rfl

theorem A_r_87 :
    runA.sl.r_87 (F := Ideal) c i arg1 harg1 arg2 harg2 arg3 harg3 arg4 harg4 arg5 harg5 arg6 harg6 arg11 harg11 arg12 harg12 x0 x1 x2 x3 x4 x5 x10 x11
      = fun y => du (BitVec.ofNat 32 (i 0).val) (at2 x10) (cV (ext3 (at2 x1) (at2 x0) (at2 x2)) (at2 x11) (ext3 (at2 x4) (at2 x3) (at2 x5))) 2816 (y 0).val (1920 + (y 1).val) := by
  funext y
  simp only [runA.sl.r_87, A_r_84, A_r_85, A_r_86]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r_93 :
    runA.sl.r_93 (F := Ideal) c arg1 harg1 arg2 harg2 arg3 harg3 arg7 harg7 arg8 harg8 arg9 harg9 arg12 harg12 x0 x1 x2 x6 x7 x8 x11
      = fun y => dzv (ext3 (at2 x1) (at2 x0) (at2 x2)) (at2 x11) (y 0).val (2432 + (y 1).val) * (ext3 (at2 x7) (at2 x6) (at2 x8)) (y 0).val (2432 + (y 1).val) := by
  funext y
  simp only [runA.sl.r_93, A_r_54]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_94 :
    runA.sl.r_94 (F := Ideal) c arg4 harg4 arg5 harg5 arg6 harg6 x3 x4 x5
      = fun y => dsl ((ext3 (at2 x4) (at2 x3) (at2 x5)) (y 0).val (2432 + (y 1).val)) := by
  funext y
  simp only [runA.sl.r_94]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite, dsl, sgm]
  all_goals try rfl

theorem A_r_98 :
    runA.sl.r_98 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11
      = fun y => du (BitVec.ofNat 32 (i 0).val) (at2 x10) (cG (ext3 (at2 x1) (at2 x0) (at2 x2)) (at2 x11) (ext3 (at2 x4) (at2 x3) (at2 x5)) (ext3 (at2 x7) (at2 x6) (at2 x8))) 0 (y 0).val (2432 + (y 1).val) := by
  funext y
  simp only [runA.sl.r_98, A_r_93, A_r_94]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r_91 :
    runA.sl.r_91 (F := Ideal) c arg4 harg4 arg5 harg5 arg6 harg6 x3 x4 x5
      = fun y => ((ext3 (at2 x4) (at2 x3) (at2 x5)) (y 0).val (2432 + (y 1).val)) * sgm ((ext3 (at2 x4) (at2 x3) (at2 x5)) (y 0).val (2432 + (y 1).val)) := by
  funext y
  simp only [runA.sl.r_91]
  unfold_payloads
  pointwise
  all_goals simp only [rd2, rd3, ix2v0, ix2v1, ix3v0, ix3v1, ix3v2, ext3, half, Fin.val_zero, Nat.add_zero, Nat.zero_add, ← Nat.add_assoc, Nat.reduceAdd, dite_eq_ite]
  all_goals try rfl

theorem A_r_92 :
    runA.sl.r_92 (F := Ideal) c arg1 harg1 arg2 harg2 arg3 harg3 arg12 harg12 x0 x1 x2 x11
      = fun y => dzv (ext3 (at2 x1) (at2 x0) (at2 x2)) (at2 x11) (y 0).val (2432 + (y 1).val) := by
  funext y
  simp only [runA.sl.r_92, A_r_54]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, dzv]
  all_goals try rfl

theorem A_r_95 :
    runA.sl.r_95 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (y 0).val (2432 + (y 1).val) := by
  funext y
  simp only [runA.sl.r_95, A_r_91, A_r_92]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_102 :
    runA.sl.r_102 (F := Ideal) c arg1 harg1 arg2 harg2 arg3 harg3 arg4 harg4 arg5 harg5 arg6 harg6 arg12 harg12 x0 x1 x2 x3 x4 x5 x11
      = fun y => (cV (ext3 (at2 x1) (at2 x0) (at2 x2)) (at2 x11) (ext3 (at2 x4) (at2 x3) (at2 x5))) (16 + (y 0).val) (2432 + (y 1).val) := by
  funext y
  simp only [runA.sl.r_102, A_r_95]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, cG, cV, dsl, sgm]
  all_goals try rfl

theorem A_r_103 :
    runA.sl.r_103 (F := Ideal) c i arg1 harg1 arg2 harg2 arg3 harg3 arg4 harg4 arg5 harg5 arg6 harg6 arg12 harg12 x0 x1 x2 x3 x4 x5 x11
      = fun y => rowM (BitVec.ofNat 32 (i 0).val) (cV (ext3 (at2 x1) (at2 x0) (at2 x2)) (at2 x11) (ext3 (at2 x4) (at2 x3) (at2 x5))) (y 0).val (2432 + (y 1).val) := by
  funext y
  simp only [runA.sl.r_103, A_r_95]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, rowM, halo, cG, cV, dsl, sgm]
  all_goals try rfl

theorem A_r_104 :
    runA.sl.r_104 (F := Ideal) c i arg1 harg1 arg2 harg2 arg3 harg3 arg4 harg4 arg5 harg5 arg6 harg6 arg12 harg12 x0 x1 x2 x3 x4 x5 x11
      = fun y => rowP (BitVec.ofNat 32 (i 0).val) (cV (ext3 (at2 x1) (at2 x0) (at2 x2)) (at2 x11) (ext3 (at2 x4) (at2 x3) (at2 x5))) (y 0).val (2432 + (y 1).val) := by
  funext y
  simp only [runA.sl.r_104, A_r_95]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, rowP, halo, cG, cV, dsl, sgm]
  all_goals try rfl

theorem A_r_106 :
    runA.sl.r_106 (F := Ideal) c i arg1 harg1 arg2 harg2 arg3 harg3 arg4 harg4 arg5 harg5 arg6 harg6 arg11 harg11 arg12 harg12 x0 x1 x2 x3 x4 x5 x10 x11
      = fun y => du (BitVec.ofNat 32 (i 0).val) (at2 x10) (cV (ext3 (at2 x1) (at2 x0) (at2 x2)) (at2 x11) (ext3 (at2 x4) (at2 x3) (at2 x5))) 2816 (y 0).val (2432 + (y 1).val) := by
  funext y
  simp only [runA.sl.r_106, A_r_102, A_r_103, A_r_104, runA.sl.r_105]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, du, rowM, rowP, halo, cG, cV, dsl, sgm]
  all_goals try rfl

theorem A_r_10 :
    runA.sl.r_10 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12
      = fun y => pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 0 0 (y 0).val (y 1).val := by
  funext y
  simp only [runA.sl.r_10, A_r_9]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, pdt]
  all_goals try rfl

theorem A_r_18 :
    runA.sl.r_18 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12
      = fun y => pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 0 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 0 0 (y 0).val (y 1).val := by
  funext y
  simp only [runA.sl.r_18, A_r_10, A_r_15]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, pdt]
  all_goals try rfl

theorem A_r_28 :
    runA.sl.r_28 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12
      = fun y => pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 0 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 0 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 512 0 (y 0).val (y 1).val := by
  funext y
  simp only [runA.sl.r_28, A_r_18, A_r_26]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, pdt]
  all_goals try rfl

theorem A_r_34 :
    runA.sl.r_34 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12
      = fun y => pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 0 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 0 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 512 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 512 0 (y 0).val (y 1).val := by
  funext y
  simp only [runA.sl.r_34, A_r_28, A_r_32]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, pdt]
  all_goals try rfl

theorem A_r_46 :
    runA.sl.r_46 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12
      = fun y => pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 0 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 0 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 512 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 512 0 (y 0).val (y 1).val + pdt 384 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 1024 0 (y 0).val (y 1).val := by
  funext y
  simp only [runA.sl.r_46, A_r_34, A_r_42]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, pdt]
  all_goals try rfl

theorem A_r_53 :
    runA.sl.r_53 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12
      = fun y => pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 0 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 0 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 512 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 512 0 (y 0).val (y 1).val + pdt 384 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 1024 0 (y 0).val (y 1).val + pdt 384 (du (BitVec.ofNat 32 (i 0).val) (at2 x10) (cV (ext3 (at2 x1) (at2 x0) (at2 x2)) (at2 x11) (ext3 (at2 x4) (at2 x3) (at2 x5))) 2816) (at3 x12 2) 1024 0 (y 0).val (y 1).val := by
  funext y
  simp only [runA.sl.r_53, A_r_46, A_r_50]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, pdt]
  all_goals try rfl

theorem A_r_64 :
    runA.sl.r_64 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12
      = fun y => pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 0 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 0 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 512 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 512 0 (y 0).val (y 1).val + pdt 384 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 1024 0 (y 0).val (y 1).val + pdt 384 (du (BitVec.ofNat 32 (i 0).val) (at2 x10) (cV (ext3 (at2 x1) (at2 x0) (at2 x2)) (at2 x11) (ext3 (at2 x4) (at2 x3) (at2 x5))) 2816) (at3 x12 2) 1024 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 1) 0 1408 (y 0).val (y 1).val := by
  funext y
  simp only [runA.sl.r_64, A_r_53, A_r_62]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, pdt]
  all_goals try rfl

theorem A_r_71 :
    runA.sl.r_71 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12
      = fun y => pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 0 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 0 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 512 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 512 0 (y 0).val (y 1).val + pdt 384 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 1024 0 (y 0).val (y 1).val + pdt 384 (du (BitVec.ofNat 32 (i 0).val) (at2 x10) (cV (ext3 (at2 x1) (at2 x0) (at2 x2)) (at2 x11) (ext3 (at2 x4) (at2 x3) (at2 x5))) 2816) (at3 x12 2) 1024 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 1) 0 1408 (y 0).val (y 1).val + pdt 512 (du (BitVec.ofNat 32 (i 0).val) (at2 x10) (cV (ext3 (at2 x1) (at2 x0) (at2 x2)) (at2 x11) (ext3 (at2 x4) (at2 x3) (at2 x5))) 2816) (at3 x12 3) 0 1408 (y 0).val (y 1).val := by
  funext y
  simp only [runA.sl.r_71, A_r_64, A_r_69]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, pdt]
  all_goals try rfl

theorem A_r_83 :
    runA.sl.r_83 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12
      = fun y => pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 0 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 0 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 512 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 512 0 (y 0).val (y 1).val + pdt 384 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 1024 0 (y 0).val (y 1).val + pdt 384 (du (BitVec.ofNat 32 (i 0).val) (at2 x10) (cV (ext3 (at2 x1) (at2 x0) (at2 x2)) (at2 x11) (ext3 (at2 x4) (at2 x3) (at2 x5))) 2816) (at3 x12 2) 1024 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 1) 0 1408 (y 0).val (y 1).val + pdt 512 (du (BitVec.ofNat 32 (i 0).val) (at2 x10) (cV (ext3 (at2 x1) (at2 x0) (at2 x2)) (at2 x11) (ext3 (at2 x4) (at2 x3) (at2 x5))) 2816) (at3 x12 3) 0 1408 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 1) 512 1408 (y 0).val (y 1).val := by
  funext y
  simp only [runA.sl.r_83, A_r_71, A_r_79]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, pdt]
  all_goals try rfl

theorem A_r_90 :
    runA.sl.r_90 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12
      = fun y => pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 0 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 0 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 512 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 512 0 (y 0).val (y 1).val + pdt 384 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 1024 0 (y 0).val (y 1).val + pdt 384 (du (BitVec.ofNat 32 (i 0).val) (at2 x10) (cV (ext3 (at2 x1) (at2 x0) (at2 x2)) (at2 x11) (ext3 (at2 x4) (at2 x3) (at2 x5))) 2816) (at3 x12 2) 1024 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 1) 0 1408 (y 0).val (y 1).val + pdt 512 (du (BitVec.ofNat 32 (i 0).val) (at2 x10) (cV (ext3 (at2 x1) (at2 x0) (at2 x2)) (at2 x11) (ext3 (at2 x4) (at2 x3) (at2 x5))) 2816) (at3 x12 3) 0 1408 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 1) 512 1408 (y 0).val (y 1).val + pdt 512 (du (BitVec.ofNat 32 (i 0).val) (at2 x10) (cV (ext3 (at2 x1) (at2 x0) (at2 x2)) (at2 x11) (ext3 (at2 x4) (at2 x3) (at2 x5))) 2816) (at3 x12 3) 512 1408 (y 0).val (y 1).val := by
  funext y
  simp only [runA.sl.r_90, A_r_83, A_r_87]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, pdt]
  all_goals try rfl

theorem A_r_101 :
    runA.sl.r_101 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12
      = fun y => pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 0 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 0 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 512 0 (y 0).val (y 1).val + pdt 512 (du (BitVec.ofNat 32 (i 0).val) (at2 x10) (cV (ext3 (at2 x1) (at2 x0) (at2 x2)) (at2 x11) (ext3 (at2 x4) (at2 x3) (at2 x5))) 2816) (at3 x12 2) 512 0 (y 0).val (y 1).val + pdt 384 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 0) 1024 0 (y 0).val (y 1).val + pdt 384 (du (BitVec.ofNat 32 (i 0).val) (at2 x10) (cV (ext3 (at2 x1) (at2 x0) (at2 x2)) (at2 x11) (ext3 (at2 x4) (at2 x3) (at2 x5))) 2816) (at3 x12 2) 1024 0 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 1) 0 1408 (y 0).val (y 1).val + pdt 512 (du (BitVec.ofNat 32 (i 0).val) (at2 x10) (cV (ext3 (at2 x1) (at2 x0) (at2 x2)) (at2 x11) (ext3 (at2 x4) (at2 x3) (at2 x5))) 2816) (at3 x12 3) 0 1408 (y 0).val (y 1).val + pdt 512 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 1) 512 1408 (y 0).val (y 1).val + pdt 512 (du (BitVec.ofNat 32 (i 0).val) (at2 x10) (cV (ext3 (at2 x1) (at2 x0) (at2 x2)) (at2 x11) (ext3 (at2 x4) (at2 x3) (at2 x5))) 2816) (at3 x12 3) 512 1408 (y 0).val (y 1).val + pdt 384 (du (BitVec.ofNat 32 (i 0).val) (at2 x10) (cG (ext3 (at2 x1) (at2 x0) (at2 x2)) (at2 x11) (ext3 (at2 x4) (at2 x3) (at2 x5)) (ext3 (at2 x7) (at2 x6) (at2 x8))) 0) (at3 x12 1) 1024 1408 (y 0).val (y 1).val := by
  funext y
  simp only [runA.sl.r_101, A_r_90, A_r_98]
  unfold_payloads
  pointwise
  all_goals simp only [rd2, rd3, ix2v0, ix2v1, ix3v0, ix3v1, ix3v2, half, Fin.val_zero, Nat.add_zero, Nat.zero_add, ← Nat.add_assoc, Nat.reduceAdd, dite_eq_ite, pdt]
  all_goals try rfl

end Cert.KernelIdeal.Hand
end
-- ==== Proof.RunB.lean ====
module

public import proofs.«01_k».proof.Proof.RunA

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body writes into each of its six outputs at a later point, the three running sums read at `xo·`, with the run that leaves them. -/
def runB (c : Dev nD) (i : grid0.Coords) (arg1 : Memref sig .tc .vmem S256x1024 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S256x2816 .bf16) (harg4 : arg4.IsWhole) (arg5 : Memref sig .tc .vmem S16x2816 .bf16) (harg5 : arg5.IsWhole) (arg6 : Memref sig .tc .vmem S16x2816 .bf16) (harg6 : arg6.IsWhole) (arg7 : Memref sig .tc .vmem S256x2816 .bf16) (harg7 : arg7.IsWhole) (arg8 : Memref sig .tc .vmem S16x2816 .bf16) (harg8 : arg8.IsWhole) (arg9 : Memref sig .tc .vmem S16x2816 .bf16) (harg9 : arg9.IsWhole) (arg10 : Memref sig .tc .vmem S256x5632 .bf16) (harg10 : arg10.IsWhole) (arg11 : Memref sig .tc .vmem S3x5632 .f32) (harg11 : arg11.IsWhole) (arg12 : Memref sig .tc .vmem S2816x1024 .bf16) (harg12 : arg12.IsWhole) (arg13 : Memref sig .tc .vmem S4x1024x1408 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S1x1024 .f32) (harg16 : arg16.IsWhole) (arg17 : Memref sig .tc .vmem S256x2816 .bf16) (harg17 : arg17.IsWhole) (arg18 : Memref sig .tc .vmem S256x2816 .bf16) (harg18 : arg18.IsWhole) (arg19 : Memref sig .tc .vmem S256x1024 .f32) (harg19 : arg19.IsWhole) (arg20 : Memref sig .tc .vmem S1x1024 .f32) (harg20 : arg20.IsWhole) (arg21 : Memref sig .tc .vmem S8x2816 .f32) (harg21 : arg21.IsWhole) (arg22 : Memref sig .tc .vmem S8x2816 .f32) (harg22 : arg22.IsWhole) (hc0 : ¬cond0_0 i)
    (x0 : Vec F S256x1024 .bf16) (x1 : Vec F S16x1024 .bf16) (x2 : Vec F S16x1024 .bf16) (x3 : Vec F S256x2816 .bf16) (x4 : Vec F S16x2816 .bf16) (x5 : Vec F S16x2816 .bf16) (x6 : Vec F S256x2816 .bf16) (x7 : Vec F S16x2816 .bf16) (x8 : Vec F S16x2816 .bf16) (x9 : Vec F S256x5632 .bf16) (x10 : Vec F S3x5632 .f32) (x11 : Vec F S2816x1024 .bf16) (x12 : Vec F S4x1024x1408 .bf16) (x13 : Vec F S256x1024 .f32) (x14 : Vec F S256x1024 .f32) (x15 : Vec F S1x1024 .f32) (xo19 : Vec F S1x1024 .f32) (xo20 : Vec F S8x2816 .f32) (xo21 : Vec F S8x2816 .f32) :
    Σ' (L16 : List (View.Piece (Elt F) S256x2816 .bf16)), Σ' (L17 : List (View.Piece (Elt F) S256x2816 .bf16)), Σ' (L18 : List (View.Piece (Elt F) S256x1024 .f32)), Σ' (L19 : List (View.Piece (Elt F) S1x1024 .f32)), Σ' (L20 : List (View.Piece (Elt F) S8x2816 .f32)), { L21 : List (View.Piece (Elt F) S8x2816 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xo19 ∗ owns (c : Thread nD τ) arg21 fullShare xo20 ∗ owns (c : Thread nD τ) arg22 fullShare xo21
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (arg20.view.loc (c : Thread nD τ) ↦[arg20.view.set]{fullShare} arg20.view.writes (Elt F) (harg20.unread xo19) L19) ∗ (arg21.view.loc (c : Thread nD τ) ↦[arg21.view.set]{fullShare} arg21.view.writes (Elt F) (harg21.unread xo20) L20) ∗ (arg22.view.loc (c : Thread nD τ) ↦[arg22.view.set]{fullShare} arg22.view.writes (Elt F) (harg22.unread xo21) L21)) -∗ K ⟨⟩))
          ⊢ wp frame (wpE (defs₀ (F := F)) Variants.none c none) E (cc0_ffn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K } := by
  refine ⟨?_, ?_, ?_, ?_, ?_, ?_, fun E K => ?run⟩
  case run =>
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, ⟨%f20, %hf20, H20⟩, ⟨%f21, %hf21, H21⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg20.eq_unread hf19; obtain rfl := harg21.eq_unread hf20; obtain rfl := harg22.eq_unread hf21
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    isplitl [H17]; · iexists _; iexact H17
    isplitl [H18]; · iexists _; iexact H18
    isplitl [H19]; · iexact H19
    isplitl [H20]; · iexact H20
    iexact H21

end Cert.KernelIdeal.Hand

end
-- ==== Proof.Block.lean ====
module

public import proofs.«01_k».proof.Proof.LeafA
public import proofs.«01_k».proof.Proof.RunB
public import Idealize.ShloMosaic.Lib.Pointwise
public import Idealize.ShloMosaic.Lib.WritesUnit

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (w : BitVec 32) (c : Dev nD) (i : grid0.Coords) (arg1 : Memref sig .tc .vmem S256x1024 .bf16) (harg1 : arg1.IsWhole) (arg2 : Memref sig .tc .vmem S16x1024 .bf16)
variable (harg2 : arg2.IsWhole) (arg3 : Memref sig .tc .vmem S16x1024 .bf16) (harg3 : arg3.IsWhole) (arg4 : Memref sig .tc .vmem S256x2816 .bf16) (harg4 : arg4.IsWhole)
variable (arg5 : Memref sig .tc .vmem S16x2816 .bf16) (harg5 : arg5.IsWhole) (arg6 : Memref sig .tc .vmem S16x2816 .bf16) (harg6 : arg6.IsWhole) (arg7 : Memref sig .tc .vmem S256x2816 .bf16)
variable (harg7 : arg7.IsWhole) (arg8 : Memref sig .tc .vmem S16x2816 .bf16) (harg8 : arg8.IsWhole) (arg9 : Memref sig .tc .vmem S16x2816 .bf16) (harg9 : arg9.IsWhole)
variable (arg10 : Memref sig .tc .vmem S256x5632 .bf16) (harg10 : arg10.IsWhole) (arg11 : Memref sig .tc .vmem S3x5632 .f32) (harg11 : arg11.IsWhole) (arg12 : Memref sig .tc .vmem S2816x1024 .bf16)
variable (harg12 : arg12.IsWhole) (arg13 : Memref sig .tc .vmem S4x1024x1408 .bf16) (harg13 : arg13.IsWhole) (arg14 : Memref sig .tc .vmem S256x1024 .f32) (harg14 : arg14.IsWhole)
variable (arg15 : Memref sig .tc .vmem S256x1024 .f32) (harg15 : arg15.IsWhole) (arg16 : Memref sig .tc .vmem S1x1024 .f32) (harg16 : arg16.IsWhole) (arg17 : Memref sig .tc .vmem S256x2816 .bf16)
variable (harg17 : arg17.IsWhole) (arg18 : Memref sig .tc .vmem S256x2816 .bf16) (harg18 : arg18.IsWhole) (arg19 : Memref sig .tc .vmem S256x1024 .f32) (harg19 : arg19.IsWhole)
variable (arg20 : Memref sig .tc .vmem S1x1024 .f32) (harg20 : arg20.IsWhole) (arg21 : Memref sig .tc .vmem S8x2816 .f32) (harg21 : arg21.IsWhole) (arg22 : Memref sig .tc .vmem S8x2816 .f32)
variable (harg22 : arg22.IsWhole) (hc0 : cond0_0 i) (hc1 : ¬cond0_0 i) (x0 : Vec Ideal S256x1024 .bf16) (x1 : Vec Ideal S16x1024 .bf16) (x2 : Vec Ideal S16x1024 .bf16)
variable (x3 : Vec Ideal S256x2816 .bf16) (x4 : Vec Ideal S16x2816 .bf16) (x5 : Vec Ideal S16x2816 .bf16) (x6 : Vec Ideal S256x2816 .bf16) (x7 : Vec Ideal S16x2816 .bf16)
variable (x8 : Vec Ideal S16x2816 .bf16) (x9 : Vec Ideal S256x5632 .bf16) (x10 : Vec Ideal S3x5632 .f32) (x11 : Vec Ideal S2816x1024 .bf16) (x12 : Vec Ideal S4x1024x1408 .bf16)
variable (x13 : Vec Ideal S256x1024 .f32) (x14 : Vec Ideal S256x1024 .f32) (x15 : Vec Ideal S1x1024 .f32) (xo19 : Vec Ideal S1x1024 .f32) (xo20 : Vec Ideal S8x2816 .f32)
variable (xo21 : Vec Ideal S8x2816 .f32)

/-- What a point writes of the cotangent of the hidden state, the gate's half. -/
def blkG : Vec Ideal S256x2816 .bf16 :=
  fun y => du w (at2 x10) (cG (ext3 (at2 x1) (at2 x0) (at2 x2)) (at2 x11) (ext3 (at2 x4) (at2 x3) (at2 x5)) (ext3 (at2 x7) (at2 x6) (at2 x8))) 0 (y 0).val (y 1).val

/-- The value's half. -/
def blkV : Vec Ideal S256x2816 .bf16 :=
  fun y => du w (at2 x10) (cV (ext3 (at2 x1) (at2 x0) (at2 x2)) (at2 x11) (ext3 (at2 x4) (at2 x3) (at2 x5))) 2816 (y 0).val (y 1).val

/-- The cotangent of the normalised rows: the hidden state's cotangent times the up projection, in twelve parts. -/
def accS (r d : ℕ) : EReal :=
  pdt 512 (du w (at2 x10) (cG (ext3 (at2 x1) (at2 x0) (at2 x2)) (at2 x11) (ext3 (at2 x4) (at2 x3) (at2 x5)) (ext3 (at2 x7) (at2 x6) (at2 x8))) 0) (at3 x12 0) 0 0 r d
    + pdt 512 (du w (at2 x10) (cV (ext3 (at2 x1) (at2 x0) (at2 x2)) (at2 x11) (ext3 (at2 x4) (at2 x3) (at2 x5))) 2816) (at3 x12 2) 0 0 r d
    + pdt 512 (du w (at2 x10) (cG (ext3 (at2 x1) (at2 x0) (at2 x2)) (at2 x11) (ext3 (at2 x4) (at2 x3) (at2 x5)) (ext3 (at2 x7) (at2 x6) (at2 x8))) 0) (at3 x12 0) 512 0 r d
    + pdt 512 (du w (at2 x10) (cV (ext3 (at2 x1) (at2 x0) (at2 x2)) (at2 x11) (ext3 (at2 x4) (at2 x3) (at2 x5))) 2816) (at3 x12 2) 512 0 r d
    + pdt 384 (du w (at2 x10) (cG (ext3 (at2 x1) (at2 x0) (at2 x2)) (at2 x11) (ext3 (at2 x4) (at2 x3) (at2 x5)) (ext3 (at2 x7) (at2 x6) (at2 x8))) 0) (at3 x12 0) 1024 0 r d
    + pdt 384 (du w (at2 x10) (cV (ext3 (at2 x1) (at2 x0) (at2 x2)) (at2 x11) (ext3 (at2 x4) (at2 x3) (at2 x5))) 2816) (at3 x12 2) 1024 0 r d
    + pdt 512 (du w (at2 x10) (cG (ext3 (at2 x1) (at2 x0) (at2 x2)) (at2 x11) (ext3 (at2 x4) (at2 x3) (at2 x5)) (ext3 (at2 x7) (at2 x6) (at2 x8))) 0) (at3 x12 1) 0 1408 r d
    + pdt 512 (du w (at2 x10) (cV (ext3 (at2 x1) (at2 x0) (at2 x2)) (at2 x11) (ext3 (at2 x4) (at2 x3) (at2 x5))) 2816) (at3 x12 3) 0 1408 r d
    + pdt 512 (du w (at2 x10) (cG (ext3 (at2 x1) (at2 x0) (at2 x2)) (at2 x11) (ext3 (at2 x4) (at2 x3) (at2 x5)) (ext3 (at2 x7) (at2 x6) (at2 x8))) 0) (at3 x12 1) 512 1408 r d
    + pdt 512 (du w (at2 x10) (cV (ext3 (at2 x1) (at2 x0) (at2 x2)) (at2 x11) (ext3 (at2 x4) (at2 x3) (at2 x5))) 2816) (at3 x12 3) 512 1408 r d
    + pdt 384 (du w (at2 x10) (cG (ext3 (at2 x1) (at2 x0) (at2 x2)) (at2 x11) (ext3 (at2 x4) (at2 x3) (at2 x5)) (ext3 (at2 x7) (at2 x6) (at2 x8))) 0) (at3 x12 1) 1024 1408 r d
    + pdt 384 (du w (at2 x10) (cV (ext3 (at2 x1) (at2 x0) (at2 x2)) (at2 x11) (ext3 (at2 x4) (at2 x3) (at2 x5))) 2816) (at3 x12 3) 1024 1408 r d

/-- The inverse root of a row's mean square. -/
def rsv (x : ℕ → ℕ → EReal) (r : ℕ) : EReal :=
  Ideal.rsqrt (Ideal.div (∑ d : Fin 1024, x r d.val * x r d.val) (Ideal.ofBits FTy.f32 1149239296#32) + Ideal.ofBits FTy.f32 897988541#32)

/-- The cotangent of the rows that a norm with weight `g` takes, `a` being that of its result. -/
def nb (a x g : ℕ → ℕ → EReal) (r d : ℕ) : EReal :=
  rsv x r * (a r d * g 0 d - x r d * rsv x r * Ideal.div (∑ e : Fin 1024, a r e.val * g 0 e.val * (x r e.val * rsv x r)) (Ideal.ofBits FTy.f32 1149239296#32))

/-- What a point writes of the cotangent of the rows. -/
def blkX : Vec Ideal S256x1024 .f32 :=
  fun y => at2 x14 (y 0).val (y 1).val + nb (accS w x0 x1 x2 x3 x4 x5 x6 x7 x8 x10 x11 x12) (at2 x13) (at2 x15) (y 0).val (y 1).val

/-- What a point adds to the cotangent of the norm's weight. -/
def blkD (d : ℕ) : EReal :=
  ∑ r : Fin 256, accS w x0 x1 x2 x3 x4 x5 x6 x7 x8 x10 x11 x12 r.val d * (at2 x13 r.val d * rsv (at2 x13) r.val)

theorem emb0 {m n p q a b : ℕ} (inb : ∀ k, (![a, b] : Fin 2 → ℕ) k + (![p, q] : Fin 2 → ℕ) k ≤ (⟨2, ![m, n]⟩ : Shape).size k)
    (y : (⟨2, ![p, q]⟩ : Shape).Idx) : ((Rect.unit (s := ⟨2, ![m, n]⟩) ![a, b] ![p, q] inb).emb y 0).val = a + (y 0).val := by
  show a + 1 * (y 0).val = _
  rw [Nat.one_mul]

theorem emb1 {m n p q a b : ℕ} (inb : ∀ k, (![a, b] : Fin 2 → ℕ) k + (![p, q] : Fin 2 → ℕ) k ≤ (⟨2, ![m, n]⟩ : Shape).size k)
    (y : (⟨2, ![p, q]⟩ : Shape).Idx) : ((Rect.unit (s := ⟨2, ![m, n]⟩) ![a, b] ![p, q] inb).emb y 1).val = b + (y 1).val := by
  show b + 1 * (y 1).val = _
  rw [Nat.one_mul]

/-- The pieces a point writes, the gate's half. -/
def L16 : List (View.Piece (Elt Ideal) S256x2816 .bf16) :=
  [⟨Rect.unit ![0, 2432] ![256, 384] inb_S256x2816_S256x384_0_2432, runA.sl.r_98 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11⟩,
   ⟨Rect.unit ![0, 1920] ![256, 512] inb_S256x2816_S256x512_0_1920, runA.sl.r_79 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11⟩,
   ⟨Rect.unit ![0, 1408] ![256, 512] inb_S256x2816_S256x512_0_1408, runA.sl.r_62 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11⟩,
   ⟨Rect.unit ![0, 1024] ![256, 384] inb_S256x2816_S256x384_0_1024, runA.sl.r_42 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11⟩,
   ⟨Rect.unit ![0, 512] ![256, 512] inb_S256x2816_S256x512_0_512, runA.sl.r_26 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11⟩,
   ⟨Rect.unit ![0, 0] ![256, 512] inb_S256x2816_S256x512_0_0, runA.sl.r_9 (F := Ideal) c i arg1 harg1 arg2 harg2 arg3 harg3 arg4 harg4 arg5 harg5 arg6 harg6 arg7 harg7 arg8 harg8 arg9 harg9 arg11 harg11 arg12 harg12 x0 x1 x2 x3 x4 x5 x6 x7 x8 x10 x11⟩]

theorem A_L16 : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).1 = L16 c i arg1 harg1 arg2 harg2 arg3 harg3 arg4 harg4 arg5 harg5 arg6 harg6 arg7 harg7 arg8 harg8 arg9 harg9 arg11 harg11 arg12 harg12 x0 x1 x2 x3 x4 x5 x6 x7 x8 x10 x11 := rfl

theorem B_L16 : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 x0 x1 x2 x3 x4 x5 x6 x7 x8 x9 x10 x11 x12 x13 x14 x15 xo19 xo20 xo21).1 = L16 c i arg1 harg1 arg2 harg2 arg3 harg3 arg4 harg4 arg5 harg5 arg6 harg6 arg7 harg7 arg8 harg8 arg9 harg9 arg11 harg11 arg12 harg12 x0 x1 x2 x3 x4 x5 x6 x7 x8 x10 x11 := rfl

theorem read_L16
    (arg17 : Memref sig .tc .vmem S256x2816 .bf16) (f) :
    arg17.view.read (Elt Ideal) (arg17.view.writes (Elt Ideal) f (L16 c i arg1 harg1 arg2 harg2 arg3 harg3 arg4 harg4 arg5 harg5 arg6 harg6 arg7 harg7 arg8 harg8 arg9 harg9 arg11 harg11 arg12 harg12 x0 x1 x2 x3 x4 x5 x6 x7 x8 x10 x11)) = blkG (BitVec.ofNat 32 (i 0).val) x0 x1 x2 x3 x4 x5 x6 x7 x8 x10 x11 := by
  funext y
  refine View.read_writes_apply_of_pieces _ _ _ _ ?_ y ?_
  · intro p hp x
    simp only [L16, List.mem_cons, List.not_mem_nil, or_false] at hp
    rcases hp with rfl | rfl | rfl | rfl | rfl | rfl
    · dsimp only
      rw [A_r_98]
      simp only [blkG, emb0, emb1, Nat.zero_add]
    · dsimp only
      rw [A_r_79]
      simp only [blkG, emb0, emb1, Nat.zero_add]
    · dsimp only
      rw [A_r_62]
      simp only [blkG, emb0, emb1, Nat.zero_add]
    · dsimp only
      rw [A_r_42]
      simp only [blkG, emb0, emb1, Nat.zero_add]
    · dsimp only
      rw [A_r_26]
      simp only [blkG, emb0, emb1, Nat.zero_add]
    · dsimp only
      rw [A_r_9]
      simp only [blkG, emb0, emb1, Nat.zero_add]
  · have h1 : (y 1).val < 2816 := (y 1).isLt
    have h0 : (y 0).val < 256 := (y 0).isLt
    simp only [L16, List.mem_cons, List.not_mem_nil, or_false, exists_eq_or_imp, exists_eq_left, Rect.mem_set_unit, Fin.forall_fin_two]
    simp
    omega

/-- The pieces a point writes, the value's half. -/
def L17 : List (View.Piece (Elt Ideal) S256x2816 .bf16) :=
  [⟨Rect.unit ![0, 2432] ![256, 384] inb_S256x2816_S256x384_0_2432, runA.sl.r_106 (F := Ideal) c i arg1 harg1 arg2 harg2 arg3 harg3 arg4 harg4 arg5 harg5 arg6 harg6 arg11 harg11 arg12 harg12 x0 x1 x2 x3 x4 x5 x10 x11⟩,
   ⟨Rect.unit ![0, 1920] ![256, 512] inb_S256x2816_S256x512_0_1920, runA.sl.r_87 (F := Ideal) c i arg1 harg1 arg2 harg2 arg3 harg3 arg4 harg4 arg5 harg5 arg6 harg6 arg11 harg11 arg12 harg12 x0 x1 x2 x3 x4 x5 x10 x11⟩,
   ⟨Rect.unit ![0, 1408] ![256, 512] inb_S256x2816_S256x512_0_1408, runA.sl.r_69 (F := Ideal) c i arg1 harg1 arg2 harg2 arg3 harg3 arg4 harg4 arg5 harg5 arg6 harg6 arg11 harg11 arg12 harg12 x0 x1 x2 x3 x4 x5 x10 x11⟩,
   ⟨Rect.unit ![0, 1024] ![256, 384] inb_S256x2816_S256x384_0_1024, runA.sl.r_50 (F := Ideal) c i arg1 harg1 arg2 harg2 arg3 harg3 arg4 harg4 arg5 harg5 arg6 harg6 arg11 harg11 arg12 harg12 x0 x1 x2 x3 x4 x5 x10 x11⟩,
   ⟨Rect.unit ![0, 512] ![256, 512] inb_S256x2816_S256x512_0_512, runA.sl.r_32 (F := Ideal) c i arg1 harg1 arg2 harg2 arg3 harg3 arg4 harg4 arg5 harg5 arg6 harg6 arg11 harg11 arg12 harg12 x0 x1 x2 x3 x4 x5 x10 x11⟩,
   ⟨Rect.unit ![0, 0] ![256, 512] inb_S256x2816_S256x512_0_0, runA.sl.r_15 (F := Ideal) c i arg1 harg1 arg2 harg2 arg3 harg3 arg4 harg4 arg5 harg5 arg6 harg6 arg11 harg11 arg12 harg12 x0 x1 x2 x3 x4 x5 x10 x11⟩]

theorem A_L17 : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.1 = L17 c i arg1 harg1 arg2 harg2 arg3 harg3 arg4 harg4 arg5 harg5 arg6 harg6 arg11 harg11 arg12 harg12 x0 x1 x2 x3 x4 x5 x10 x11 := rfl

theorem B_L17 : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 x0 x1 x2 x3 x4 x5 x6 x7 x8 x9 x10 x11 x12 x13 x14 x15 xo19 xo20 xo21).2.1 = L17 c i arg1 harg1 arg2 harg2 arg3 harg3 arg4 harg4 arg5 harg5 arg6 harg6 arg11 harg11 arg12 harg12 x0 x1 x2 x3 x4 x5 x10 x11 := rfl

theorem read_L17
    (arg18 : Memref sig .tc .vmem S256x2816 .bf16) (f) :
    arg18.view.read (Elt Ideal) (arg18.view.writes (Elt Ideal) f (L17 c i arg1 harg1 arg2 harg2 arg3 harg3 arg4 harg4 arg5 harg5 arg6 harg6 arg11 harg11 arg12 harg12 x0 x1 x2 x3 x4 x5 x10 x11)) = blkV (BitVec.ofNat 32 (i 0).val) x0 x1 x2 x3 x4 x5 x10 x11 := by
  funext y
  refine View.read_writes_apply_of_pieces _ _ _ _ ?_ y ?_
  · intro p hp x
    simp only [L17, List.mem_cons, List.not_mem_nil, or_false] at hp
    rcases hp with rfl | rfl | rfl | rfl | rfl | rfl
    · dsimp only
      rw [A_r_106]
      simp only [blkV, emb0, emb1, Nat.zero_add]
    · dsimp only
      rw [A_r_87]
      simp only [blkV, emb0, emb1, Nat.zero_add]
    · dsimp only
      rw [A_r_69]
      simp only [blkV, emb0, emb1, Nat.zero_add]
    · dsimp only
      rw [A_r_50]
      simp only [blkV, emb0, emb1, Nat.zero_add]
    · dsimp only
      rw [A_r_32]
      simp only [blkV, emb0, emb1, Nat.zero_add]
    · dsimp only
      rw [A_r_15]
      simp only [blkV, emb0, emb1, Nat.zero_add]
  · have h1 : (y 1).val < 2816 := (y 1).isLt
    have h0 : (y 0).val < 256 := (y 0).isLt
    simp only [L17, List.mem_cons, List.not_mem_nil, or_false, exists_eq_or_imp, exists_eq_left, Rect.mem_set_unit, Fin.forall_fin_two]
    simp
    omega

end Cert.KernelIdeal.Hand
end
-- ==== Proof.Glob.lean ====
module

public import proofs.«01_k».proof.Proof.Block

@[expose] public section

set_option maxRecDepth 16384

noncomputable section

namespace Cert.KernelIdeal.Hand

open Cert.KernelIdeal.Gen
open Idealize.ShloMosaic Idealize.ShloMosaic.TcCoe Idealize.ShloMosaic.Tactic

/-- The transposed convolution on the whole array of 8192 rows. -/
def duG (cw f : ℕ → ℕ → EReal) (co R n : ℕ) : EReal :=
  cw 0 (co + n) * (if R + 1 < 8192 then f (R + 1) n else 0) + cw 1 (co + n) * f R n + cw 2 (co + n) * (if R = 0 then 0 else f (R - 1) n)

/-- The cotangent of the normalised rows on the whole array. -/
def accG (uG uV wu : ℕ → ℕ → EReal) (R d : ℕ) : EReal :=
  ∑ n : Fin 2816, uG R n.val * wu d n.val + ∑ n : Fin 2816, uV R n.val * wu d (2816 + n.val)

theorem select_eq (w v : BitVec 32) (a b : EReal) : Scalar.select (Scalar.cmpi .eq w v) a b = if w = v then a else b := by
  unfold Scalar.select Scalar.cmpi
  by_cases h : w = v
  · subst h; simp [IntOp.cmpi]
  · have hb : (w == v) = false := beq_eq_false_iff_ne.mpr h
    simp [IntOp.cmpi, h, hb]

theorem ofNat_eq (t k : ℕ) (ht : t < 32) (hk : k < 32) : (BitVec.ofNat 32 t = BitVec.ofNat 32 k) ↔ t = k := by
  constructor
  · intro h
    have := congrArg BitVec.toNat h
    simp only [BitVec.toNat_ofNat] at this
    omega
  · rintro rfl; rfl

theorem du_glob (t : ℕ) (ht : t < 32) (cw f F : ℕ → ℕ → EReal) (co r n : ℕ) (hr : r < 256)
    (hf : ∀ k, k < 288 → 16 ≤ 256 * t + k → 256 * t + k < 8208 → f k n = F (256 * t + k - 16) n) :
    du (BitVec.ofNat 32 t) cw f co r n = duG cw F co (256 * t + r) n := by
  have e0 : f (16 + r) n = F (256 * t + r) n := by
    rw [hf (16 + r) (by omega) (by omega) (by omega)]; congr 1; omega
  have eP : rowP (BitVec.ofNat 32 t) f r n = if 256 * t + r + 1 < 8192 then F (256 * t + r + 1) n else 0 := by
    unfold rowP halo
    rw [show (8 + r + 272 - 271) % 272 = 9 + r by omega, if_neg (by omega)]
    by_cases h : 9 + r - 8 < 256
    · rw [if_pos h, if_pos (by omega), hf _ (by omega) (by omega) (by omega)]; congr 1; omega
    · rw [if_neg h, select_eq]
      by_cases h31 : t = 31
      · subst h31; rw [if_pos rfl, if_neg (by omega)]
      · rw [if_neg (fun hh => h31 ((ofNat_eq t 31 ht (by omega)).1 hh)), if_pos (by omega), hf _ (by omega) (by omega) (by omega)]; congr 1; omega
  have eM : rowM (BitVec.ofNat 32 t) f r n = if 256 * t + r = 0 then 0 else F (256 * t + r - 1) n := by
    unfold rowM halo
    rw [show (8 + r + 272 - 1) % 272 = 7 + r by omega]
    by_cases h : 7 + r < 8
    · rw [if_pos h, select_eq]
      by_cases h00 : t = 0
      · subst h00; rw [if_pos rfl, if_pos (by omega)]
      · rw [if_neg (fun hh => h00 ((ofNat_eq t 0 ht (by omega)).1 hh)), if_neg (by omega), hf _ (by omega) (by omega) (by omega)]; congr 1; omega
    · rw [if_neg h, if_pos (by omega), if_neg (by omega), hf _ (by omega) (by omega) (by omega)]; congr 1; omega
  unfold du duG
  rw [e0, eP, eM]

theorem ext3_glob (t : ℕ) (p a n F : ℕ → ℕ → EReal)
    (hp : 0 < t → ∀ k < 16, ∀ c, p k c = F (256 * t - 16 + k) c) (ha : ∀ k < 256, ∀ c, a k c = F (256 * t + k) c)
    (hn : t < 31 → ∀ k < 16, ∀ c, n k c = F (256 * t + 256 + k) c) (k c : ℕ) (hk : k < 288) (h1 : 16 ≤ 256 * t + k) (h2 : 256 * t + k < 8208) :
    ext3 p a n k c = F (256 * t + k - 16) c := by
  unfold ext3
  by_cases h : k < 16
  · rw [if_pos h, hp (by omega) k h]; congr 1; omega
  · rw [if_neg h]
    by_cases h' : k - 16 < 256
    · rw [if_pos h', ha _ h']; congr 1; omega
    · rw [if_neg h', hn (by omega) _ (by omega)]; congr 1; omega

theorem cG_congr (dy dy' wd g g' v v' : ℕ → ℕ → EReal) (k k' n : ℕ) (h1 : ∀ d, dy k d = dy' k' d) (h2 : ∀ d, g k d = g' k' d)
    (h3 : ∀ d, v k d = v' k' d) : cG dy wd g v k n = cG dy' wd g' v' k' n := by
  unfold cG dzv; simp only [h1, h2, h3]

theorem cV_congr (dy dy' wd g g' : ℕ → ℕ → EReal) (k k' n : ℕ) (h1 : ∀ d, dy k d = dy' k' d) (h2 : ∀ d, g k d = g' k' d) :
    cV dy wd g k n = cV dy' wd g' k' n := by
  unfold cV dzv; simp only [h1, h2]

theorem pdt_range (K : ℕ) (u w : ℕ → ℕ → EReal) (o off r d : ℕ) :
    pdt K u w o off r d = ∑ k ∈ Finset.range K, u r (off + (o + k)) * w d (o + k) := by
  unfold pdt; rw [← Fin.sum_univ_eq_sum_range (fun k => u r (off + (o + k)) * w d (o + k))]

/-- Three chunks of a quarter of the columns. -/
theorem pdt3 (f : ℕ → EReal) : ∑ k ∈ Finset.range 512, f (0 + k) + ∑ k ∈ Finset.range 512, f (512 + k) + ∑ k ∈ Finset.range 384, f (1024 + k)
    = ∑ k ∈ Finset.range 1408, f k := by
  rw [show (1408 : ℕ) = 1024 + 384 from rfl, Finset.sum_range_add, show (1024 : ℕ) = 512 + 512 from rfl, Finset.sum_range_add]
  simp only [Nat.zero_add]

theorem six (f g : ℕ → EReal) (hg : ∀ k, k < 1408 → g k = f (1408 + k)) :
    (∑ k ∈ Finset.range 512, f (0 + k) + ∑ k ∈ Finset.range 512, f (512 + k) + ∑ k ∈ Finset.range 384, f (1024 + k))
      + (∑ k ∈ Finset.range 512, g (0 + k) + ∑ k ∈ Finset.range 512, g (512 + k) + ∑ k ∈ Finset.range 384, g (1024 + k))
    = ∑ n : Fin 2816, f n.val := by
  rw [pdt3, pdt3, Fin.sum_univ_eq_sum_range (fun k => f k), show (2816 : ℕ) = 1408 + 1408 from rfl, Finset.sum_range_add]
  congr 1
  exact Finset.sum_congr rfl fun k hk => hg k (Finset.mem_range.1 hk)

/-- The twelve parts together are the whole product. -/
theorem twelve (u v : ℕ → ℕ → EReal) (w4 : ℕ → ℕ → ℕ → EReal) (wu uG uV : ℕ → ℕ → EReal) (r R d : ℕ)
    (hw : ∀ b k, b < 4 → k < 1408 → w4 b d k = wu d (1408 * b + k)) (hu : ∀ n, u r n = uG R n) (hv : ∀ n, v r n = uV R n) :
    pdt 512 u (w4 0) 0 0 r d + pdt 512 v (w4 2) 0 0 r d + pdt 512 u (w4 0) 512 0 r d + pdt 512 v (w4 2) 512 0 r d
      + pdt 384 u (w4 0) 1024 0 r d + pdt 384 v (w4 2) 1024 0 r d + pdt 512 u (w4 1) 0 1408 r d + pdt 512 v (w4 3) 0 1408 r d
      + pdt 512 u (w4 1) 512 1408 r d + pdt 512 v (w4 3) 512 1408 r d + pdt 384 u (w4 1) 1024 1408 r d + pdt 384 v (w4 3) 1024 1408 r d
    = accG uG uV wu R d := by
  have hU := six (fun k => uG R k * wu d k) (fun k => uG R (1408 + k) * w4 1 d k)
    (fun k hk => by show _ * _ = _ * _; rw [hw 1 k (by omega) hk])
  have hV := six (fun k => uV R k * wu d (2816 + k)) (fun k => uV R (1408 + k) * w4 3 d k)
    (fun k hk => by show _ * _ = _ * _; rw [hw 3 k (by omega) hk]; congr 2; omega)
  have q0 : ∀ K o, o + K ≤ 1408 → pdt K u (w4 0) o 0 r d = ∑ k ∈ Finset.range K, uG R (o + k) * wu d (o + k) := fun K o hK => by
    rw [pdt_range]; refine Finset.sum_congr rfl fun k hk => ?_
    have := Finset.mem_range.1 hk
    rw [hu, hw 0 _ (by omega) (by omega)]; congr 2 <;> omega
  have q1 : ∀ K o, o + K ≤ 1408 → pdt K u (w4 1) o 1408 r d = ∑ k ∈ Finset.range K, uG R (1408 + (o + k)) * w4 1 d (o + k) := fun K o hK => by
    rw [pdt_range]; refine Finset.sum_congr rfl fun k hk => ?_
    rw [hu]
  have q2 : ∀ K o, o + K ≤ 1408 → pdt K v (w4 2) o 0 r d = ∑ k ∈ Finset.range K, uV R (o + k) * wu d (2816 + (o + k)) := fun K o hK => by
    rw [pdt_range]; refine Finset.sum_congr rfl fun k hk => ?_
    have := Finset.mem_range.1 hk
    rw [hv, hw 2 _ (by omega) (by omega)]; congr 2; omega
  have q3 : ∀ K o, o + K ≤ 1408 → pdt K v (w4 3) o 1408 r d = ∑ k ∈ Finset.range K, uV R (1408 + (o + k)) * w4 3 d (o + k) := fun K o hK => by
    rw [pdt_range]; refine Finset.sum_congr rfl fun k hk => ?_
    rw [hv]
  rw [q0 512 0 (by omega), q0 512 512 (by omega), q0 384 1024 (by omega), q1 512 0 (by omega), q1 512 512 (by omega), q1 384 1024 (by omega),
    q2 512 0 (by omega), q2 512 512 (by omega), q2 384 1024 (by omega), q3 512 0 (by omega), q3 512 512 (by omega), q3 384 1024 (by omega)]
  unfold accG
  rw [← hU, ← hV]
  abel

theorem nb_congr (a a' x x' g : ℕ → ℕ → EReal) (r R d : ℕ) (ha : ∀ e, e < 1024 → a r e = a' R e) (hx : ∀ e, x r e = x' R e) (hd : d < 1024) :
    nb a x g r d = nb a' x' g R d := by
  have hs : rsv x r = rsv x' R := by unfold rsv; simp only [hx]
  unfold nb
  rw [hs, ha d hd, hx d]
  congr 3
  congr 1
  refine Finset.sum_congr rfl fun e _ => ?_
  rw [ha e.val e.isLt, hx]

/-- A sum over 32 points of 256 rows is a sum over the 8192 rows. -/
theorem sum_rows (f : ℕ → EReal) : ∑ s ∈ Finset.range 32, ∑ r : Fin 256, f (256 * s + r.val) = ∑ R : Fin 8192, f R.val := by
  rw [Fin.sum_univ_eq_sum_range (fun k => f k)]
  have h : ∀ n : ℕ, ∑ s ∈ Finset.range n, ∑ r : Fin 256, f (256 * s + r.val) = ∑ k ∈ Finset.range (256 * n), f k := by
    intro n
    induction n with
    | zero => simp
    | succ n ih =>
      rw [Finset.sum_range_succ, ih, Nat.mul_succ, Finset.sum_range_add, Fin.sum_univ_eq_sum_range (fun r => f (256 * n + r))]
  exact h 32

end Cert.KernelIdeal.Hand

end
-- ==== Proof.Host.lean ====
module

public import proofs.«01_k».proof.Proof.Glob
public import Idealize.ShloMosaic.Lib.Claim
public import Idealize.ShloMosaic.Lib.StableHlo.RunRead
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

theorem at2_mk {α : Type} {m n : ℕ} [NeZero m] [NeZero n] (x : (⟨2, ![m, n]⟩ : Shape).Idx → α) (r c : ℕ) (hr : r < m) (hc : c < n) :
    at2 x r c = x (ix2 ⟨r, hr⟩ ⟨c, hc⟩) := at2_eq x (ix2 ⟨r, hr⟩ ⟨c, hc⟩)

theorem at2_fin {α : Type} {m n : ℕ} [NeZero m] [NeZero n] (x : (⟨2, ![m, n]⟩ : Shape).Idx → α) (a : Fin m) (b : Fin n) :
    at2 x a.val b.val = x (ix2 a b) := at2_eq x (ix2 a b)

/-- The rows of the up projection of the normalised rows. -/
def upF (x g w : ℕ → ℕ → EReal) (R n : ℕ) : EReal := ∑ d : Fin 1024, x R d.val * rsv x R * g 0 d.val * w d.val n

/-- An array of 8192 rows with a row of zeros before and after. -/
def padF (f : ℕ → ℕ → EReal) (k n : ℕ) : EReal := if k < 1 then 0 else if k - 1 < 8192 then f (k - 1) n else 0

/-- The convolution over three rows. -/
def cvF (cw f : ℕ → ℕ → EReal) (R n : ℕ) : EReal := cw 0 n * padF f R n + cw 1 n * padF f (1 + R) n + cw 2 n * padF f (2 + R) n

/-- The up projection's rows, as the host computes them. -/
def hostU (x : FVec Ideal S8192x1024 .f32) (g : FVec Ideal S1x1024 .f32) (w : FVec Ideal S1024x5632 .f32) : FVec Ideal S8192x5632 .f32 :=
  Host.dotGeneral dot_S8192x1024_S1024x5632_S8192x5632_1_0_0_1_n_n none
    (mulf (mulf x (broadcastInDim S8192x1024 ![0, 1] bcast_S8192x1_S8192x1024_0_1
        (Host.rsqrt (addf (Host.divf (broadcastInDim S8192x1 ![0] bcast_S8192_S8192x1_0
          (Host.reduceAdd (mulf x x) (constant S_ .f32 0x00000000#32) reducesTo_S8192x1024_S8192_d1 h_S_))
          (broadcastInDim S8192x1 ![] bcast_S_S8192x1 (constant S_ .f32 0x44800000#32)))
          (broadcastInDim S8192x1 ![] bcast_S_S8192x1 (constant S_ .f32 0x358637BD#32))))))
      (broadcastInDim S8192x1024 ![0, 1] bcast_S1x1024_S8192x1024_0_1 (broadcastInDim S1x1024 ![1] bcast_S1024_S1x1024_1 (shapeCast S1024 g shapeCasts_S1x1024_S1024)))) w

/-- Its rows with a row of zeros before and after. -/
def hostP (u : FVec Ideal S8192x5632 .f32) : FVec Ideal S8194x5632 .f32 :=
  concatenate S8194x5632 0 [⟨S1x5632, broadcastInDim S1x5632 ![] bcast_S_S1x5632 (constant (F := Ideal) S_ .f32 0x00000000#32)⟩, ⟨S8192x5632, u⟩,
    ⟨S1x5632, broadcastInDim S1x5632 ![] bcast_S_S1x5632 (constant (F := Ideal) S_ .f32 0x00000000#32)⟩] concatenates_S1x5632_S8192x5632_S1x5632_S8194x5632_d0

/-- The convolution, as the host computes it. -/
def hostH (cw : FVec Ideal S3x5632 .f32) (p : FVec Ideal S8194x5632 .f32) : FVec Ideal S8192x5632 .f32 :=
  addf (addf
    (mulf (broadcastInDim S8192x5632 ![0, 1] bcast_S1x5632_S8192x5632_0_1 (broadcastInDim S1x5632 ![1] bcast_S5632_S1x5632_1
        (shapeCast S5632 (extractStridedSlice S1x5632 ![0, 0] cw slices_S3x5632_S1x5632_0_0) shapeCasts_S1x5632_S5632)))
      (extractStridedSlice S8192x5632 ![0, 0] p slices_S8194x5632_S8192x5632_0_0))
    (mulf (broadcastInDim S8192x5632 ![0, 1] bcast_S1x5632_S8192x5632_0_1 (broadcastInDim S1x5632 ![1] bcast_S5632_S1x5632_1
        (shapeCast S5632 (extractStridedSlice S1x5632 ![1, 0] cw slices_S3x5632_S1x5632_1_0) shapeCasts_S1x5632_S5632)))
      (extractStridedSlice S8192x5632 ![1, 0] p slices_S8194x5632_S8192x5632_1_0)))
    (mulf (broadcastInDim S8192x5632 ![0, 1] bcast_S1x5632_S8192x5632_0_1 (broadcastInDim S1x5632 ![1] bcast_S5632_S1x5632_1
        (shapeCast S5632 (extractStridedSlice S1x5632 ![2, 0] cw slices_S3x5632_S1x5632_2_0) shapeCasts_S1x5632_S5632)))
      (extractStridedSlice S8192x5632 ![2, 0] p slices_S8194x5632_S8192x5632_2_0))

theorem hostU_apply (x : FVec Ideal S8192x1024 .f32) (g : FVec Ideal S1x1024 .f32) (w : FVec Ideal S1024x5632 .f32) (i : S8192x5632.Idx) :
    hostU x g w i = upF (at2 (α := EReal) (m := 8192) (n := 1024) x) (at2 (α := EReal) (m := 1) (n := 1024) g) (at2 (α := EReal) (m := 1024) (n := 5632) w) (i 0).val (i 1).val := by
  pointwise [hostU]
  unfold upF rsv
  refine Finset.sum_congr rfl fun d _ => ?_
  rw [at2_fin (m := 8192) (n := 1024) x (i 0) d, at2_fin (m := 1024) (n := 5632) w d (i 1)]
  have hg : at2 (α := EReal) (m := 1) (n := 1024) g 0 d.val = g (ix2 0 d) := at2_fin (m := 1) (n := 1024) g 0 d
  rw [hg]
  have hs : ∀ e : Fin 1024, at2 (α := EReal) (m := 8192) (n := 1024) x (i 0).val e.val = x (ix2 (i 0) e) := fun e => at2_fin (m := 8192) (n := 1024) x (i 0) e
  simp only [hs]

theorem hostP_apply (u : FVec Ideal S8192x5632 .f32) (i : S8194x5632.Idx) :
    hostP u i = padF (at2 (α := EReal) (m := 8192) (n := 5632) u) (i 0).val (i 1).val := by
  pointwise [hostP]
  unfold padF
  by_cases h1 : (i 0).val < 1
  · rw [dif_pos h1, if_pos h1]
  · rw [dif_neg h1, if_neg h1]
    by_cases h2 : (i 0).val - 1 < 8192
    · rw [dif_pos h2, if_pos h2]; exact (at2_fin (m := 8192) (n := 5632) u ⟨(i 0).val - 1, h2⟩ (i 1)).symm
    · rw [dif_neg h2, if_neg h2]

theorem hostH_apply (cw : FVec Ideal S3x5632 .f32) (p : FVec Ideal S8194x5632 .f32) (i : S8192x5632.Idx) :
    hostH cw p i = at2 (α := EReal) (m := 3) (n := 5632) cw 0 (i 1).val * at2 (α := EReal) (m := 8194) (n := 5632) p (i 0).val (i 1).val
      + at2 (α := EReal) (m := 3) (n := 5632) cw 1 (i 1).val * at2 (α := EReal) (m := 8194) (n := 5632) p (1 + (i 0).val) (i 1).val
      + at2 (α := EReal) (m := 3) (n := 5632) cw 2 (i 1).val * at2 (α := EReal) (m := 8194) (n := 5632) p (2 + (i 0).val) (i 1).val := by
  pointwise [hostH]
  have h0 : (i 0).val < 8192 := (i 0).isLt
  have c0 : at2 (α := EReal) (m := 3) (n := 5632) cw 0 (i 1).val = cw (ix2 0 (i 1)) := at2_fin (m := 3) (n := 5632) cw 0 (i 1)
  have c1 : at2 (α := EReal) (m := 3) (n := 5632) cw 1 (i 1).val = cw (ix2 1 (i 1)) := at2_fin (m := 3) (n := 5632) cw 1 (i 1)
  have c2 : at2 (α := EReal) (m := 3) (n := 5632) cw 2 (i 1).val = cw (ix2 2 (i 1)) := at2_fin (m := 3) (n := 5632) cw 2 (i 1)
  have p0 := at2_fin (α := EReal) (m := 8194) (n := 5632) p ⟨(i 0).val, by omega⟩ (i 1)
  have p1 := at2_fin (α := EReal) (m := 8194) (n := 5632) p ⟨1 + (i 0).val, by omega⟩ (i 1)
  have p2 := at2_fin (α := EReal) (m := 8194) (n := 5632) p ⟨2 + (i 0).val, by omega⟩ (i 1)
  rw [c0, c1, c2, p0, p1, p2]

set_option maxHeartbeats 1000000 in
theorem V42_eq (c : Dev nD) : V m c main_v42 = truncf .bf16 (extractStridedSlice S8192x2816 ![0, 0]
    (hostH (m (c, main_arg3)) (hostP (hostU (m (c, main_arg0)) (m (c, main_arg1)) (m (c, main_arg2))))) slices_S8192x5632_S8192x2816_0_0) bitsLt_bf16_f32 := by
  unfold V
  after_reads_simp
  rfl

set_option maxHeartbeats 1000000 in
theorem V43_eq (c : Dev nD) : V m c main_v43 = truncf .bf16 (extractStridedSlice S8192x2816 ![0, 2816]
    (hostH (m (c, main_arg3)) (hostP (hostU (m (c, main_arg0)) (m (c, main_arg1)) (m (c, main_arg2))))) slices_S8192x5632_S8192x2816_0_2816) bitsLt_bf16_f32 := by
  unfold V
  after_reads_simp
  rfl

/-- The convolved rows of the host's arrays. -/
theorem hid_apply (x : FVec Ideal S8192x1024 .f32) (g : FVec Ideal S1x1024 .f32) (w : FVec Ideal S1024x5632 .f32) (cw : FVec Ideal S3x5632 .f32)
    (i : S8192x5632.Idx) : hostH cw (hostP (hostU x g w)) i = cvF (at2 (α := EReal) (m := 3) (n := 5632) cw)
      (upF (at2 (α := EReal) (m := 8192) (n := 1024) x) (at2 (α := EReal) (m := 1) (n := 1024) g) (at2 (α := EReal) (m := 1024) (n := 5632) w)) (i 0).val (i 1).val := by
  have h0 : (i 0).val < 8192 := (i 0).isLt
  have hu : ∀ R, R < 8192 → at2 (α := EReal) (m := 8192) (n := 5632) (hostU x g w) R (i 1).val
      = upF (at2 (α := EReal) (m := 8192) (n := 1024) x) (at2 (α := EReal) (m := 1) (n := 1024) g) (at2 (α := EReal) (m := 1024) (n := 5632) w) R (i 1).val :=
    fun R hR => (at2_mk (m := 8192) (n := 5632) _ R (i 1).val hR (i 1).isLt).trans (hostU_apply x g w (ix2 ⟨R, hR⟩ (i 1)))
  have hp : ∀ k, k < 8194 → at2 (α := EReal) (m := 8194) (n := 5632) (hostP (hostU x g w)) k (i 1).val
      = padF (upF (at2 (α := EReal) (m := 8192) (n := 1024) x) (at2 (α := EReal) (m := 1) (n := 1024) g) (at2 (α := EReal) (m := 1024) (n := 5632) w)) k (i 1).val := fun k hk => by
    refine (at2_mk (m := 8194) (n := 5632) _ k (i 1).val hk (i 1).isLt).trans ((hostP_apply _ (ix2 ⟨k, hk⟩ (i 1))).trans ?_)
    show padF _ k (i 1).val = _
    unfold padF
    by_cases h1 : k < 1
    · rw [if_pos h1, if_pos h1]
    · rw [if_neg h1, if_neg h1]
      by_cases h2 : k - 1 < 8192
      · rw [if_pos h2, if_pos h2]; exact hu _ h2
      · rw [if_neg h2, if_neg h2]
  rw [hostH_apply, hp _ (by omega), hp _ (by omega), hp _ (by omega)]
  rfl

theorem V41_at (c : Dev nD) : at2 (α := EReal) (m := 8192) (n := 1024) (V m c main_v41) = at2 (α := EReal) (m := 8192) (n := 1024) (m (c, main_arg5)) := by
  refine congrArg (at2 (α := EReal) (m := 8192) (n := 1024)) (funext fun i => ?_)
  entry_read
  pointwise

theorem V45_at (c : Dev nD) : at2 (α := EReal) (m := 2816) (n := 1024) (V m c main_v45) = at2 (α := EReal) (m := 2816) (n := 1024) (m (c, main_arg4)) := by
  refine congrArg (at2 (α := EReal) (m := 2816) (n := 1024)) (funext fun i => ?_)
  entry_read
  pointwise

theorem V46_at (c : Dev nD) (b d k : ℕ) (hb : b < 4) (hd : d < 1024) (hk : k < 1408) :
    at3 (α := EReal) (l := 4) (m := 1024) (n := 1408) (V m c main_v46) b d k = at2 (α := EReal) (m := 1024) (n := 5632) (m (c, main_arg2)) d (1408 * b + k) := by
  have h : ∀ i : S4x1024x1408.Idx, V m c main_v46 i = m (c, main_arg2) (ix2 (i 1) ⟨(i 0).val * 1408 + (i 2).val, by have h1 : (i 0).val < 4 := (i 0).isLt; have h2 : (i 2).val < 1408 := (i 2).isLt; omega⟩) := by
    intro i
    entry_read
    pointwise
  have e := at3_eq (α := EReal) (l := 4) (m := 1024) (n := 1408) (V m c main_v46) (ix3 ⟨b, hb⟩ ⟨d, hd⟩ ⟨k, hk⟩)
  refine e.trans ((h _).trans ?_)
  refine (at2_fin (α := EReal) (m := 1024) (n := 5632) (m (c, main_arg2)) _ _).symm.trans ?_
  show at2 _ d (b * 1408 + k) = _
  rw [Nat.mul_comm]

theorem V42_at (c : Dev nD) (R n : ℕ) (hR : R < 8192) (hn : n < 2816) : at2 (α := EReal) (m := 8192) (n := 2816) (V m c main_v42) R n
    = cvF (at2 (α := EReal) (m := 3) (n := 5632) (m (c, main_arg3))) (upF (at2 (α := EReal) (m := 8192) (n := 1024) (m (c, main_arg0)))
        (at2 (α := EReal) (m := 1) (n := 1024) (m (c, main_arg1))) (at2 (α := EReal) (m := 1024) (n := 5632) (m (c, main_arg2)))) R n := by
  refine (at2_mk (m := 8192) (n := 2816) _ R n hR hn).trans ?_
  rw [V42_eq]
  pointwise
  exact hid_apply _ _ _ _ (ix2 ⟨R, hR⟩ ⟨n, by omega⟩)

theorem V43_at (c : Dev nD) (R n : ℕ) (hR : R < 8192) (hn : n < 2816) : at2 (α := EReal) (m := 8192) (n := 2816) (V m c main_v43) R n
    = cvF (at2 (α := EReal) (m := 3) (n := 5632) (m (c, main_arg3))) (upF (at2 (α := EReal) (m := 8192) (n := 1024) (m (c, main_arg0)))
        (at2 (α := EReal) (m := 1) (n := 1024) (m (c, main_arg1))) (at2 (α := EReal) (m := 1024) (n := 5632) (m (c, main_arg2)))) R (2816 + n) := by
  refine (at2_mk (m := 8192) (n := 2816) _ R n hR hn).trans ?_
  rw [V43_eq]
  pointwise
  exact hid_apply _ _ _ _ (ix2 ⟨R, hR⟩ ⟨2816 + n, by omega⟩)

end Cert.KernelIdeal.Hand

end
-- ==== Proof.Sum.lean ====
/- A sum over 8192 rows, taken in four parts of 2048. -/
module

public import proofs.«01_k».proof.Proof.Sem

@[expose] public section

namespace Cert.Parts

theorem sum_parts (f : ℕ → EReal) (b n : ℕ) : ∑ k ∈ Finset.range (b * n), f k = ∑ s ∈ Finset.range b, ∑ k ∈ Finset.range n, f (n * s + k) := by
  induction b with
  | zero => simp
  | succ b ih => rw [Nat.succ_mul, Finset.sum_range_add, ih, Finset.sum_range_succ, Nat.mul_comm b n]

theorem sum_four (f : ℕ → EReal) : ∑ k : Fin 8192, f k.val = ∑ s ∈ Finset.range 4, ∑ k : Fin 2048, f (2048 * s + k.val) := by
  rw [Fin.sum_univ_eq_sum_range (fun k => f k) 8192, sum_parts f 4 2048]
  exact Finset.sum_congr rfl fun s _ => (Fin.sum_univ_eq_sum_range (fun k => f (2048 * s + k)) 2048).symm

/-- An entry of an array, by the two numbers of its index. -/
theorem at2_idx {α : Type} {m n : ℕ} [NeZero m] [NeZero n] (x : (⟨2, ![m, n]⟩ : Idealize.ShloMosaic.Shape).Idx → α) (j : (⟨2, ![m, n]⟩ : Idealize.ShloMosaic.Shape).Idx)
    (r c : ℕ) (hr : (j 0).val = r) (hc : (j 1).val = c) : x j = Cert.KernelIdeal.Hand.at2 x r c := by
  subst hr hc
  exact (Cert.KernelIdeal.Hand.at2_eq x j).symm

end Cert.Parts

end
-- ==== Proof.DwDown.lean ====
/- The gradient of the down projection's weights: the kernel's sum over four row tiles is the reference's product. -/
module

public import proofs.«01_k».proof.Defs
public import proofs.«01_k».proof.Proof.Host
public import proofs.«01_k».proof.Proof.Sum
public import proofs.«01_k».proof.Proof.Gen.DwDownIdeal.Value
public import proofs.«01_k».proof.Proof.Gen.DwDownRefIdeal.Read
public import proofs.«01_k».proof.Proof.Gen.DwDownRefIdeal.Run

@[expose] public section

set_option maxRecDepth 16384

noncomputable section

namespace Cert.DwDownIdeal.Hand

open Cert.DwDownIdeal.Gen Cert.KernelIdeal.Hand
open Idealize.ShloMosaic Idealize.ShloMosaic.TcCoe Idealize.ShloMosaic.Tactic
open Idealize.SL Idealize.SL.Sem

variable (m : (ℓ : Loc nD τ sig) → Buf (Elt Ideal) ℓ)

/-- The hidden state the kernel is given is the one the reference multiplies by. -/
theorem hidden (c : Dev nD) : (V m c main_v26 : FVec Ideal S8192x2816 .bf16) = Cert.DwDownRefIdeal.Read.val_main_v25 (F := Ideal) (m (c, main_arg0)) (m (c, main_arg1)) := by
  unfold V
  after_reads_simp
  rfl

theorem cotangent (c : Dev nD) : (V m c main_v27 : FVec Ideal S8192x1024 .bf16) = m (c, main_arg3) := by
  unfold V
  after_reads_simp
  rfl

/-- The two arrays, entry by entry. -/
def Zz (c : Dev nD) : ℕ → ℕ → EReal := at2 (α := EReal) (m := 8192) (n := 2816) (V m c main_v26)
def Ct (c : Dev nD) : ℕ → ℕ → EReal := at2 (α := EReal) (m := 8192) (n := 1024) (V m c main_v27)

theorem Zz_eq (c : Dev nD) : Zz m c = at2 (α := EReal) (m := 8192) (n := 2816) (Cert.DwDownRefIdeal.Read.val_main_v25 (F := Ideal) (m (c, main_arg0)) (m (c, main_arg1))) :=
  congrArg (at2 (α := EReal) (m := 8192) (n := 2816)) (hidden m c)

theorem Ct_eq (c : Dev nD) : Ct m c = at2 (α := EReal) (m := 8192) (n := 1024) (m (c, main_arg3)) :=
  congrArg (at2 (α := EReal) (m := 8192) (n := 1024)) (cotangent m c)

theorem idxs : ∀ t : Fin cfg0.N, win0_0.index t = ![t.val % 4, t.val / 4] ∧ win0_1.index t = ![t.val % 4, 0] := by
  decide +kernel

theorem lt8 (t : Fin cfg0.N) : t.val < 8 := lt_of_lt_of_eq t.isLt (show cfg0.N = 8 from N_0)

theorem rdb0 (c : Dev nD) (t : Fin cfg0.N) (r d : ℕ) (hr : r < 2048) (hd : d < 1408) :
    at2 (α := EReal) (m := 2048) (n := 1408) (iblk m c 0 t) r d = Zz m c (2048 * (t.val % 4) + r) (1408 * (t.val / 4) + d) := by
  have ht := lt8 t
  have e := (idxs t).1
  unfold Zz at2
  blk_ext [iblk, e]
  all_goals simp only [Fin.val_ofNat]
  all_goals omega

theorem rdb1 (c : Dev nD) (t : Fin cfg0.N) (r d : ℕ) (hr : r < 2048) :
    at2 (α := EReal) (m := 2048) (n := 1024) (iblk m c 1 t) r d = Ct m c (2048 * (t.val % 4) + r) d := by
  have ht := lt8 t
  have e := (idxs t).2
  unfold Ct at2
  blk_ext [iblk, e]
  all_goals simp only [Fin.val_ofNat]
  all_goals omega

/-- What one row tile adds. -/
def part (c : Dev nD) (n : ℕ) (i : S1408x1024.Idx) : EReal :=
  ∑ k : Fin 2048, Zz m c (2048 * (n % 4) + k.val) (1408 * (n / 4) + (i 0).val) * Ct m c (2048 * (n % 4) + k.val) (i 1).val

theorem pay2_apply (a : FVec Ideal S1408x1024 .f32) (x : FVec Ideal S2048x1408 .bf16) (y : FVec Ideal S2048x1024 .bf16) (i : S1408x1024.Idx) :
    k0_pay2 (F := Ideal) a x y i = a i + ∑ k : Fin 2048, at2 (α := EReal) (m := 2048) (n := 1408) x k.val (i 0).val * at2 (α := EReal) (m := 2048) (n := 1024) y k.val (i 1).val := by
  unfold k0_pay2
  pointwise
  exact congrArg (a i + ·) (Finset.sum_congr rfl fun k _ => congrArg₂ (· * ·) (at2_fin (m := 2048) (n := 1408) x k (i 0)).symm (at2_fin (m := 2048) (n := 1024) y k (i 1)).symm)

theorem step_apply (c : Dev nD) (n : ℕ) (h : n < cfg0.N) (a : FVec Ideal S1408x1024 .f32) (i : S1408x1024.Idx) :
    k0_pay2 (F := Ideal) a (iblk m c 0 ⟨n, h⟩) (iblk m c 1 ⟨n, h⟩) i = a i + part m c n i := by
  refine (pay2_apply a (iblk m c 0 ⟨n, h⟩) (iblk m c 1 ⟨n, h⟩) i).trans ?_
  exact congrArg (a i + ·) (Finset.sum_congr rfl fun k _ => congrArg₂ (· * ·) (rdb0 m c ⟨n, h⟩ k.val (i 0).val k.isLt (i 0).isLt) (rdb1 m c ⟨n, h⟩ k.val (i 1).val k.isLt))

theorem fold_apply (c : Dev nD) (b : ℕ) (h : b + 3 < cfg0.N) (i : S1408x1024.Idx) :
    Pipeline.accAt (Value.reset2 m c) (Value.step2 m c) b 3 h i = ∑ s ∈ Finset.range 4, part m c (b + s) i := by
  rw [Pipeline.accAt_add_apply (Value.reset2 m c) (Value.step2 m c) (fun _ => 0) (part m c) b 3 (fun h i => ?_) (fun n h acc i _ _ => step_apply m c n h acc i) 3 le_rfl h i, zero_add]
  refine (step_apply m c b h _ i).trans ?_
  congr 1
  unfold k0_pay1
  pointwise

/-- The kernel's result at an index: the product summed over all the rows. -/
theorem result_apply (c : Dev nD) (i : S2816x1024.Idx) : (Value.G2 m c i : EReal) = ∑ k : Fin 8192, Zz m c k.val (i 0).val * Ct m c k.val (i 1).val := by
  have h0 : (i 0).val < 2816 := (i 0).isLt
  have h1 : (i 1).val < 1024 := (i 1).isLt
  have hr : Value.run2Of i = (i 0).val / 1408 := by show 1 * ((i 0).val / 1408 - 0) + 1 * ((i 1).val / 1024 - 0) = _; omega
  have hN : cfg0.N = 8 := N_0
  have hb : 4 * Value.run2Of i + 3 < cfg0.N := by rw [hr, hN]; omega
  refine (dif_pos hb).trans ((fold_apply m c _ hb (Value.loc2Of i)).trans ?_)
  rw [Cert.Parts.sum_four (fun k => Zz m c k (i 0).val * Ct m c k (i 1).val)]
  refine Finset.sum_congr rfl fun s hs => ?_
  have hs := Finset.mem_range.mp hs
  unfold part
  refine Finset.sum_congr rfl fun k _ => ?_
  have e1 : (4 * Value.run2Of i + s) % 4 = s := by omega
  have e2 : 1408 * ((4 * Value.run2Of i + s) / 4) + (Value.loc2Of i 0).val = (i 0).val := by
    show 1408 * ((4 * Value.run2Of i + s) / 4) + (i 0).val % 1408 = _
    rw [hr]; omega
  have e3 : (Value.loc2Of i 1).val = (i 1).val := by show (i 1).val % 1024 = _; omega
  rw [e1, e2, e3]

/-- The kernel's result. -/
def result (c : Dev nD) : Buf (Elt Ideal) ((c.tc : Thread nD τ).loc main_v28) := Value.G2 m c

/-- The reference's result is the kernel's. -/
theorem same (c : Dev nD) : Cert.DwDownRefIdeal.Read.val_main_v28 (F := Ideal) (m (c, main_arg0)) (m (c, main_arg1)) (m (c, main_arg3)) = result m c := by
  unfold result
  funext i
  rw [result_apply, Cert.DwDownRefIdeal.Read.val_main_v28_apply, Cert.DwDownRefIdeal.Read.val_main_v27_apply, Zz_eq, Ct_eq]
  generalize Cert.DwDownRefIdeal.Read.val_main_v25 (F := Ideal) (m (c, main_arg0)) (m (c, main_arg1)) = z
  refine Finset.sum_congr rfl fun k _ => (mul_comm _ _).trans (congrArg₂ (· * ·) ?_ ?_)
  · exact Cert.Parts.at2_idx (m := 8192) (n := 2816) z _ _ _ rfl rfl
  · exact Cert.Parts.at2_idx (m := 8192) (n := 1024) (m (c, main_arg3)) _ _ _ rfl rfl

/-- The reference runs, leaves its arguments unchanged, and every semaphore ends at zero. -/
theorem reference_frame : Cert.quiescent_DwDownRefIdeal := by
  intro m g _
  exact (θ_run Cert.DwDownRefIdeal.defs _ _).mono (fun r h => ⟨fun c => (h c).2, sem_eq_zero_of_no_sems (by decide) r.2⟩)
    (Cert.DwDownRefIdeal.Value.run (F := Ideal) m g)

/-- From equal arguments the kernel and the reference end with equal results. -/
theorem equal_results : Cert.algebraic_DwDownIdeal_DwDownRefIdeal := by
  intro m g m' g' _ hagree
  refine ⟨result m, Value.run (F := Ideal) m g, ?_⟩
  refine (θ_run Cert.DwDownRefIdeal.defs _ _).mono (fun r h c => ?_) (Cert.DwDownRefIdeal.Value.run (F := Ideal) m' g')
  obtain ⟨e0, e1, e2, e3⟩ := hagree c
  obtain ⟨r0, rest⟩ := h c
  have q0 : r.2.mem ((c.tc : Thread Cert.DwDownRefIdeal.nD Cert.DwDownRefIdeal.τ).loc Cert.DwDownRefIdeal.main_v28) = Cert.DwDownRefIdeal.Read.val_main_v28 (F := Ideal) (m' ((c.tc : Thread Cert.DwDownRefIdeal.nD Cert.DwDownRefIdeal.τ).loc Cert.DwDownRefIdeal.main_arg0)) (m' ((c.tc : Thread Cert.DwDownRefIdeal.nD Cert.DwDownRefIdeal.τ).loc Cert.DwDownRefIdeal.main_arg1)) (m' ((c.tc : Thread Cert.DwDownRefIdeal.nD Cert.DwDownRefIdeal.τ).loc Cert.DwDownRefIdeal.main_arg3)) := r0.trans (Cert.DwDownRefIdeal.Read.val_main_v28_eq (F := Ideal) m' c)
  rw [e0, e1, e3] at q0
  exact ⟨q0.trans (same m c), rest⟩

end Cert.DwDownIdeal.Hand

end
-- ==== Proof.DwIn.lean ====
/- The gradient of the input projection's weights: the kernel's sum over four row tiles is the reference's product. -/
module

public import proofs.«01_k».proof.Defs
public import proofs.«01_k».proof.Proof.Host
public import proofs.«01_k».proof.Proof.Sum
public import proofs.«01_k».proof.Proof.Gen.DwInIdeal.Value
public import proofs.«01_k».proof.Proof.Gen.DwInRefIdeal.Read
public import proofs.«01_k».proof.Proof.Gen.DwInRefIdeal.Run

@[expose] public section

set_option maxRecDepth 16384

noncomputable section

namespace Cert.DwInIdeal.Hand

open Cert.DwInIdeal.Gen Cert.KernelIdeal.Hand
open Idealize.ShloMosaic Idealize.ShloMosaic.TcCoe Idealize.ShloMosaic.Tactic
open Idealize.SL Idealize.SL.Sem

variable (m : (ℓ : Loc nD τ sig) → Buf (Elt Ideal) ℓ)

/-- The normalised input the kernel is given is the one the reference multiplies by. -/
theorem rows (c : Dev nD) : (V m c main_v14 : FVec Ideal S8192x1024 .bf16) = Cert.DwInRefIdeal.Read.val_main_v13 (F := Ideal) (m (c, main_arg0)) (m (c, main_arg1)) := by
  unfold V
  after_reads_simp
  rfl

theorem cotangent (c : Dev nD) : (V m c main_v15 : FVec Ideal S8192x3200 .bf16) = m (c, main_arg3) := by
  unfold V
  after_reads_simp
  rfl

/-- The two arrays, entry by entry. -/
def Zz (c : Dev nD) : ℕ → ℕ → EReal := at2 (α := EReal) (m := 8192) (n := 1024) (V m c main_v14)
def Ct (c : Dev nD) : ℕ → ℕ → EReal := at2 (α := EReal) (m := 8192) (n := 3200) (V m c main_v15)

theorem Zz_eq (c : Dev nD) : Zz m c = at2 (α := EReal) (m := 8192) (n := 1024) (Cert.DwInRefIdeal.Read.val_main_v13 (F := Ideal) (m (c, main_arg0)) (m (c, main_arg1))) :=
  congrArg (at2 (α := EReal) (m := 8192) (n := 1024)) (rows m c)

theorem Ct_eq (c : Dev nD) : Ct m c = at2 (α := EReal) (m := 8192) (n := 3200) (m (c, main_arg3)) :=
  congrArg (at2 (α := EReal) (m := 8192) (n := 3200)) (cotangent m c)

theorem idxs : ∀ t : Fin cfg0.N, win0_0.index t = ![t.val % 4, t.val / 4] ∧ win0_1.index t = ![t.val % 4, 0] := by
  decide +kernel

theorem lt8 (t : Fin cfg0.N) : t.val < 8 := lt_of_lt_of_eq t.isLt (show cfg0.N = 8 from N_0)

theorem rdb0 (c : Dev nD) (t : Fin cfg0.N) (r d : ℕ) (hr : r < 2048) (hd : d < 512) :
    at2 (α := EReal) (m := 2048) (n := 512) (iblk m c 0 t) r d = Zz m c (2048 * (t.val % 4) + r) (512 * (t.val / 4) + d) := by
  have ht := lt8 t
  have e := (idxs t).1
  unfold Zz at2
  blk_ext [iblk, e]
  all_goals simp only [Fin.val_ofNat]
  all_goals omega

theorem rdb1 (c : Dev nD) (t : Fin cfg0.N) (r d : ℕ) (hr : r < 2048) :
    at2 (α := EReal) (m := 2048) (n := 3200) (iblk m c 1 t) r d = Ct m c (2048 * (t.val % 4) + r) d := by
  have ht := lt8 t
  have e := (idxs t).2
  unfold Ct at2
  blk_ext [iblk, e]
  all_goals simp only [Fin.val_ofNat]
  all_goals omega

/-- What one row tile adds. -/
def part (c : Dev nD) (n : ℕ) (i : S512x3200.Idx) : EReal :=
  ∑ k : Fin 2048, Zz m c (2048 * (n % 4) + k.val) (512 * (n / 4) + (i 0).val) * Ct m c (2048 * (n % 4) + k.val) (i 1).val

theorem pay2_apply (a : FVec Ideal S512x3200 .f32) (x : FVec Ideal S2048x512 .bf16) (y : FVec Ideal S2048x3200 .bf16) (i : S512x3200.Idx) :
    k0_pay2 (F := Ideal) a x y i = a i + ∑ k : Fin 2048, at2 (α := EReal) (m := 2048) (n := 512) x k.val (i 0).val * at2 (α := EReal) (m := 2048) (n := 3200) y k.val (i 1).val := by
  unfold k0_pay2
  pointwise
  exact congrArg (a i + ·) (Finset.sum_congr rfl fun k _ => congrArg₂ (· * ·) (at2_fin (m := 2048) (n := 512) x k (i 0)).symm (at2_fin (m := 2048) (n := 3200) y k (i 1)).symm)

theorem step_apply (c : Dev nD) (n : ℕ) (h : n < cfg0.N) (a : FVec Ideal S512x3200 .f32) (i : S512x3200.Idx) :
    k0_pay2 (F := Ideal) a (iblk m c 0 ⟨n, h⟩) (iblk m c 1 ⟨n, h⟩) i = a i + part m c n i := by
  refine (pay2_apply a (iblk m c 0 ⟨n, h⟩) (iblk m c 1 ⟨n, h⟩) i).trans ?_
  exact congrArg (a i + ·) (Finset.sum_congr rfl fun k _ => congrArg₂ (· * ·) (rdb0 m c ⟨n, h⟩ k.val (i 0).val k.isLt (i 0).isLt) (rdb1 m c ⟨n, h⟩ k.val (i 1).val k.isLt))

theorem fold_apply (c : Dev nD) (b : ℕ) (h : b + 3 < cfg0.N) (i : S512x3200.Idx) :
    Pipeline.accAt (Value.reset2 m c) (Value.step2 m c) b 3 h i = ∑ s ∈ Finset.range 4, part m c (b + s) i := by
  rw [Pipeline.accAt_add_apply (Value.reset2 m c) (Value.step2 m c) (fun _ => 0) (part m c) b 3 (fun h i => ?_) (fun n h acc i _ _ => step_apply m c n h acc i) 3 le_rfl h i, zero_add]
  refine (step_apply m c b h _ i).trans ?_
  congr 1
  unfold k0_pay1
  pointwise

/-- The kernel's result at an index: the product summed over all the rows. -/
theorem result_apply (c : Dev nD) (i : S1024x3200.Idx) : (Value.G2 m c i : EReal) = ∑ k : Fin 8192, Zz m c k.val (i 0).val * Ct m c k.val (i 1).val := by
  have h0 : (i 0).val < 1024 := (i 0).isLt
  have h1 : (i 1).val < 3200 := (i 1).isLt
  have hr : Value.run2Of i = (i 0).val / 512 := by show 1 * ((i 0).val / 512 - 0) + 1 * ((i 1).val / 3200 - 0) = _; omega
  have hN : cfg0.N = 8 := N_0
  have hb : 4 * Value.run2Of i + 3 < cfg0.N := by rw [hr, hN]; omega
  refine (dif_pos hb).trans ((fold_apply m c _ hb (Value.loc2Of i)).trans ?_)
  rw [Cert.Parts.sum_four (fun k => Zz m c k (i 0).val * Ct m c k (i 1).val)]
  refine Finset.sum_congr rfl fun s hs => ?_
  have hs := Finset.mem_range.mp hs
  unfold part
  refine Finset.sum_congr rfl fun k _ => ?_
  have e1 : (4 * Value.run2Of i + s) % 4 = s := by omega
  have e2 : 512 * ((4 * Value.run2Of i + s) / 4) + (Value.loc2Of i 0).val = (i 0).val := by
    show 512 * ((4 * Value.run2Of i + s) / 4) + (i 0).val % 512 = _
    rw [hr]; omega
  have e3 : (Value.loc2Of i 1).val = (i 1).val := by show (i 1).val % 3200 = _; omega
  rw [e1, e2, e3]

/-- The kernel's result. -/
def result (c : Dev nD) : Buf (Elt Ideal) ((c.tc : Thread nD τ).loc main_v16) := Value.G2 m c

/-- The reference's result is the kernel's. -/
theorem same (c : Dev nD) : Cert.DwInRefIdeal.Read.val_main_v16 (F := Ideal) (m (c, main_arg0)) (m (c, main_arg1)) (m (c, main_arg3)) = result m c := by
  unfold result
  funext i
  rw [result_apply, Cert.DwInRefIdeal.Read.val_main_v16_apply, Cert.DwInRefIdeal.Read.val_main_v15_apply, Zz_eq, Ct_eq]
  generalize Cert.DwInRefIdeal.Read.val_main_v13 (F := Ideal) (m (c, main_arg0)) (m (c, main_arg1)) = z
  refine Finset.sum_congr rfl fun k _ => (mul_comm _ _).trans (congrArg₂ (· * ·) ?_ ?_)
  · exact Cert.Parts.at2_idx (m := 8192) (n := 1024) z _ _ _ rfl rfl
  · exact Cert.Parts.at2_idx (m := 8192) (n := 3200) (m (c, main_arg3)) _ _ _ rfl rfl

/-- The reference runs, leaves its arguments unchanged, and every semaphore ends at zero. -/
theorem reference_frame : Cert.quiescent_DwInRefIdeal := by
  intro m g _
  exact (θ_run Cert.DwInRefIdeal.defs _ _).mono (fun r h => ⟨fun c => (h c).2, sem_eq_zero_of_no_sems (by decide) r.2⟩)
    (Cert.DwInRefIdeal.Value.run (F := Ideal) m g)

/-- From equal arguments the kernel and the reference end with equal results. -/
theorem equal_results : Cert.algebraic_DwInIdeal_DwInRefIdeal := by
  intro m g m' g' _ hagree
  refine ⟨result m, Value.run (F := Ideal) m g, ?_⟩
  refine (θ_run Cert.DwInRefIdeal.defs _ _).mono (fun r h c => ?_) (Cert.DwInRefIdeal.Value.run (F := Ideal) m' g')
  obtain ⟨e0, e1, e2, e3⟩ := hagree c
  obtain ⟨r0, rest⟩ := h c
  have q0 : r.2.mem ((c.tc : Thread Cert.DwInRefIdeal.nD Cert.DwInRefIdeal.τ).loc Cert.DwInRefIdeal.main_v16) = Cert.DwInRefIdeal.Read.val_main_v16 (F := Ideal) (m' ((c.tc : Thread Cert.DwInRefIdeal.nD Cert.DwInRefIdeal.τ).loc Cert.DwInRefIdeal.main_arg0)) (m' ((c.tc : Thread Cert.DwInRefIdeal.nD Cert.DwInRefIdeal.τ).loc Cert.DwInRefIdeal.main_arg1)) (m' ((c.tc : Thread Cert.DwInRefIdeal.nD Cert.DwInRefIdeal.τ).loc Cert.DwInRefIdeal.main_arg3)) := r0.trans (Cert.DwInRefIdeal.Read.val_main_v16_eq (F := Ideal) _ _ _)
  rw [e0, e1, e3] at q0
  exact ⟨q0.trans (same m c), rest⟩

end Cert.DwInIdeal.Hand

end
-- ==== Proof.DwGate.lean ====
/- The gradient of the up projection's gate weights: the kernel writes two blocks of the buffer it is given, and the sum over
   four row tiles it leaves in each is the reference's product; the other two blocks stay as they were. -/
module

public import proofs.«01_k».proof.Defs
public import proofs.«01_k».proof.Proof.Host
public import proofs.«01_k».proof.Proof.Sum
public import proofs.«01_k».proof.Proof.Gen.DwGateIdeal.Value
public import proofs.«01_k».proof.Proof.Gen.DwGateRefIdeal.Read
public import proofs.«01_k».proof.Proof.Gen.DwGateRefIdeal.Run

@[expose] public section

set_option maxRecDepth 16384

noncomputable section

namespace Cert.DwGateIdeal.Hand

open Cert.DwGateIdeal.Gen Cert.KernelIdeal.Hand
open Idealize.ShloMosaic Idealize.ShloMosaic.TcCoe Idealize.ShloMosaic.Tactic
open Idealize.SL Idealize.SL.Sem

variable (m : (ℓ : Loc nD τ sig) → Buf (Elt Ideal) ℓ)

/-! ## The arguments the kernel is given -/

theorem rows (c : Dev nD) : (V m c main_v14 : FVec Ideal S8192x1024 .bf16) = Cert.DwGateRefIdeal.Read.val_main_v13 (F := Ideal) (m (c, main_arg0)) (m (c, main_arg1)) := by
  unfold V
  after_reads_simp
  rfl

theorem cotangent (c : Dev nD) : (V m c main_v15 : FVec Ideal S8192x2816 .bf16) = m (c, main_arg3) := by
  unfold V
  after_reads_simp
  rfl

theorem buffer (c : Dev nD) : (V m c (Pipeline.arrRef spec0 2) : FVec Ideal S4x1x1024x1408 .f32) = m (c, main_arg4) := by
  show (V m c main_v16 : FVec Ideal S4x1x1024x1408 .f32) = _
  unfold V
  after_reads_simp
  rfl

/-- The two arrays, entry by entry. -/
def Zz (c : Dev nD) : ℕ → ℕ → EReal := at2 (α := EReal) (m := 8192) (n := 1024) (V m c main_v14)
def Ct (c : Dev nD) : ℕ → ℕ → EReal := at2 (α := EReal) (m := 8192) (n := 2816) (V m c main_v15)

theorem Zz_eq (c : Dev nD) : Zz m c = at2 (α := EReal) (m := 8192) (n := 1024) (Cert.DwGateRefIdeal.Read.val_main_v13 (F := Ideal) (m (c, main_arg0)) (m (c, main_arg1))) :=
  congrArg (at2 (α := EReal) (m := 8192) (n := 1024)) (rows m c)

theorem Ct_eq (c : Dev nD) : Ct m c = at2 (α := EReal) (m := 8192) (n := 2816) (m (c, main_arg3)) :=
  congrArg (at2 (α := EReal) (m := 8192) (n := 2816)) (cotangent m c)

theorem idxs : ∀ t : Fin cfg0.N, win0_0.index t = ![t.val % 4, 0] ∧ win0_1.index t = ![t.val % 4, t.val / 4] := by
  decide +kernel

theorem idxo : ∀ t : Fin cfg0.N, win0_2.index t = ![t.val / 4, 0, 0, 0] := by
  decide +kernel

theorem flush_at : ∀ q : Fin 2, ∃ t : Fin cfg0.N, (cfg0.win 2).flush t = true ∧ win0_2.index t = ![q.val, 0, 0, 0] := by
  decide +kernel

theorem lt8 (t : Fin cfg0.N) : t.val < 8 := lt_of_lt_of_eq t.isLt (show cfg0.N = 8 from N_0)

theorem rdb0 (c : Dev nD) (t : Fin cfg0.N) (r d : ℕ) (hr : r < 2048) :
    at2 (α := EReal) (m := 2048) (n := 1024) (iblk m c 0 t) r d = Zz m c (2048 * (t.val % 4) + r) d := by
  have ht := lt8 t
  have e := (idxs t).1
  unfold Zz at2
  blk_ext [iblk, e]
  all_goals simp only [Fin.val_ofNat]
  all_goals omega

theorem rdb1 (c : Dev nD) (t : Fin cfg0.N) (r d : ℕ) (hr : r < 2048) (hd : d < 1408) :
    at2 (α := EReal) (m := 2048) (n := 1408) (iblk m c 1 t) r d = Ct m c (2048 * (t.val % 4) + r) (1408 * (t.val / 4) + d) := by
  have ht := lt8 t
  have e := (idxs t).2
  unfold Ct at2
  blk_ext [iblk, e]
  all_goals simp only [Fin.val_ofNat]
  all_goals omega

/-! ## What a run of four tiles leaves in the staging buffer -/

theorem hz2 : (![0, 0] : Fin 2 → Nat) = fun _ => 0 := funext fun a => by fin_cases a <;> rfl
theorem hz4 : (![0, 0, 0, 0] : Fin 4 → Nat) = fun _ => 0 := funext fun a => by fin_cases a <;> rfl

/-- At a run's first tile: the product over zeros. -/
theorem first_eq (c : Dev nD) (i : grid0.Coords) (arg3 : Memref sig .tc .vmem S2048x1024 .bf16) (harg3 : arg3.IsWhole) (arg4 : Memref sig .tc .vmem S2048x1408 .bf16) (harg4 : arg4.IsWhole) (arg6 : Memref sig .tc .vmem S1x1x1024x1408 .f32) (harg6 : arg6.IsWhole) (hc0 : cond0_0 i)
    (x0 : FVec Ideal S2048x1024 .bf16) (x1 : FVec Ideal S2048x1408 .bf16) :
    out0_A_2 (F := Ideal) c i arg3 harg3 arg4 harg4 arg6 harg6 hc0 x0 x1 = k0_pay2 (F := Ideal) (k0_pay1 (F := Ideal)) x0 x1 := by
  unfold out0_A_2
  rw [View.read_writes_eq_canon _ _ _ (cover0_A_2 (F := Ideal) c i arg3 harg3 arg4 harg4 arg6 harg6 hc0 x0 x1)]
  unfold kernelRun0_A
  dsimp only
  try sl_unfold_words
  rw [View.canon_cons_unit_zero (S := S1x1x1024x1408) hz4, View.readCov_unit_zero (S := S1x1x1024x1408) _ hz4]
  simp only [View.readAt_eq_ld, harg3.read_unread, harg4.read_unread, harg6.read_unread, View.ld_unit_zero (S := S1x1x1024x1408) hz4, View.ld_unit_zero (S := S2048x1024) hz2, View.ld_unit_zero (S := S2048x1408) hz2, shapeCast_self]

/-- At a later tile: the product over what the tile before left. -/
theorem next_eq (c : Dev nD) (i : grid0.Coords) (arg3 : Memref sig .tc .vmem S2048x1024 .bf16) (harg3 : arg3.IsWhole) (arg4 : Memref sig .tc .vmem S2048x1408 .bf16) (harg4 : arg4.IsWhole) (arg6 : Memref sig .tc .vmem S1x1x1024x1408 .f32) (harg6 : arg6.IsWhole) (hc0 : ¬cond0_0 i)
    (x0 : FVec Ideal S2048x1024 .bf16) (x1 : FVec Ideal S2048x1408 .bf16) (xo : FVec Ideal S1x1x1024x1408 .f32) :
    out0_B_2 (F := Ideal) c i arg3 harg3 arg4 harg4 arg6 harg6 hc0 x0 x1 xo = k0_pay2 (F := Ideal) xo x0 x1 := by
  unfold out0_B_2
  rw [View.read_writes_eq_canon _ _ _ (cover0_B_2 (F := Ideal) c i arg3 harg3 arg4 harg4 arg6 harg6 hc0 x0 x1 xo)]
  unfold kernelRun0_B
  dsimp only
  try sl_unfold_words
  rw [View.canon_unit_zero hz4]
  simp only [View.readAt_eq_ld, harg3.read_unread, harg4.read_unread, harg6.read_unread, View.ld_unit_zero (S := S1x1x1024x1408) hz4, View.ld_unit_zero (S := S2048x1024) hz2, View.ld_unit_zero (S := S2048x1408) hz2, shapeCast_self]

def start (c : Dev nD) (n : ℕ) (h : n < cfg0.N) : FVec Ideal S1x1x1024x1408 .f32 :=
  k0_pay2 (F := Ideal) (k0_pay1 (F := Ideal)) (iblk m c 0 ⟨n, h⟩) (iblk m c 1 ⟨n, h⟩)

def next (c : Dev nD) (n : ℕ) (h : n < cfg0.N) (acc : FVec Ideal S1x1x1024x1408 .f32) : FVec Ideal S1x1x1024x1408 .f32 :=
  k0_pay2 (F := Ideal) acc (iblk m c 0 ⟨n, h⟩) (iblk m c 1 ⟨n, h⟩)

theorem outs_eq (c : Dev nD) (t : Fin cfg0.N) :
    (outsAt0 m c t.val t.isLt) = Pipeline.accAt (start m c) (next m c) (4 * (t.val / 4)) (t.val % 4)
      (by have h1 := t.isLt; have h2 := Nat.div_add_mod t.val 4; omega) :=
  Pipeline.eq_accAt_of_mod (fun n h => (outsAt0 m c n h)) 4 (start m c) (next m c)
    (fun n h hn => by rw [outsAt0_A m c ⟨n, h⟩ hn]; exact first_eq ..)
    (fun n h hn => by rw [outsAt0_B m c ⟨n + 1, h⟩ hn]; exact next_eq ..)
    (by decide) t.val t.isLt _

/-- What one row tile adds. -/
def part (c : Dev nD) (n : ℕ) (i : S1x1x1024x1408.Idx) : EReal :=
  ∑ k : Fin 2048, Zz m c (2048 * (n % 4) + k.val) (i 2).val * Ct m c (2048 * (n % 4) + k.val) (1408 * (n / 4) + (i 3).val)

/-- The place in the flat block. -/
def flat (i : S1x1x1024x1408.Idx) : S1024x1408.Idx := fun a => match a with
  | ⟨0, _⟩ => ⟨(i 2).val, (i 2).isLt⟩
  | ⟨1, _⟩ => ⟨(i 3).val, (i 3).isLt⟩

theorem cast_in {α : Type} (x : S1024x1408.Idx → α) (i : S1x1x1024x1408.Idx) :
    shapeCast S1x1x1024x1408 x shapeCasts_S1024x1408_S1x1x1024x1408 i = x (flat i) :=
  shapeCast_apply x _ i (flat i) (by
    rewrite [Shape.rowMajor_val_two, Shape.rowMajor_val_four]
    have h0 : (i 0).val < 1 := (i 0).isLt
    have h1 : (i 1).val < 1 := (i 1).isLt
    show (i 2).val * 1408 + (i 3).val = (((i 0).val * 1 + (i 1).val) * 1024 + (i 2).val) * 1408 + (i 3).val
    omega)

theorem cast_out {α : Type} (x : S1x1x1024x1408.Idx → α) (i : S1x1x1024x1408.Idx) :
    shapeCast S1024x1408 x shapeCasts_S1x1x1024x1408_S1024x1408 (flat i) = x i :=
  shapeCast_apply x _ (flat i) i (by
    rewrite [Shape.rowMajor_val_two, Shape.rowMajor_val_four]
    have h0 : (i 0).val < 1 := (i 0).isLt
    have h1 : (i 1).val < 1 := (i 1).isLt
    show (((i 0).val * 1 + (i 1).val) * 1024 + (i 2).val) * 1408 + (i 3).val = (i 2).val * 1408 + (i 3).val
    omega)

theorem product_apply (a : FVec Ideal S1024x1408 .f32) (x : FVec Ideal S2048x1024 .bf16) (y : FVec Ideal S2048x1408 .bf16) (j : S1024x1408.Idx) :
    (addf (F := Ideal) a (matmul (F := Ideal) dot_S2048x1024_S2048x1408_S1024x1408_0_0_1_1_n_n none x y (constant (F := Ideal) S1024x1408 .f32 0x00000000#32)) j : EReal)
      = a j + ∑ k : Fin 2048, at2 (α := EReal) (m := 2048) (n := 1024) x k.val (j 0).val * at2 (α := EReal) (m := 2048) (n := 1408) y k.val (j 1).val := by
  pointwise
  exact congrArg (a j + ·) (Finset.sum_congr rfl fun k _ => congrArg₂ (· * ·) (at2_fin (m := 2048) (n := 1024) x k (j 0)).symm (at2_fin (m := 2048) (n := 1408) y k (j 1)).symm)

theorem pay2_apply (a : FVec Ideal S1x1x1024x1408 .f32) (x : FVec Ideal S2048x1024 .bf16) (y : FVec Ideal S2048x1408 .bf16) (i : S1x1x1024x1408.Idx) :
    (k0_pay2 (F := Ideal) a x y i : EReal) = (a i : EReal) + ∑ k : Fin 2048, at2 (α := EReal) (m := 2048) (n := 1024) x k.val (i 2).val * at2 (α := EReal) (m := 2048) (n := 1408) y k.val (i 3).val := by
  unfold k0_pay2
  simp only [shapeCast_self]
  refine (cast_in _ i).trans ((product_apply _ x y (flat i)).trans ?_)
  exact congrArg (· + _) (cast_out a i)

theorem pay1_apply (i : S1x1x1024x1408.Idx) : (k0_pay1 (F := Ideal) i : EReal) = 0 := by
  unfold k0_pay1
  refine (cast_in _ i).trans ?_
  pointwise

theorem step_apply (c : Dev nD) (n : ℕ) (h : n < cfg0.N) (a : FVec Ideal S1x1x1024x1408 .f32) (i : S1x1x1024x1408.Idx) :
    (k0_pay2 (F := Ideal) a (iblk m c 0 ⟨n, h⟩) (iblk m c 1 ⟨n, h⟩) i : EReal) = (a i : EReal) + part m c n i := by
  refine (pay2_apply a (iblk m c 0 ⟨n, h⟩) (iblk m c 1 ⟨n, h⟩) i).trans ?_
  exact congrArg ((a i : EReal) + ·) (Finset.sum_congr rfl fun k _ => congrArg₂ (· * ·) (rdb0 m c ⟨n, h⟩ k.val (i 2).val k.isLt) (rdb1 m c ⟨n, h⟩ k.val (i 3).val k.isLt (i 3).isLt))

theorem fold_apply (c : Dev nD) (b : ℕ) (h : b + 3 < cfg0.N) (i : S1x1x1024x1408.Idx) :
    (Pipeline.accAt (start m c) (next m c) b 3 h i : EReal) = ∑ s ∈ Finset.range 4, part m c (b + s) i := by
  rw [Pipeline.accAt_add_apply (start m c) (next m c) (fun _ => 0) (part m c) b 3 (fun h i => ?_) (fun n h acc i _ _ => step_apply m c n h acc i) 3 le_rfl h i, zero_add]
  refine (step_apply m c b h _ i).trans ?_
  exact congrArg (· + part m c b i) (pay1_apply i)

/-! ## The array the kernel leaves -/

/-- The buffer afterwards: the product over all the rows in the two blocks written, the argument elsewhere. -/
def result (c : Dev nD) : Buf (Elt Ideal) ((c.tc : Thread nD τ).loc main_v16) := fun (i : S4x1x1024x1408.Idx) =>
  if (i 0).val < 2 then (∑ k : Fin 8192, Zz m c k.val (i 2).val * Ct m c k.val (1408 * (i 0).val + (i 3).val) : EReal)
  else m (c, main_arg4) i

theorem fold_total (c : Dev nD) (q : ℕ) (h : 4 * q + 3 < cfg0.N) (i : S1x1x1024x1408.Idx) :
    (Pipeline.accAt (start m c) (next m c) (4 * q) 3 h i : EReal) = ∑ k : Fin 8192, Zz m c k.val (i 2).val * Ct m c k.val (1408 * q + (i 3).val) := by
  refine (fold_apply m c _ h i).trans ?_
  rw [Cert.Parts.sum_four (fun k => Zz m c k (i 2).val * Ct m c k (1408 * q + (i 3).val))]
  refine Finset.sum_congr rfl fun s hs => ?_
  have hs := Finset.mem_range.mp hs
  unfold part
  refine Finset.sum_congr rfl fun k _ => ?_
  have e1 : (4 * q + s) % 4 = s := by omega
  have e2 : (4 * q + s) / 4 = q := by omega
  rw [e1, e2]

theorem flushed_eq (c : Dev nD) (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2, outs_eq]
  have ht := lt8 t
  have hN : cfg0.N = 8 := N_0
  have hm : t.val % 4 = 3 := (flush0_2 t).mp hf
  have ei := idxo t
  have e0 : win0_2.index t (0 : Fin 4) = t.val / 4 := congrFun ei 0
  have e2 : win0_2.index t (2 : Fin 4) = 0 := congrFun ei 2
  have e3 : win0_2.index t (3 : Fin 4) = 0 := congrFun ei 3
  funext y
  have hy0 : (y 0).val < 1 := (y 0).isLt
  have hb0 : (((cfg0.win 2).blk t).view.emb y 0).val = win0_2.index t (0 : Fin 4) * 1 + 1 * (y 0).val := rfl
  have hb2 : (((cfg0.win 2).blk t).view.emb y 2).val = win0_2.index t (2 : Fin 4) * 1024 + 1 * (y 2).val := rfl
  have hb3 : (((cfg0.win 2).blk t).view.emb y 3).val = win0_2.index t (3 : Fin 4) * 1408 + 1 * (y 3).val := rfl
  show (Pipeline.accAt (start m c) (next m c) (4 * (t.val / 4)) (t.val % 4) _) ((cfg0.win 2).xinj (grid0.coords t) y) = result m c (((cfg0.win 2).blk t).view.emb y)
  have e : ∀ (b j : ℕ) (h : b + j < cfg0.N) (b' j' : ℕ) (h' : b' + j' < cfg0.N), b = b' → j = j' →
      Pipeline.accAt (start m c) (next m c) b j h = Pipeline.accAt (start m c) (next m c) b' j' h' := by
    intro b j h b' j' h' hb hj; subst hb; subst hj; rfl
  have hin : 4 * (t.val / 4) + 3 < cfg0.N := by omega
  refine (congrFun (e _ _ _ _ _ hin rfl hm) _).trans ((fold_total m c _ hin _).trans ?_)
  unfold result
  rw [if_pos (by rw [hb0, e0]; omega)]
  refine Finset.sum_congr rfl fun k _ => ?_
  have f2 : ((cfg0.win 2).xinj (grid0.coords t) y 2).val = (((cfg0.win 2).blk t).view.emb y 2).val := by
    rw [hb2, e2]; show (y 2).val = _; omega
  have f3 : 1408 * (t.val / 4) + ((cfg0.win 2).xinj (grid0.coords t) y 3).val = 1408 * (((cfg0.win 2).blk t).view.emb y 0).val + (((cfg0.win 2).blk t).view.emb y 3).val := by
    rw [hb0, hb3, e0, e3]; show 1408 * (t.val / 4) + (y 3).val = _; omega
  rw [f2, f3]

theorem mem_blk (t : Fin cfg0.N) (i : S4x1x1024x1408.Idx) :
    i ∈ ((cfg0.win 2).blk t).view.set ↔ ∀ a : Fin 4, win0_2.index t a * S1x1x1024x1408.size a ≤ (i a).val ∧ (i a).val < win0_2.index t a * S1x1x1024x1408.size a + S1x1x1024x1408.size a := by
  show i ∈ ((View.whole main_v16).slice (win0_2.rect t)).set ↔ _
  rw [View.set_slice_whole, Rect.mem_set_unit]
  exact Iff.rfl

theorem covered_iff (i : S4x1x1024x1408.Idx) :
    (∃ t : Fin cfg0.N, (cfg0.win 2).flush t = true ∧ i ∈ ((cfg0.win 2).blk t).view.set) ↔ (i 0).val < 2 := by
  have h0 : (i 0).val < 4 := (i 0).isLt
  have h1 : (i 1).val < 1 := (i 1).isLt
  have h2 : (i 2).val < 1024 := (i 2).isLt
  have h3 : (i 3).val < 1408 := (i 3).isLt
  constructor
  · rintro ⟨t, -, hi⟩
    rw [mem_blk] at hi
    have ht := lt8 t
    have e0 : win0_2.index t (0 : Fin 4) = t.val / 4 := congrFun (idxo t) 0
    have b0 : win0_2.index t (0 : Fin 4) * 1 ≤ (i 0).val ∧ (i 0).val < win0_2.index t (0 : Fin 4) * 1 + 1 := hi 0
    omega
  · intro h
    obtain ⟨t, hft, ht⟩ := flush_at ⟨(i 0).val, by omega⟩
    have q0 : win0_2.index t (0 : Fin 4) = (i 0).val := congrFun ht 0
    have q1 : win0_2.index t (1 : Fin 4) = 0 := congrFun ht 1
    have q2 : win0_2.index t (2 : Fin 4) = 0 := congrFun ht 2
    have q3 : win0_2.index t (3 : Fin 4) = 0 := congrFun ht 3
    refine ⟨t, hft, ?_⟩
    rw [mem_blk]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 1 ≤ (i 1).val ∧ (i 1).val < win0_2.index t (1 : Fin 4) * 1 + 1; omega
    | ⟨2, _⟩ => show win0_2.index t (2 : Fin 4) * 1024 ≤ (i 2).val ∧ (i 2).val < win0_2.index t (2 : Fin 4) * 1024 + 1024; omega
    | ⟨3, _⟩ => show win0_2.index t (3 : Fin 4) * 1408 ≤ (i 3).val ∧ (i 3).val < win0_2.index t (3 : Fin 4) * 1408 + 1408; omega

theorem final (c : Dev nD) : (dats m 0 c).arrAt 2 cfg0.N = result m c := by
  funext i
  by_cases h : ∃ t : Fin cfg0.N, (cfg0.win 2).flush t = true ∧ i ∈ ((cfg0.win 2).blk t).view.set
  · obtain ⟨t, hf, hi⟩ := h
    exact (dats m 0 c).arrAt_apply_of_mem 2 (result m c) (flushed_eq m c) cfg0.N t i t.isLt hf hi
  · refine (Value.entry2 m c i (fun t hf hi => h ⟨t, hf, hi⟩)).trans ((congrFun (buffer m c) i).trans ?_)
    unfold result
    exact (if_neg (fun hh => h ((covered_iff i).2 hh))).symm

/-! ## The reference -/

/-- A product's column block, by its three moves. -/
theorem ref_block (c : Dev nD) (j : Cert.DwGateRefIdeal.S2x1x1024x1408.Idx) :
    Cert.DwGateRefIdeal.Read.val_main_v18 (F := Ideal) (m (c, main_arg0)) (m (c, main_arg1)) (m (c, main_arg3)) j
      = ∑ k : Fin 8192, Zz m c k.val (j 2).val * Ct m c k.val (1408 * (j 0).val + (j 3).val) := by
  have h0 : (j 0).val < 2 := (j 0).isLt
  have h1 : (j 1).val < 1 := (j 1).isLt
  have h2 : (j 2).val < 1024 := (j 2).isLt
  have h3 : (j 3).val < 1408 := (j 3).isLt
  rw [Cert.DwGateRefIdeal.Read.val_main_v18_apply, Cert.DwGateRefIdeal.Read.val_main_v17_apply, Cert.DwGateRefIdeal.Read.val_main_v16_apply, Cert.DwGateRefIdeal.Read.val_main_v15_apply, Zz_eq, Ct_eq]
  generalize Cert.DwGateRefIdeal.Read.val_main_v13 (F := Ideal) (m (c, main_arg0)) (m (c, main_arg1)) = z
  refine Finset.sum_congr rfl fun k _ => (mul_comm _ _).trans (congrArg₂ (· * ·) ?_ ?_)
  · refine Cert.Parts.at2_idx (m := 8192) (n := 1024) z _ _ _ rfl ?_
    show (((((j 2).val * 2 + (j 0).val) * 1 + (j 1).val) * 1408 + (j 3).val) / 2816) = (j 2).val
    omega
  · refine Cert.Parts.at2_idx (m := 8192) (n := 2816) (m (c, main_arg3)) _ _ _ rfl ?_
    show (((((j 2).val * 2 + (j 0).val) * 1 + (j 1).val) * 1408 + (j 3).val) % 2816) = 1408 * (j 0).val + (j 3).val
    omega

/-- The reference's result is the kernel's. -/
theorem same (c : Dev nD) : Cert.DwGateRefIdeal.Read.val_main_v20 (F := Ideal) (m (c, main_arg0)) (m (c, main_arg1)) (m (c, main_arg3)) (m (c, main_arg4)) = result m c := by
  funext i
  have h0 : (i 0).val < 4 := (i 0).isLt
  have h1 : (i 1).val < 1 := (i 1).isLt
  unfold Cert.DwGateRefIdeal.Read.val_main_v20
  pointwise
  unfold result
  by_cases h : (i 0).val < 2
  · refine (dif_pos h).trans (Eq.trans ?_ (if_pos h).symm)
    exact ref_block m c _
  · refine (dif_neg h).trans (Eq.trans ?_ (if_neg h).symm)
    refine (Cert.DwGateRefIdeal.Read.val_main_v19_apply _ _).trans (congrArg (m (c, main_arg4)) (funext fun a => Fin.ext ?_))
    match a with
    | ⟨0, _⟩ => show 2 + ((i 0).val - 2) = (i 0).val; omega
    | ⟨1, _⟩ => show 0 = (i 1).val; omega
    | ⟨2, _⟩ => rfl
    | ⟨3, _⟩ => rfl

/-- The reference runs, leaves its arguments unchanged, and every semaphore ends at zero. -/
theorem reference_frame : Cert.quiescent_DwGateRefIdeal := by
  intro m g _
  exact (θ_run Cert.DwGateRefIdeal.defs _ _).mono (fun r h => ⟨fun c => (h c).2, sem_eq_zero_of_no_sems (by decide) r.2⟩)
    (Cert.DwGateRefIdeal.Value.run (F := Ideal) m g)

/-- From equal arguments the kernel and the reference end with equal results. -/
theorem equal_results : Cert.algebraic_DwGateIdeal_DwGateRefIdeal := by
  intro m g m' g' _ hagree
  refine ⟨result m, (θ_run defs _ _).mono (fun r h c => ⟨((h c).1).trans (final m c), (h c).2⟩) (Value.run_blocks (F := Ideal) m g), ?_⟩
  refine (θ_run Cert.DwGateRefIdeal.defs _ _).mono (fun r h c => ?_) (Cert.DwGateRefIdeal.Value.run (F := Ideal) m' g')
  obtain ⟨e0, e1, e2, e3, e4⟩ := hagree c
  obtain ⟨r0, rest⟩ := h c
  have q0 : r.2.mem ((c.tc : Thread Cert.DwGateRefIdeal.nD Cert.DwGateRefIdeal.τ).loc Cert.DwGateRefIdeal.main_v20) = Cert.DwGateRefIdeal.Read.val_main_v20 (F := Ideal) (m' ((c.tc : Thread Cert.DwGateRefIdeal.nD Cert.DwGateRefIdeal.τ).loc Cert.DwGateRefIdeal.main_arg0)) (m' ((c.tc : Thread Cert.DwGateRefIdeal.nD Cert.DwGateRefIdeal.τ).loc Cert.DwGateRefIdeal.main_arg1)) (m' ((c.tc : Thread Cert.DwGateRefIdeal.nD Cert.DwGateRefIdeal.τ).loc Cert.DwGateRefIdeal.main_arg3)) (m' ((c.tc : Thread Cert.DwGateRefIdeal.nD Cert.DwGateRefIdeal.τ).loc Cert.DwGateRefIdeal.main_arg4)) := r0.trans (Cert.DwGateRefIdeal.Read.val_main_v20_eq (F := Ideal) _ _ _ _)
  rw [e0, e1, e3, e4] at q0
  exact ⟨q0.trans (same m c), rest⟩

end Cert.DwGateIdeal.Hand

end
-- ==== Proof.DwVal.lean ====
/- The gradient of the up projection's value weights: the kernel writes two blocks of the buffer it is given, and the sum over
   four row tiles it leaves in each is the reference's product; the other two blocks stay as they were. -/
module

public import proofs.«01_k».proof.Defs
public import proofs.«01_k».proof.Proof.Host
public import proofs.«01_k».proof.Proof.Sum
public import proofs.«01_k».proof.Proof.Gen.DwValIdeal.Value
public import proofs.«01_k».proof.Proof.Gen.DwValRefIdeal.Read
public import proofs.«01_k».proof.Proof.Gen.DwValRefIdeal.Run

@[expose] public section

set_option maxRecDepth 16384

noncomputable section

namespace Cert.DwValIdeal.Hand

open Cert.DwValIdeal.Gen Cert.KernelIdeal.Hand
open Idealize.ShloMosaic Idealize.ShloMosaic.TcCoe Idealize.ShloMosaic.Tactic
open Idealize.SL Idealize.SL.Sem

variable (m : (ℓ : Loc nD τ sig) → Buf (Elt Ideal) ℓ)

/-! ## The arguments the kernel is given -/

theorem rows (c : Dev nD) : (V m c main_v14 : FVec Ideal S8192x1024 .bf16) = Cert.DwValRefIdeal.Read.val_main_v13 (F := Ideal) (m (c, main_arg0)) (m (c, main_arg1)) := by
  unfold V
  after_reads_simp
  rfl

theorem cotangent (c : Dev nD) : (V m c main_v15 : FVec Ideal S8192x2816 .bf16) = m (c, main_arg3) := by
  unfold V
  after_reads_simp
  rfl

theorem buffer (c : Dev nD) : (V m c (Pipeline.arrRef spec0 2) : FVec Ideal S4x1x1024x1408 .f32) = m (c, main_arg4) := by
  show (V m c main_v16 : FVec Ideal S4x1x1024x1408 .f32) = _
  unfold V
  after_reads_simp
  rfl

/-- The two arrays, entry by entry. -/
def Zz (c : Dev nD) : ℕ → ℕ → EReal := at2 (α := EReal) (m := 8192) (n := 1024) (V m c main_v14)
def Ct (c : Dev nD) : ℕ → ℕ → EReal := at2 (α := EReal) (m := 8192) (n := 2816) (V m c main_v15)

theorem Zz_eq (c : Dev nD) : Zz m c = at2 (α := EReal) (m := 8192) (n := 1024) (Cert.DwValRefIdeal.Read.val_main_v13 (F := Ideal) (m (c, main_arg0)) (m (c, main_arg1))) :=
  congrArg (at2 (α := EReal) (m := 8192) (n := 1024)) (rows m c)

theorem Ct_eq (c : Dev nD) : Ct m c = at2 (α := EReal) (m := 8192) (n := 2816) (m (c, main_arg3)) :=
  congrArg (at2 (α := EReal) (m := 8192) (n := 2816)) (cotangent m c)

theorem idxs : ∀ t : Fin cfg0.N, win0_0.index t = ![t.val % 4, 0] ∧ win0_1.index t = ![t.val % 4, t.val / 4] := by
  decide +kernel

theorem idxo : ∀ t : Fin cfg0.N, win0_2.index t = ![2 + t.val / 4, 0, 0, 0] := by
  decide +kernel

theorem flush_at : ∀ q : Fin 2, ∃ t : Fin cfg0.N, (cfg0.win 2).flush t = true ∧ win0_2.index t = ![2 + q.val, 0, 0, 0] := by
  decide +kernel

theorem lt8 (t : Fin cfg0.N) : t.val < 8 := lt_of_lt_of_eq t.isLt (show cfg0.N = 8 from N_0)

theorem rdb0 (c : Dev nD) (t : Fin cfg0.N) (r d : ℕ) (hr : r < 2048) :
    at2 (α := EReal) (m := 2048) (n := 1024) (iblk m c 0 t) r d = Zz m c (2048 * (t.val % 4) + r) d := by
  have ht := lt8 t
  have e := (idxs t).1
  unfold Zz at2
  blk_ext [iblk, e]
  all_goals simp only [Fin.val_ofNat]
  all_goals omega

theorem rdb1 (c : Dev nD) (t : Fin cfg0.N) (r d : ℕ) (hr : r < 2048) (hd : d < 1408) :
    at2 (α := EReal) (m := 2048) (n := 1408) (iblk m c 1 t) r d = Ct m c (2048 * (t.val % 4) + r) (1408 * (t.val / 4) + d) := by
  have ht := lt8 t
  have e := (idxs t).2
  unfold Ct at2
  blk_ext [iblk, e]
  all_goals simp only [Fin.val_ofNat]
  all_goals omega

/-! ## What a run of four tiles leaves in the staging buffer -/

theorem hz2 : (![0, 0] : Fin 2 → Nat) = fun _ => 0 := funext fun a => by fin_cases a <;> rfl
theorem hz4 : (![0, 0, 0, 0] : Fin 4 → Nat) = fun _ => 0 := funext fun a => by fin_cases a <;> rfl

/-- At a run's first tile: the product over zeros. -/
theorem first_eq (c : Dev nD) (i : grid0.Coords) (arg3 : Memref sig .tc .vmem S2048x1024 .bf16) (harg3 : arg3.IsWhole) (arg4 : Memref sig .tc .vmem S2048x1408 .bf16) (harg4 : arg4.IsWhole) (arg6 : Memref sig .tc .vmem S1x1x1024x1408 .f32) (harg6 : arg6.IsWhole) (hc0 : cond0_0 i)
    (x0 : FVec Ideal S2048x1024 .bf16) (x1 : FVec Ideal S2048x1408 .bf16) :
    out0_A_2 (F := Ideal) c i arg3 harg3 arg4 harg4 arg6 harg6 hc0 x0 x1 = k0_pay2 (F := Ideal) (k0_pay1 (F := Ideal)) x0 x1 := by
  unfold out0_A_2
  rw [View.read_writes_eq_canon _ _ _ (cover0_A_2 (F := Ideal) c i arg3 harg3 arg4 harg4 arg6 harg6 hc0 x0 x1)]
  unfold kernelRun0_A
  dsimp only
  try sl_unfold_words
  rw [View.canon_cons_unit_zero (S := S1x1x1024x1408) hz4, View.readCov_unit_zero (S := S1x1x1024x1408) _ hz4]
  simp only [View.readAt_eq_ld, harg3.read_unread, harg4.read_unread, harg6.read_unread, View.ld_unit_zero (S := S1x1x1024x1408) hz4, View.ld_unit_zero (S := S2048x1024) hz2, View.ld_unit_zero (S := S2048x1408) hz2, shapeCast_self]

/-- At a later tile: the product over what the tile before left. -/
theorem next_eq (c : Dev nD) (i : grid0.Coords) (arg3 : Memref sig .tc .vmem S2048x1024 .bf16) (harg3 : arg3.IsWhole) (arg4 : Memref sig .tc .vmem S2048x1408 .bf16) (harg4 : arg4.IsWhole) (arg6 : Memref sig .tc .vmem S1x1x1024x1408 .f32) (harg6 : arg6.IsWhole) (hc0 : ¬cond0_0 i)
    (x0 : FVec Ideal S2048x1024 .bf16) (x1 : FVec Ideal S2048x1408 .bf16) (xo : FVec Ideal S1x1x1024x1408 .f32) :
    out0_B_2 (F := Ideal) c i arg3 harg3 arg4 harg4 arg6 harg6 hc0 x0 x1 xo = k0_pay2 (F := Ideal) xo x0 x1 := by
  unfold out0_B_2
  rw [View.read_writes_eq_canon _ _ _ (cover0_B_2 (F := Ideal) c i arg3 harg3 arg4 harg4 arg6 harg6 hc0 x0 x1 xo)]
  unfold kernelRun0_B
  dsimp only
  try sl_unfold_words
  rw [View.canon_unit_zero hz4]
  simp only [View.readAt_eq_ld, harg3.read_unread, harg4.read_unread, harg6.read_unread, View.ld_unit_zero (S := S1x1x1024x1408) hz4, View.ld_unit_zero (S := S2048x1024) hz2, View.ld_unit_zero (S := S2048x1408) hz2, shapeCast_self]

def start (c : Dev nD) (n : ℕ) (h : n < cfg0.N) : FVec Ideal S1x1x1024x1408 .f32 :=
  k0_pay2 (F := Ideal) (k0_pay1 (F := Ideal)) (iblk m c 0 ⟨n, h⟩) (iblk m c 1 ⟨n, h⟩)

def next (c : Dev nD) (n : ℕ) (h : n < cfg0.N) (acc : FVec Ideal S1x1x1024x1408 .f32) : FVec Ideal S1x1x1024x1408 .f32 :=
  k0_pay2 (F := Ideal) acc (iblk m c 0 ⟨n, h⟩) (iblk m c 1 ⟨n, h⟩)

theorem outs_eq (c : Dev nD) (t : Fin cfg0.N) :
    (outsAt0 m c t.val t.isLt) = Pipeline.accAt (start m c) (next m c) (4 * (t.val / 4)) (t.val % 4)
      (by have h1 := t.isLt; have h2 := Nat.div_add_mod t.val 4; omega) :=
  Pipeline.eq_accAt_of_mod (fun n h => (outsAt0 m c n h)) 4 (start m c) (next m c)
    (fun n h hn => by rw [outsAt0_A m c ⟨n, h⟩ hn]; exact first_eq ..)
    (fun n h hn => by rw [outsAt0_B m c ⟨n + 1, h⟩ hn]; exact next_eq ..)
    (by decide) t.val t.isLt _

/-- What one row tile adds. -/
def part (c : Dev nD) (n : ℕ) (i : S1x1x1024x1408.Idx) : EReal :=
  ∑ k : Fin 2048, Zz m c (2048 * (n % 4) + k.val) (i 2).val * Ct m c (2048 * (n % 4) + k.val) (1408 * (n / 4) + (i 3).val)

/-- The place in the flat block. -/
def flat (i : S1x1x1024x1408.Idx) : S1024x1408.Idx := fun a => match a with
  | ⟨0, _⟩ => ⟨(i 2).val, (i 2).isLt⟩
  | ⟨1, _⟩ => ⟨(i 3).val, (i 3).isLt⟩

theorem cast_in {α : Type} (x : S1024x1408.Idx → α) (i : S1x1x1024x1408.Idx) :
    shapeCast S1x1x1024x1408 x shapeCasts_S1024x1408_S1x1x1024x1408 i = x (flat i) :=
  shapeCast_apply x _ i (flat i) (by
    rewrite [Shape.rowMajor_val_two, Shape.rowMajor_val_four]
    have h0 : (i 0).val < 1 := (i 0).isLt
    have h1 : (i 1).val < 1 := (i 1).isLt
    show (i 2).val * 1408 + (i 3).val = (((i 0).val * 1 + (i 1).val) * 1024 + (i 2).val) * 1408 + (i 3).val
    omega)

theorem cast_out {α : Type} (x : S1x1x1024x1408.Idx → α) (i : S1x1x1024x1408.Idx) :
    shapeCast S1024x1408 x shapeCasts_S1x1x1024x1408_S1024x1408 (flat i) = x i :=
  shapeCast_apply x _ (flat i) i (by
    rewrite [Shape.rowMajor_val_two, Shape.rowMajor_val_four]
    have h0 : (i 0).val < 1 := (i 0).isLt
    have h1 : (i 1).val < 1 := (i 1).isLt
    show (((i 0).val * 1 + (i 1).val) * 1024 + (i 2).val) * 1408 + (i 3).val = (i 2).val * 1408 + (i 3).val
    omega)

theorem product_apply (a : FVec Ideal S1024x1408 .f32) (x : FVec Ideal S2048x1024 .bf16) (y : FVec Ideal S2048x1408 .bf16) (j : S1024x1408.Idx) :
    (addf (F := Ideal) a (matmul (F := Ideal) dot_S2048x1024_S2048x1408_S1024x1408_0_0_1_1_n_n none x y (constant (F := Ideal) S1024x1408 .f32 0x00000000#32)) j : EReal)
      = a j + ∑ k : Fin 2048, at2 (α := EReal) (m := 2048) (n := 1024) x k.val (j 0).val * at2 (α := EReal) (m := 2048) (n := 1408) y k.val (j 1).val := by
  pointwise
  exact congrArg (a j + ·) (Finset.sum_congr rfl fun k _ => congrArg₂ (· * ·) (at2_fin (m := 2048) (n := 1024) x k (j 0)).symm (at2_fin (m := 2048) (n := 1408) y k (j 1)).symm)

theorem pay2_apply (a : FVec Ideal S1x1x1024x1408 .f32) (x : FVec Ideal S2048x1024 .bf16) (y : FVec Ideal S2048x1408 .bf16) (i : S1x1x1024x1408.Idx) :
    (k0_pay2 (F := Ideal) a x y i : EReal) = (a i : EReal) + ∑ k : Fin 2048, at2 (α := EReal) (m := 2048) (n := 1024) x k.val (i 2).val * at2 (α := EReal) (m := 2048) (n := 1408) y k.val (i 3).val := by
  unfold k0_pay2
  simp only [shapeCast_self]
  refine (cast_in _ i).trans ((product_apply _ x y (flat i)).trans ?_)
  exact congrArg (· + _) (cast_out a i)

theorem pay1_apply (i : S1x1x1024x1408.Idx) : (k0_pay1 (F := Ideal) i : EReal) = 0 := by
  unfold k0_pay1
  refine (cast_in _ i).trans ?_
  pointwise

theorem step_apply (c : Dev nD) (n : ℕ) (h : n < cfg0.N) (a : FVec Ideal S1x1x1024x1408 .f32) (i : S1x1x1024x1408.Idx) :
    (k0_pay2 (F := Ideal) a (iblk m c 0 ⟨n, h⟩) (iblk m c 1 ⟨n, h⟩) i : EReal) = (a i : EReal) + part m c n i := by
  refine (pay2_apply a (iblk m c 0 ⟨n, h⟩) (iblk m c 1 ⟨n, h⟩) i).trans ?_
  exact congrArg ((a i : EReal) + ·) (Finset.sum_congr rfl fun k _ => congrArg₂ (· * ·) (rdb0 m c ⟨n, h⟩ k.val (i 2).val k.isLt) (rdb1 m c ⟨n, h⟩ k.val (i 3).val k.isLt (i 3).isLt))

theorem fold_apply (c : Dev nD) (b : ℕ) (h : b + 3 < cfg0.N) (i : S1x1x1024x1408.Idx) :
    (Pipeline.accAt (start m c) (next m c) b 3 h i : EReal) = ∑ s ∈ Finset.range 4, part m c (b + s) i := by
  rw [Pipeline.accAt_add_apply (start m c) (next m c) (fun _ => 0) (part m c) b 3 (fun h i => ?_) (fun n h acc i _ _ => step_apply m c n h acc i) 3 le_rfl h i, zero_add]
  refine (step_apply m c b h _ i).trans ?_
  exact congrArg (· + part m c b i) (pay1_apply i)

/-! ## The array the kernel leaves -/

/-- The buffer afterwards: the product over all the rows in the two blocks written, the argument elsewhere. -/
def result (c : Dev nD) : Buf (Elt Ideal) ((c.tc : Thread nD τ).loc main_v16) := fun (i : S4x1x1024x1408.Idx) =>
  if 2 ≤ (i 0).val then (∑ k : Fin 8192, Zz m c k.val (i 2).val * Ct m c k.val (1408 * ((i 0).val - 2) + (i 3).val) : EReal)
  else m (c, main_arg4) i

theorem fold_total (c : Dev nD) (q : ℕ) (h : 4 * q + 3 < cfg0.N) (i : S1x1x1024x1408.Idx) :
    (Pipeline.accAt (start m c) (next m c) (4 * q) 3 h i : EReal) = ∑ k : Fin 8192, Zz m c k.val (i 2).val * Ct m c k.val (1408 * q + (i 3).val) := by
  refine (fold_apply m c _ h i).trans ?_
  rw [Cert.Parts.sum_four (fun k => Zz m c k (i 2).val * Ct m c k (1408 * q + (i 3).val))]
  refine Finset.sum_congr rfl fun s hs => ?_
  have hs := Finset.mem_range.mp hs
  unfold part
  refine Finset.sum_congr rfl fun k _ => ?_
  have e1 : (4 * q + s) % 4 = s := by omega
  have e2 : (4 * q + s) / 4 = q := by omega
  rw [e1, e2]

theorem flushed_eq (c : Dev nD) (t : Fin cfg0.N) (hf : (cfg0.win 2).flush t = true) :
    (dats m 0 c).flushed 2 t = ((cfg0.win 2).blk t).view.read (Elt Ideal) (result m c) := by
  show (cfg0.win 2).cut (grid0.coords t) ((dats m 0 c).after 2 t) = _
  rw [after0_2, outs_eq]
  have ht := lt8 t
  have hN : cfg0.N = 8 := N_0
  have hm : t.val % 4 = 3 := (flush0_2 t).mp hf
  have ei := idxo t
  have e0 : win0_2.index t (0 : Fin 4) = 2 + t.val / 4 := congrFun ei 0
  have e2 : win0_2.index t (2 : Fin 4) = 0 := congrFun ei 2
  have e3 : win0_2.index t (3 : Fin 4) = 0 := congrFun ei 3
  funext y
  have hy0 : (y 0).val < 1 := (y 0).isLt
  have hb0 : (((cfg0.win 2).blk t).view.emb y 0).val = win0_2.index t (0 : Fin 4) * 1 + 1 * (y 0).val := rfl
  have hb2 : (((cfg0.win 2).blk t).view.emb y 2).val = win0_2.index t (2 : Fin 4) * 1024 + 1 * (y 2).val := rfl
  have hb3 : (((cfg0.win 2).blk t).view.emb y 3).val = win0_2.index t (3 : Fin 4) * 1408 + 1 * (y 3).val := rfl
  show (Pipeline.accAt (start m c) (next m c) (4 * (t.val / 4)) (t.val % 4) _) ((cfg0.win 2).xinj (grid0.coords t) y) = result m c (((cfg0.win 2).blk t).view.emb y)
  have e : ∀ (b j : ℕ) (h : b + j < cfg0.N) (b' j' : ℕ) (h' : b' + j' < cfg0.N), b = b' → j = j' →
      Pipeline.accAt (start m c) (next m c) b j h = Pipeline.accAt (start m c) (next m c) b' j' h' := by
    intro b j h b' j' h' hb hj; subst hb; subst hj; rfl
  have hin : 4 * (t.val / 4) + 3 < cfg0.N := by omega
  refine (congrFun (e _ _ _ _ _ hin rfl hm) _).trans ((fold_total m c _ hin _).trans ?_)
  unfold result
  rw [if_pos (by rw [hb0, e0]; omega)]
  refine Finset.sum_congr rfl fun k _ => ?_
  have f2 : ((cfg0.win 2).xinj (grid0.coords t) y 2).val = (((cfg0.win 2).blk t).view.emb y 2).val := by
    rw [hb2, e2]; show (y 2).val = _; omega
  have f3 : 1408 * (t.val / 4) + ((cfg0.win 2).xinj (grid0.coords t) y 3).val = 1408 * ((((cfg0.win 2).blk t).view.emb y 0).val - 2) + (((cfg0.win 2).blk t).view.emb y 3).val := by
    rw [hb0, hb3, e0, e3]; show 1408 * (t.val / 4) + (y 3).val = _; omega
  rw [f2, f3]

theorem mem_blk (t : Fin cfg0.N) (i : S4x1x1024x1408.Idx) :
    i ∈ ((cfg0.win 2).blk t).view.set ↔ ∀ a : Fin 4, win0_2.index t a * S1x1x1024x1408.size a ≤ (i a).val ∧ (i a).val < win0_2.index t a * S1x1x1024x1408.size a + S1x1x1024x1408.size a := by
  show i ∈ ((View.whole main_v16).slice (win0_2.rect t)).set ↔ _
  rw [View.set_slice_whole, Rect.mem_set_unit]
  exact Iff.rfl

theorem covered_iff (i : S4x1x1024x1408.Idx) :
    (∃ t : Fin cfg0.N, (cfg0.win 2).flush t = true ∧ i ∈ ((cfg0.win 2).blk t).view.set) ↔ 2 ≤ (i 0).val := by
  have h0 : (i 0).val < 4 := (i 0).isLt
  have h1 : (i 1).val < 1 := (i 1).isLt
  have h2 : (i 2).val < 1024 := (i 2).isLt
  have h3 : (i 3).val < 1408 := (i 3).isLt
  constructor
  · rintro ⟨t, -, hi⟩
    rw [mem_blk] at hi
    have ht := lt8 t
    have e0 : win0_2.index t (0 : Fin 4) = 2 + t.val / 4 := congrFun (idxo t) 0
    have b0 : win0_2.index t (0 : Fin 4) * 1 ≤ (i 0).val ∧ (i 0).val < win0_2.index t (0 : Fin 4) * 1 + 1 := hi 0
    omega
  · intro h
    obtain ⟨t, hft, ht⟩ := flush_at ⟨((i 0).val - 2), by omega⟩
    have q0 : win0_2.index t (0 : Fin 4) = 2 + ((i 0).val - 2) := congrFun ht 0
    have q1 : win0_2.index t (1 : Fin 4) = 0 := congrFun ht 1
    have q2 : win0_2.index t (2 : Fin 4) = 0 := congrFun ht 2
    have q3 : win0_2.index t (3 : Fin 4) = 0 := congrFun ht 3
    refine ⟨t, hft, ?_⟩
    rw [mem_blk]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 1 ≤ (i 1).val ∧ (i 1).val < win0_2.index t (1 : Fin 4) * 1 + 1; omega
    | ⟨2, _⟩ => show win0_2.index t (2 : Fin 4) * 1024 ≤ (i 2).val ∧ (i 2).val < win0_2.index t (2 : Fin 4) * 1024 + 1024; omega
    | ⟨3, _⟩ => show win0_2.index t (3 : Fin 4) * 1408 ≤ (i 3).val ∧ (i 3).val < win0_2.index t (3 : Fin 4) * 1408 + 1408; omega

theorem final (c : Dev nD) : (dats m 0 c).arrAt 2 cfg0.N = result m c := by
  funext i
  by_cases h : ∃ t : Fin cfg0.N, (cfg0.win 2).flush t = true ∧ i ∈ ((cfg0.win 2).blk t).view.set
  · obtain ⟨t, hf, hi⟩ := h
    exact (dats m 0 c).arrAt_apply_of_mem 2 (result m c) (flushed_eq m c) cfg0.N t i t.isLt hf hi
  · refine (Value.entry2 m c i (fun t hf hi => h ⟨t, hf, hi⟩)).trans ((congrFun (buffer m c) i).trans ?_)
    unfold result
    exact (if_neg (fun hh => h ((covered_iff i).2 hh))).symm

/-! ## The reference -/

/-- A product's column block, by its three moves. -/
theorem ref_block (c : Dev nD) (j : Cert.DwValRefIdeal.S2x1x1024x1408.Idx) :
    Cert.DwValRefIdeal.Read.val_main_v19 (F := Ideal) (m (c, main_arg0)) (m (c, main_arg1)) (m (c, main_arg3)) j
      = ∑ k : Fin 8192, Zz m c k.val (j 2).val * Ct m c k.val (1408 * (j 0).val + (j 3).val) := by
  have h0 : (j 0).val < 2 := (j 0).isLt
  have h1 : (j 1).val < 1 := (j 1).isLt
  have h2 : (j 2).val < 1024 := (j 2).isLt
  have h3 : (j 3).val < 1408 := (j 3).isLt
  rw [Cert.DwValRefIdeal.Read.val_main_v19_apply, Cert.DwValRefIdeal.Read.val_main_v18_apply, Cert.DwValRefIdeal.Read.val_main_v16_apply, Cert.DwValRefIdeal.Read.val_main_v15_apply, Zz_eq, Ct_eq]
  generalize Cert.DwValRefIdeal.Read.val_main_v13 (F := Ideal) (m (c, main_arg0)) (m (c, main_arg1)) = z
  refine Finset.sum_congr rfl fun k _ => (mul_comm _ _).trans (congrArg₂ (· * ·) ?_ ?_)
  · refine Cert.Parts.at2_idx (m := 8192) (n := 1024) z _ _ _ rfl ?_
    show (((((j 2).val * 2 + (j 0).val) * 1 + (j 1).val) * 1408 + (j 3).val) / 2816) = (j 2).val
    omega
  · refine Cert.Parts.at2_idx (m := 8192) (n := 2816) (m (c, main_arg3)) _ _ _ rfl ?_
    show (((((j 2).val * 2 + (j 0).val) * 1 + (j 1).val) * 1408 + (j 3).val) % 2816) = 1408 * (j 0).val + (j 3).val
    omega

/-- The reference's result is the kernel's. -/
theorem same (c : Dev nD) : Cert.DwValRefIdeal.Read.val_main_v20 (F := Ideal) (m (c, main_arg0)) (m (c, main_arg1)) (m (c, main_arg3)) (m (c, main_arg4)) = result m c := by
  funext i
  have h0 : (i 0).val < 4 := (i 0).isLt
  have h1 : (i 1).val < 1 := (i 1).isLt
  unfold Cert.DwValRefIdeal.Read.val_main_v20
  pointwise
  unfold result
  by_cases h : (i 0).val < 2
  · refine (dif_pos h).trans (Eq.trans ?_ (if_neg (by omega)).symm)
    refine (Cert.DwValRefIdeal.Read.val_main_v17_apply _ _).trans (congrArg (m (c, main_arg4)) (funext fun a => Fin.ext ?_))
    match a with
    | ⟨0, _⟩ => show (i 0).val = (i 0).val; omega
    | ⟨1, _⟩ => show 0 = (i 1).val; omega
    | ⟨2, _⟩ => rfl
    | ⟨3, _⟩ => rfl
  · refine (dif_neg h).trans (Eq.trans ?_ (if_pos (by omega)).symm)
    exact ref_block m c _

/-- The reference runs, leaves its arguments unchanged, and every semaphore ends at zero. -/
theorem reference_frame : Cert.quiescent_DwValRefIdeal := by
  intro m g _
  exact (θ_run Cert.DwValRefIdeal.defs _ _).mono (fun r h => ⟨fun c => (h c).2, sem_eq_zero_of_no_sems (by decide) r.2⟩)
    (Cert.DwValRefIdeal.Value.run (F := Ideal) m g)

/-- From equal arguments the kernel and the reference end with equal results. -/
theorem equal_results : Cert.algebraic_DwValIdeal_DwValRefIdeal := by
  intro m g m' g' _ hagree
  refine ⟨result m, (θ_run defs _ _).mono (fun r h c => ⟨((h c).1).trans (final m c), (h c).2⟩) (Value.run_blocks (F := Ideal) m g), ?_⟩
  refine (θ_run Cert.DwValRefIdeal.defs _ _).mono (fun r h c => ?_) (Cert.DwValRefIdeal.Value.run (F := Ideal) m' g')
  obtain ⟨e0, e1, e2, e3, e4⟩ := hagree c
  obtain ⟨r0, rest⟩ := h c
  have q0 : r.2.mem ((c.tc : Thread Cert.DwValRefIdeal.nD Cert.DwValRefIdeal.τ).loc Cert.DwValRefIdeal.main_v20) = Cert.DwValRefIdeal.Read.val_main_v20 (F := Ideal) (m' ((c.tc : Thread Cert.DwValRefIdeal.nD Cert.DwValRefIdeal.τ).loc Cert.DwValRefIdeal.main_arg0)) (m' ((c.tc : Thread Cert.DwValRefIdeal.nD Cert.DwValRefIdeal.τ).loc Cert.DwValRefIdeal.main_arg1)) (m' ((c.tc : Thread Cert.DwValRefIdeal.nD Cert.DwValRefIdeal.τ).loc Cert.DwValRefIdeal.main_arg3)) (m' ((c.tc : Thread Cert.DwValRefIdeal.nD Cert.DwValRefIdeal.τ).loc Cert.DwValRefIdeal.main_arg4)) := r0.trans (Cert.DwValRefIdeal.Read.val_main_v20_eq (F := Ideal) _ _ _ _)
  rw [e0, e1, e3, e4] at q0
  exact ⟨q0.trans (same m c), rest⟩

end Cert.DwValIdeal.Hand

end
-- ==== Proof.ProjIn.lean ====
/- The input projection: the kernel normalises each row tile once, keeps it, and multiplies it by the weights. -/
module

public import proofs.«01_k».proof.Defs
public import proofs.«01_k».proof.Proof.Host
public import proofs.«01_k».proof.Proof.Sum
public import proofs.«01_k».proof.Proof.Gen.ProjInIdeal.Value
public import proofs.«01_k».proof.Proof.Gen.ProjInRefIdeal.Read
public import proofs.«01_k».proof.Proof.Gen.ProjInRefIdeal.Run

@[expose] public section

set_option maxRecDepth 16384

noncomputable section

namespace Cert.ProjInIdeal.Hand

open Cert.ProjInIdeal.Gen Cert.KernelIdeal.Hand
open Idealize.ShloMosaic Idealize.ShloMosaic.TcCoe Idealize.ShloMosaic.Tactic
open Idealize.SL Idealize.SL.Sem

variable (m : (ℓ : Loc nD τ sig) → Buf (Elt Ideal) ℓ)

theorem weights (c : Dev nD) : (V m c main_v0 : FVec Ideal S1024x3200 .bf16) = m (c, main_arg2) := by
  unfold V
  after_reads_simp
  rfl

theorem hz2 : (![0, 0] : Fin 2 → Nat) = fun _ => 0 := funext fun a => by fin_cases a <;> rfl

/-- What a point leaves in the staging buffer of the normalised rows. -/
theorem rows_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x3200 .bf16) (harg4 : arg4.IsWhole) (arg5 : Memref sig .tc .vmem S1024x3200 .bf16) (harg5 : arg5.IsWhole) (arg6 : Memref sig .tc .vmem S1024x1024 .bf16) (harg6 : arg6.IsWhole) (hc0 : cond0_0 i)
    (x0 : FVec Ideal S1024x1024 .f32) (x1 : FVec Ideal S1x1024 .f32) (x2 : FVec Ideal S1024x3200 .bf16) :
    out0_A_4 (F := Ideal) c i arg2 harg2 arg3 harg3 arg4 harg4 arg5 harg5 arg6 harg6 hc0 x0 x1 x2 = k0_pay1 (F := Ideal) x0 x1 := by
  unfold out0_A_4
  rw [View.read_writes_eq_canon _ _ _ (cover0_A_4 (F := Ideal) c i arg2 harg2 arg3 harg3 arg4 harg4 arg5 harg5 arg6 harg6 hc0 x0 x1 x2)]
  unfold kernelRun0_A
  dsimp only
  try sl_unfold_words
  rw [View.canon_unit_zero hz2]
  simp only [View.readAt_eq_ld, harg2.read_unread, harg3.read_unread, harg4.read_unread, harg5.read_unread, harg6.read_unread, View.ld_unit_zero (S := S1024x1024) hz2, View.ld_unit_zero (S := S1x1024) hz2, View.ld_unit_zero (S := S1024x3200) hz2, shapeCast_self]

/-- What it leaves in the staging buffer of the product. -/
theorem product_eq (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1024x3200 .bf16) (harg4 : arg4.IsWhole) (arg5 : Memref sig .tc .vmem S1024x3200 .bf16) (harg5 : arg5.IsWhole) (arg6 : Memref sig .tc .vmem S1024x1024 .bf16) (harg6 : arg6.IsWhole) (hc0 : cond0_0 i)
    (x0 : FVec Ideal S1024x1024 .f32) (x1 : FVec Ideal S1x1024 .f32) (x2 : FVec Ideal S1024x3200 .bf16) :
    out0_A_3 (F := Ideal) c i arg2 harg2 arg3 harg3 arg4 harg4 arg5 harg5 arg6 harg6 hc0 x0 x1 x2 = k0_pay2 (F := Ideal) (k0_pay1 (F := Ideal) x0 x1) x2 := by
  unfold out0_A_3
  rw [View.read_writes_eq_canon _ _ _ (cover0_A_3 (F := Ideal) c i arg2 harg2 arg3 harg3 arg4 harg4 arg5 harg5 arg6 harg6 hc0 x0 x1 x2)]
  unfold kernelRun0_A
  dsimp only
  try sl_unfold_words
  rw [View.canon_unit_zero hz2]
  simp only [View.readCov_unit_zero (S := S1024x1024) _ hz2, View.readAt_eq_ld, harg2.read_unread, harg3.read_unread, harg4.read_unread, harg5.read_unread, harg6.read_unread, View.ld_unit_zero (S := S1024x1024) hz2, View.ld_unit_zero (S := S1x1024) hz2, View.ld_unit_zero (S := S1024x3200) hz2, shapeCast_self]

/-- A row normalised and scaled, entry by entry. -/
def nrm (x : ℕ → ℕ → EReal) (g : ℕ → ℕ → EReal) (r d : ℕ) : EReal :=
  x r d * Ideal.rsqrt (Ideal.div (∑ k : Fin 1024, x r k.val * x r k.val) (Ideal.ofBits FTy.f32 1149239296#32) + Ideal.ofBits FTy.f32 897988541#32) * g 0 d

theorem pay1_apply (x : FVec Ideal S1024x1024 .f32) (g : FVec Ideal S1x1024 .f32) (i : S1024x1024.Idx) :
    (k0_pay1 (F := Ideal) x g i : EReal) = nrm (at2 (α := EReal) (m := 1024) (n := 1024) x) (at2 (α := EReal) (m := 1) (n := 1024) g) (i 0).val (i 1).val := by
  unfold k0_pay1 nrm
  pointwise
  have e : ∀ k : Fin 1024, at2 (α := EReal) (m := 1024) (n := 1024) x (i 0).val k.val = x (ix2 (i 0) k) := fun k => at2_fin (m := 1024) (n := 1024) x (i 0) k
  have e1 : at2 (α := EReal) (m := 1024) (n := 1024) x (i 0).val (i 1).val = x i := at2_eq (m := 1024) (n := 1024) x i
  have e2 : at2 (α := EReal) (m := 1) (n := 1024) g 0 (i 1).val = g (ix2 0 (i 1)) := at2_fin (m := 1) (n := 1024) g 0 (i 1)
  rw [e1, e2]
  simp only [e]

theorem pay2_apply (x : FVec Ideal S1024x1024 .bf16) (w : FVec Ideal S1024x3200 .bf16) (i : S1024x3200.Idx) :
    (k0_pay2 (F := Ideal) x w i : EReal) = ∑ k : Fin 1024, at2 (α := EReal) (m := 1024) (n := 1024) x (i 0).val k.val * at2 (α := EReal) (m := 1024) (n := 3200) w k.val (i 1).val := by
  unfold k0_pay2
  pointwise
  exact Finset.sum_congr rfl fun k _ => congrArg₂ (· * ·) (at2_fin (m := 1024) (n := 1024) x (i 0) k).symm (at2_fin (m := 1024) (n := 3200) w k (i 1)).symm

theorem ref_rows (x : FVec Ideal S8192x1024 .f32) (g : FVec Ideal S1x1024 .f32) (i : S8192x1024.Idx) :
    (Cert.ProjInRefIdeal.Read.val_main_v13 (F := Ideal) x g i : EReal) = nrm (at2 (α := EReal) (m := 8192) (n := 1024) x) (at2 (α := EReal) (m := 1) (n := 1024) g) (i 0).val (i 1).val := by
  unfold Cert.ProjInRefIdeal.Read.val_main_v13 Cert.ProjInRefIdeal.Read.val_main_v12 Cert.ProjInRefIdeal.Read.val_main_v11 Cert.ProjInRefIdeal.Read.val_main_v10 Cert.ProjInRefIdeal.Read.val_main_v9 Cert.ProjInRefIdeal.Read.val_main_v8 Cert.ProjInRefIdeal.Read.val_main_v7 Cert.ProjInRefIdeal.Read.val_main_v6 Cert.ProjInRefIdeal.Read.val_main_v5 Cert.ProjInRefIdeal.Read.val_main_v4 Cert.ProjInRefIdeal.Read.val_main_v3 Cert.ProjInRefIdeal.Read.val_main_v2 Cert.ProjInRefIdeal.Read.val_main_v1 Cert.ProjInRefIdeal.Read.val_main_v0 Cert.ProjInRefIdeal.Read.val_main_cst Cert.ProjInRefIdeal.Read.val_main_cst_0 Cert.ProjInRefIdeal.Read.val_main_cst_1 nrm
  pointwise
  have e : ∀ k : Fin 1024, at2 (α := EReal) (m := 8192) (n := 1024) x (i 0).val k.val = x (ix2 (i 0) k) := fun k => at2_fin (m := 8192) (n := 1024) x (i 0) k
  have e1 : at2 (α := EReal) (m := 8192) (n := 1024) x (i 0).val (i 1).val = x i := at2_eq (m := 8192) (n := 1024) x i
  have e2 : at2 (α := EReal) (m := 1) (n := 1024) g 0 (i 1).val = g (ix2 0 (i 1)) := at2_fin (m := 1) (n := 1024) g 0 (i 1)
  rw [e1, e2]
  simp only [e]

/-! ## The blocks read -/

/-- The kernel's three arguments, entry by entry. -/
def X (c : Dev nD) : ℕ → ℕ → EReal := at2 (α := EReal) (m := 8192) (n := 1024) (m (c, main_arg0))
def G (c : Dev nD) : ℕ → ℕ → EReal := at2 (α := EReal) (m := 1) (n := 1024) (m (c, main_arg1))
def W (c : Dev nD) : ℕ → ℕ → EReal := at2 (α := EReal) (m := 1024) (n := 3200) (m (c, main_arg2))

theorem idxs : ∀ t : Fin cfg0.N, win0_0.index t = ![t.val, 0] ∧ win0_1.index t = ![0, 0] ∧ win0_2.index t = ![0, 0] := by
  decide +kernel

theorem idxo : ∀ t : Fin cfg0.N, win0_3.index t = ![t.val, 0] ∧ win0_4.index t = ![t.val, 0] := by
  decide +kernel

theorem lt8 (t : Fin cfg0.N) : t.val < 8 := lt_of_lt_of_eq t.isLt (show cfg0.N = 8 from N_0)

theorem rdx (c : Dev nD) (t : Fin cfg0.N) (r d : ℕ) (hr : r < 1024) :
    at2 (α := EReal) (m := 1024) (n := 1024) (iblk m c 0 t) r d = X m c (1024 * t.val + r) d := by
  have ht := lt8 t
  have e := (idxs t).1
  have hV : (V m c main_arg0 : FVec Ideal S8192x1024 .f32) = m (c, main_arg0) := V_main_arg0 m c
  refine Eq.trans ?_ (congrFun (congrFun (congrArg (at2 (α := EReal) (m := 8192) (n := 1024)) hV) _) _)
  unfold at2
  blk_ext [iblk, e]
  all_goals simp only [Fin.val_ofNat]
  all_goals omega

theorem rdg (c : Dev nD) (t : Fin cfg0.N) (d : ℕ) :
    at2 (α := EReal) (m := 1) (n := 1024) (iblk m c 1 t) 0 d = G m c 0 d := by
  have e := (idxs t).2.1
  have hV : (V m c main_arg1 : FVec Ideal S1x1024 .f32) = m (c, main_arg1) := V_main_arg1 m c
  refine Eq.trans ?_ (congrFun (congrFun (congrArg (at2 (α := EReal) (m := 1) (n := 1024)) hV) _) _)
  unfold at2
  blk_ext [iblk, e]
  all_goals simp only [Fin.val_ofNat]
  all_goals omega

theorem rdw (c : Dev nD) (t : Fin cfg0.N) (r d : ℕ) :
    at2 (α := EReal) (m := 1024) (n := 3200) (iblk m c 2 t) r d = W m c r d := by
  have e := (idxs t).2.2
  refine Eq.trans ?_ (congrFun (congrFun (congrArg (at2 (α := EReal) (m := 1024) (n := 3200)) (weights m c)) _) _)
  unfold at2
  blk_ext [iblk, e]
  all_goals simp only [Fin.val_ofNat]
  all_goals omega

theorem nrm_block (c : Dev nD) (t : Fin cfg0.N) (r d : ℕ) (hr : r < 1024) :
    nrm (at2 (α := EReal) (m := 1024) (n := 1024) (iblk m c 0 t)) (at2 (α := EReal) (m := 1) (n := 1024) (iblk m c 1 t)) r d = nrm (X m c) (G m c) (1024 * t.val + r) d := by
  unfold nrm
  rw [rdg]
  simp only [rdx m c t r _ hr]

/-- A tile of the normalised rows. -/
theorem rows_tile (c : Dev nD) (t : Fin cfg0.N) (i : S1024x1024.Idx) :
    (k0_pay1 (F := Ideal) (iblk m c 0 t) (iblk m c 1 t) i : EReal) = nrm (X m c) (G m c) (1024 * t.val + (i 0).val) (i 1).val :=
  (pay1_apply (iblk m c 0 t) (iblk m c 1 t) i).trans (nrm_block m c t _ _ (i 0).isLt)

/-- A tile of the product. -/
theorem product_tile (c : Dev nD) (t : Fin cfg0.N) (i : S1024x3200.Idx) :
    (k0_pay2 (F := Ideal) (k0_pay1 (F := Ideal) (iblk m c 0 t) (iblk m c 1 t)) (iblk m c 2 t) i : EReal)
      = ∑ k : Fin 1024, nrm (X m c) (G m c) (1024 * t.val + (i 0).val) k.val * W m c k.val (i 1).val := by
  refine (pay2_apply (k0_pay1 (F := Ideal) (iblk m c 0 t) (iblk m c 1 t)) (iblk m c 2 t) i).trans ?_
  refine Finset.sum_congr rfl fun k _ => congrArg₂ (· * ·) ?_ (rdw m c t k.val (i 1).val)
  refine (at2_fin (m := 1024) (n := 1024) (k0_pay1 (F := Ideal) (iblk m c 0 t) (iblk m c 1 t)) (i 0) k).trans ?_
  exact rows_tile m c t _

/-! ## The arrays the kernel leaves -/

/-- The product. -/
def product (c : Dev nD) : Buf (Elt Ideal) ((c.tc : Thread nD τ).loc main_v1_0) := fun (i : S8192x3200.Idx) =>
  (∑ k : Fin 1024, nrm (X m c) (G m c) (i 0).val k.val * W m c k.val (i 1).val : EReal)

/-- The normalised rows. -/
def rows (c : Dev nD) : Buf (Elt Ideal) ((c.tc : Thread nD τ).loc main_v1_1) := fun (i : S8192x1024.Idx) =>
  (nrm (X m c) (G m c) (i 0).val (i 1).val : EReal)

theorem flushed_product (c : Dev nD) (t : Fin cfg0.N) : (dats m 0 c).flushed 3 t = ((cfg0.win 3).blk t).view.read (Elt Ideal) (product m c) := by
  rw [Value.flushed3_A m c t]
  have e0 : win0_3.index t (0 : Fin 2) = t.val := congrFun (idxo t).1 0
  have e1 : win0_3.index t (1 : Fin 2) = 0 := congrFun (idxo t).1 1
  funext y
  have hb0 : (((cfg0.win 3).blk t).view.emb y 0).val = win0_3.index t (0 : Fin 2) * 1024 + 1 * (y 0).val := rfl
  have hb1 : (((cfg0.win 3).blk t).view.emb y 1).val = win0_3.index t (1 : Fin 2) * 3200 + 1 * (y 1).val := rfl
  have hy0 : (y 0).val < 1024 := (y 0).isLt
  refine (congrFun (product_eq c (grid0.coords t) _ _ _ _ _ _ _ _ _ _ _ (iblk m c 0 t) (iblk m c 1 t) (iblk m c 2 t)) ((cfg0.win 3).xinj (grid0.coords t) y)).trans ?_
  refine (product_tile m c t _).trans ?_
  show _ = product m c (((cfg0.win 3).blk t).view.emb y)
  unfold product
  have f0 : 1024 * t.val + ((cfg0.win 3).xinj (grid0.coords t) y 0).val = (((cfg0.win 3).blk t).view.emb y 0).val := by
    rw [hb0, e0]; show 1024 * t.val + (y 0).val = _; omega
  have f1 : ((cfg0.win 3).xinj (grid0.coords t) y 1).val = (((cfg0.win 3).blk t).view.emb y 1).val := by
    rw [hb1, e1]; show (y 1).val = _; omega
  rw [f0, f1]

theorem final_product (c : Dev nD) : (dats m 0 c).arrAt 3 cfg0.N = product m c :=
  (dats m 0 c).arrAt_eq_of_cover 3 _ (fun t _ => flushed_product m c t) ((by decide +kernel : (cfg0.win 3).Covers).cover _ (Memref.isWhole_whole _))

theorem flushed_rows (c : Dev nD) (t : Fin cfg0.N) : (dats m 0 c).flushed 4 t = ((cfg0.win 4).blk t).view.read (Elt Ideal) (rows m c) := by
  rw [Value.flushed4_A m c t]
  have e0 : win0_4.index t (0 : Fin 2) = t.val := congrFun (idxo t).2 0
  have e1 : win0_4.index t (1 : Fin 2) = 0 := congrFun (idxo t).2 1
  funext y
  have hb0 : (((cfg0.win 4).blk t).view.emb y 0).val = win0_4.index t (0 : Fin 2) * 1024 + 1 * (y 0).val := rfl
  have hb1 : (((cfg0.win 4).blk t).view.emb y 1).val = win0_4.index t (1 : Fin 2) * 1024 + 1 * (y 1).val := rfl
  have hy0 : (y 0).val < 1024 := (y 0).isLt
  refine (congrFun (rows_eq c (grid0.coords t) _ _ _ _ _ _ _ _ _ _ _ (iblk m c 0 t) (iblk m c 1 t) (iblk m c 2 t)) ((cfg0.win 4).xinj (grid0.coords t) y)).trans ?_
  refine (rows_tile m c t _).trans ?_
  show _ = rows m c (((cfg0.win 4).blk t).view.emb y)
  unfold rows
  have f0 : 1024 * t.val + ((cfg0.win 4).xinj (grid0.coords t) y 0).val = (((cfg0.win 4).blk t).view.emb y 0).val := by
    rw [hb0, e0]; show 1024 * t.val + (y 0).val = _; omega
  have f1 : ((cfg0.win 4).xinj (grid0.coords t) y 1).val = (((cfg0.win 4).blk t).view.emb y 1).val := by
    rw [hb1, e1]; show (y 1).val = _; omega
  rw [f0, f1]

theorem final_rows (c : Dev nD) : (dats m 0 c).arrAt 4 cfg0.N = rows m c :=
  (dats m 0 c).arrAt_eq_of_cover 4 _ (fun t _ => flushed_rows m c t) ((by decide +kernel : (cfg0.win 4).Covers).cover _ (Memref.isWhole_whole _))

/-! ## The reference -/

theorem same_rows (c : Dev nD) : Cert.ProjInRefIdeal.Read.val_main_v16 (F := Ideal) (m (c, main_arg0)) (m (c, main_arg1)) = rows m c :=
  funext fun i => ref_rows (m (c, main_arg0)) (m (c, main_arg1)) i

theorem same_product (c : Dev nD) : Cert.ProjInRefIdeal.Read.val_main_v15 (F := Ideal) (m (c, main_arg0)) (m (c, main_arg1)) (m (c, main_arg2)) = product m c := by
  funext i
  refine (Cert.ProjInRefIdeal.Read.val_main_v14_apply (m (c, main_arg0)) (m (c, main_arg1)) (m (c, main_arg2)) i).trans ?_
  unfold product
  refine Finset.sum_congr rfl fun k _ => congrArg₂ (· * ·) ?_ ?_
  · exact ref_rows (m (c, main_arg0)) (m (c, main_arg1)) _
  · exact Cert.Parts.at2_idx (m := 1024) (n := 3200) (m (c, main_arg2)) _ _ _ rfl rfl

/-- The reference runs, leaves its arguments unchanged, and every semaphore ends at zero. -/
theorem reference_frame : Cert.quiescent_ProjInRefIdeal := by
  intro m g _
  exact (θ_run Cert.ProjInRefIdeal.defs _ _).mono (fun r h => ⟨fun c => (h c).2.2, sem_eq_zero_of_no_sems (by decide) r.2⟩)
    (Cert.ProjInRefIdeal.Value.run (F := Ideal) m g)

/-- From equal arguments the kernel and the reference end with equal results. -/
theorem equal_results : Cert.algebraic_ProjInIdeal_ProjInRefIdeal := by
  intro m g m' g' _ hagree
  refine ⟨product m, rows m, (θ_run defs _ _).mono (fun r h c => ⟨((h c).1).trans (final_product m c), ((h c).2.1).trans (final_rows m c), (h c).2.2⟩) (Value.run_blocks (F := Ideal) m g), ?_⟩
  refine (θ_run Cert.ProjInRefIdeal.defs _ _).mono (fun r h c => ?_) (Cert.ProjInRefIdeal.Value.run (F := Ideal) m' g')
  obtain ⟨e0, e1, e2⟩ := hagree c
  obtain ⟨r0, r1, rest⟩ := h c
  have q0 : r.2.mem ((c.tc : Thread Cert.ProjInRefIdeal.nD Cert.ProjInRefIdeal.τ).loc Cert.ProjInRefIdeal.main_v15) = Cert.ProjInRefIdeal.Read.val_main_v15 (F := Ideal) (m' ((c.tc : Thread Cert.ProjInRefIdeal.nD Cert.ProjInRefIdeal.τ).loc Cert.ProjInRefIdeal.main_arg0)) (m' ((c.tc : Thread Cert.ProjInRefIdeal.nD Cert.ProjInRefIdeal.τ).loc Cert.ProjInRefIdeal.main_arg1)) (m' ((c.tc : Thread Cert.ProjInRefIdeal.nD Cert.ProjInRefIdeal.τ).loc Cert.ProjInRefIdeal.main_arg2)) := r0.trans (Cert.ProjInRefIdeal.Read.val_main_v15_eq (F := Ideal) _ _ _)
  have q1 : r.2.mem ((c.tc : Thread Cert.ProjInRefIdeal.nD Cert.ProjInRefIdeal.τ).loc Cert.ProjInRefIdeal.main_v16) = Cert.ProjInRefIdeal.Read.val_main_v16 (F := Ideal) (m' ((c.tc : Thread Cert.ProjInRefIdeal.nD Cert.ProjInRefIdeal.τ).loc Cert.ProjInRefIdeal.main_arg0)) (m' ((c.tc : Thread Cert.ProjInRefIdeal.nD Cert.ProjInRefIdeal.τ).loc Cert.ProjInRefIdeal.main_arg1)) := r1.trans (Cert.ProjInRefIdeal.Read.val_main_v16_eq (F := Ideal) _ _)
  rw [e0, e1, e2] at q0
  rw [e0, e1] at q1
  exact ⟨q0.trans (same_product m c), q1.trans (same_rows m c), rest⟩

end Cert.ProjInIdeal.Hand

end
-- ==== Proof.Eq.lean ====
module

public import proofs.«01_k».proof.Proof.Host

@[expose] public section

set_option maxRecDepth 16384

noncomputable section

namespace Cert.KernelIdeal.Hand

open Idealize.ShloMosaic

/-- An extended real that is a real number. -/
def Fint (x : EReal) : Prop := ∃ r : ℝ, x = (r : EReal)

theorem Fint.add {x y : EReal} (hx : Fint x) (hy : Fint y) : Fint (x + y) := by
  obtain ⟨a, rfl⟩ := hx; obtain ⟨b, rfl⟩ := hy; exact ⟨a + b, (EReal.coe_add a b).symm⟩
theorem Fint.sub {x y : EReal} (hx : Fint x) (hy : Fint y) : Fint (x - y) := by
  obtain ⟨a, rfl⟩ := hx; obtain ⟨b, rfl⟩ := hy; exact ⟨a - b, (EReal.coe_sub a b).symm⟩
theorem Fint.mul {x y : EReal} (hx : Fint x) (hy : Fint y) : Fint (x * y) := by
  obtain ⟨a, rfl⟩ := hx; obtain ⟨b, rfl⟩ := hy; exact ⟨a * b, (EReal.coe_mul a b).symm⟩
theorem Fint.zero : Fint 0 := ⟨0, EReal.coe_zero.symm⟩
theorem Fint.one : Fint 1 := ⟨1, EReal.coe_one.symm⟩
theorem Fint.ite {p : Prop} [Decidable p] {x y : EReal} (hx : Fint x) (hy : Fint y) : Fint (if p then x else y) := by
  by_cases h : p
  · rw [if_pos h]; exact hx
  · rw [if_neg h]; exact hy

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem Fint.sum {ι : Type} (s : Finset ι) (f : ι → EReal) (h : ∀ i, Fint (f i)) : Fint (∑ i ∈ s, f i) := by
  choose r hr using h
  exact ⟨∑ i ∈ s, r i, by rw [coe_sum]; exact Finset.sum_congr rfl fun i _ => hr i⟩

/-! ## The constants -/

theorem half_eq : half = ((1 / 2 : ℝ) : EReal) := by
  unfold half; simp [Ideal.ofBits, Ideal.ieee, -EReal.coe_mul]; norm_num
theorem c1024_eq : Ideal.ofBits FTy.f32 1149239296#32 = ((1024 : ℝ) : EReal) := by
  simp [Ideal.ofBits, Ideal.ieee, -EReal.coe_mul]; norm_num
theorem mhalf_eq : Ideal.ofBits FTy.f32 3204448256#32 = ((-(1 / 2) : ℝ) : EReal) := by
  simp [Ideal.ofBits, Ideal.ieee, -EReal.coe_mul, -EReal.coe_neg]; norm_num
theorem eps_pos : ∃ e : ℝ, 0 < e ∧ Ideal.ofBits FTy.f32 897988541#32 = (e : EReal) := by
  refine ⟨(8796093 : ℝ) * 2 ^ (-43 : ℤ), by positivity, ?_⟩
  simp [Ideal.ofBits, Ideal.ieee, -EReal.coe_mul]

/-! ## The logistic function -/

theorem sgm_eq (x : ℝ) : sgm (x : EReal) = ((1 / (1 + Real.exp (-x)) : ℝ) : EReal) := by
  unfold sgm
  rw [half_eq, ← EReal.coe_mul, Ideal.tanh_coe, ← EReal.coe_mul, ← EReal.coe_add]
  congr 1
  rw [Real.tanh_eq_sinh_div_cosh, Real.sinh_eq, Real.cosh_eq]
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  rw [h]
  have p := Real.exp_pos (1 / 2 * x)
  have q := Real.exp_pos (-(1 / 2 * x))
  generalize Real.exp (1 / 2 * x) = a at *
  generalize Real.exp (-(1 / 2 * x)) = b at *
  field_simp
  nlinarith

/-- The logistic function as the reference writes it. -/
def sgr (g : EReal) : EReal := Ideal.div 1 (1 + Ideal.exp (-g))

theorem sgr_eq (x : ℝ) : sgr (x : EReal) = ((1 / (1 + Real.exp (-x)) : ℝ) : EReal) := by
  unfold sgr
  have h : (1 : EReal) + Ideal.exp (-(x : EReal)) = ((1 + Real.exp (-x) : ℝ) : EReal) := by
    rw [← EReal.coe_neg, Ideal.exp_coe, EReal.coe_add, EReal.coe_one]
  rw [h, Ideal.div_coe (by have := Real.exp_pos (-x); positivity), one_mul]

theorem Fint.sgr_sgm {g : EReal} (h : Fint g) : sgr g = sgm g := by
  obtain ⟨x, rfl⟩ := h; rw [sgr_eq, sgm_eq]

theorem Fint.sgm {g : EReal} (h : Fint g) : Fint (sgm g) := by
  obtain ⟨x, rfl⟩ := h; exact ⟨_, sgm_eq x⟩

/-- The gate's cotangent, distributed. -/
theorem gate_eq {z v g : EReal} (hz : Fint z) (hv : Fint v) (hg : Fint g) :
    z * v * sgr g + g * (z * v) * (sgr g * (1 - sgr g)) = z * v * dsl g := by
  rw [hg.sgr_sgm]
  unfold dsl
  obtain ⟨s, hs⟩ := hg.sgm
  rw [hs]
  obtain ⟨a, rfl⟩ := hz; obtain ⟨b, rfl⟩ := hv; obtain ⟨c, rfl⟩ := hg
  rw [show (1 : EReal) = ((1 : ℝ) : EReal) from EReal.coe_one.symm]
  simp only [← EReal.coe_mul, ← EReal.coe_add, ← EReal.coe_sub]
  congr 1; ring

theorem value_eq {z g : EReal} (hg : Fint g) : g * sgr g * z = z * (g * sgm g) := by
  rw [hg.sgr_sgm, mul_comm]

/-! ## The root mean square -/

/-- The mean square and the small constant. -/
def msv (x : ℕ → ℕ → EReal) (R : ℕ) : EReal :=
  Ideal.div (∑ d : Fin 1024, x R d.val * x R d.val) (Ideal.ofBits FTy.f32 1149239296#32) + Ideal.ofBits FTy.f32 897988541#32

theorem msv_pos (x : ℕ → ℕ → EReal) (hx : ∀ r c, Fint (x r c)) (R : ℕ) : ∃ t : ℝ, 0 < t ∧ msv x R = (t : EReal) := by
  choose y hy using hx
  obtain ⟨e, he, hE⟩ := eps_pos
  refine ⟨(∑ d : Fin 1024, y R d.val * y R d.val) * (1 / 1024) + e, ?_, ?_⟩
  · have : 0 ≤ ∑ d : Fin 1024, y R d.val * y R d.val := Finset.sum_nonneg fun d _ => mul_self_nonneg _
    positivity
  · unfold msv
    rw [hE, c1024_eq, Ideal.div_coe (by norm_num), EReal.coe_add, EReal.coe_mul, coe_sum]
    simp only [hy, EReal.coe_mul]

theorem rsv_eq (x : ℕ → ℕ → EReal) (R : ℕ) (t : ℝ) (ht : 0 < t) (h : msv x R = (t : EReal)) : rsv x R = (((Real.sqrt t)⁻¹ : ℝ) : EReal) := by
  have e : rsv x R = Ideal.rsqrt (msv x R) := rfl
  rw [e, h, Ideal.rsqrt_coe, if_neg (not_lt.2 ht.le), if_neg ht.ne']

theorem Fint.rsv (x : ℕ → ℕ → EReal) (hx : ∀ r c, Fint (x r c)) (R : ℕ) : Fint (rsv x R) := by
  obtain ⟨t, ht, h⟩ := msv_pos x hx R
  exact ⟨_, rsv_eq x R t ht h⟩

/-- The factor of a row in the reference's backward pass. -/
def cfac (a x g : ℕ → ℕ → EReal) (R : ℕ) : EReal :=
  Ideal.div ((∑ e : Fin 1024, x R e.val * (a R e.val * g 0 e.val)) * (Ideal.ofBits FTy.f32 3204448256#32 * Ideal.div (rsv x R) (msv x R)))
    (Ideal.ofBits FTy.f32 1149239296#32)

/-- The backward pass of the normalisation, both ways round. -/
theorem norm_eq (a x g : ℕ → ℕ → EReal) (ha : ∀ r c, Fint (a r c)) (hx : ∀ r c, Fint (x r c)) (hg : ∀ r c, Fint (g r c)) (R d : ℕ) :
    a R d * g 0 d * rsv x R + x R d * cfac a x g R + cfac a x g R * x R d = nb a x g R d := by
  obtain ⟨t, ht, hm⟩ := msv_pos x hx R
  have hr := rsv_eq x R t ht hm
  unfold nb cfac
  rw [hm, hr, c1024_eq, mhalf_eq]
  choose y hy using hx
  choose b hb using ha
  choose k hk using hg
  simp only [hy, hb, hk]
  have hs : Real.sqrt t * Real.sqrt t = t := Real.mul_self_sqrt ht.le
  have hp : 0 < Real.sqrt t := Real.sqrt_pos.2 ht
  rw [Ideal.div_coe ht.ne', Ideal.div_coe (by norm_num : (1024 : ℝ) ≠ 0), Ideal.div_coe (by norm_num : (1024 : ℝ) ≠ 0)]
  simp only [← EReal.coe_mul, ← coe_sum, ← EReal.coe_add, ← EReal.coe_sub]
  congr 1
  have e : ∑ i : Fin 1024, b R i.val * k 0 i.val * (y R i.val * (Real.sqrt t)⁻¹) = (∑ i : Fin 1024, y R i.val * (b R i.val * k 0 i.val)) * (Real.sqrt t)⁻¹ := by
    rw [Finset.sum_mul]; exact Finset.sum_congr rfl fun i _ => by ring
  rw [e]
  generalize (∑ i : Fin 1024, y R i.val * (b R i.val * k 0 i.val)) = S
  have ht' : 1 / t = (Real.sqrt t)⁻¹ * (Real.sqrt t)⁻¹ := by rw [← mul_inv, hs, one_div]
  rw [ht']
  ring

end Cert.KernelIdeal.Hand

end
-- ==== Proof.FfnSem.lean ====
/- The forward pass of the feed-forward block: what one grid point computes, entry by entry. -/
module

public import proofs.«01_k».proof.Proof.Host
public import proofs.«01_k».proof.Proof.Eq
public import proofs.«01_k».proof.Proof.Gen.FfnIdeal.Skeleton

@[expose] public section

set_option maxRecDepth 16384

noncomputable section

namespace Cert.FfnIdeal.Hand

open Cert.FfnIdeal.Gen Cert.KernelIdeal.Hand
open Idealize.ShloMosaic Idealize.ShloMosaic.TcCoe Idealize.ShloMosaic.Tactic
open Idealize.SL Idealize.SL.Sem

/-- The eight rows before a tile, the tile, and the eight rows after it, as one column of rows. -/
def rows3 (p a n : ℕ → ℕ → EReal) (r c : ℕ) : EReal :=
  if r < 8 then p r c else if r - 8 < 256 then a (r - 8) c else n (r - 8 - 256) c

/-- A row normalised and scaled, entry by entry. -/
def nrmF (x g : ℕ → ℕ → EReal) (r d : ℕ) : EReal := x r d * rsv x r * g 0 d

theorem cat_eq (v0 : FVec Ideal S8x1024 .f32) (v1 : FVec Ideal S256x1024 .f32) (v2 : FVec Ideal S8x1024 .f32) (i : S272x1024.Idx) :
    (concatenate S272x1024 0 [⟨S8x1024, v0⟩, ⟨S256x1024, v1⟩, ⟨S8x1024, v2⟩] concatenates_S8x1024_S256x1024_S8x1024_S272x1024_d0 i : EReal)
      = rows3 (at2 (α := EReal) (m := 8) (n := 1024) v0) (at2 (α := EReal) (m := 256) (n := 1024) v1) (at2 (α := EReal) (m := 8) (n := 1024) v2) (i 0).val (i 1).val := by
  have h0 : (i 0).val < 272 := (i 0).isLt
  pointwise
  unfold rows3
  by_cases h1 : (i 0).val < 8
  · rw [if_pos h1]
    exact (dif_pos h1).trans (at2_fin (α := EReal) (m := 8) (n := 1024) v0 ⟨(i 0).val, h1⟩ (i 1)).symm
  · rw [if_neg h1]
    refine (dif_neg h1).trans ?_
    by_cases h2 : (i 0).val - 8 < 256
    · rw [if_pos h2]
      exact (dif_pos h2).trans (at2_fin (α := EReal) (m := 256) (n := 1024) v1 ⟨(i 0).val - 8, h2⟩ (i 1)).symm
    · rw [if_neg h2]
      refine (dif_neg h2).trans ?_
      exact (at2_fin (α := EReal) (m := 8) (n := 1024) v2 ⟨(i 0).val - 8 - 256, by omega⟩ (i 1)).symm

theorem pay2_apply (v0 : FVec Ideal S8x1024 .f32) (v1 : FVec Ideal S256x1024 .f32) (v2 : FVec Ideal S8x1024 .f32) (v4 : FVec Ideal S1x1024 .f32) (i : S272x1024.Idx) :
    (k0_pay2 (F := Ideal) v0 v1 v2 v4 i : EReal)
      = nrmF (rows3 (at2 (α := EReal) (m := 8) (n := 1024) v0) (at2 (α := EReal) (m := 256) (n := 1024) v1) (at2 (α := EReal) (m := 8) (n := 1024) v2)) (at2 (α := EReal) (m := 1) (n := 1024) v4) (i 0).val (i 1).val := by
  have hc := cat_eq v0 v1 v2
  unfold k0_pay2 nrmF rsv
  generalize concatenate S272x1024 0 [⟨S8x1024, v0⟩, ⟨S256x1024, v1⟩, ⟨S8x1024, v2⟩] concatenates_S8x1024_S256x1024_S8x1024_S272x1024_d0 = x at hc ⊢
  pointwise
  have e2 : at2 (α := EReal) (m := 1) (n := 1024) v4 0 (i 1).val = v4 (ix2 0 (i 1)) := at2_fin (m := 1) (n := 1024) v4 0 (i 1)
  have hk : ∀ k : Fin 1024, rows3 (at2 (α := EReal) (m := 8) (n := 1024) v0) (at2 (α := EReal) (m := 256) (n := 1024) v1) (at2 (α := EReal) (m := 8) (n := 1024) v2) (i 0).val k.val = x (ix2 (i 0) k) := fun k => (hc (ix2 (i 0) k)).symm
  rw [e2, ← hc i]
  simp only [hk]

/-- The product of the rows with one column block of the up projection. -/
def upB (h w : ℕ → ℕ → EReal) (r n : ℕ) : EReal := ∑ k : Fin 1024, h r k.val * w k.val n

theorem pay12_apply (h : FVec Ideal S272x1024 .bf16) (w : FVec Ideal S1x1024x1408 .bf16) (i : S272x1408.Idx) :
    (k0_pay12 (F := Ideal) h w i : EReal) = upB (at2 (α := EReal) (m := 272) (n := 1024) h) (at3 (α := EReal) (l := 1) (m := 1024) (n := 1408) w 0) (i 0).val (i 1).val := by
  unfold k0_pay12 upB
  pointwise
  exact Finset.sum_congr rfl fun k _ => congrArg₂ (· * ·) (at2_fin (m := 272) (n := 1024) h (i 0) k).symm (at3_eq (α := EReal) (l := 1) (m := 1024) (n := 1408) w (ix3 0 k (i 1))).symm

/-- The rows of a product with the eight before the tile zero at the first point and the eight after it zero at the last. -/
def hal (w : BitVec 32) (f : ℕ → ℕ → EReal) (k n : ℕ) : EReal :=
  if k < 8 then Scalar.select (Scalar.cmpi .eq w 0#32) 0 (f k n)
  else if k - 8 < 256 then f (8 + (k - 8)) n
  else Scalar.select (Scalar.cmpi .eq w 31#32) 0 (f (264 + (k - 8 - 256)) n)

theorem pay25_apply (a : BitVec 32) (h : FVec Ideal S272x1024 .bf16) (w : FVec Ideal S1x1024x1408 .bf16) (i : S272x1408.Idx) :
    (k0_pay25 (F := Ideal) a h w i : EReal) = hal a (upB (at2 (α := EReal) (m := 272) (n := 1024) h) (at3 (α := EReal) (l := 1) (m := 1024) (n := 1408) w 0)) (i 0).val (i 1).val := by
  have h0 : (i 0).val < 272 := (i 0).isLt
  have hp : ∀ j : S272x1408.Idx, (k0_pay22 (F := Ideal) h w j : EReal) = _ := pay12_apply h w
  unfold k0_pay25 k0_pay23 hal
  generalize k0_pay22 (F := Ideal) h w = u at hp ⊢
  pointwise
  simp only [hp, ix2v0, ix2v1]
  rfl

/-- The short convolution over a tile's rows of one column block: the row before, the row, the row after. -/
def cvV (a : BitVec 32) (h : FVec Ideal S272x1024 .bf16) (w : FVec Ideal S1x1024x1408 .bf16) (c0 c1 c2 : FVec Ideal S1x1408 .f32) : FVec Ideal S256x1408 .f32 :=
  k0_pay28 (F := Ideal) (k0_pay26 a h w) (k0_pay27 a h w c0 c1) c2

theorem cvV_apply (a : BitVec 32) (h : FVec Ideal S272x1024 .bf16) (w : FVec Ideal S1x1024x1408 .bf16) (c0 c1 c2 : FVec Ideal S1x1408 .f32) (i : S256x1408.Idx) :
    (cvV a h w c0 c1 c2 i : EReal)
      = at2 (α := EReal) (m := 1) (n := 1408) c0 0 (i 1).val * hal a (upB (at2 (α := EReal) (m := 272) (n := 1024) h) (at3 (α := EReal) (l := 1) (m := 1024) (n := 1408) w 0)) (7 + (i 0).val) (i 1).val
        + at2 (α := EReal) (m := 1) (n := 1408) c1 0 (i 1).val * upB (at2 (α := EReal) (m := 272) (n := 1024) h) (at3 (α := EReal) (l := 1) (m := 1024) (n := 1408) w 0) (8 + (i 0).val) (i 1).val
        + at2 (α := EReal) (m := 1) (n := 1408) c2 0 (i 1).val * hal a (upB (at2 (α := EReal) (m := 272) (n := 1024) h) (at3 (α := EReal) (l := 1) (m := 1024) (n := 1408) w 0)) (9 + (i 0).val) (i 1).val := by
  have h0 : (i 0).val < 256 := (i 0).isLt
  have hp : ∀ j : S272x1408.Idx, (k0_pay22 (F := Ideal) h w j : EReal) = _ := pay12_apply h w
  have hq : ∀ j : S272x1408.Idx, (k0_pay25 (F := Ideal) a h w j : EReal) = _ := pay25_apply a h w
  unfold cvV k0_pay28 k0_pay27 k0_pay26 k0_pay23
  generalize k0_pay22 (F := Ideal) h w = u at hp ⊢
  generalize k0_pay25 (F := Ideal) a h w = v at hq ⊢
  pointwise
  have e1 : (8 + (i 0).val + 272 - 1) % 272 = 7 + (i 0).val := by omega
  have e2 : (8 + (i 0).val + 272 - 271) % 272 = 9 + (i 0).val := by omega
  simp only [hp, hq, ix2v0, ix2v1, e1, e2]
  have k0 : at2 (α := EReal) (m := 1) (n := 1408) c0 0 (i 1).val = c0 (ix2 0 (i 1)) := at2_fin (m := 1) (n := 1408) c0 0 (i 1)
  have k1 : at2 (α := EReal) (m := 1) (n := 1408) c1 0 (i 1).val = c1 (ix2 0 (i 1)) := at2_fin (m := 1) (n := 1408) c1 0 (i 1)
  have k2 : at2 (α := EReal) (m := 1) (n := 1408) c2 0 (i 1).val = c2 (ix2 0 (i 1)) := at2_fin (m := 1) (n := 1408) c2 0 (i 1)
  rw [k0, k1, k2]
  rfl

/-- The gated product of a tile's gate and value. -/
def zV (g v : FVec Ideal S256x1408 .f32) : FVec Ideal S256x1408 .bf16 := fun j => ((g j : EReal) * sgm (g j) * (v j : EReal) : EReal)

section Same

variable (i : grid0.Coords) (v0 : FVec Ideal S8x1024 .f32) (v1 : FVec Ideal S256x1024 .f32) (v2 : FVec Ideal S8x1024 .f32) (v4 : FVec Ideal S1x1024 .f32)
  (a : BitVec 32) (h : FVec Ideal S272x1024 .bf16) (w : FVec Ideal S1x1024x1408 .bf16) (c0 c1 c2 : FVec Ideal S1x1408 .f32)

theorem pay11_eq :
    k0_pay11 (F := Ideal) (k0_pay7 i v0 v1 v2 v4 w) (k0_pay8 i v0 v1 v2 v4 w) (k0_pay9 v0 v1 v2 v4 w) c0 c1 c2
      = cvV (BitVec.ofNat 32 (i 0).val) (k0_pay3 v0 v1 v2 v4) w c0 c1 c2 := rfl

theorem pay17_eq :
    k0_pay17 (F := Ideal) (k0_pay13 a h w) (k0_pay14 a h w) (k0_pay15 h w) c0 c1 c2 = cvV a h w c0 c1 c2 := rfl

theorem pay35_eq : k0_pay35 (F := Ideal) (k0_pay33 a h w) (k0_pay34 a h w c0 c1) c2 = cvV a h w c0 c1 c2 := rfl

theorem pay19_eq (g : FVec Ideal S256x1408 .f32) : k0_pay19 (F := Ideal) g = g := rfl

theorem pay37_eq (g : FVec Ideal S256x1408 .f32) : k0_pay37 (F := Ideal) g = g := rfl

theorem pay20_eq :
    k0_pay20 (F := Ideal) (k0_pay13 a h w) (k0_pay14 a h w) (k0_pay15 h w) c0 c1 c2 = cvV a h w c0 c1 c2 := rfl

theorem pay38_eq : k0_pay38 (F := Ideal) (k0_pay33 a h w) (k0_pay34 a h w c0 c1) c2 = cvV a h w c0 c1 c2 := rfl

theorem pay18_eq (g : FVec Ideal S256x1408 .f32) :
    k0_pay18 (F := Ideal) g (k0_pay13 a h w) (k0_pay14 a h w) (k0_pay15 h w) c0 c1 c2 = zV g (cvV a h w c0 c1 c2) := by
  rw [← pay17_eq a h w c0 c1 c2]
  unfold k0_pay18
  generalize k0_pay17 (F := Ideal) (k0_pay13 a h w) (k0_pay14 a h w) (k0_pay15 h w) c0 c1 c2 = v
  funext j
  pointwise
  rfl

theorem pay36_eq (g : FVec Ideal S256x1408 .f32) :
    k0_pay36 (F := Ideal) g (k0_pay33 a h w) (k0_pay34 a h w c0 c1) c2 = zV g (cvV a h w c0 c1 c2) := by
  rw [← pay35_eq a h w c0 c1 c2]
  unfold k0_pay36
  generalize k0_pay35 (F := Ideal) (k0_pay33 a h w) (k0_pay34 a h w c0 c1) c2 = v
  funext j
  pointwise
  rfl

end Same

theorem pay21_apply (v : FVec Ideal S256x1024 .f32) (z : FVec Ideal S256x1408 .bf16) (wd : FVec Ideal S1408x1024 .bf16) (i : S256x1024.Idx) :
    (k0_pay21 (F := Ideal) v z wd i : EReal) = (v i : EReal) + ∑ k : Fin 1408, at2 (α := EReal) (m := 256) (n := 1408) z (i 0).val k.val * at2 (α := EReal) (m := 1408) (n := 1024) wd k.val (i 1).val := by
  unfold k0_pay21
  pointwise
  exact congrArg (fun s : EReal => (v i : EReal) + s) (Finset.sum_congr rfl fun k _ => congrArg₂ (· * ·) (at2_fin (m := 256) (n := 1408) z (i 0) k).symm (at2_fin (m := 1408) (n := 1024) wd k (i 1)).symm)

theorem pay5_apply (i : S256x1024.Idx) : (k0_pay5 (F := Ideal) i : EReal) = 0 := by
  unfold k0_pay5
  pointwise

theorem pay39_eq (acc : FVec Ideal S256x1024 .f32) (g : FVec Ideal S256x1408 .f32) (b c : FVec Ideal S256x1408 .f32) (d : FVec Ideal S1x1408 .f32) (wd : FVec Ideal S1408x1024 .bf16) :
    k0_pay39 (F := Ideal) acc g b c d wd = k0_pay21 (F := Ideal) acc (k0_pay36 g b c d) wd := rfl

/-- The rows with the normalised product added. -/
theorem pay1_apply (acc : FVec Ideal S256x1024 .f32) (g : FVec Ideal S256x1408 .f32) (b c : FVec Ideal S256x1408 .f32) (d : FVec Ideal S1x1408 .f32) (wd : FVec Ideal S1408x1024 .bf16)
    (x : FVec Ideal S256x1024 .f32) (g4 : FVec Ideal S1x1024 .f32) (i : S256x1024.Idx) :
    (k0_pay1 (F := Ideal) (k0_pay39 acc g b c d wd) x g4 (k0_pay40 acc g b c d wd) i : EReal)
      = (x i : EReal) + nrmF (at2 (α := EReal) (m := 256) (n := 1024) (k0_pay39 (F := Ideal) acc g b c d wd)) (at2 (α := EReal) (m := 1) (n := 1024) g4) (i 0).val (i 1).val := by
  unfold k0_pay1 k0_pay40 nrmF rsv
  generalize k0_pay39 (F := Ideal) acc g b c d wd = y
  pointwise
  have e : ∀ k : Fin 1024, at2 (α := EReal) (m := 256) (n := 1024) y (i 0).val k.val = y (ix2 (i 0) k) := fun k => at2_fin (m := 256) (n := 1024) y (i 0) k
  have e1 : at2 (α := EReal) (m := 256) (n := 1024) y (i 0).val (i 1).val = y i := at2_eq (m := 256) (n := 1024) y i
  have e2 : at2 (α := EReal) (m := 1) (n := 1024) g4 0 (i 1).val = g4 (ix2 0 (i 1)) := at2_fin (m := 1) (n := 1024) g4 0 (i 1)
  rw [e1, e2]
  simp only [e]

theorem pay4_apply (v0 : FVec Ideal S8x1024 .f32) (v1 : FVec Ideal S256x1024 .f32) (v2 : FVec Ideal S8x1024 .f32) (v4 : FVec Ideal S1x1024 .f32) (i : S256x1024.Idx) :
    (k0_pay4 (F := Ideal) v0 v1 v2 v4 i : EReal)
      = nrmF (rows3 (at2 (α := EReal) (m := 8) (n := 1024) v0) (at2 (α := EReal) (m := 256) (n := 1024) v1) (at2 (α := EReal) (m := 8) (n := 1024) v2)) (at2 (α := EReal) (m := 1) (n := 1024) v4) (8 + (i 0).val) (i 1).val := by
  have hp := pay2_apply v0 v1 v2 v4
  unfold k0_pay4
  generalize k0_pay2 (F := Ideal) v0 v1 v2 v4 = u at hp ⊢
  pointwise
  exact hp _

theorem pay24_apply (h : FVec Ideal S272x1024 .bf16) (w : FVec Ideal S1x1024x1408 .bf16) (i : S256x1408.Idx) :
    (k0_pay24 (F := Ideal) h w i : EReal) = upB (at2 (α := EReal) (m := 272) (n := 1024) h) (at3 (α := EReal) (l := 1) (m := 1024) (n := 1408) w 0) (8 + (i 0).val) (i 1).val := by
  have hp : ∀ j : S272x1408.Idx, (k0_pay22 (F := Ideal) h w j : EReal) = _ := pay12_apply h w
  unfold k0_pay24 k0_pay23
  generalize k0_pay22 (F := Ideal) h w = u at hp ⊢
  pointwise
  exact hp _

theorem pay31_eq (h : FVec Ideal S272x1024 .bf16) (w : FVec Ideal S1x1024x1408 .bf16) : k0_pay31 (F := Ideal) h w = k0_pay24 (F := Ideal) h w := rfl

theorem pay16_eq (h : FVec Ideal S272x1024 .bf16) (w : FVec Ideal S1x1024x1408 .bf16) : k0_pay16 (F := Ideal) h w = k0_pay24 (F := Ideal) h w := rfl

theorem pay10_eq (v0 : FVec Ideal S8x1024 .f32) (v1 : FVec Ideal S256x1024 .f32) (v2 : FVec Ideal S8x1024 .f32) (v4 : FVec Ideal S1x1024 .f32) (w : FVec Ideal S1x1024x1408 .bf16) :
    k0_pay10 (F := Ideal) v0 v1 v2 v4 w = k0_pay24 (F := Ideal) (k0_pay3 v0 v1 v2 v4) w := rfl

/-- The gated function by the hyperbolic tangent and by the exponential agree everywhere. -/
theorem sgm_sgr (g : EReal) : sgm g = sgr g := by
  induction g using EReal.rec with
  | bot =>
    unfold sgm sgr
    rw [half_eq, EReal.coe_mul_bot_of_pos (by norm_num)]
    have h1 : Ideal.tanh ⊥ = -1 := rfl
    have h2 : Ideal.exp (-(⊥ : EReal)) = ⊤ := rfl
    have h3 : (1 : EReal) + ⊤ = ⊤ := rfl
    rw [h1, h2, h3]
    have h4 : Ideal.div 1 ⊤ = 0 := by unfold Ideal.div; simp
    rw [h4]
    have h5 : (-1 : EReal) = ((-1 : ℝ) : EReal) := by simp
    rw [h5, ← EReal.coe_mul, ← EReal.coe_add]
    norm_num
  | coe x => rw [sgm_eq, sgr_eq]
  | top =>
    unfold sgm sgr
    rw [half_eq, EReal.coe_mul_top_of_pos (by norm_num)]
    have h1 : Ideal.tanh ⊤ = 1 := rfl
    have h2 : Ideal.exp (-(⊤ : EReal)) = 0 := rfl
    rw [h1, h2, add_zero]
    have h4 : Ideal.div 1 1 = 1 := by unfold Ideal.div; simp
    rw [h4, mul_one, ← EReal.coe_add]
    norm_num

end Cert.FfnIdeal.Hand

end
-- ==== Proof.FfnTile.lean ====
/- The forward pass of the feed-forward block: a tile's gate, value, gated product, product and result as functions of what the tile reads. -/
module

public import proofs.«01_k».proof.Proof.FfnSem

@[expose] public section

set_option maxRecDepth 16384

noncomputable section

namespace Cert.FfnIdeal.Hand

open Cert.FfnIdeal.Gen Cert.KernelIdeal.Hand
open Idealize.ShloMosaic Idealize.ShloMosaic.TcCoe Idealize.ShloMosaic.Tactic
open Idealize.SL Idealize.SL.Sem

/-- Four column blocks side by side. -/
def wcol (w : ℕ → ℕ → ℕ → EReal) (k n : ℕ) : EReal := w (n / 1408) k (n % 1408)

/-- The convolution of a tile's rows with the rows around it. -/
def cT (a : BitVec 32) (h w cw : ℕ → ℕ → EReal) (r n : ℕ) : EReal :=
  cw 0 n * hal a (upB h w) (7 + r) n + cw 1 n * upB h w (8 + r) n + cw 2 n * hal a (upB h w) (9 + r) n

/-- The gated product of a tile. -/
def zT (a : BitVec 32) (h w cw : ℕ → ℕ → EReal) (r n : ℕ) : EReal :=
  cT a h w cw r n * sgm (cT a h w cw r n) * cT a h w cw r (2816 + n)

/-- A tile's product with the down projection, in two halves of the hidden columns. -/
def yT (a : BitVec 32) (h w cw wd : ℕ → ℕ → EReal) (r d : ℕ) : EReal :=
  (∑ k : Fin 1408, zT a h w cw r k.val * wd k.val d) + ∑ k : Fin 1408, zT a h w cw r (1408 + k.val) * wd (1408 + k.val) d

theorem upB_congr {h h' w w' : ℕ → ℕ → EReal} {r n n' : ℕ} (hh : ∀ d, d < 1024 → h r d = h' r d) (hw : ∀ k, k < 1024 → w k n = w' k n') :
    upB h w r n = upB h' w' r n' :=
  Finset.sum_congr rfl fun k _ => congrArg₂ (· * ·) (hh _ k.isLt) (hw _ k.isLt)

theorem hal_congr (a : BitVec 32) {f f' : ℕ → ℕ → EReal} {k n n' : ℕ} (hk : k < 272) (h : ∀ r, r < 272 → f r n = f' r n') : hal a f k n = hal a f' k n' := by
  unfold hal
  by_cases h1 : k < 8
  · rw [if_pos h1, if_pos h1, h _ hk]
  · rw [if_neg h1, if_neg h1]
    by_cases h2 : k - 8 < 256
    · rw [if_pos h2, if_pos h2, h _ (by omega)]
    · rw [if_neg h2, if_neg h2, h _ (by omega)]

/-- A column block of the convolution. -/
theorem cv_piece (a : BitVec 32) (h : FVec Ideal S272x1024 .bf16) (w : FVec Ideal S1x1024x1408 .bf16) (c0 c1 c2 : FVec Ideal S1x1408 .f32) (hf wf cw : ℕ → ℕ → EReal) (o : ℕ)
    (hh : ∀ r d, r < 272 → d < 1024 → at2 (α := EReal) (m := 272) (n := 1024) h r d = hf r d)
    (hw : ∀ k n, k < 1024 → n < 1408 → at3 (α := EReal) (l := 1) (m := 1024) (n := 1408) w 0 k n = wf k (o + n))
    (h0 : ∀ n, n < 1408 → at2 (α := EReal) (m := 1) (n := 1408) c0 0 n = cw 0 (o + n))
    (h1 : ∀ n, n < 1408 → at2 (α := EReal) (m := 1) (n := 1408) c1 0 n = cw 1 (o + n))
    (h2 : ∀ n, n < 1408 → at2 (α := EReal) (m := 1) (n := 1408) c2 0 n = cw 2 (o + n)) (i : S256x1408.Idx) :
    (cvV a h w c0 c1 c2 i : EReal) = cT a hf wf cw (i 0).val (o + (i 1).val) := by
  have i0 : (i 0).val < 256 := (i 0).isLt
  have i1 : (i 1).val < 1408 := (i 1).isLt
  have hu : ∀ r, r < 272 → upB (at2 (α := EReal) (m := 272) (n := 1024) h) (at3 (α := EReal) (l := 1) (m := 1024) (n := 1408) w 0) r (i 1).val = upB hf wf r (o + (i 1).val) :=
    fun r hr => upB_congr (fun d hd => hh r d hr hd) (fun k hk => hw k _ hk i1)
  refine (cvV_apply a h w c0 c1 c2 i).trans ?_
  unfold cT
  rw [h0 _ i1, h1 _ i1, h2 _ i1, hu _ (by omega), hal_congr a (by omega) hu, hal_congr a (by omega) hu]

theorem u_piece (h : FVec Ideal S272x1024 .bf16) (w : FVec Ideal S1x1024x1408 .bf16) (hf wf : ℕ → ℕ → EReal) (o : ℕ)
    (hh : ∀ r d, r < 272 → d < 1024 → at2 (α := EReal) (m := 272) (n := 1024) h r d = hf r d)
    (hw : ∀ k n, k < 1024 → n < 1408 → at3 (α := EReal) (l := 1) (m := 1024) (n := 1408) w 0 k n = wf k (o + n)) (i : S256x1408.Idx) :
    (k0_pay24 (F := Ideal) h w i : EReal) = upB hf wf (8 + (i 0).val) (o + (i 1).val) := by
  have i0 : (i 0).val < 256 := (i 0).isLt
  exact (pay24_apply h w i).trans (upB_congr (fun d hd => hh _ d (by omega) hd) (fun k hk => hw k _ hk (i 1).isLt))

theorem z_piece (a : BitVec 32) (g v : FVec Ideal S256x1408 .f32) (hf wf cw : ℕ → ℕ → EReal) (o : ℕ) (i : S256x1408.Idx)
    (hg : (g i : EReal) = cT a hf wf cw (i 0).val (o + (i 1).val)) (hv : (v i : EReal) = cT a hf wf cw (i 0).val (2816 + o + (i 1).val)) :
    (zV g v i : EReal) = zT a hf wf cw (i 0).val (o + (i 1).val) := by
  unfold zT
  rw [← hg, ← Nat.add_assoc, ← hv]
  rfl

/-- The sum over both halves of the hidden columns. -/
theorem y_piece (a : BitVec 32) (z0 z1 : FVec Ideal S256x1408 .bf16) (w0 w1 : FVec Ideal S1408x1024 .bf16) (hf wf cw wd : ℕ → ℕ → EReal)
    (h0 : ∀ j : S256x1408.Idx, (z0 j : EReal) = zT a hf wf cw (j 0).val (0 + (j 1).val)) (h1 : ∀ j : S256x1408.Idx, (z1 j : EReal) = zT a hf wf cw (j 0).val (1408 + (j 1).val))
    (k0 : ∀ k d, k < 1408 → d < 1024 → at2 (α := EReal) (m := 1408) (n := 1024) w0 k d = wd k d) (k1 : ∀ k d, k < 1408 → d < 1024 → at2 (α := EReal) (m := 1408) (n := 1024) w1 k d = wd (1408 + k) d)
    (i : S256x1024.Idx) :
    (k0_pay21 (F := Ideal) (k0_pay21 (F := Ideal) (k0_pay5 (F := Ideal)) z0 w0) z1 w1 i : EReal) = yT a hf wf cw wd (i 0).val (i 1).val := by
  have i1 : (i 1).val < 1024 := (i 1).isLt
  refine (pay21_apply _ z1 w1 i).trans ?_
  unfold yT
  refine congrArg₂ (fun s t : EReal => s + t) ((pay21_apply _ z0 w0 i).trans ?_) ?_
  · refine (congrArg (fun s : EReal => s + _) (pay5_apply i)).trans ((zero_add _).trans ?_)
    refine Finset.sum_congr rfl fun k _ => congrArg₂ (· * ·) ?_ (k0 _ _ k.isLt i1)
    refine (at2_fin (m := 256) (n := 1408) z0 (i 0) k).trans ((h0 _).trans ?_)
    show zT a hf wf cw (i 0).val (0 + k.val) = _
    rw [Nat.zero_add]
  · refine Finset.sum_congr rfl fun k _ => congrArg₂ (· * ·) ?_ (k1 _ _ k.isLt i1)
    exact (at2_fin (m := 256) (n := 1408) z1 (i 0) k).trans (h1 _)

theorem nrmF_congr {x x' : ℕ → ℕ → EReal} {r r' : ℕ} (h : ∀ d, d < 1024 → x r d = x' r' d) (g : ℕ → ℕ → EReal) (d : ℕ) (hd : d < 1024) : nrmF x g r d = nrmF x' g r' d := by
  have hs : rsv x r = rsv x' r' := by
    unfold rsv
    rw [Finset.sum_congr rfl fun (k : Fin 1024) _ => congrArg₂ (· * ·) (h _ k.isLt) (h _ k.isLt)]
  unfold nrmF
  rw [h d hd, hs]

/-! ## What the loads read -/

/-- A load of some rows of a column block. -/
theorem rdin {m n m' n' p q a b a' b' : ℕ} [NeZero m] [NeZero n] {e : EltTy} (A : Memref sig .tc .vmem ⟨2, ![m, n]⟩ e) (hA : A.IsWhole)
    (x : Vec Ideal ⟨2, ![m, n]⟩ e) (inb : ∀ k, (![a, b] : Fin 2 → ℕ) k + (![m', n'] : Fin 2 → ℕ) k ≤ (⟨2, ![m, n]⟩ : Shape).size k)
    (inb' : ∀ k, (![a', b'] : Fin 2 → ℕ) k + (![p, q] : Fin 2 → ℕ) k ≤ (⟨2, ![m', n']⟩ : Shape).size k) (h : ∀ k, (Rect.unit (s := ⟨2, ![m, n]⟩) ![a, b] ![m', n'] inb).stride k = 1)
    (y : (⟨2, ![p, q]⟩ : Shape).Idx) :
    View.readAt (Elt Ideal) A.view ((Rect.unit (s := ⟨2, ![m, n]⟩) ![a, b] ![m', n'] inb).withinL (Rect.unit (s := ⟨2, ![m', n']⟩) ![a', b'] ![p, q] inb').toLoadRect h) (hA.unread x) y
      = at2 x (a + a' + (y 0).val) (b + b' + (y 1).val) := by
  refine (congrFun (hA.read_unread x) _).trans ((at2_eq x _).symm.trans ?_)
  congr 1 <;> simp [Rect.unit, LoadRect.idx, Rect.toLoadRect, Rect.withinL]

theorem hz2 : (![0, 0] : Fin 2 → Nat) = fun _ => 0 := funext fun a => by fin_cases a <;> rfl

theorem H_at (x1 : FVec Ideal S8x1024 .f32) (x0 : FVec Ideal S256x1024 .f32) (x2 : FVec Ideal S8x1024 .f32) (x3 : FVec Ideal S1x1024 .f32) (r d : ℕ) (hr : r < 272) (hd : d < 1024) :
    at2 (α := EReal) (m := 272) (n := 1024) (k0_pay3 (F := Ideal) x1 x0 x2 x3) r d
      = nrmF (rows3 (at2 (α := EReal) (m := 8) (n := 1024) x1) (at2 (α := EReal) (m := 256) (n := 1024) x0) (at2 (α := EReal) (m := 8) (n := 1024) x2)) (at2 (α := EReal) (m := 1) (n := 1024) x3) r d :=
  (at2_mk (m := 272) (n := 1024) _ r d hr hd).trans (pay2_apply x1 x0 x2 x3 (ix2 ⟨r, hr⟩ ⟨d, hd⟩))

/-- A column block of the up projection. -/
theorem ldw (x : FVec Ideal S4x1024x1408 .bf16) (b : ℕ) (inb : ∀ a, (![b, 0, 0] : Fin 3 → ℕ) a + (![1, 1024, 1408] : Fin 3 → ℕ) a ≤ S4x1024x1408.size a) (k n : ℕ) (hk : k < 1024) (hn : n < 1408) :
    at3 (α := EReal) (l := 1) (m := 1024) (n := 1408) (View.ld (Val := Elt Ideal) (e' := .bf16) x (Rect.unit (s := S4x1024x1408) ![b, 0, 0] ![1, 1024, 1408] inb) : FVec Ideal S1x1024x1408 .bf16) 0 k n
      = wcol (at3 (α := EReal) (l := 4) (m := 1024) (n := 1408) x) k (1408 * b + n) := by
  have e := at3_eq (α := EReal) (l := 1) (m := 1024) (n := 1408) (View.ld (Val := Elt Ideal) (e' := .bf16) x (Rect.unit (s := S4x1024x1408) ![b, 0, 0] ![1, 1024, 1408] inb) : FVec Ideal S1x1024x1408 .bf16) (ix3 0 ⟨k, hk⟩ ⟨n, hn⟩)
  refine e.trans ((at3_eq (l := 4) (m := 1024) (n := 1408) x _).symm.trans ?_)
  have q : (1408 * b + n) / 1408 = b := by omega
  have r : (1408 * b + n) % 1408 = n := by omega
  unfold wcol
  rw [q, r]
  congr 1 <;> simp [Rect.unit, LoadRect.idx, Rect.toLoadRect]

/-- A row of a column block of the convolution's weights. -/
theorem ldc (A : Memref sig .tc .vmem S3x5632 .f32) (hA : A.IsWhole) (x : FVec Ideal S3x5632 .f32) (o k : ℕ) (inb : ∀ a, (![0, o] : Fin 2 → ℕ) a + (![3, 1408] : Fin 2 → ℕ) a ≤ S3x5632.size a)
    (inb' : ∀ a, (![k, 0] : Fin 2 → ℕ) a + (![1, 1408] : Fin 2 → ℕ) a ≤ S3x1408.size a) (h : ∀ a, (Rect.unit (s := S3x5632) ![0, o] ![3, 1408] inb).stride a = 1) (n : ℕ) (hn : n < 1408) :
    at2 (α := EReal) (m := 1) (n := 1408) (View.readAt (Elt Ideal) A.view ((Rect.unit (s := S3x5632) ![0, o] ![3, 1408] inb).withinL (Rect.unit (s := S3x1408) ![k, 0] ![1, 1408] inb').toLoadRect h) (hA.unread x)) 0 n
      = at2 (α := EReal) (m := 3) (n := 5632) x k (o + n) := by
  refine (at2_fin (m := 1) (n := 1408) (View.readAt (Elt Ideal) A.view ((Rect.unit (s := S3x5632) ![0, o] ![3, 1408] inb).withinL (Rect.unit (s := S3x1408) ![k, 0] ![1, 1408] inb').toLoadRect h) (hA.unread x)) 0 ⟨n, hn⟩).trans ?_
  refine (rdin A hA x inb inb' h (ix2 0 ⟨n, hn⟩)).trans ?_
  show at2 (α := EReal) (m := 3) (n := 5632) x (0 + k + 0) (o + 0 + n) = _
  rw [Nat.zero_add, Nat.add_zero, Nat.add_zero]

/-- Half of the down projection's rows. -/
theorem ldd (x : FVec Ideal S2816x1024 .bf16) (o : ℕ) (inb : ∀ a, (![o, 0] : Fin 2 → ℕ) a + (![1408, 1024] : Fin 2 → ℕ) a ≤ S2816x1024.size a) (k d : ℕ) (hk : k < 1408) (hd : d < 1024) :
    at2 (α := EReal) (m := 1408) (n := 1024) (View.ld (Val := Elt Ideal) (e' := .bf16) x (Rect.unit (s := S2816x1024) ![o, 0] ![1408, 1024] inb) : FVec Ideal S1408x1024 .bf16) k d = at2 (α := EReal) (m := 2816) (n := 1024) x (o + k) d := by
  refine (at2_fin (m := 1408) (n := 1024) (View.ld (Val := Elt Ideal) (e' := .bf16) x (Rect.unit (s := S2816x1024) ![o, 0] ![1408, 1024] inb) : FVec Ideal S1408x1024 .bf16) ⟨k, hk⟩ ⟨d, hd⟩).trans ?_
  refine (at2_eq (m := 2816) (n := 1024) x _).symm.trans ?_
  congr 1 <;> simp [Rect.unit, LoadRect.idx, Rect.toLoadRect]

end Cert.FfnIdeal.Hand

end
-- ==== Proof.FfnOut.lean ====
/- The forward pass of the feed-forward block: what one grid point leaves in each of its output buffers. -/
module

public import proofs.«01_k».proof.Proof.FfnTile
public import proofs.«01_k».proof.Proof.Gen.FfnIdeal.Frame

@[expose] public section

set_option maxRecDepth 16384

noncomputable section

namespace Cert.FfnIdeal.Hand

open Cert.FfnIdeal.Gen Cert.KernelIdeal.Hand
open Idealize.ShloMosaic Idealize.ShloMosaic.TcCoe Idealize.ShloMosaic.Tactic
open Idealize.SL Idealize.SL.Sem

/-- A column block of the convolution, read from the buffers. -/
theorem cv_block (a : BitVec 32) (A : Memref sig .tc .vmem S3x5632 .f32) (hA : A.IsWhole)
    (x0 : FVec Ideal S256x1024 .f32) (x1 x2 : FVec Ideal S8x1024 .f32) (x3 : FVec Ideal S1x1024 .f32) (x4 : FVec Ideal S4x1024x1408 .bf16) (x5 : FVec Ideal S3x5632 .f32) (b o : ℕ) (ho : o = 1408 * b)
    (inb : ∀ a, (![b, 0, 0] : Fin 3 → ℕ) a + (![1, 1024, 1408] : Fin 3 → ℕ) a ≤ S4x1024x1408.size a) (inbo : ∀ a, (![0, o] : Fin 2 → ℕ) a + (![3, 1408] : Fin 2 → ℕ) a ≤ S3x5632.size a)
    (inb0 : ∀ a, (![0, 0] : Fin 2 → ℕ) a + (![1, 1408] : Fin 2 → ℕ) a ≤ S3x1408.size a) (inb1 : ∀ a, (![1, 0] : Fin 2 → ℕ) a + (![1, 1408] : Fin 2 → ℕ) a ≤ S3x1408.size a)
    (inb2 : ∀ a, (![2, 0] : Fin 2 → ℕ) a + (![1, 1408] : Fin 2 → ℕ) a ≤ S3x1408.size a) (h : ∀ a, (Rect.unit (s := S3x5632) ![0, o] ![3, 1408] inbo).stride a = 1) (j : S256x1408.Idx) :
    (cvV a (k0_pay3 (F := Ideal) x1 x0 x2 x3) (View.ld (Val := Elt Ideal) (e' := .bf16) x4 (Rect.unit (s := S4x1024x1408) ![b, 0, 0] ![1, 1024, 1408] inb)) (View.readAt (Elt Ideal) A.view ((Rect.unit (s := S3x5632) ![0, o] ![3, 1408] inbo).withinL (Rect.unit (s := S3x1408) ![0, 0] ![1, 1408] inb0).toLoadRect h) (hA.unread x5)) (View.readAt (Elt Ideal) A.view ((Rect.unit (s := S3x5632) ![0, o] ![3, 1408] inbo).withinL (Rect.unit (s := S3x1408) ![1, 0] ![1, 1408] inb1).toLoadRect h) (hA.unread x5)) (View.readAt (Elt Ideal) A.view ((Rect.unit (s := S3x5632) ![0, o] ![3, 1408] inbo).withinL (Rect.unit (s := S3x1408) ![2, 0] ![1, 1408] inb2).toLoadRect h) (hA.unread x5)) j : EReal)
      = cT a (nrmF (rows3 (at2 (α := EReal) (m := 8) (n := 1024) x1) (at2 (α := EReal) (m := 256) (n := 1024) x0) (at2 (α := EReal) (m := 8) (n := 1024) x2)) (at2 (α := EReal) (m := 1) (n := 1024) x3)) (wcol (at3 (α := EReal) (l := 4) (m := 1024) (n := 1408) x4)) (at2 (α := EReal) (m := 3) (n := 5632) x5) (j 0).val (o + (j 1).val) := by
  subst ho
  exact cv_piece a _ _ _ _ _ _ _ _ (1408 * b) (H_at x1 x0 x2 x3) (ldw x4 b inb) (ldc A hA x5 _ 0 inbo inb0 h) (ldc A hA x5 _ 1 inbo inb1 h) (ldc A hA x5 _ 2 inbo inb2 h) j

theorem u_block (x0 : FVec Ideal S256x1024 .f32) (x1 x2 : FVec Ideal S8x1024 .f32) (x3 : FVec Ideal S1x1024 .f32) (x4 : FVec Ideal S4x1024x1408 .bf16) (b o : ℕ) (ho : o = 1408 * b)
    (inb : ∀ a, (![b, 0, 0] : Fin 3 → ℕ) a + (![1, 1024, 1408] : Fin 3 → ℕ) a ≤ S4x1024x1408.size a) (j : S256x1408.Idx) :
    (k0_pay24 (F := Ideal) (k0_pay3 (F := Ideal) x1 x0 x2 x3) (View.ld (Val := Elt Ideal) (e' := .bf16) x4 (Rect.unit (s := S4x1024x1408) ![b, 0, 0] ![1, 1024, 1408] inb)) j : EReal) = upB (nrmF (rows3 (at2 (α := EReal) (m := 8) (n := 1024) x1) (at2 (α := EReal) (m := 256) (n := 1024) x0) (at2 (α := EReal) (m := 8) (n := 1024) x2)) (at2 (α := EReal) (m := 1) (n := 1024) x3)) (wcol (at3 (α := EReal) (l := 4) (m := 1024) (n := 1408) x4)) (8 + (j 0).val) (o + (j 1).val) := by
  subst ho
  exact u_piece _ _ _ _ (1408 * b) (H_at x1 x0 x2 x3) (ldw x4 b inb) j

variable (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S8x1024 .f32) (harg3 : arg3.IsWhole) (arg4 : Memref sig .tc .vmem S1x1024 .f32) (harg4 : arg4.IsWhole) (arg5 : Memref sig .tc .vmem S4x1024x1408 .bf16) (harg5 : arg5.IsWhole) (arg6 : Memref sig .tc .vmem S3x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x5632 .bf16) (harg9 : arg9.IsWhole) (arg10 : Memref sig .tc .vmem S256x1024 .bf16) (harg10 : arg10.IsWhole) (arg11 : Memref sig .tc .vmem S256x2816 .bf16) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .f32) (harg14 : arg14.IsWhole) (arg15 : Memref sig .tc .vmem S256x1024 .f32) (harg15 : arg15.IsWhole)
  (x0 : FVec Ideal S256x1024 .f32) (x1 : FVec Ideal S8x1024 .f32) (x2 : FVec Ideal S8x1024 .f32) (x3 : FVec Ideal S1x1024 .f32) (x4 : FVec Ideal S4x1024x1408 .bf16) (x5 : FVec Ideal S3x5632 .f32) (x6 : FVec Ideal S2816x1024 .bf16) (x7 : FVec Ideal S1x1024 .f32)

include harg1 harg2 harg3 harg4 harg5 harg6 harg7 harg8

theorem out8_at (y : S256x5632.Idx) :
    (out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y : EReal) = upB (nrmF (rows3 (at2 (α := EReal) (m := 8) (n := 1024) x1) (at2 (α := EReal) (m := 256) (n := 1024) x0) (at2 (α := EReal) (m := 8) (n := 1024) x2)) (at2 (α := EReal) (m := 1) (n := 1024) x3)) (wcol (at3 (α := EReal) (l := 4) (m := 1024) (n := 1408) x4)) (8 + (y 0).val) (y 1).val := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S8x1024) hz2, View.ld_unit_zero (S := S256x1024) hz2, View.ld_unit_zero (S := S1x1024) hz2]
  canon_tiles x h
  · rw [pay31_eq, h0, h1]
    exact u_block x0 x1 x2 x3 x4 3 4224 rfl _ x
  · rw [h0, h1]
    exact u_block x0 x1 x2 x3 x4 1 1408 rfl _ x
  · rw [pay16_eq, h0, h1]
    exact u_block x0 x1 x2 x3 x4 2 2816 rfl _ x
  · rw [pay10_eq, h0, h1]
    refine (u_block x0 x1 x2 x3 x4 0 0 rfl _ x).trans ?_
    rw [Nat.zero_add]

theorem out9_at (y : S256x1024.Idx) :
    (out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y : EReal) = (nrmF (rows3 (at2 (α := EReal) (m := 8) (n := 1024) x1) (at2 (α := EReal) (m := 256) (n := 1024) x0) (at2 (α := EReal) (m := 8) (n := 1024) x2)) (at2 (α := EReal) (m := 1) (n := 1024) x3)) (8 + (y 0).val) (y 1).val := by
  unfold out0_A_9
  rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S8x1024) hz2, View.ld_unit_zero (S := S256x1024) hz2, View.ld_unit_zero (S := S1x1024) hz2]
  rw [View.canon_unit_zero hz2]
  exact pay4_apply x1 x0 x2 x3 y

theorem out10_at (y : S256x2816.Idx) :
    (out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y : EReal) = cT (BitVec.ofNat 32 (i 0).val) (nrmF (rows3 (at2 (α := EReal) (m := 8) (n := 1024) x1) (at2 (α := EReal) (m := 256) (n := 1024) x0) (at2 (α := EReal) (m := 8) (n := 1024) x2)) (at2 (α := EReal) (m := 1) (n := 1024) x3)) (wcol (at3 (α := EReal) (l := 4) (m := 1024) (n := 1408) x4)) (at2 (α := EReal) (m := 3) (n := 5632) x5) (y 0).val (y 1).val := by
  unfold out0_A_10
  rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S8x1024) hz2, View.ld_unit_zero (S := S256x1024) hz2, View.ld_unit_zero (S := S1x1024) hz2]
  canon_tiles x h
  · rw [h0, h1]
    exact (congrFun (pay37_eq _) x).trans (cv_block (BitVec.ofNat 32 (i 0).val) arg6 harg6 x0 x1 x2 x3 x4 x5 1 1408 rfl inb_S4x1024x1408_S1x1024x1408_1_0_0 inb_S3x5632_S3x1408_0_1408 inb_S3x1408_S1x1408_0_0 inb_S3x1408_S1x1408_1_0 inb_S3x1408_S1x1408_2_0 (fun _ => rfl) x)
  · rw [h0, h1]
    refine (congrFun (pay19_eq _) x).trans (((congrFun (pay11_eq i x1 x0 x2 x3 _ _ _ _) x).trans (cv_block (BitVec.ofNat 32 (i 0).val) arg6 harg6 x0 x1 x2 x3 x4 x5 0 0 rfl inb_S4x1024x1408_S1x1024x1408_0_0_0 inb_S3x5632_S3x1408_0_0 inb_S3x1408_S1x1408_0_0 inb_S3x1408_S1x1408_1_0 inb_S3x1408_S1x1408_2_0 (fun _ => rfl) x)).trans ?_)
    rw [Nat.zero_add]

theorem out11_at (y : S256x2816.Idx) :
    (out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y : EReal) = cT (BitVec.ofNat 32 (i 0).val) (nrmF (rows3 (at2 (α := EReal) (m := 8) (n := 1024) x1) (at2 (α := EReal) (m := 256) (n := 1024) x0) (at2 (α := EReal) (m := 8) (n := 1024) x2)) (at2 (α := EReal) (m := 1) (n := 1024) x3)) (wcol (at3 (α := EReal) (l := 4) (m := 1024) (n := 1408) x4)) (at2 (α := EReal) (m := 3) (n := 5632) x5) (y 0).val (2816 + (y 1).val) := by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S8x1024) hz2, View.ld_unit_zero (S := S256x1024) hz2, View.ld_unit_zero (S := S1x1024) hz2]
  canon_tiles x h
  · rw [h0, h1, ← Nat.add_assoc]
    exact (congrFun (pay38_eq (BitVec.ofNat 32 (i 0).val) _ _ _ _ _) x).trans (cv_block (BitVec.ofNat 32 (i 0).val) arg6 harg6 x0 x1 x2 x3 x4 x5 3 4224 rfl inb_S4x1024x1408_S1x1024x1408_3_0_0 inb_S3x5632_S3x1408_0_4224 inb_S3x1408_S1x1408_0_0 inb_S3x1408_S1x1408_1_0 inb_S3x1408_S1x1408_2_0 (fun _ => rfl) x)
  · rw [h0, h1]
    exact (congrFun (pay20_eq (BitVec.ofNat 32 (i 0).val) _ _ _ _ _) x).trans (cv_block (BitVec.ofNat 32 (i 0).val) arg6 harg6 x0 x1 x2 x3 x4 x5 2 2816 rfl inb_S4x1024x1408_S1x1024x1408_2_0_0 inb_S3x5632_S3x1408_0_2816 inb_S3x1408_S1x1408_0_0 inb_S3x1408_S1x1408_1_0 inb_S3x1408_S1x1408_2_0 (fun _ => rfl) x)

theorem out12_at (y : S256x2816.Idx) :
    (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y : EReal) = zT (BitVec.ofNat 32 (i 0).val) (nrmF (rows3 (at2 (α := EReal) (m := 8) (n := 1024) x1) (at2 (α := EReal) (m := 256) (n := 1024) x0) (at2 (α := EReal) (m := 8) (n := 1024) x2)) (at2 (α := EReal) (m := 1) (n := 1024) x3)) (wcol (at3 (α := EReal) (l := 4) (m := 1024) (n := 1408) x4)) (at2 (α := EReal) (m := 3) (n := 5632) x5) (y 0).val (y 1).val := by
  unfold out0_A_12
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S8x1024) hz2, View.ld_unit_zero (S := S256x1024) hz2, View.ld_unit_zero (S := S1x1024) hz2]
  canon_tiles x h
  · rw [h0, h1]
    exact ((congrFun (pay36_eq (BitVec.ofNat 32 (i 0).val) _ _ _ _ _ _) x).trans (z_piece (BitVec.ofNat 32 (i 0).val) _ _ _ _ _ 1408 x (cv_block (BitVec.ofNat 32 (i 0).val) arg6 harg6 x0 x1 x2 x3 x4 x5 1 1408 rfl inb_S4x1024x1408_S1x1024x1408_1_0_0 inb_S3x5632_S3x1408_0_1408 inb_S3x1408_S1x1408_0_0 inb_S3x1408_S1x1408_1_0 inb_S3x1408_S1x1408_2_0 (fun _ => rfl) x) (cv_block (BitVec.ofNat 32 (i 0).val) arg6 harg6 x0 x1 x2 x3 x4 x5 3 4224 rfl inb_S4x1024x1408_S1x1024x1408_3_0_0 inb_S3x5632_S3x1408_0_4224 inb_S3x1408_S1x1408_0_0 inb_S3x1408_S1x1408_1_0 inb_S3x1408_S1x1408_2_0 (fun _ => rfl) x)))
  · rw [h0, h1]
    refine ((congrFun (pay18_eq (BitVec.ofNat 32 (i 0).val) _ _ _ _ _ _) x).trans (z_piece (BitVec.ofNat 32 (i 0).val) _ _ _ _ _ 0 x ((congrFun (pay11_eq i x1 x0 x2 x3 _ _ _ _) x).trans (cv_block (BitVec.ofNat 32 (i 0).val) arg6 harg6 x0 x1 x2 x3 x4 x5 0 0 rfl inb_S4x1024x1408_S1x1024x1408_0_0_0 inb_S3x5632_S3x1408_0_0 inb_S3x1408_S1x1408_0_0 inb_S3x1408_S1x1408_1_0 inb_S3x1408_S1x1408_2_0 (fun _ => rfl) x)) (cv_block (BitVec.ofNat 32 (i 0).val) arg6 harg6 x0 x1 x2 x3 x4 x5 2 2816 rfl inb_S4x1024x1408_S1x1024x1408_2_0_0 inb_S3x5632_S3x1408_0_2816 inb_S3x1408_S1x1408_0_0 inb_S3x1408_S1x1408_1_0 inb_S3x1408_S1x1408_2_0 (fun _ => rfl) x))).trans ?_
    rw [Nat.zero_add]

theorem out13_at (y : S256x1024.Idx) :
    (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y : EReal) = yT (BitVec.ofNat 32 (i 0).val) (nrmF (rows3 (at2 (α := EReal) (m := 8) (n := 1024) x1) (at2 (α := EReal) (m := 256) (n := 1024) x0) (at2 (α := EReal) (m := 8) (n := 1024) x2)) (at2 (α := EReal) (m := 1) (n := 1024) x3)) (wcol (at3 (α := EReal) (l := 4) (m := 1024) (n := 1408) x4)) (at2 (α := EReal) (m := 3) (n := 5632) x5) (at2 (α := EReal) (m := 2816) (n := 1024) x6) (y 0).val (y 1).val := by
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S8x1024) hz2, View.ld_unit_zero (S := S256x1024) hz2, View.ld_unit_zero (S := S1x1024) hz2]
  rw [View.canon_unit_zero hz2]
  exact ((congrFun (pay39_eq _ _ _ _ _ _) y).trans (y_piece (BitVec.ofNat 32 (i 0).val) _ _ _ _ _ _ _ _ (fun j => ((congrFun (pay18_eq (BitVec.ofNat 32 (i 0).val) _ _ _ _ _ _) j).trans (z_piece (BitVec.ofNat 32 (i 0).val) _ _ _ _ _ 0 j ((congrFun (pay11_eq i x1 x0 x2 x3 _ _ _ _) j).trans (cv_block (BitVec.ofNat 32 (i 0).val) arg6 harg6 x0 x1 x2 x3 x4 x5 0 0 rfl inb_S4x1024x1408_S1x1024x1408_0_0_0 inb_S3x5632_S3x1408_0_0 inb_S3x1408_S1x1408_0_0 inb_S3x1408_S1x1408_1_0 inb_S3x1408_S1x1408_2_0 (fun _ => rfl) j)) (cv_block (BitVec.ofNat 32 (i 0).val) arg6 harg6 x0 x1 x2 x3 x4 x5 2 2816 rfl inb_S4x1024x1408_S1x1024x1408_2_0_0 inb_S3x5632_S3x1408_0_2816 inb_S3x1408_S1x1408_0_0 inb_S3x1408_S1x1408_1_0 inb_S3x1408_S1x1408_2_0 (fun _ => rfl) j)))) (fun j => ((congrFun (pay36_eq (BitVec.ofNat 32 (i 0).val) _ _ _ _ _ _) j).trans (z_piece (BitVec.ofNat 32 (i 0).val) _ _ _ _ _ 1408 j (cv_block (BitVec.ofNat 32 (i 0).val) arg6 harg6 x0 x1 x2 x3 x4 x5 1 1408 rfl inb_S4x1024x1408_S1x1024x1408_1_0_0 inb_S3x5632_S3x1408_0_1408 inb_S3x1408_S1x1408_0_0 inb_S3x1408_S1x1408_1_0 inb_S3x1408_S1x1408_2_0 (fun _ => rfl) j) (cv_block (BitVec.ofNat 32 (i 0).val) arg6 harg6 x0 x1 x2 x3 x4 x5 3 4224 rfl inb_S4x1024x1408_S1x1024x1408_3_0_0 inb_S3x5632_S3x1408_0_4224 inb_S3x1408_S1x1408_0_0 inb_S3x1408_S1x1408_1_0 inb_S3x1408_S1x1408_2_0 (fun _ => rfl) j)))) (fun k d hk hd => (ldd x6 0 inb_S2816x1024_S1408x1024_0_0 k d hk hd).trans (by rw [Nat.zero_add])) (fun k d hk hd => ldd x6 1408 inb_S2816x1024_S1408x1024_1408_0 k d hk hd) y))

theorem out14_at (y : S256x1024.Idx) :
    (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 y : EReal)
      = (at2 (α := EReal) (m := 256) (n := 1024) x0) (y 0).val (y 1).val + nrmF (yT (BitVec.ofNat 32 (i 0).val) (nrmF (rows3 (at2 (α := EReal) (m := 8) (n := 1024) x1) (at2 (α := EReal) (m := 256) (n := 1024) x0) (at2 (α := EReal) (m := 8) (n := 1024) x2)) (at2 (α := EReal) (m := 1) (n := 1024) x3)) (wcol (at3 (α := EReal) (l := 4) (m := 1024) (n := 1408) x4)) (at2 (α := EReal) (m := 3) (n := 5632) x5) (at2 (α := EReal) (m := 2816) (n := 1024) x6)) (at2 (α := EReal) (m := 1) (n := 1024) x7) (y 0).val (y 1).val := by
  unfold out0_A_14
  rw [View.read_writes_eq_canon _ _ _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, View.ld_unit_zero (S := S8x1024) hz2, View.ld_unit_zero (S := S256x1024) hz2, View.ld_unit_zero (S := S1x1024) hz2]
  rw [View.canon_unit_zero hz2]
  refine (pay1_apply _ _ _ _ _ _ x0 x7 y).trans ?_
  refine congrArg₂ (fun s t : EReal => s + t) (at2_eq (m := 256) (n := 1024) x0 y).symm ?_
  have hr : (y 0).val < 256 := (y 0).isLt
  have hd : (y 1).val < 1024 := (y 1).isLt
  refine nrmF_congr (fun d hd => ?_) _ _ hd
  refine (at2_mk (m := 256) (n := 1024) _ (y 0).val d hr hd).trans ?_
  exact ((congrFun (pay39_eq _ _ _ _ _ _) (ix2 ⟨(y 0).val, hr⟩ ⟨d, hd⟩)).trans (y_piece (BitVec.ofNat 32 (i 0).val) _ _ _ _ _ _ _ _ (fun j => ((congrFun (pay18_eq (BitVec.ofNat 32 (i 0).val) _ _ _ _ _ _) j).trans (z_piece (BitVec.ofNat 32 (i 0).val) _ _ _ _ _ 0 j ((congrFun (pay11_eq i x1 x0 x2 x3 _ _ _ _) j).trans (cv_block (BitVec.ofNat 32 (i 0).val) arg6 harg6 x0 x1 x2 x3 x4 x5 0 0 rfl inb_S4x1024x1408_S1x1024x1408_0_0_0 inb_S3x5632_S3x1408_0_0 inb_S3x1408_S1x1408_0_0 inb_S3x1408_S1x1408_1_0 inb_S3x1408_S1x1408_2_0 (fun _ => rfl) j)) (cv_block (BitVec.ofNat 32 (i 0).val) arg6 harg6 x0 x1 x2 x3 x4 x5 2 2816 rfl inb_S4x1024x1408_S1x1024x1408_2_0_0 inb_S3x5632_S3x1408_0_2816 inb_S3x1408_S1x1408_0_0 inb_S3x1408_S1x1408_1_0 inb_S3x1408_S1x1408_2_0 (fun _ => rfl) j)))) (fun j => ((congrFun (pay36_eq (BitVec.ofNat 32 (i 0).val) _ _ _ _ _ _) j).trans (z_piece (BitVec.ofNat 32 (i 0).val) _ _ _ _ _ 1408 j (cv_block (BitVec.ofNat 32 (i 0).val) arg6 harg6 x0 x1 x2 x3 x4 x5 1 1408 rfl inb_S4x1024x1408_S1x1024x1408_1_0_0 inb_S3x5632_S3x1408_0_1408 inb_S3x1408_S1x1408_0_0 inb_S3x1408_S1x1408_1_0 inb_S3x1408_S1x1408_2_0 (fun _ => rfl) j) (cv_block (BitVec.ofNat 32 (i 0).val) arg6 harg6 x0 x1 x2 x3 x4 x5 3 4224 rfl inb_S4x1024x1408_S1x1024x1408_3_0_0 inb_S3x5632_S3x1408_0_4224 inb_S3x1408_S1x1408_0_0 inb_S3x1408_S1x1408_1_0 inb_S3x1408_S1x1408_2_0 (fun _ => rfl) j)))) (fun k d hk hd => (ldd x6 0 inb_S2816x1024_S1408x1024_0_0 k d hk hd).trans (by rw [Nat.zero_add])) (fun k d hk hd => ldd x6 1408 inb_S2816x1024_S1408x1024_1408_0 k d hk hd) (ix2 ⟨(y 0).val, hr⟩ ⟨d, hd⟩)))

end Cert.FfnIdeal.Hand

end
-- ==== Proof.FfnArr.lean ====
/- The forward pass of the feed-forward block: the blocks a grid point reads, and its tiles as parts of whole arrays. -/
module

public import proofs.«01_k».proof.Proof.FfnOut
public import proofs.«01_k».proof.Proof.Glob
public import proofs.«01_k».proof.Proof.Sum
public import proofs.«01_k».proof.Proof.Gen.FfnIdeal.Value

@[expose] public section

set_option maxRecDepth 16384

noncomputable section

namespace Cert.FfnIdeal.Hand

open Cert.FfnIdeal.Gen Cert.KernelIdeal.Hand
open Idealize.ShloMosaic Idealize.ShloMosaic.TcCoe Idealize.ShloMosaic.Tactic
open Idealize.SL Idealize.SL.Sem

variable (m : (ℓ : Loc nD τ sig) → Buf (Elt Ideal) ℓ)

/-- The kernel's six arguments, entry by entry. -/
def X (c : Dev nD) : ℕ → ℕ → EReal := at2 (α := EReal) (m := 8192) (n := 1024) (m (c, main_arg0))
def G (c : Dev nD) : ℕ → ℕ → EReal := at2 (α := EReal) (m := 1) (n := 1024) (m (c, main_arg1))
def WU (c : Dev nD) : ℕ → ℕ → EReal := at2 (α := EReal) (m := 1024) (n := 5632) (m (c, main_arg2))
def CW (c : Dev nD) : ℕ → ℕ → EReal := at2 (α := EReal) (m := 3) (n := 5632) (m (c, main_arg3))
def WD (c : Dev nD) : ℕ → ℕ → EReal := at2 (α := EReal) (m := 2816) (n := 1024) (m (c, main_arg4))
def G4 (c : Dev nD) : ℕ → ℕ → EReal := at2 (α := EReal) (m := 1) (n := 1024) (m (c, main_arg5))

theorem lt32 (t : Fin cfg0.N) : t.val < 32 := lt_of_lt_of_eq t.isLt (show cfg0.N = 32 from N_0)

theorem coord0 (t : Fin cfg0.N) : (grid0.coords t 0).val = t.val :=
  (by decide +kernel : ∀ t : Fin cfg0.N, (grid0.coords t 0).val = t.val) t

theorem idx0 : ∀ t : Fin cfg0.N, win0_0.index t = ![t.val, 0] := by decide +kernel
theorem idx1 : ∀ t : Fin cfg0.N, win0_1.index t = ![32 * t.val - 1, 0] := by decide +kernel
theorem idx2 : ∀ t : Fin cfg0.N, win0_2.index t = ![min (32 * (t.val + 1)) 1023, 0] := by decide +kernel
theorem idx3 : ∀ t : Fin cfg0.N, win0_3.index t = ![0, 0] := by decide +kernel
theorem idx4 : ∀ t : Fin cfg0.N, win0_4.index t = ![0, 0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel

theorem rdx (c : Dev nD) (t : Fin cfg0.N) (r d : ℕ) (hr : r < 256) :
    at2 (α := EReal) (m := 256) (n := 1024) (iblk m c 0 t) r d = X m c (256 * t.val + r) d := by
  have ht := lt32 t
  have e := idx0 t
  have hV : (V m c main_arg0 : FVec Ideal S8192x1024 .f32) = m (c, main_arg0) := V_main_arg0 m c
  refine Eq.trans ?_ (congrFun (congrFun (congrArg (at2 (α := EReal) (m := 8192) (n := 1024)) hV) _) _)
  unfold at2
  blk_ext [iblk, e]
  all_goals simp only [Fin.val_ofNat]
  all_goals omega

theorem rdp (c : Dev nD) (t : Fin cfg0.N) (r d : ℕ) (hr : r < 8) (h0 : 0 < t.val) :
    at2 (α := EReal) (m := 8) (n := 1024) (iblk m c 1 t) r d = X m c (256 * t.val + r - 8) d := by
  have ht := lt32 t
  have e := idx1 t
  have hV : (V m c main_arg0 : FVec Ideal S8192x1024 .f32) = m (c, main_arg0) := V_main_arg0 m c
  refine Eq.trans ?_ (congrFun (congrFun (congrArg (at2 (α := EReal) (m := 8192) (n := 1024)) hV) _) _)
  unfold at2
  blk_ext [iblk, e]
  all_goals simp only [Fin.val_ofNat]
  all_goals omega

theorem rdn (c : Dev nD) (t : Fin cfg0.N) (r d : ℕ) (hr : r < 8) (h0 : t.val < 31) :
    at2 (α := EReal) (m := 8) (n := 1024) (iblk m c 2 t) r d = X m c (256 * t.val + 256 + r) d := by
  have e := idx2 t
  have hV : (V m c main_arg0 : FVec Ideal S8192x1024 .f32) = m (c, main_arg0) := V_main_arg0 m c
  refine Eq.trans ?_ (congrFun (congrFun (congrArg (at2 (α := EReal) (m := 8192) (n := 1024)) hV) _) _)
  unfold at2
  blk_ext [iblk, e]
  all_goals simp only [Fin.val_ofNat]
  all_goals omega

theorem rdg (c : Dev nD) (t : Fin cfg0.N) (r d : ℕ) : at2 (α := EReal) (m := 1) (n := 1024) (iblk m c 3 t) r d = G m c r d := by
  have e := idx3 t
  have hV : (V m c main_arg1 : FVec Ideal S1x1024 .f32) = m (c, main_arg1) := V_main_arg1 m c
  refine Eq.trans ?_ (congrFun (congrFun (congrArg (at2 (α := EReal) (m := 1) (n := 1024)) hV) _) _)
  unfold at2
  blk_ext [iblk, e]
  all_goals simp only [Fin.val_ofNat]
  all_goals omega

theorem rdc (c : Dev nD) (t : Fin cfg0.N) (r d : ℕ) : at2 (α := EReal) (m := 3) (n := 5632) (iblk m c 5 t) r d = CW m c r d := by
  have e := idx5 t
  have hV : (V m c main_arg3 : FVec Ideal S3x5632 .f32) = m (c, main_arg3) := V_main_arg3 m c
  refine Eq.trans ?_ (congrFun (congrFun (congrArg (at2 (α := EReal) (m := 3) (n := 5632)) hV) _) _)
  unfold at2
  blk_ext [iblk, e]
  all_goals simp only [Fin.val_ofNat]
  all_goals omega

theorem rdg4 (c : Dev nD) (t : Fin cfg0.N) (r d : ℕ) : at2 (α := EReal) (m := 1) (n := 1024) (iblk m c 7 t) r d = G4 m c r d := by
  have e := idx7 t
  have hV : (V m c main_arg5 : FVec Ideal S1x1024 .f32) = m (c, main_arg5) := V_main_arg5 m c
  refine Eq.trans ?_ (congrFun (congrFun (congrArg (at2 (α := EReal) (m := 1) (n := 1024)) hV) _) _)
  unfold at2
  blk_ext [iblk, e]
  all_goals simp only [Fin.val_ofNat]
  all_goals omega

theorem down_eq (c : Dev nD) : (V m c main_v3 : FVec Ideal S2816x1024 .bf16) = m (c, main_arg4) := by
  unfold V
  after_reads_simp
  rfl

theorem rdd (c : Dev nD) (t : Fin cfg0.N) (r d : ℕ) : at2 (α := EReal) (m := 2816) (n := 1024) (iblk m c 6 t) r d = WD m c r d := by
  have e := idx6 t
  have hV := down_eq m c
  refine Eq.trans ?_ (congrFun (congrFun (congrArg (at2 (α := EReal) (m := 2816) (n := 1024)) hV) _) _)
  unfold at2
  blk_ext [iblk, e]
  all_goals simp only [Fin.val_ofNat]
  all_goals omega

/-- The up projection laid out as four column blocks. -/
theorem up_at (c : Dev nD) (b d k : ℕ) (hb : b < 4) (hd : d < 1024) (hk : k < 1408) :
    at3 (α := EReal) (l := 4) (m := 1024) (n := 1408) (V m c main_v2) b d k = WU m c d (1408 * b + k) := by
  have h : ∀ i : S4x1024x1408.Idx, V m c main_v2 i = m (c, main_arg2) (ix2 (i 1) ⟨(i 0).val * 1408 + (i 2).val, by have h1 : (i 0).val < 4 := (i 0).isLt; have h2 : (i 2).val < 1408 := (i 2).isLt; omega⟩) := by
    intro i
    entry_read
    pointwise
  have e := at3_eq (α := EReal) (l := 4) (m := 1024) (n := 1408) (V m c main_v2) (ix3 ⟨b, hb⟩ ⟨d, hd⟩ ⟨k, hk⟩)
  refine e.trans ((h _).trans ?_)
  refine (at2_fin (α := EReal) (m := 1024) (n := 5632) (m (c, main_arg2)) _ _).symm.trans ?_
  show at2 _ d (b * 1408 + k) = _
  rw [Nat.mul_comm]
  rfl

theorem rdu (c : Dev nD) (t : Fin cfg0.N) (k n : ℕ) (hk : k < 1024) (hn : n < 5632) :
    wcol (at3 (α := EReal) (l := 4) (m := 1024) (n := 1408) (iblk m c 4 t)) k n = WU m c k n := by
  have e := idx4 t
  unfold wcol
  have h : at3 (α := EReal) (l := 4) (m := 1024) (n := 1408) (iblk m c 4 t) (n / 1408) k (n % 1408) = at3 (α := EReal) (l := 4) (m := 1024) (n := 1408) (V m c main_v2) (n / 1408) k (n % 1408) := by
    unfold at3
    blk_ext [iblk, e]
    all_goals simp only [Fin.val_ofNat]
    all_goals omega
  rw [h, up_at m c _ _ _ (by omega) hk (by omega)]
  congr 1
  omega

/-- The rows around a tile are rows of the whole array. -/
theorem rd_rows (c : Dev nD) (t : Fin cfg0.N) (r d : ℕ) (hr : r < 272) (h0 : 8 ≤ 256 * t.val + r) (h1 : 256 * t.val + r < 8200) :
    rows3 (at2 (α := EReal) (m := 8) (n := 1024) (iblk m c 1 t)) (at2 (α := EReal) (m := 256) (n := 1024) (iblk m c 0 t)) (at2 (α := EReal) (m := 8) (n := 1024) (iblk m c 2 t)) r d
      = X m c (256 * t.val + r - 8) d := by
  unfold rows3
  by_cases h2 : r < 8
  · rw [if_pos h2, rdp m c t r d h2 (by omega)]
  · rw [if_neg h2]
    by_cases h3 : r - 8 < 256
    · rw [if_pos h3, rdx m c t _ d h3]
      congr 1
      omega
    · rw [if_neg h3, rdn m c t _ d (by omega) (by omega)]
      congr 1
      omega

/-- The normalised rows around a tile. -/
def HB (c : Dev nD) (t : Fin cfg0.N) : ℕ → ℕ → EReal :=
  nrmF (rows3 (at2 (α := EReal) (m := 8) (n := 1024) (iblk m c 1 t)) (at2 (α := EReal) (m := 256) (n := 1024) (iblk m c 0 t)) (at2 (α := EReal) (m := 8) (n := 1024) (iblk m c 2 t)))
    (at2 (α := EReal) (m := 1) (n := 1024) (iblk m c 3 t))

theorem HB_eq (c : Dev nD) (t : Fin cfg0.N) (r d : ℕ) (hr : r < 272) (h0 : 8 ≤ 256 * t.val + r) (h1 : 256 * t.val + r < 8200) (hd : d < 1024) :
    HB m c t r d = nrmF (X m c) (G m c) (256 * t.val + r - 8) d := by
  unfold HB
  have hg : at2 (α := EReal) (m := 1) (n := 1024) (iblk m c 3 t) = G m c := funext fun r => funext fun d => rdg m c t r d
  rw [hg]
  exact nrmF_congr (fun d _ => rd_rows m c t r d hr h0 h1) _ d hd

/-- The up projection read by a tile. -/
def WB (c : Dev nD) (t : Fin cfg0.N) : ℕ → ℕ → EReal := wcol (at3 (α := EReal) (l := 4) (m := 1024) (n := 1408) (iblk m c 4 t))

/-- The product with the up projection. -/
def U (c : Dev nD) : ℕ → ℕ → EReal := upF (X m c) (G m c) (WU m c)

theorem U_eq (c : Dev nD) (t : Fin cfg0.N) (r n : ℕ) (hr : r < 272) (h0 : 8 ≤ 256 * t.val + r) (h1 : 256 * t.val + r < 8200) (hn : n < 5632) :
    upB (HB m c t) (WB m c t) r n = U m c (256 * t.val + r - 8) n := by
  unfold U upF
  exact Finset.sum_congr rfl fun k _ => congrArg₂ (· * ·) (HB_eq m c t r _ hr h0 h1 k.isLt) (rdu m c t _ n k.isLt hn)

/-- A tile's rows with zeros beyond the ends of the array. -/
theorem hal_eq (c : Dev nD) (t : Fin cfg0.N) (k n : ℕ) (h0 : 7 ≤ k) (h1 : k ≤ 264) (hn : n < 5632) :
    hal (BitVec.ofNat 32 t.val) (upB (HB m c t) (WB m c t)) k n = padF (U m c) (256 * t.val + k - 7) n := by
  have ht := lt32 t
  have hb : ∀ v : ℕ, v < 32 → (BitVec.ofNat 32 t.val = BitVec.ofNat 32 v ↔ t.val = v) := by
    intro v hv
    constructor
    · intro h
      have h' := congrArg BitVec.toNat h
      simp only [BitVec.toNat_ofNat] at h'
      omega
    · intro h
      rw [h]
  unfold hal padF
  by_cases h2 : k < 8
  · rw [if_pos h2, select_eq]
    by_cases h3 : t.val = 0
    · rw [if_pos ((hb 0 (by omega)).mpr h3), if_pos (by omega)]
    · rw [if_neg (fun h => h3 ((hb 0 (by omega)).mp h)), if_neg (by omega), if_pos (by omega), U_eq m c t k n (by omega) (by omega) (by omega) hn]
      congr 1
  · rw [if_neg h2]
    by_cases h3 : k - 8 < 256
    · rw [if_pos h3, if_neg (by omega), if_pos (by omega), U_eq m c t _ n (by omega) (by omega) (by omega) hn]
      congr 1
      omega
    · rw [if_neg h3, select_eq]
      by_cases h4 : t.val = 31
      · rw [if_pos ((hb 31 (by omega)).mpr h4), if_neg (by omega), if_neg (by omega)]
      · rw [if_neg (fun h => h4 ((hb 31 (by omega)).mp h)), if_neg (by omega), if_pos (by omega), U_eq m c t _ n (by omega) (by omega) (by omega) hn]
        congr 1
        omega

/-- The convolved rows. -/
def C (c : Dev nD) : ℕ → ℕ → EReal := cvF (CW m c) (U m c)

theorem C_eq (c : Dev nD) (t : Fin cfg0.N) (r n : ℕ) (hr : r < 256) (hn : n < 5632) :
    cT (BitVec.ofNat 32 t.val) (HB m c t) (WB m c t) (at2 (α := EReal) (m := 3) (n := 5632) (iblk m c 5 t)) r n = C m c (256 * t.val + r) n := by
  have ht := lt32 t
  unfold cT C cvF
  rw [rdc, rdc, rdc, hal_eq m c t _ n (by omega) (by omega) hn, hal_eq m c t _ n (by omega) (by omega) hn, U_eq m c t _ n (by omega) (by omega) (by omega) hn]
  have p : padF (U m c) (1 + (256 * t.val + r)) n = U m c (256 * t.val + (8 + r) - 8) n := by
    unfold padF
    rw [if_neg (by omega), if_pos (by omega)]
    congr 1
    omega
  have q0 : 256 * t.val + (7 + r) - 7 = 256 * t.val + r := by omega
  have q2 : 256 * t.val + (9 + r) - 7 = 2 + (256 * t.val + r) := by omega
  rw [p, q0, q2]

/-- The gated product. -/
def Z (c : Dev nD) (R n : ℕ) : EReal := C m c R n * sgm (C m c R n) * C m c R (2816 + n)

theorem Z_eq (c : Dev nD) (t : Fin cfg0.N) (r n : ℕ) (hr : r < 256) (hn : n < 2816) :
    zT (BitVec.ofNat 32 t.val) (HB m c t) (WB m c t) (at2 (α := EReal) (m := 3) (n := 5632) (iblk m c 5 t)) r n = Z m c (256 * t.val + r) n := by
  unfold zT Z
  rw [C_eq m c t r n hr (by omega), C_eq m c t r _ hr (by omega)]

theorem sum_halves (f : ℕ → EReal) : (∑ k : Fin 2816, f k.val) = (∑ k : Fin 1408, f k.val) + ∑ k : Fin 1408, f (1408 + k.val) := by
  rw [Fin.sum_univ_eq_sum_range f 2816, Fin.sum_univ_eq_sum_range f 1408, Fin.sum_univ_eq_sum_range (fun k => f (1408 + k)) 1408]
  exact Finset.sum_range_add f 1408 1408

/-- The product with the down projection. -/
def Y (c : Dev nD) (R d : ℕ) : EReal := ∑ k : Fin 2816, Z m c R k.val * WD m c k.val d

theorem Y_eq (c : Dev nD) (t : Fin cfg0.N) (r d : ℕ) (hr : r < 256) :
    yT (BitVec.ofNat 32 t.val) (HB m c t) (WB m c t) (at2 (α := EReal) (m := 3) (n := 5632) (iblk m c 5 t)) (at2 (α := EReal) (m := 2816) (n := 1024) (iblk m c 6 t)) r d = Y m c (256 * t.val + r) d := by
  unfold yT Y
  refine Eq.trans ?_ (sum_halves (fun k => Z m c (256 * t.val + r) k * WD m c k d)).symm
  refine congrArg₂ (fun s t : EReal => s + t) ?_ ?_
  · exact Finset.sum_congr rfl fun k _ => congrArg₂ (· * ·) (Z_eq m c t r _ hr (by omega)) (rdd m c t _ d)
  · exact Finset.sum_congr rfl fun k _ => congrArg₂ (· * ·) (Z_eq m c t r _ hr (by omega)) (rdd m c t _ d)

/-- The rows with the normalised product added. -/
def X2 (c : Dev nD) (R d : ℕ) : EReal := X m c R d + nrmF (Y m c) (G4 m c) R d

theorem X2_eq (c : Dev nD) (t : Fin cfg0.N) (r d : ℕ) (hr : r < 256) (hd : d < 1024) :
    at2 (α := EReal) (m := 256) (n := 1024) (iblk m c 0 t) r d
      + nrmF (yT (BitVec.ofNat 32 t.val) (HB m c t) (WB m c t) (at2 (α := EReal) (m := 3) (n := 5632) (iblk m c 5 t)) (at2 (α := EReal) (m := 2816) (n := 1024) (iblk m c 6 t)))
        (at2 (α := EReal) (m := 1) (n := 1024) (iblk m c 7 t)) r d = X2 m c (256 * t.val + r) d := by
  unfold X2
  have hg : at2 (α := EReal) (m := 1) (n := 1024) (iblk m c 7 t) = G4 m c := funext fun r => funext fun d => rdg4 m c t r d
  rw [hg, rdx m c t r d hr, nrmF_congr (fun d _ => Y_eq m c t r d hr) _ d hd]

end Cert.FfnIdeal.Hand

end
-- ==== Proof.FfnFin.lean ====
/- The forward pass of the feed-forward block: the arrays the kernel leaves. -/
module

public import proofs.«01_k».proof.Proof.FfnArr

@[expose] public section

set_option maxRecDepth 16384

noncomputable section

namespace Cert.FfnIdeal.Hand

open Cert.FfnIdeal.Gen Cert.KernelIdeal.Hand
open Idealize.ShloMosaic Idealize.ShloMosaic.TcCoe Idealize.ShloMosaic.Tactic
open Idealize.SL Idealize.SL.Sem

variable (m : (ℓ : Loc nD τ sig) → Buf (Elt Ideal) ℓ)

theorem idxo : ∀ t : Fin cfg0.N, win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] := by
  decide +kernel

/-- The product with the up projection. -/
def aU (c : Dev nD) : Buf (Elt Ideal) ((c.tc : Thread nD τ).loc main_v4_0) := fun (i : S8192x5632.Idx) => (U m c (i 0).val (i 1).val : EReal)

theorem flushed_aU (c : Dev nD) (t : Fin cfg0.N) : (dats m 0 c).flushed 8 t = ((cfg0.win 8).blk t).view.read (Elt Ideal) (aU m c) := by
  rw [Value.flushed8_A m c t]
  have e0 : win0_8.index t (0 : Fin 2) = t.val := congrFun (idxo t).1 0
  have e1 : win0_8.index t (1 : Fin 2) = 0 := congrFun (idxo t).1 1
  funext y
  have hb0 : (((cfg0.win 8).blk t).view.emb y 0).val = win0_8.index t (0 : Fin 2) * 256 + 1 * (y 0).val := rfl
  have hb1 : (((cfg0.win 8).blk t).view.emb y 1).val = win0_8.index t (1 : Fin 2) * 5632 + 1 * (y 1).val := rfl
  have ht := lt32 t
  have hy0 : ((cfg0.win 8).xinj (grid0.coords t) y 0).val < 256 := (y 0).isLt
  have hy1 : ((cfg0.win 8).xinj (grid0.coords t) y 1).val < 5632 := (y 1).isLt
  refine (out8_at c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((cfg0.win 8).xinj (grid0.coords t) y)).trans ?_
  refine (U_eq m c t _ _ (by omega) (by omega) (by omega) hy1).trans ?_
  show _ = aU m c (((cfg0.win 8).blk t).view.emb y)
  unfold aU
  have f0 : 256 * t.val + (8 + ((cfg0.win 8).xinj (grid0.coords t) y 0).val) - 8 = (((cfg0.win 8).blk t).view.emb y 0).val := by
    rw [hb0, e0]; show 256 * t.val + (8 + (y 0).val) - 8 = _; omega
  have f1 : ((cfg0.win 8).xinj (grid0.coords t) y 1).val = (((cfg0.win 8).blk t).view.emb y 1).val := by
    rw [hb1, e1]; show (y 1).val = _; omega
  rw [f0, f1]

theorem final_aU (c : Dev nD) : (dats m 0 c).arrAt 8 cfg0.N = aU m c :=
  (dats m 0 c).arrAt_eq_of_cover 8 _ (fun t _ => flushed_aU m c t) ((by decide +kernel : (cfg0.win 8).Covers).cover _ (Memref.isWhole_whole _))

/-- The normalised rows. -/
def aH (c : Dev nD) : Buf (Elt Ideal) ((c.tc : Thread nD τ).loc main_v4_1) := fun (i : S8192x1024.Idx) => (nrmF (X m c) (G m c) (i 0).val (i 1).val : EReal)

theorem flushed_aH (c : Dev nD) (t : Fin cfg0.N) : (dats m 0 c).flushed 9 t = ((cfg0.win 9).blk t).view.read (Elt Ideal) (aH m c) := by
  rw [Value.flushed9_A m c t]
  have e0 : win0_9.index t (0 : Fin 2) = t.val := congrFun (idxo t).2.1 0
  have e1 : win0_9.index t (1 : Fin 2) = 0 := congrFun (idxo t).2.1 1
  funext y
  have hb0 : (((cfg0.win 9).blk t).view.emb y 0).val = win0_9.index t (0 : Fin 2) * 256 + 1 * (y 0).val := rfl
  have hb1 : (((cfg0.win 9).blk t).view.emb y 1).val = win0_9.index t (1 : Fin 2) * 1024 + 1 * (y 1).val := rfl
  have ht := lt32 t
  have hy0 : ((cfg0.win 9).xinj (grid0.coords t) y 0).val < 256 := (y 0).isLt
  have hy1 : ((cfg0.win 9).xinj (grid0.coords t) y 1).val < 1024 := (y 1).isLt
  refine (out9_at c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((cfg0.win 9).xinj (grid0.coords t) y)).trans ?_
  refine (HB_eq m c t _ _ (by omega) (by omega) (by omega) hy1).trans ?_
  show _ = aH m c (((cfg0.win 9).blk t).view.emb y)
  unfold aH
  have f0 : 256 * t.val + (8 + ((cfg0.win 9).xinj (grid0.coords t) y 0).val) - 8 = (((cfg0.win 9).blk t).view.emb y 0).val := by
    rw [hb0, e0]; show 256 * t.val + (8 + (y 0).val) - 8 = _; omega
  have f1 : ((cfg0.win 9).xinj (grid0.coords t) y 1).val = (((cfg0.win 9).blk t).view.emb y 1).val := by
    rw [hb1, e1]; show (y 1).val = _; omega
  rw [f0, f1]

theorem final_aH (c : Dev nD) : (dats m 0 c).arrAt 9 cfg0.N = aH m c :=
  (dats m 0 c).arrAt_eq_of_cover 9 _ (fun t _ => flushed_aH m c t) ((by decide +kernel : (cfg0.win 9).Covers).cover _ (Memref.isWhole_whole _))

/-- The gate. -/
def aG (c : Dev nD) : Buf (Elt Ideal) ((c.tc : Thread nD τ).loc main_v4_2) := fun (i : S8192x2816.Idx) => (C m c (i 0).val (i 1).val : EReal)

theorem flushed_aG (c : Dev nD) (t : Fin cfg0.N) : (dats m 0 c).flushed 10 t = ((cfg0.win 10).blk t).view.read (Elt Ideal) (aG m c) := by
  rw [Value.flushed10_A m c t]
  have e0 : win0_10.index t (0 : Fin 2) = t.val := congrFun (idxo t).2.2.1 0
  have e1 : win0_10.index t (1 : Fin 2) = 0 := congrFun (idxo t).2.2.1 1
  funext y
  have hb0 : (((cfg0.win 10).blk t).view.emb y 0).val = win0_10.index t (0 : Fin 2) * 256 + 1 * (y 0).val := rfl
  have hb1 : (((cfg0.win 10).blk t).view.emb y 1).val = win0_10.index t (1 : Fin 2) * 2816 + 1 * (y 1).val := rfl
  have ht := lt32 t
  have hy0 : ((cfg0.win 10).xinj (grid0.coords t) y 0).val < 256 := (y 0).isLt
  have hy1 : ((cfg0.win 10).xinj (grid0.coords t) y 1).val < 2816 := (y 1).isLt
  refine (out10_at c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((cfg0.win 10).xinj (grid0.coords t) y)).trans ?_
  rw [coord0 t]
  refine (C_eq m c t _ _ hy0 (by omega)).trans ?_
  show _ = aG m c (((cfg0.win 10).blk t).view.emb y)
  unfold aG
  have f0 : 256 * t.val + ((cfg0.win 10).xinj (grid0.coords t) y 0).val = (((cfg0.win 10).blk t).view.emb y 0).val := by
    rw [hb0, e0]; show 256 * t.val + (y 0).val = _; omega
  have f1 : ((cfg0.win 10).xinj (grid0.coords t) y 1).val = (((cfg0.win 10).blk t).view.emb y 1).val := by
    rw [hb1, e1]; show (y 1).val = _; omega
  rw [f0, f1]

theorem final_aG (c : Dev nD) : (dats m 0 c).arrAt 10 cfg0.N = aG m c :=
  (dats m 0 c).arrAt_eq_of_cover 10 _ (fun t _ => flushed_aG m c t) ((by decide +kernel : (cfg0.win 10).Covers).cover _ (Memref.isWhole_whole _))

/-- The value. -/
def aV (c : Dev nD) : Buf (Elt Ideal) ((c.tc : Thread nD τ).loc main_v4_3) := fun (i : S8192x2816.Idx) => (C m c (i 0).val (2816 + (i 1).val) : EReal)

theorem flushed_aV (c : Dev nD) (t : Fin cfg0.N) : (dats m 0 c).flushed 11 t = ((cfg0.win 11).blk t).view.read (Elt Ideal) (aV m c) := by
  rw [Value.flushed11_A m c t]
  have e0 : win0_11.index t (0 : Fin 2) = t.val := congrFun (idxo t).2.2.2.1 0
  have e1 : win0_11.index t (1 : Fin 2) = 0 := congrFun (idxo t).2.2.2.1 1
  funext y
  have hb0 : (((cfg0.win 11).blk t).view.emb y 0).val = win0_11.index t (0 : Fin 2) * 256 + 1 * (y 0).val := rfl
  have hb1 : (((cfg0.win 11).blk t).view.emb y 1).val = win0_11.index t (1 : Fin 2) * 2816 + 1 * (y 1).val := rfl
  have ht := lt32 t
  have hy0 : ((cfg0.win 11).xinj (grid0.coords t) y 0).val < 256 := (y 0).isLt
  have hy1 : ((cfg0.win 11).xinj (grid0.coords t) y 1).val < 2816 := (y 1).isLt
  refine (out11_at c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((cfg0.win 11).xinj (grid0.coords t) y)).trans ?_
  rw [coord0 t]
  refine (C_eq m c t _ _ hy0 (by omega)).trans ?_
  show _ = aV m c (((cfg0.win 11).blk t).view.emb y)
  unfold aV
  have f0 : 256 * t.val + ((cfg0.win 11).xinj (grid0.coords t) y 0).val = (((cfg0.win 11).blk t).view.emb y 0).val := by
    rw [hb0, e0]; show 256 * t.val + (y 0).val = _; omega
  have f1 : ((cfg0.win 11).xinj (grid0.coords t) y 1).val = (((cfg0.win 11).blk t).view.emb y 1).val := by
    rw [hb1, e1]; show (y 1).val = _; omega
  rw [f0, f1]

theorem final_aV (c : Dev nD) : (dats m 0 c).arrAt 11 cfg0.N = aV m c :=
  (dats m 0 c).arrAt_eq_of_cover 11 _ (fun t _ => flushed_aV m c t) ((by decide +kernel : (cfg0.win 11).Covers).cover _ (Memref.isWhole_whole _))

/-- The gated product. -/
def aZ (c : Dev nD) : Buf (Elt Ideal) ((c.tc : Thread nD τ).loc main_v4_4) := fun (i : S8192x2816.Idx) => (Z m c (i 0).val (i 1).val : EReal)

theorem flushed_aZ (c : Dev nD) (t : Fin cfg0.N) : (dats m 0 c).flushed 12 t = ((cfg0.win 12).blk t).view.read (Elt Ideal) (aZ m c) := by
  rw [Value.flushed12_A m c t]
  have e0 : win0_12.index t (0 : Fin 2) = t.val := congrFun (idxo t).2.2.2.2.1 0
  have e1 : win0_12.index t (1 : Fin 2) = 0 := congrFun (idxo t).2.2.2.2.1 1
  funext y
  have hb0 : (((cfg0.win 12).blk t).view.emb y 0).val = win0_12.index t (0 : Fin 2) * 256 + 1 * (y 0).val := rfl
  have hb1 : (((cfg0.win 12).blk t).view.emb y 1).val = win0_12.index t (1 : Fin 2) * 2816 + 1 * (y 1).val := rfl
  have ht := lt32 t
  have hy0 : ((cfg0.win 12).xinj (grid0.coords t) y 0).val < 256 := (y 0).isLt
  have hy1 : ((cfg0.win 12).xinj (grid0.coords t) y 1).val < 2816 := (y 1).isLt
  refine (out12_at c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((cfg0.win 12).xinj (grid0.coords t) y)).trans ?_
  rw [coord0 t]
  refine (Z_eq m c t _ _ hy0 hy1).trans ?_
  show _ = aZ m c (((cfg0.win 12).blk t).view.emb y)
  unfold aZ
  have f0 : 256 * t.val + ((cfg0.win 12).xinj (grid0.coords t) y 0).val = (((cfg0.win 12).blk t).view.emb y 0).val := by
    rw [hb0, e0]; show 256 * t.val + (y 0).val = _; omega
  have f1 : ((cfg0.win 12).xinj (grid0.coords t) y 1).val = (((cfg0.win 12).blk t).view.emb y 1).val := by
    rw [hb1, e1]; show (y 1).val = _; omega
  rw [f0, f1]

theorem final_aZ (c : Dev nD) : (dats m 0 c).arrAt 12 cfg0.N = aZ m c :=
  (dats m 0 c).arrAt_eq_of_cover 12 _ (fun t _ => flushed_aZ m c t) ((by decide +kernel : (cfg0.win 12).Covers).cover _ (Memref.isWhole_whole _))

/-- The product with the down projection. -/
def aY (c : Dev nD) : Buf (Elt Ideal) ((c.tc : Thread nD τ).loc main_v4_5) := fun (i : S8192x1024.Idx) => (Y m c (i 0).val (i 1).val : EReal)

theorem flushed_aY (c : Dev nD) (t : Fin cfg0.N) : (dats m 0 c).flushed 13 t = ((cfg0.win 13).blk t).view.read (Elt Ideal) (aY m c) := by
  rw [Value.flushed13_A m c t]
  have e0 : win0_13.index t (0 : Fin 2) = t.val := congrFun (idxo t).2.2.2.2.2.1 0
  have e1 : win0_13.index t (1 : Fin 2) = 0 := congrFun (idxo t).2.2.2.2.2.1 1
  funext y
  have hb0 : (((cfg0.win 13).blk t).view.emb y 0).val = win0_13.index t (0 : Fin 2) * 256 + 1 * (y 0).val := rfl
  have hb1 : (((cfg0.win 13).blk t).view.emb y 1).val = win0_13.index t (1 : Fin 2) * 1024 + 1 * (y 1).val := rfl
  have ht := lt32 t
  have hy0 : ((cfg0.win 13).xinj (grid0.coords t) y 0).val < 256 := (y 0).isLt
  have hy1 : ((cfg0.win 13).xinj (grid0.coords t) y 1).val < 1024 := (y 1).isLt
  refine (out13_at c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((cfg0.win 13).xinj (grid0.coords t) y)).trans ?_
  rw [coord0 t]
  refine (Y_eq m c t _ _ hy0).trans ?_
  show _ = aY m c (((cfg0.win 13).blk t).view.emb y)
  unfold aY
  have f0 : 256 * t.val + ((cfg0.win 13).xinj (grid0.coords t) y 0).val = (((cfg0.win 13).blk t).view.emb y 0).val := by
    rw [hb0, e0]; show 256 * t.val + (y 0).val = _; omega
  have f1 : ((cfg0.win 13).xinj (grid0.coords t) y 1).val = (((cfg0.win 13).blk t).view.emb y 1).val := by
    rw [hb1, e1]; show (y 1).val = _; omega
  rw [f0, f1]

theorem final_aY (c : Dev nD) : (dats m 0 c).arrAt 13 cfg0.N = aY m c :=
  (dats m 0 c).arrAt_eq_of_cover 13 _ (fun t _ => flushed_aY m c t) ((by decide +kernel : (cfg0.win 13).Covers).cover _ (Memref.isWhole_whole _))

/-- The rows the block hands on. -/
def aX (c : Dev nD) : Buf (Elt Ideal) ((c.tc : Thread nD τ).loc main_v4_6) := fun (i : S8192x1024.Idx) => (X2 m c (i 0).val (i 1).val : EReal)

theorem flushed_aX (c : Dev nD) (t : Fin cfg0.N) : (dats m 0 c).flushed 14 t = ((cfg0.win 14).blk t).view.read (Elt Ideal) (aX m c) := by
  rw [Value.flushed14_A m c t]
  have e0 : win0_14.index t (0 : Fin 2) = t.val := congrFun (idxo t).2.2.2.2.2.2 0
  have e1 : win0_14.index t (1 : Fin 2) = 0 := congrFun (idxo t).2.2.2.2.2.2 1
  funext y
  have hb0 : (((cfg0.win 14).blk t).view.emb y 0).val = win0_14.index t (0 : Fin 2) * 256 + 1 * (y 0).val := rfl
  have hb1 : (((cfg0.win 14).blk t).view.emb y 1).val = win0_14.index t (1 : Fin 2) * 1024 + 1 * (y 1).val := rfl
  have ht := lt32 t
  have hy0 : ((cfg0.win 14).xinj (grid0.coords t) y 0).val < 256 := (y 0).isLt
  have hy1 : ((cfg0.win 14).xinj (grid0.coords t) y 1).val < 1024 := (y 1).isLt
  refine (out14_at c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((cfg0.win 14).xinj (grid0.coords t) y)).trans ?_
  rw [coord0 t]
  refine (X2_eq m c t _ _ hy0 hy1).trans ?_
  show _ = aX m c (((cfg0.win 14).blk t).view.emb y)
  unfold aX
  have f0 : 256 * t.val + ((cfg0.win 14).xinj (grid0.coords t) y 0).val = (((cfg0.win 14).blk t).view.emb y 0).val := by
    rw [hb0, e0]; show 256 * t.val + (y 0).val = _; omega
  have f1 : ((cfg0.win 14).xinj (grid0.coords t) y 1).val = (((cfg0.win 14).blk t).view.emb y 1).val := by
    rw [hb1, e1]; show (y 1).val = _; omega
  rw [f0, f1]

theorem final_aX (c : Dev nD) : (dats m 0 c).arrAt 14 cfg0.N = aX m c :=
  (dats m 0 c).arrAt_eq_of_cover 14 _ (fun t _ => flushed_aX m c t) ((by decide +kernel : (cfg0.win 14).Covers).cover _ (Memref.isWhole_whole _))

end Cert.FfnIdeal.Hand

end
-- ==== Proof.Ffn.lean ====
/- The forward pass of the feed-forward block: the reference and the claims. -/
module

public import proofs.«01_k».proof.Defs
public import proofs.«01_k».proof.Proof.FfnFin
public import proofs.«01_k».proof.Proof.Gen.FfnRefIdeal.Read
public import proofs.«01_k».proof.Proof.Gen.FfnRefIdeal.Run

@[expose] public section

set_option maxRecDepth 16384

noncomputable section

namespace Cert.FfnIdeal.Hand

open Cert.FfnIdeal.Gen Cert.KernelIdeal.Hand
open Idealize.ShloMosaic Idealize.ShloMosaic.TcCoe Idealize.ShloMosaic.Tactic
open Idealize.SL Idealize.SL.Sem

variable (m : (ℓ : Loc nD τ sig) → Buf (Elt Ideal) ℓ)

variable (x0 : FVec Ideal S8192x1024 .f32) (x1 : FVec Ideal S1x1024 .f32) (x2 : FVec Ideal S1024x5632 .f32) (x3 : FVec Ideal S3x5632 .f32)
  (x4 : FVec Ideal S2816x1024 .f32) (x5 : FVec Ideal S1x1024 .f32)

theorem ref13 (i : S8192x1024.Idx) : (Cert.FfnRefIdeal.Read.val_main_v13 (F := Ideal) x0 x1 i : EReal) = nrmF (at2 (α := EReal) (m := 8192) (n := 1024) x0) (at2 (α := EReal) (m := 1) (n := 1024) x1) (i 0).val (i 1).val := by
  unfold Cert.FfnRefIdeal.Read.val_main_v13 Cert.FfnRefIdeal.Read.val_main_v12 Cert.FfnRefIdeal.Read.val_main_v11 Cert.FfnRefIdeal.Read.val_main_v10 Cert.FfnRefIdeal.Read.val_main_v9 Cert.FfnRefIdeal.Read.val_main_v8 Cert.FfnRefIdeal.Read.val_main_v7 Cert.FfnRefIdeal.Read.val_main_v6 Cert.FfnRefIdeal.Read.val_main_v5 Cert.FfnRefIdeal.Read.val_main_v4 Cert.FfnRefIdeal.Read.val_main_v3 Cert.FfnRefIdeal.Read.val_main_v2 Cert.FfnRefIdeal.Read.val_main_v1 Cert.FfnRefIdeal.Read.val_main_v0 Cert.FfnRefIdeal.Read.val_main_cst Cert.FfnRefIdeal.Read.val_main_cst_0 Cert.FfnRefIdeal.Read.val_main_cst_1 nrmF rsv
  pointwise
  have e : ∀ k : Fin 1024, (at2 (α := EReal) (m := 8192) (n := 1024) x0) (i 0).val k.val = x0 (ix2 (i 0) k) := fun k => at2_fin (m := 8192) (n := 1024) x0 (i 0) k
  have e1 : (at2 (α := EReal) (m := 8192) (n := 1024) x0) (i 0).val (i 1).val = x0 i := at2_eq (m := 8192) (n := 1024) x0 i
  have e2 : (at2 (α := EReal) (m := 1) (n := 1024) x1) 0 (i 1).val = x1 (ix2 0 (i 1)) := at2_fin (m := 1) (n := 1024) x1 0 (i 1)
  rw [e1, e2]
  simp only [e]

theorem ref14 : Cert.FfnRefIdeal.Read.val_main_v14 (F := Ideal) x0 x1 x2 = hostU x0 x1 x2 := rfl

theorem ref36 : Cert.FfnRefIdeal.Read.val_main_v36 (F := Ideal) x0 x1 x2 x3 = hostH x3 (hostP (hostU x0 x1 x2)) := rfl

theorem ref36_at (i : S8192x5632.Idx) (R n : ℕ) (h0 : (i 0).val = R) (h1 : (i 1).val = n) :
    (Cert.FfnRefIdeal.Read.val_main_v36 (F := Ideal) x0 x1 x2 x3 i : EReal) = (cvF (at2 (α := EReal) (m := 3) (n := 5632) x3) (upF (at2 (α := EReal) (m := 8192) (n := 1024) x0) (at2 (α := EReal) (m := 1) (n := 1024) x1) (at2 (α := EReal) (m := 1024) (n := 5632) x2))) R n := by
  subst h0 h1
  exact (congrFun (ref36 x0 x1 x2 x3) i).trans (hid_apply x0 x1 x2 x3 i)

theorem ref37 (i : S8192x2816.Idx) : (Cert.FfnRefIdeal.Read.val_main_v37 (F := Ideal) x0 x1 x2 x3 i : EReal) = (cvF (at2 (α := EReal) (m := 3) (n := 5632) x3) (upF (at2 (α := EReal) (m := 8192) (n := 1024) x0) (at2 (α := EReal) (m := 1) (n := 1024) x1) (at2 (α := EReal) (m := 1024) (n := 5632) x2))) (i 0).val (i 1).val :=
  (Cert.FfnRefIdeal.Read.val_main_v37_apply (F := Ideal) x0 x1 x2 x3 i).trans (ref36_at x0 x1 x2 x3 _ _ _ rfl rfl)

theorem ref38 (i : S8192x2816.Idx) : (Cert.FfnRefIdeal.Read.val_main_v38 (F := Ideal) x0 x1 x2 x3 i : EReal) = (cvF (at2 (α := EReal) (m := 3) (n := 5632) x3) (upF (at2 (α := EReal) (m := 8192) (n := 1024) x0) (at2 (α := EReal) (m := 1) (n := 1024) x1) (at2 (α := EReal) (m := 1024) (n := 5632) x2))) (i 0).val (2816 + (i 1).val) :=
  (Cert.FfnRefIdeal.Read.val_main_v38_apply (F := Ideal) x0 x1 x2 x3 i).trans (ref36_at x0 x1 x2 x3 _ _ _ rfl rfl)

theorem ref_sg (i : S8192x2816.Idx) : (Cert.FfnRefIdeal.Read.val_main_call0_v5 (F := Ideal) x0 x1 x2 x3 i : EReal) = sgm ((cvF (at2 (α := EReal) (m := 3) (n := 5632) x3) (upF (at2 (α := EReal) (m := 8192) (n := 1024) x0) (at2 (α := EReal) (m := 1) (n := 1024) x1) (at2 (α := EReal) (m := 1024) (n := 5632) x2))) (i 0).val (i 1).val) := by
  rw [sgm_sgr, ← ref37 x0 x1 x2 x3 i]
  pointwise [Cert.FfnRefIdeal.Read.val_main_call0_v5, Cert.FfnRefIdeal.Read.val_main_call0_v4, Cert.FfnRefIdeal.Read.val_main_call0_cst_0, Cert.FfnRefIdeal.Read.val_main_call0_v3, Cert.FfnRefIdeal.Read.val_main_call0_v2, Cert.FfnRefIdeal.Read.val_main_call0_cst, Cert.FfnRefIdeal.Read.val_main_call0_v1, Cert.FfnRefIdeal.Read.val_main_call0_v0]
  rfl

/-- The gated product as the reference writes it. -/
def zR (R n : ℕ) : EReal := (cvF (at2 (α := EReal) (m := 3) (n := 5632) x3) (upF (at2 (α := EReal) (m := 8192) (n := 1024) x0) (at2 (α := EReal) (m := 1) (n := 1024) x1) (at2 (α := EReal) (m := 1024) (n := 5632) x2))) R n * sgm ((cvF (at2 (α := EReal) (m := 3) (n := 5632) x3) (upF (at2 (α := EReal) (m := 8192) (n := 1024) x0) (at2 (α := EReal) (m := 1) (n := 1024) x1) (at2 (α := EReal) (m := 1024) (n := 5632) x2))) R n) * (cvF (at2 (α := EReal) (m := 3) (n := 5632) x3) (upF (at2 (α := EReal) (m := 8192) (n := 1024) x0) (at2 (α := EReal) (m := 1) (n := 1024) x1) (at2 (α := EReal) (m := 1024) (n := 5632) x2))) R (2816 + n)

theorem ref40 (i : S8192x2816.Idx) : (Cert.FfnRefIdeal.Read.val_main_v40 (F := Ideal) x0 x1 x2 x3 i : EReal) = zR x0 x1 x2 x3 (i 0).val (i 1).val := by
  refine (Cert.FfnRefIdeal.Read.val_main_v40_apply (F := Ideal) x0 x1 x2 x3 i).trans ?_
  unfold zR
  refine congrArg₂ (fun s t : EReal => s * t) ((Cert.FfnRefIdeal.Read.val_main_v39_apply (F := Ideal) x0 x1 x2 x3 i).trans ?_) (ref38 x0 x1 x2 x3 i)
  exact congrArg₂ (fun s t : EReal => s * t) (ref37 x0 x1 x2 x3 i) (ref_sg x0 x1 x2 x3 i)

/-- The down projection's product as the reference writes it. -/
def yR (R d : ℕ) : EReal := ∑ k : Fin 2816, zR x0 x1 x2 x3 R k.val * (at2 (α := EReal) (m := 2816) (n := 1024) x4) k.val d

theorem ref41 (i : S8192x1024.Idx) : (Cert.FfnRefIdeal.Read.val_main_v41 (F := Ideal) x0 x1 x2 x3 x4 i : EReal) = yR x0 x1 x2 x3 x4 (i 0).val (i 1).val := by
  refine (Cert.FfnRefIdeal.Read.val_main_v41_apply x0 x1 x2 x3 x4 i).trans ?_
  unfold yR
  refine Finset.sum_congr rfl fun k _ => congrArg₂ (fun s t : EReal => s * t) (ref40 x0 x1 x2 x3 _) ?_
  exact Cert.Parts.at2_idx (m := 2816) (n := 1024) x4 _ _ _ rfl rfl

theorem ref60 (i : S8192x1024.Idx) : (Cert.FfnRefIdeal.Read.val_main_v60 (F := Ideal) x0 x1 x2 x3 x4 x5 i : EReal) = nrmF (yR x0 x1 x2 x3 x4) (at2 (α := EReal) (m := 1) (n := 1024) x5) (i 0).val (i 1).val := by
  unfold Cert.FfnRefIdeal.Read.val_main_v60 Cert.FfnRefIdeal.Read.val_main_v59 Cert.FfnRefIdeal.Read.val_main_v58 Cert.FfnRefIdeal.Read.val_main_v57 Cert.FfnRefIdeal.Read.val_main_v56 Cert.FfnRefIdeal.Read.val_main_v55 Cert.FfnRefIdeal.Read.val_main_v54 Cert.FfnRefIdeal.Read.val_main_v53 Cert.FfnRefIdeal.Read.val_main_v52 Cert.FfnRefIdeal.Read.val_main_v51 Cert.FfnRefIdeal.Read.val_main_v50 Cert.FfnRefIdeal.Read.val_main_v49 Cert.FfnRefIdeal.Read.val_main_v48 Cert.FfnRefIdeal.Read.val_main_v47 Cert.FfnRefIdeal.Read.val_main_cst_3 Cert.FfnRefIdeal.Read.val_main_cst_4 Cert.FfnRefIdeal.Read.val_main_cst_5 nrmF rsv
  pointwise
  have e : ∀ k : Fin 1024, yR x0 x1 x2 x3 x4 (i 0).val k.val = Cert.FfnRefIdeal.Read.val_main_v41 (F := Ideal) x0 x1 x2 x3 x4 (ix2 (i 0) k) := fun k => (ref41 x0 x1 x2 x3 x4 (ix2 (i 0) k)).symm
  have e1 : yR x0 x1 x2 x3 x4 (i 0).val (i 1).val = Cert.FfnRefIdeal.Read.val_main_v41 (F := Ideal) x0 x1 x2 x3 x4 i := (ref41 x0 x1 x2 x3 x4 i).symm
  have e2 : (at2 (α := EReal) (m := 1) (n := 1024) x5) 0 (i 1).val = x5 (ix2 0 (i 1)) := at2_fin (m := 1) (n := 1024) x5 0 (i 1)
  rw [e1, e2]
  simp only [e]

theorem ref61 (i : S8192x1024.Idx) : (Cert.FfnRefIdeal.Read.val_main_v61 (F := Ideal) x0 x1 x2 x3 x4 x5 i : EReal)
    = (at2 (α := EReal) (m := 8192) (n := 1024) x0) (i 0).val (i 1).val + nrmF (yR x0 x1 x2 x3 x4) (at2 (α := EReal) (m := 1) (n := 1024) x5) (i 0).val (i 1).val := by
  refine (Cert.FfnRefIdeal.Read.val_main_v61_apply (F := Ideal) x0 x1 x2 x3 x4 x5 i).trans ?_
  exact congrArg₂ (fun s t : EReal => s + t) (at2_eq (m := 8192) (n := 1024) x0 i).symm (ref60 x0 x1 x2 x3 x4 x5 i)

/-! ## The claims -/

theorem same_aU (c : Dev nD) : Cert.FfnRefIdeal.Read.val_main_v42 (F := Ideal) (m (c, main_arg0)) (m (c, main_arg1)) (m (c, main_arg2)) = aU m c :=
  funext fun i => (congrFun (ref14 (m (c, main_arg0)) (m (c, main_arg1)) (m (c, main_arg2))) i).trans (hostU_apply (m (c, main_arg0)) (m (c, main_arg1)) (m (c, main_arg2)) i)

theorem same_aH (c : Dev nD) : Cert.FfnRefIdeal.Read.val_main_v43 (F := Ideal) (m (c, main_arg0)) (m (c, main_arg1)) = aH m c :=
  funext fun i => ref13 (m (c, main_arg0)) (m (c, main_arg1)) i

theorem same_aG (c : Dev nD) : Cert.FfnRefIdeal.Read.val_main_v44 (F := Ideal) (m (c, main_arg0)) (m (c, main_arg1)) (m (c, main_arg2)) (m (c, main_arg3)) = aG m c :=
  funext fun i => ref37 (m (c, main_arg0)) (m (c, main_arg1)) (m (c, main_arg2)) (m (c, main_arg3)) i

theorem same_aV (c : Dev nD) : Cert.FfnRefIdeal.Read.val_main_v45 (F := Ideal) (m (c, main_arg0)) (m (c, main_arg1)) (m (c, main_arg2)) (m (c, main_arg3)) = aV m c :=
  funext fun i => ref38 (m (c, main_arg0)) (m (c, main_arg1)) (m (c, main_arg2)) (m (c, main_arg3)) i

theorem same_aZ (c : Dev nD) : Cert.FfnRefIdeal.Read.val_main_v46 (F := Ideal) (m (c, main_arg0)) (m (c, main_arg1)) (m (c, main_arg2)) (m (c, main_arg3)) = aZ m c :=
  funext fun i => ref40 (m (c, main_arg0)) (m (c, main_arg1)) (m (c, main_arg2)) (m (c, main_arg3)) i

theorem same_aY (c : Dev nD) : Cert.FfnRefIdeal.Read.val_main_v41 (F := Ideal) (m (c, main_arg0)) (m (c, main_arg1)) (m (c, main_arg2)) (m (c, main_arg3)) (m (c, main_arg4)) = aY m c :=
  funext fun i => ref41 (m (c, main_arg0)) (m (c, main_arg1)) (m (c, main_arg2)) (m (c, main_arg3)) (m (c, main_arg4)) i

theorem same_aX (c : Dev nD) : Cert.FfnRefIdeal.Read.val_main_v61 (F := Ideal) (m (c, main_arg0)) (m (c, main_arg1)) (m (c, main_arg2)) (m (c, main_arg3)) (m (c, main_arg4)) (m (c, main_arg5)) = aX m c :=
  funext fun i => ref61 (m (c, main_arg0)) (m (c, main_arg1)) (m (c, main_arg2)) (m (c, main_arg3)) (m (c, main_arg4)) (m (c, main_arg5)) i

/-- The reference runs, leaves its arguments unchanged, and every semaphore ends at zero. -/
theorem reference_frame : Cert.quiescent_FfnRefIdeal := by
  intro m g _
  exact (θ_run Cert.FfnRefIdeal.defs _ _).mono (fun r h => ⟨fun c => (h c).2.2.2.2.2.2.2, sem_eq_zero_of_no_sems (by decide) r.2⟩)
    (Cert.FfnRefIdeal.Value.run (F := Ideal) m g)

/-- From equal arguments the kernel and the reference end with equal results. -/
theorem equal_results : Cert.algebraic_FfnIdeal_FfnRefIdeal := by
  intro m g m' g' _ hagree
  refine ⟨aU m, aH m, aG m, aV m, aZ m, aY m, aX m, (θ_run defs _ _).mono (fun r h c => ⟨(h c).1.trans (final_aU m c), (h c).2.1.trans (final_aH m c), (h c).2.2.1.trans (final_aG m c), (h c).2.2.2.1.trans (final_aV m c), (h c).2.2.2.2.1.trans (final_aZ m c), (h c).2.2.2.2.2.1.trans (final_aY m c), (h c).2.2.2.2.2.2.1.trans (final_aX m c), (h c).2.2.2.2.2.2.2⟩) (Value.run_blocks (F := Ideal) m g), ?_⟩
  refine (θ_run Cert.FfnRefIdeal.defs _ _).mono (fun r h c => ?_) (Cert.FfnRefIdeal.Value.run (F := Ideal) m' g')
  obtain ⟨e0, e1, e2, e3, e4, e5⟩ := hagree c
  obtain ⟨r0, r1, r2, r3, r4, r5, r6, rest⟩ := h c
  have q0 : r.2.mem ((c.tc : Thread Cert.FfnRefIdeal.nD Cert.FfnRefIdeal.τ).loc Cert.FfnRefIdeal.main_v42) = Cert.FfnRefIdeal.Read.val_main_v42 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) := r0.trans (Cert.FfnRefIdeal.Read.val_main_v42_eq (F := Ideal) _ _ _)
  have q1 : r.2.mem ((c.tc : Thread Cert.FfnRefIdeal.nD Cert.FfnRefIdeal.τ).loc Cert.FfnRefIdeal.main_v43) = Cert.FfnRefIdeal.Read.val_main_v43 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) := r1.trans (Cert.FfnRefIdeal.Read.val_main_v43_eq (F := Ideal) _ _)
  have q2 : r.2.mem ((c.tc : Thread Cert.FfnRefIdeal.nD Cert.FfnRefIdeal.τ).loc Cert.FfnRefIdeal.main_v44) = Cert.FfnRefIdeal.Read.val_main_v44 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) := r2.trans (Cert.FfnRefIdeal.Read.val_main_v44_eq (F := Ideal) m' c)
  have q3 : r.2.mem ((c.tc : Thread Cert.FfnRefIdeal.nD Cert.FfnRefIdeal.τ).loc Cert.FfnRefIdeal.main_v45) = Cert.FfnRefIdeal.Read.val_main_v45 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) := r3.trans (Cert.FfnRefIdeal.Read.val_main_v45_eq (F := Ideal) m' c)
  have q4 : r.2.mem ((c.tc : Thread Cert.FfnRefIdeal.nD Cert.FfnRefIdeal.τ).loc Cert.FfnRefIdeal.main_v46) = Cert.FfnRefIdeal.Read.val_main_v46 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) := r4.trans (Cert.FfnRefIdeal.Read.val_main_v46_eq (F := Ideal) m' c)
  have q5 : r.2.mem ((c.tc : Thread Cert.FfnRefIdeal.nD Cert.FfnRefIdeal.τ).loc Cert.FfnRefIdeal.main_v41) = Cert.FfnRefIdeal.Read.val_main_v41 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) := r5.trans (Cert.FfnRefIdeal.Read.val_main_v41_eq (F := Ideal) m' c)
  have q6 : r.2.mem ((c.tc : Thread Cert.FfnRefIdeal.nD Cert.FfnRefIdeal.τ).loc Cert.FfnRefIdeal.main_v61) = Cert.FfnRefIdeal.Read.val_main_v61 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) := r6.trans (Cert.FfnRefIdeal.Read.val_main_v61_eq (F := Ideal) m' c)
  rw [e0, e1, e2] at q0
  rw [e0, e1] at q1
  rw [e0, e1, e2, e3] at q2
  rw [e0, e1, e2, e3] at q3
  rw [e0, e1, e2, e3] at q4
  rw [e0, e1, e2, e3, e4] at q5
  rw [e0, e1, e2, e3, e4, e5] at q6
  exact ⟨q0.trans (same_aU m c), q1.trans (same_aH m c), q2.trans (same_aG m c), q3.trans (same_aV m c), q4.trans (same_aZ m c), q5.trans (same_aY m c), q6.trans (same_aX m c), rest⟩

end Cert.FfnIdeal.Hand

end
-- ==== Proof.MixSem.lean ====
/- The forward combine of the mixers: what one grid point computes, entry by entry. -/
module

public import proofs.«01_k».proof.Proof.FfnTile
public import proofs.«01_k».proof.Proof.Gen.MixIdeal.Skeleton

@[expose] public section

set_option maxRecDepth 16384

noncomputable section

namespace Cert.MixIdeal.Hand

open Cert.MixIdeal.Gen Cert.KernelIdeal.Hand
open Cert.FfnIdeal.Hand (nrmF nrmF_congr sgm_sgr hz2)
open Idealize.ShloMosaic Idealize.ShloMosaic.TcCoe Idealize.ShloMosaic.Tactic
open Idealize.SL Idealize.SL.Sem

/-- The product of two column blocks over the eight rows before a tile, the tile and the eight rows after it: zero before the first point's tile and after the last one's. -/
def hal (w : BitVec 32) (cp vp g v cn vn : ℕ → ℕ → EReal) (k n : ℕ) : EReal :=
  if k < 8 then Scalar.select (Scalar.cmpi .eq w 0#32) 0 (cp (8 + k) n) * Scalar.select (Scalar.cmpi .eq w 0#32) 0 (vp (8 + k) n)
  else if k - 8 < 512 then g (k - 8) n * v (k - 8) n
  else Scalar.select (Scalar.cmpi .eq w 15#32) 0 (cn (k - 8 - 512) n) * Scalar.select (Scalar.cmpi .eq w 15#32) 0 (vn (k - 8 - 512) n)

theorem pay4_apply (v28 v31 : FVec Ideal S512x512 .bf16) (i : S512x512.Idx) :
    (k0_pay4 (F := Ideal) v28 v31 i : EReal) = (at2 (α := EReal) (m := 512) (n := 512) v28) (i 0).val (i 1).val * (at2 (α := EReal) (m := 512) (n := 512) v31) (i 0).val (i 1).val := by
  have e1 : (at2 (α := EReal) (m := 512) (n := 512) v28) (i 0).val (i 1).val = v28 i := at2_eq (m := 512) (n := 512) v28 i
  have e2 : (at2 (α := EReal) (m := 512) (n := 512) v31) (i 0).val (i 1).val = v31 i := at2_eq (m := 512) (n := 512) v31 i
  rw [e1, e2]
  unfold k0_pay4
  pointwise

theorem cat_eq (v0 : FVec Ideal S8x512 .f32) (v1 : FVec Ideal S512x512 .f32) (v2 : FVec Ideal S8x512 .f32) (i : S528x512.Idx) :
    (concatenate S528x512 0 [⟨S8x512, v0⟩, ⟨S512x512, v1⟩, ⟨S8x512, v2⟩] concatenates_S8x512_S512x512_S8x512_S528x512_d0 i : EReal)
      = if (i 0).val < 8 then (at2 (α := EReal) (m := 8) (n := 512) v0) (i 0).val (i 1).val else if (i 0).val - 8 < 512 then (at2 (α := EReal) (m := 512) (n := 512) v1) ((i 0).val - 8) (i 1).val else (at2 (α := EReal) (m := 8) (n := 512) v2) ((i 0).val - 8 - 512) (i 1).val := by
  have h0 : (i 0).val < 528 := (i 0).isLt
  pointwise
  by_cases h1 : (i 0).val < 8
  · rw [if_pos h1]
    exact (dif_pos h1).trans (at2_fin (α := EReal) (m := 8) (n := 512) v0 ⟨(i 0).val, h1⟩ (i 1)).symm
  · rw [if_neg h1]
    refine (dif_neg h1).trans ?_
    by_cases h2 : (i 0).val - 8 < 512
    · rw [if_pos h2]
      exact (dif_pos h2).trans (at2_fin (α := EReal) (m := 512) (n := 512) v1 ⟨(i 0).val - 8, h2⟩ (i 1)).symm
    · rw [if_neg h2]
      refine (dif_neg h2).trans ?_
      exact (at2_fin (α := EReal) (m := 8) (n := 512) v2 ⟨(i 0).val - 8 - 512, by omega⟩ (i 1)).symm

/-- The eight rows before a tile, or zero. -/
def befV (w : BitVec 32) (v : FVec Ideal S16x512 .bf16) : FVec Ideal S8x512 .f32 :=
  Scalar.select (Scalar.cmpi .eq w 0#32) (broadcast S8x512 (Scalar.ofBits (F := Ideal) .f32 0x00000000#32))
    (extractStridedSlice S8x512 ![8, 0] (extf .f32 (shapeCast S16x512 v shapeCasts_S16x512_S16x512) bitsLt_bf16_f32) slices_S16x512_o8_0_S8x512)

/-- The eight rows after a tile, or zero. -/
def aftV (w : BitVec 32) (v : FVec Ideal S16x512 .bf16) : FVec Ideal S8x512 .f32 :=
  Scalar.select (Scalar.cmpi .eq w 15#32) (broadcast S8x512 (Scalar.ofBits (F := Ideal) .f32 0x00000000#32))
    (extractStridedSlice S8x512 ![0, 0] (extf .f32 (shapeCast S16x512 v shapeCasts_S16x512_S16x512) bitsLt_bf16_f32) slices_S16x512_o0_0_S8x512)

theorem befV_at (w : BitVec 32) (v : FVec Ideal S16x512 .bf16) (i : S8x512.Idx) :
    (befV w v i : EReal) = Scalar.select (Scalar.cmpi .eq w 0#32) 0 ((at2 (α := EReal) (m := 16) (n := 512) v) (8 + (i 0).val) (i 1).val) := by
  have h0 : (i 0).val < 8 := (i 0).isLt
  have e : (at2 (α := EReal) (m := 16) (n := 512) v) (8 + (i 0).val) (i 1).val = v (ix2 ⟨8 + (i 0).val, by omega⟩ (i 1)) := at2_fin (m := 16) (n := 512) v ⟨8 + (i 0).val, by omega⟩ (i 1)
  rw [e]
  unfold befV
  pointwise

theorem aftV_at (w : BitVec 32) (v : FVec Ideal S16x512 .bf16) (i : S8x512.Idx) :
    (aftV w v i : EReal) = Scalar.select (Scalar.cmpi .eq w 15#32) 0 ((at2 (α := EReal) (m := 16) (n := 512) v) (i 0).val (i 1).val) := by
  have h0 : (i 0).val < 8 := (i 0).isLt
  have e : (at2 (α := EReal) (m := 16) (n := 512) v) (i 0).val (i 1).val = v (ix2 ⟨(i 0).val, by omega⟩ (i 1)) := at2_fin (m := 16) (n := 512) v ⟨(i 0).val, by omega⟩ (i 1)
  rw [e]
  unfold aftV
  pointwise

theorem pay5_eq (i : grid0.Coords) (v1 v8 v15 v22 : FVec Ideal S16x512 .bf16) (v28 v31 : FVec Ideal S512x512 .bf16) :
    k0_pay5 (F := Ideal) i v1 v8 v15 v22 v28 v31
      = concatenate S528x512 0 [⟨S8x512, mulf (befV (BitVec.ofNat 32 (i 0).val) v1) (befV (BitVec.ofNat 32 (i 0).val) v15)⟩, ⟨S512x512, k0_pay4 (F := Ideal) v28 v31⟩,
        ⟨S8x512, mulf (aftV (BitVec.ofNat 32 (i 0).val) v8) (aftV (BitVec.ofNat 32 (i 0).val) v22)⟩] concatenates_S8x512_S512x512_S8x512_S528x512_d0 := rfl

theorem pay5_apply (q : grid0.Coords) (v1 v8 v15 v22 : FVec Ideal S16x512 .bf16) (v28 v31 : FVec Ideal S512x512 .bf16) (i : S528x512.Idx) :
    (k0_pay5 (F := Ideal) q v1 v8 v15 v22 v28 v31 i : EReal) = hal (BitVec.ofNat 32 (q 0).val) (at2 (α := EReal) (m := 16) (n := 512) v1) (at2 (α := EReal) (m := 16) (n := 512) v15) (at2 (α := EReal) (m := 512) (n := 512) v28) (at2 (α := EReal) (m := 512) (n := 512) v31) (at2 (α := EReal) (m := 16) (n := 512) v8) (at2 (α := EReal) (m := 16) (n := 512) v22) (i 0).val (i 1).val := by
  have h0 : (i 0).val < 528 := (i 0).isLt
  refine (congrFun (pay5_eq q v1 v8 v15 v22 v28 v31) i).trans ((cat_eq _ _ _ i).trans ?_)
  unfold hal
  by_cases h1 : (i 0).val < 8
  · rw [if_pos h1, if_pos h1]
    refine (at2_fin (α := EReal) (m := 8) (n := 512) _ ⟨(i 0).val, h1⟩ (i 1)).trans ?_
    exact congrArg₂ (fun s t : EReal => s * t) (befV_at _ v1 (ix2 ⟨(i 0).val, h1⟩ (i 1))) (befV_at _ v15 (ix2 ⟨(i 0).val, h1⟩ (i 1)))
  · rw [if_neg h1, if_neg h1]
    by_cases h2 : (i 0).val - 8 < 512
    · rw [if_pos h2, if_pos h2]
      exact (at2_fin (α := EReal) (m := 512) (n := 512) _ ⟨(i 0).val - 8, h2⟩ (i 1)).trans (pay4_apply v28 v31 (ix2 ⟨(i 0).val - 8, h2⟩ (i 1)))
    · rw [if_neg h2, if_neg h2]
      refine (at2_fin (α := EReal) (m := 8) (n := 512) _ ⟨(i 0).val - 8 - 512, by omega⟩ (i 1)).trans ?_
      exact congrArg₂ (fun s t : EReal => s * t) (aftV_at _ v8 (ix2 ⟨(i 0).val - 8 - 512, by omega⟩ (i 1))) (aftV_at _ v22 (ix2 ⟨(i 0).val - 8 - 512, by omega⟩ (i 1)))

/-- The gated short convolution of a tile's rows. -/
def yaT (w : BitVec 32) (b cp vp g v cn vn cw : ℕ → ℕ → EReal) (r n : ℕ) : EReal :=
  b r n * (cw 0 n * hal w cp vp g v cn vn (7 + r) n + cw 1 n * (g r n * v r n) + cw 2 n * hal w cp vp g v cn vn (9 + r) n)

theorem pay6_apply (q : grid0.Coords) (v1 v8 v15 v22 : FVec Ideal S16x512 .bf16) (v28 v31 : FVec Ideal S512x512 .bf16) (c0 c1 c2 : FVec Ideal S1x512 .f32) (b : FVec Ideal S512x512 .bf16) (cw : ℕ → ℕ → EReal)
    (h0 : ∀ n, n < 512 → (at2 (α := EReal) (m := 1) (n := 512) c0) 0 n = cw 0 n) (h1 : ∀ n, n < 512 → (at2 (α := EReal) (m := 1) (n := 512) c1) 0 n = cw 1 n) (h2 : ∀ n, n < 512 → (at2 (α := EReal) (m := 1) (n := 512) c2) 0 n = cw 2 n) (i : S512x512.Idx) :
    (k0_pay6 (F := Ideal) (k0_pay4 (F := Ideal) v28 v31) (k0_pay5 (F := Ideal) q v1 v8 v15 v22 v28 v31) 1#32 c0 c1 c2 b i : EReal)
      = yaT (BitVec.ofNat 32 (q 0).val) (at2 (α := EReal) (m := 512) (n := 512) b) (at2 (α := EReal) (m := 16) (n := 512) v1) (at2 (α := EReal) (m := 16) (n := 512) v15) (at2 (α := EReal) (m := 512) (n := 512) v28) (at2 (α := EReal) (m := 512) (n := 512) v31) (at2 (α := EReal) (m := 16) (n := 512) v8) (at2 (α := EReal) (m := 16) (n := 512) v22) cw (i 0).val (i 1).val := by
  have i0 : (i 0).val < 512 := (i 0).isLt
  have i1 : (i 1).val < 512 := (i 1).isLt
  have hp := pay4_apply v28 v31
  have hq := pay5_apply q v1 v8 v15 v22 v28 v31
  unfold k0_pay6 yaT
  generalize k0_pay4 (F := Ideal) v28 v31 = u at hp ⊢
  generalize k0_pay5 (F := Ideal) q v1 v8 v15 v22 v28 v31 = v at hq ⊢
  pointwise
  have e1 : (8 + (i 0).val + 528 - 1) % 528 = 7 + (i 0).val := by omega
  have e2 : (8 + (i 0).val + 528 - 527) % 528 = 9 + (i 0).val := by omega
  rw [← h0 _ i1, ← h1 _ i1, ← h2 _ i1]
  simp only [hp, hq, ix2v0, ix2v1, e1, e2]
  have k0 : (at2 (α := EReal) (m := 1) (n := 512) c0) 0 (i 1).val = c0 (ix2 0 (i 1)) := at2_fin (m := 1) (n := 512) c0 0 (i 1)
  have k1 : (at2 (α := EReal) (m := 1) (n := 512) c1) 0 (i 1).val = c1 (ix2 0 (i 1)) := at2_fin (m := 1) (n := 512) c1 0 (i 1)
  have k2 : (at2 (α := EReal) (m := 1) (n := 512) c2) 0 (i 1).val = c2 (ix2 0 (i 1)) := at2_fin (m := 1) (n := 512) c2 0 (i 1)
  have k3 : (at2 (α := EReal) (m := 512) (n := 512) b) (i 0).val (i 1).val = b i := at2_eq (m := 512) (n := 512) b i
  rw [k0, k1, k2, k3]
  rfl

/-! ## The head norm -/

/-- The sum of two arrays. -/
def oS (f b : ℕ → ℕ → EReal) (r d : ℕ) : EReal := f r d + b r d

/-- The reciprocal root of a head's mean square. -/
def hrs (o : ℕ → ℕ → EReal) (r h : ℕ) : EReal :=
  Ideal.rsqrt (Ideal.div (∑ k : Fin 128, o r (h + k.val) * o r (h + k.val)) (Ideal.ofBits FTy.f32 0x43000000#32) + Ideal.ofBits FTy.f32 0x358637BD#32)

/-- A row normalised head by head. -/
def hnm (o : ℕ → ℕ → EReal) (r d : ℕ) : EReal := o r d * hrs o r (128 * (d / 128))

theorem pay7_apply (f b : FVec Ideal S512x512 .bf16) (i : S512x512.Idx) : (k0_pay7 (F := Ideal) f b i : EReal) = oS (at2 (α := EReal) (m := 512) (n := 512) f) (at2 (α := EReal) (m := 512) (n := 512) b) (i 0).val (i 1).val := by
  have e1 : (at2 (α := EReal) (m := 512) (n := 512) f) (i 0).val (i 1).val = f i := at2_eq (m := 512) (n := 512) f i
  have e2 : (at2 (α := EReal) (m := 512) (n := 512) b) (i 0).val (i 1).val = b i := at2_eq (m := 512) (n := 512) b i
  unfold k0_pay7 oS
  rw [e1, e2]
  pointwise

/-- One head of a tile normalised. -/
def headV (s : FVec Ideal S512x128 .f32) : FVec Ideal S512x128 .f32 :=
  mulf s (broadcastTo S512x128 (rsqrt (addf (divf (shapeCast S512x1 (multiReduction .add [1] S512 (mulf s s) 0x00000000#32 reduces_S512x128_S512 (.inl rfl) rfl) shapeCasts_S512_S512x1)
    (broadcast S512x1 (Scalar.ofBits (F := Ideal) .f32 0x43000000#32))) (broadcast S512x1 (Scalar.ofBits (F := Ideal) .f32 0x358637BD#32)))) broadcasts_S512x1_S512x128)

theorem headV_at (s : FVec Ideal S512x128 .f32) (o : ℕ → ℕ → EReal) (h : ℕ) (hs : ∀ j : S512x128.Idx, (s j : EReal) = o (j 0).val (h + (j 1).val)) (i : S512x128.Idx) :
    (headV s i : EReal) = o (i 0).val (h + (i 1).val) * hrs o (i 0).val h := by
  unfold headV hrs
  pointwise
  simp only [hs]
  rfl

/-- The four heads side by side, gated. -/
def ybV (g : FVec Ideal S512x512 .bf16) (gh : FVec Ideal S1x512 .f32) (x : FVec Ideal S512x512 .f32) : FVec Ideal S512x512 .f32 :=
  mulf (mulf (extf .f32 (shapeCast S512x512 g shapeCasts_S512x512_S512x512) bitsLt_bf16_f32)
      (addf (mulf (broadcast S512x512 (Scalar.ofBits (F := Ideal) .f32 0x3F000000#32)) (tanh (mulf (broadcast S512x512 (Scalar.ofBits (F := Ideal) .f32 0x3F000000#32)) (extf .f32 (shapeCast S512x512 g shapeCasts_S512x512_S512x512) bitsLt_bf16_f32))))
        (broadcast S512x512 (Scalar.ofBits (F := Ideal) .f32 0x3F000000#32))))
    (mulf x (broadcastTo S512x512 (shapeCast S1x512 gh shapeCasts_S1x512_S1x512) broadcasts_S1x512_S512x512))

theorem ybV_at (g : FVec Ideal S512x512 .bf16) (gh : FVec Ideal S1x512 .f32) (x : FVec Ideal S512x512 .f32) (i : S512x512.Idx) :
    (ybV g gh x i : EReal) = (at2 (α := EReal) (m := 512) (n := 512) g) (i 0).val (i 1).val * sgm ((at2 (α := EReal) (m := 512) (n := 512) g) (i 0).val (i 1).val) * (x i * (at2 (α := EReal) (m := 1) (n := 512) gh) 0 (i 1).val) := by
  have e1 : (at2 (α := EReal) (m := 512) (n := 512) g) (i 0).val (i 1).val = g i := at2_eq (m := 512) (n := 512) g i
  have e2 : (at2 (α := EReal) (m := 1) (n := 512) gh) 0 (i 1).val = gh (ix2 0 (i 1)) := at2_fin (m := 1) (n := 512) gh 0 (i 1)
  rw [e1, e2]
  unfold ybV
  pointwise
  rfl

theorem cat4_at (v : Fin 4 → FVec Ideal S512x128 .f32) (i : S512x512.Idx) :
    (concatenate S512x512 1 [⟨S512x128, v 0⟩, ⟨S512x128, v 1⟩, ⟨S512x128, v 2⟩, ⟨S512x128, v 3⟩] concatenates_S512x128_S512x128_S512x128_S512x128_S512x512_d1 i : EReal)
      = v ⟨(i 1).val / 128, by have h : (i 1).val < 512 := (i 1).isLt; omega⟩ (ix2 (i 0) ⟨(i 1).val % 128, by omega⟩) := by
  have h0 : (i 1).val < 512 := (i 1).isLt
  have key : ∀ (a b : Fin 4) (p q : Fin 128), a = b → p = q → (v a (ix2 (i 0) p) : EReal) = v b (ix2 (i 0) q) := by
    intro a b p q e f
    subst e f
    rfl
  pointwise
  by_cases h1 : (i 1).val < 128
  · refine (dif_pos h1).trans (key 0 _ _ _ (Fin.ext ?_) (Fin.ext ?_))
    · show 0 = (i 1).val / 128; omega
    · show (i 1).val = (i 1).val % 128; omega
  · refine (dif_neg h1).trans ?_
    by_cases h2 : (i 1).val - 128 < 128
    · refine (dif_pos h2).trans (key 1 _ _ _ (Fin.ext ?_) (Fin.ext ?_))
      · show 1 = (i 1).val / 128; omega
      · show (i 1).val - 128 = (i 1).val % 128; omega
    · refine (dif_neg h2).trans ?_
      by_cases h3 : (i 1).val - 128 - 128 < 128
      · refine (dif_pos h3).trans (key 2 _ _ _ (Fin.ext ?_) (Fin.ext ?_))
        · show 2 = (i 1).val / 128; omega
        · show (i 1).val - 128 - 128 = (i 1).val % 128; omega
      · refine (dif_neg h3).trans (key 3 _ _ _ (Fin.ext ?_) (Fin.ext ?_))
        · show 3 = (i 1).val / 128; omega
        · show (i 1).val - 128 - 128 - 128 = (i 1).val % 128; omega

end Cert.MixIdeal.Hand

end
-- ==== Proof.MixOut.lean ====
/- The forward combine of the mixers: what one grid point leaves in each of its output buffers. -/
module

public import proofs.«01_k».proof.Proof.MixSem
public import proofs.«01_k».proof.Proof.Gen.MixIdeal.Frame

@[expose] public section

set_option maxRecDepth 16384

noncomputable section

namespace Cert.MixIdeal.Hand

open Cert.MixIdeal.Gen Cert.KernelIdeal.Hand
open Cert.FfnIdeal.Hand (nrmF nrmF_congr sgm_sgr hz2)
open Idealize.ShloMosaic Idealize.ShloMosaic.TcCoe Idealize.ShloMosaic.Tactic
open Idealize.SL Idealize.SL.Sem

/-- Both mixers' rows side by side. -/
def ycT (w : BitVec 32) (b cp vp g v cn vn cw go o gh : ℕ → ℕ → EReal) (r n : ℕ) : EReal :=
  if n < 512 then yaT w b cp vp g v cn vn cw r n else go r (n - 512) * sgm (go r (n - 512)) * (hnm o r (n - 512) * gh 0 (n - 512))

/-- The product with the output projection. -/
def yT (yc w : ℕ → ℕ → EReal) (r d : ℕ) : EReal := ∑ k : Fin 1024, yc r k.val * w k.val d

/-- The four heads of a tile. -/
def hv (o : FVec Ideal S512x512 .f32) : Fin 4 → FVec Ideal S512x128 .f32 :=
  ![headV (extractStridedSlice S512x128 ![0, 0] o slices_S512x512_o0_0_S512x128), headV (extractStridedSlice S512x128 ![0, 128] o slices_S512x512_o0_128_S512x128),
    headV (extractStridedSlice S512x128 ![0, 256] o slices_S512x512_o0_256_S512x128), headV (extractStridedSlice S512x128 ![0, 384] o slices_S512x512_o0_384_S512x128)]

/-- A column slice of a tile, entry by entry. -/
theorem slice_at (k : ℕ) (hk : k + 128 ≤ 512) (h : S512x512.Slices ![0, k] S512x128) (o : FVec Ideal S512x512 .f32) (j : S512x128.Idx) :
    (extractStridedSlice S512x128 ![0, k] o h j : EReal) = (at2 (α := EReal) (m := 512) (n := 512) o) (j 0).val (k + (j 1).val) := by
  have h1 : (j 1).val < 128 := (j 1).isLt
  refine Eq.trans ?_ (at2_fin (m := 512) (n := 512) o (j 0) ⟨k + (j 1).val, by omega⟩).symm
  pointwise

theorem hv_at (o : FVec Ideal S512x512 .f32) (h : Fin 4) (j : S512x128.Idx) :
    (hv o h j : EReal) = (at2 (α := EReal) (m := 512) (n := 512) o) (j 0).val (128 * h.val + (j 1).val) * hrs (at2 (α := EReal) (m := 512) (n := 512) o) (j 0).val (128 * h.val) := by
  match h with
  | 0 => exact headV_at _ (at2 (α := EReal) (m := 512) (n := 512) o) 0 (slice_at 0 (by decide) _ o) j
  | 1 => exact headV_at _ (at2 (α := EReal) (m := 512) (n := 512) o) 128 (slice_at 128 (by decide) _ o) j
  | 2 => exact headV_at _ (at2 (α := EReal) (m := 512) (n := 512) o) 256 (slice_at 256 (by decide) _ o) j
  | 3 => exact headV_at _ (at2 (α := EReal) (m := 512) (n := 512) o) 384 (slice_at 384 (by decide) _ o) j

theorem heads_at (o : FVec Ideal S512x512 .f32) (i : S512x512.Idx) :
    (concatenate S512x512 1 [⟨S512x128, hv o 0⟩, ⟨S512x128, hv o 1⟩, ⟨S512x128, hv o 2⟩, ⟨S512x128, hv o 3⟩] concatenates_S512x128_S512x128_S512x128_S512x128_S512x512_d1 i : EReal)
      = hnm (at2 (α := EReal) (m := 512) (n := 512) o) (i 0).val (i 1).val := by
  refine (cat4_at (hv o) i).trans ((hv_at o _ _).trans ?_)
  have e : 128 * ((i 1).val / 128) + (i 1).val % 128 = (i 1).val := Nat.div_add_mod _ _
  show (at2 (α := EReal) (m := 512) (n := 512) o) (i 0).val (128 * ((i 1).val / 128) + (i 1).val % 128) * hrs (at2 (α := EReal) (m := 512) (n := 512) o) (i 0).val (128 * ((i 1).val / 128)) = _
  rw [e]
  rfl

theorem pay12_eq (y : FVec Ideal S512x512 .f32) (f b go : FVec Ideal S512x512 .bf16) (gh : FVec Ideal S1x512 .f32) :
    k0_pay12 (F := Ideal) y (k0_pay7 f b) (k0_pay8 f b) (k0_pay9 f b) (k0_pay10 f b) k0_pay11 go gh
      = concatenate S512x1024 1 [⟨S512x512, y⟩, ⟨S512x512, ybV go gh (concatenate S512x512 1 [⟨S512x128, hv (k0_pay7 (F := Ideal) f b) 0⟩, ⟨S512x128, hv (k0_pay7 (F := Ideal) f b) 1⟩, ⟨S512x128, hv (k0_pay7 (F := Ideal) f b) 2⟩,
        ⟨S512x128, hv (k0_pay7 (F := Ideal) f b) 3⟩] concatenates_S512x128_S512x128_S512x128_S512x128_S512x512_d1)⟩] concatenates_S512x512_S512x512_S512x1024_d1 := rfl

theorem cat2_at (y z : FVec Ideal S512x512 .f32) (i : S512x1024.Idx) :
    (concatenate S512x1024 1 [⟨S512x512, y⟩, ⟨S512x512, z⟩] concatenates_S512x512_S512x512_S512x1024_d1 i : EReal)
      = if (i 1).val < 512 then (at2 (α := EReal) (m := 512) (n := 512) y) (i 0).val (i 1).val else (at2 (α := EReal) (m := 512) (n := 512) z) (i 0).val ((i 1).val - 512) := by
  have h0 : (i 1).val < 1024 := (i 1).isLt
  pointwise
  by_cases h1 : (i 1).val < 512
  · rw [if_pos h1]
    exact (dif_pos h1).trans (at2_fin (α := EReal) (m := 512) (n := 512) y (i 0) ⟨(i 1).val, h1⟩).symm
  · rw [if_neg h1]
    exact (dif_neg h1).trans (at2_fin (α := EReal) (m := 512) (n := 512) z (i 0) ⟨(i 1).val - 512, by omega⟩).symm

/-- Both mixers' rows of a tile as the body computes them. -/
def ycV (q : grid0.Coords) (v1 v8 v15 v22 : FVec Ideal S16x512 .bf16) (v28 v31 : FVec Ideal S512x512 .bf16) (c0 c1 c2 : FVec Ideal S1x512 .f32) (b go f r : FVec Ideal S512x512 .bf16) (gh : FVec Ideal S1x512 .f32) : FVec Ideal S512x1024 .f32 :=
  k0_pay12 (F := Ideal) (k0_pay6 (F := Ideal) (k0_pay4 (F := Ideal) v28 v31) (k0_pay5 (F := Ideal) q v1 v8 v15 v22 v28 v31) 1#32 c0 c1 c2 b) (k0_pay7 f r) (k0_pay8 f r) (k0_pay9 f r) (k0_pay10 f r) k0_pay11 go gh

theorem ycV_at (q : grid0.Coords) (v1 v8 v15 v22 : FVec Ideal S16x512 .bf16) (v28 v31 : FVec Ideal S512x512 .bf16) (c0 c1 c2 : FVec Ideal S1x512 .f32) (b go f r : FVec Ideal S512x512 .bf16) (gh : FVec Ideal S1x512 .f32) (cw : ℕ → ℕ → EReal)
    (h0 : ∀ n, n < 512 → (at2 (α := EReal) (m := 1) (n := 512) c0) 0 n = cw 0 n) (h1 : ∀ n, n < 512 → (at2 (α := EReal) (m := 1) (n := 512) c1) 0 n = cw 1 n) (h2 : ∀ n, n < 512 → (at2 (α := EReal) (m := 1) (n := 512) c2) 0 n = cw 2 n) (i : S512x1024.Idx) :
    (ycV q v1 v8 v15 v22 v28 v31 c0 c1 c2 b go f r gh i : EReal)
      = ycT (BitVec.ofNat 32 (q 0).val) (at2 (α := EReal) (m := 512) (n := 512) b) (at2 (α := EReal) (m := 16) (n := 512) v1) (at2 (α := EReal) (m := 16) (n := 512) v15) (at2 (α := EReal) (m := 512) (n := 512) v28) (at2 (α := EReal) (m := 512) (n := 512) v31) (at2 (α := EReal) (m := 16) (n := 512) v8) (at2 (α := EReal) (m := 16) (n := 512) v22) cw (at2 (α := EReal) (m := 512) (n := 512) go) (oS (at2 (α := EReal) (m := 512) (n := 512) f) (at2 (α := EReal) (m := 512) (n := 512) r)) (at2 (α := EReal) (m := 1) (n := 512) gh) (i 0).val (i 1).val := by
  have i1 : (i 1).val < 1024 := (i 1).isLt
  refine (congrFun (pay12_eq _ f r go gh) i).trans ((cat2_at _ _ i).trans ?_)
  unfold ycT
  by_cases h : (i 1).val < 512
  · rw [if_pos h, if_pos h]
    exact (at2_fin (α := EReal) (m := 512) (n := 512) _ (i 0) ⟨(i 1).val, h⟩).trans (pay6_apply q v1 v8 v15 v22 v28 v31 c0 c1 c2 b cw h0 h1 h2 (ix2 (i 0) ⟨(i 1).val, h⟩))
  · rw [if_neg h, if_neg h]
    refine (at2_fin (α := EReal) (m := 512) (n := 512) _ (i 0) ⟨(i 1).val - 512, by omega⟩).trans ((ybV_at go gh _ (ix2 (i 0) ⟨(i 1).val - 512, by omega⟩)).trans ?_)
    refine congrArg (fun s : EReal => (at2 (α := EReal) (m := 512) (n := 512) go) (i 0).val ((i 1).val - 512) * sgm ((at2 (α := EReal) (m := 512) (n := 512) go) (i 0).val ((i 1).val - 512)) * (s * (at2 (α := EReal) (m := 1) (n := 512) gh) 0 ((i 1).val - 512))) ?_
    refine (heads_at _ (ix2 (i 0) ⟨(i 1).val - 512, by omega⟩)).trans ?_
    have e : ∀ R n, R < 512 → n < 512 → (at2 (α := EReal) (m := 512) (n := 512) (k0_pay7 (F := Ideal) f r)) R n = oS (at2 (α := EReal) (m := 512) (n := 512) f) (at2 (α := EReal) (m := 512) (n := 512) r) R n :=
      fun R n hR hn => (at2_mk (m := 512) (n := 512) _ R n hR hn).trans (pay7_apply f r (ix2 ⟨R, hR⟩ ⟨n, hn⟩))
    have hi : (i 0).val < 512 := (i 0).isLt
    show hnm (at2 (α := EReal) (m := 512) (n := 512) (k0_pay7 (F := Ideal) f r)) (i 0).val ((i 1).val - 512) = _
    unfold hnm hrs
    rw [e _ _ hi (by omega)]
    have q2 : ∀ k : Fin 128, (at2 (α := EReal) (m := 512) (n := 512) (k0_pay7 (F := Ideal) f r)) (i 0).val (128 * (((i 1).val - 512) / 128) + k.val) = oS (at2 (α := EReal) (m := 512) (n := 512) f) (at2 (α := EReal) (m := 512) (n := 512) r) (i 0).val (128 * (((i 1).val - 512) / 128) + k.val) :=
      fun k => e _ _ hi (by omega)
    simp only [q2]

theorem pay1_at (v : FVec Ideal S512x1024 .f32) (i : S512x1024.Idx) : (k0_pay1 (F := Ideal) v i : EReal) = v i := by
  unfold k0_pay1
  pointwise

theorem pay2_at (v : FVec Ideal S512x1024 .f32) (w : FVec Ideal S1024x1024 .bf16) (yc : ℕ → ℕ → EReal) (hv : ∀ j : S512x1024.Idx, (v j : EReal) = yc (j 0).val (j 1).val) (i : S512x1024.Idx) :
    (k0_pay2 (F := Ideal) v w i : EReal) = yT yc (at2 (α := EReal) (m := 1024) (n := 1024) w) (i 0).val (i 1).val := by
  have hp := pay1_at v
  unfold k0_pay2 yT
  generalize k0_pay1 (F := Ideal) v = u at hp ⊢
  pointwise
  exact Finset.sum_congr rfl fun k _ => congrArg₂ (· * ·) ((hp _).trans (hv (ix2 (i 0) k))) (at2_fin (m := 1024) (n := 1024) w k (i 1)).symm

theorem pay3_at (v : FVec Ideal S512x1024 .f32) (w : FVec Ideal S1024x1024 .bf16) (x : FVec Ideal S512x1024 .f32) (g : FVec Ideal S1x1024 .f32) (yc : ℕ → ℕ → EReal)
    (hv : ∀ j : S512x1024.Idx, (v j : EReal) = yc (j 0).val (j 1).val) (i : S512x1024.Idx) :
    (k0_pay3 (F := Ideal) v w x g i : EReal) = (at2 (α := EReal) (m := 512) (n := 1024) x) (i 0).val (i 1).val + nrmF (yT yc (at2 (α := EReal) (m := 1024) (n := 1024) w)) (at2 (α := EReal) (m := 1) (n := 1024) g) (i 0).val (i 1).val := by
  have hp := pay2_at v w yc hv
  unfold k0_pay3 nrmF Cert.KernelIdeal.Hand.rsv
  generalize k0_pay2 (F := Ideal) v w = y at hp ⊢
  have e : ∀ k : Fin 1024, yT yc (at2 (α := EReal) (m := 1024) (n := 1024) w) (i 0).val k.val = y (ix2 (i 0) k) := fun k => (hp (ix2 (i 0) k)).symm
  have e1 : yT yc (at2 (α := EReal) (m := 1024) (n := 1024) w) (i 0).val (i 1).val = y i := (hp i).symm
  have e2 : (at2 (α := EReal) (m := 1) (n := 1024) g) 0 (i 1).val = g (ix2 0 (i 1)) := at2_fin (m := 1) (n := 1024) g 0 (i 1)
  have e3 : (at2 (α := EReal) (m := 512) (n := 1024) x) (i 0).val (i 1).val = x i := at2_eq (m := 512) (n := 1024) x i
  rw [e1, e2, e3]
  simp only [e]
  pointwise

/-- A row of the convolution's weights. -/
theorem ldc (x : FVec Ideal S3x512 .f32) (k : ℕ) (inb : ∀ a, (![k, 0] : Fin 2 → ℕ) a + S1x512.size a ≤ S3x512.size a) (n : ℕ) (hn : n < 512) :
    at2 (α := EReal) (m := 1) (n := 512) (View.ld (Val := Elt Ideal) (e' := .f32) x (Rect.unit (s := S3x512) ![k, 0] S1x512.size inb) : FVec Ideal S1x512 .f32) 0 n = (at2 (α := EReal) (m := 3) (n := 512) x) k n := by
  refine (at2_fin (m := 1) (n := 512) (View.ld (Val := Elt Ideal) (e' := .f32) x (Rect.unit (s := S3x512) ![k, 0] S1x512.size inb) : FVec Ideal S1x512 .f32) 0 ⟨n, hn⟩).trans ?_
  refine (at2_eq (m := 3) (n := 512) x _).symm.trans ?_
  congr 1 <;> simp [Rect.unit, LoadRect.idx, Rect.toLoadRect]

variable (c : Dev nD) (i : grid0.Coords) (arg1 : Memref sig .tc .vmem S512x512 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S16x512 .bf16) (harg5 : arg5.IsWhole) (arg6 : Memref sig .tc .vmem S16x512 .bf16) (harg6 : arg6.IsWhole) (arg7 : Memref sig .tc .vmem S16x512 .bf16) (harg7 : arg7.IsWhole) (arg8 : Memref sig .tc .vmem S16x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S3x512 .f32) (harg11 : arg11.IsWhole) (arg12 : Memref sig .tc .vmem S1x512 .f32) (harg12 : arg12.IsWhole) (arg13 : Memref sig .tc .vmem S1024x1024 .bf16) (harg13 : arg13.IsWhole) (arg14 : Memref sig .tc .vmem S1x1024 .f32) (harg14 : arg14.IsWhole) (arg15 : Memref sig .tc .vmem S512x1024 .f32) (harg15 : arg15.IsWhole) (arg16 : Memref sig .tc .vmem S512x1024 .bf16) (harg16 : arg16.IsWhole) (arg17 : Memref sig .tc .vmem S512x1024 .f32) (harg17 : arg17.IsWhole) (arg18 : Memref sig .tc .vmem S512x1024 .f32) (harg18 : arg18.IsWhole)
  (x0 : FVec Ideal S512x512 .bf16) (x1 : FVec Ideal S512x512 .bf16) (x2 : FVec Ideal S512x512 .bf16) (x3 : FVec Ideal S512x512 .bf16) (x4 : FVec Ideal S16x512 .bf16) (x5 : FVec Ideal S16x512 .bf16) (x6 : FVec Ideal S16x512 .bf16) (x7 : FVec Ideal S16x512 .bf16) (x8 : FVec Ideal S512x512 .bf16) (x9 : FVec Ideal S512x512 .bf16) (x10 : FVec Ideal S3x512 .f32) (x11 : FVec Ideal S1x512 .f32) (x12 : FVec Ideal S1024x1024 .bf16) (x13 : FVec Ideal S1x1024 .f32) (x14 : FVec Ideal S512x1024 .f32)

include harg1 harg2 harg3 harg4 harg5 harg6 harg7 harg8 harg9 harg10 harg11 harg12 harg13 harg14 harg15

theorem out15_at (y : S512x1024.Idx) :
    (out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 y : EReal)
      = ycT (BitVec.ofNat 32 (i 0).val) (at2 (α := EReal) (m := 512) (n := 512) x0) (at2 (α := EReal) (m := 16) (n := 512) x4) (at2 (α := EReal) (m := 16) (n := 512) x5) (at2 (α := EReal) (m := 512) (n := 512) x1) (at2 (α := EReal) (m := 512) (n := 512) x2) (at2 (α := EReal) (m := 16) (n := 512) x6) (at2 (α := EReal) (m := 16) (n := 512) x7) (at2 (α := EReal) (m := 3) (n := 512) x10) (at2 (α := EReal) (m := 512) (n := 512) x3) (oS (at2 (α := EReal) (m := 512) (n := 512) x8) (at2 (α := EReal) (m := 512) (n := 512) x9)) (at2 (α := EReal) (m := 1) (n := 512) x11) (y 0).val (y 1).val := by
  unfold out0_A_15
  rw [View.read_writes_eq_canon _ _ _ (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz2, View.ld_unit_zero (S := S16x512) hz2, View.ld_unit_zero (S := S1x512) hz2, View.ld_unit_zero (S := S1024x1024) hz2, View.ld_unit_zero (S := S1x1024) hz2, View.ld_unit_zero (S := S512x1024) hz2]
  rw [View.canon_unit_zero hz2]
  exact (pay1_at _ y).trans (ycV_at i x4 x6 x5 x7 x1 x2 _ _ _ x0 x3 x8 x9 x11 _ (ldc x10 0 _) (ldc x10 1 _) (ldc x10 2 _) y)

theorem out16_at (y : S512x1024.Idx) :
    (out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 y : EReal)
      = yT (ycT (BitVec.ofNat 32 (i 0).val) (at2 (α := EReal) (m := 512) (n := 512) x0) (at2 (α := EReal) (m := 16) (n := 512) x4) (at2 (α := EReal) (m := 16) (n := 512) x5) (at2 (α := EReal) (m := 512) (n := 512) x1) (at2 (α := EReal) (m := 512) (n := 512) x2) (at2 (α := EReal) (m := 16) (n := 512) x6) (at2 (α := EReal) (m := 16) (n := 512) x7) (at2 (α := EReal) (m := 3) (n := 512) x10) (at2 (α := EReal) (m := 512) (n := 512) x3) (oS (at2 (α := EReal) (m := 512) (n := 512) x8) (at2 (α := EReal) (m := 512) (n := 512) x9)) (at2 (α := EReal) (m := 1) (n := 512) x11)) (at2 (α := EReal) (m := 1024) (n := 1024) x12) (y 0).val (y 1).val := by
  unfold out0_A_16
  rw [View.read_writes_eq_canon _ _ _ (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz2, View.ld_unit_zero (S := S16x512) hz2, View.ld_unit_zero (S := S1x512) hz2, View.ld_unit_zero (S := S1024x1024) hz2, View.ld_unit_zero (S := S1x1024) hz2, View.ld_unit_zero (S := S512x1024) hz2]
  rw [View.canon_unit_zero hz2]
  exact pay2_at _ x12 _ (ycV_at i x4 x6 x5 x7 x1 x2 _ _ _ x0 x3 x8 x9 x11 _ (ldc x10 0 _) (ldc x10 1 _) (ldc x10 2 _)) y

theorem out17_at (y : S512x1024.Idx) :
    (out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14 y : EReal)
      = (at2 (α := EReal) (m := 512) (n := 1024) x14) (y 0).val (y 1).val + nrmF (yT (ycT (BitVec.ofNat 32 (i 0).val) (at2 (α := EReal) (m := 512) (n := 512) x0) (at2 (α := EReal) (m := 16) (n := 512) x4) (at2 (α := EReal) (m := 16) (n := 512) x5) (at2 (α := EReal) (m := 512) (n := 512) x1) (at2 (α := EReal) (m := 512) (n := 512) x2) (at2 (α := EReal) (m := 16) (n := 512) x6) (at2 (α := EReal) (m := 16) (n := 512) x7) (at2 (α := EReal) (m := 3) (n := 512) x10) (at2 (α := EReal) (m := 512) (n := 512) x3) (oS (at2 (α := EReal) (m := 512) (n := 512) x8) (at2 (α := EReal) (m := 512) (n := 512) x9)) (at2 (α := EReal) (m := 1) (n := 512) x11)) (at2 (α := EReal) (m := 1024) (n := 1024) x12)) (at2 (α := EReal) (m := 1) (n := 1024) x13) (y 0).val (y 1).val := by
  unfold out0_A_17
  rw [View.read_writes_eq_canon _ _ _ (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 x12 x13 x14)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S512x512) hz2, View.ld_unit_zero (S := S16x512) hz2, View.ld_unit_zero (S := S1x512) hz2, View.ld_unit_zero (S := S1024x1024) hz2, View.ld_unit_zero (S := S1x1024) hz2, View.ld_unit_zero (S := S512x1024) hz2]
  rw [View.canon_unit_zero hz2]
  exact pay3_at _ x12 x14 x13 _ (ycV_at i x4 x6 x5 x7 x1 x2 _ _ _ x0 x3 x8 x9 x11 _ (ldc x10 0 _) (ldc x10 1 _) (ldc x10 2 _)) y

end Cert.MixIdeal.Hand

end
-- ==== Proof.MixArr.lean ====
/- The forward combine of the mixers: the blocks a grid point reads, and its tiles as parts of whole arrays. -/
module

public import proofs.«01_k».proof.Proof.MixOut
public import proofs.«01_k».proof.Proof.Glob
public import proofs.«01_k».proof.Proof.Sum
public import proofs.«01_k».proof.Proof.Gen.MixIdeal.Value

@[expose] public section

set_option maxRecDepth 16384

noncomputable section

namespace Cert.MixIdeal.Hand

open Cert.MixIdeal.Gen Cert.KernelIdeal.Hand
open Cert.FfnIdeal.Hand (nrmF nrmF_congr sgm_sgr hz2)
open Idealize.ShloMosaic Idealize.ShloMosaic.TcCoe Idealize.ShloMosaic.Tactic
open Idealize.SL Idealize.SL.Sem

variable (m : (ℓ : Loc nD τ sig) → Buf (Elt Ideal) ℓ)

/-- The kernel's eight arguments, entry by entry. -/
def P (c : Dev nD) : ℕ → ℕ → EReal := at2 (α := EReal) (m := 8192) (n := 3200) (m (c, main_arg0))
def OF (c : Dev nD) : ℕ → ℕ → EReal := at2 (α := EReal) (m := 8192) (n := 512) (m (c, main_arg1))
def OB (c : Dev nD) : ℕ → ℕ → EReal := at2 (α := EReal) (m := 8192) (n := 512) (m (c, main_arg2))
def CW (c : Dev nD) : ℕ → ℕ → EReal := at2 (α := EReal) (m := 3) (n := 512) (m (c, main_arg3))
def GH (c : Dev nD) : ℕ → ℕ → EReal := at2 (α := EReal) (m := 1) (n := 128) (m (c, main_arg4))
def WO (c : Dev nD) : ℕ → ℕ → EReal := at2 (α := EReal) (m := 1024) (n := 1024) (m (c, main_arg5))
def G2 (c : Dev nD) : ℕ → ℕ → EReal := at2 (α := EReal) (m := 1) (n := 1024) (m (c, main_arg6))
def X (c : Dev nD) : ℕ → ℕ → EReal := at2 (α := EReal) (m := 8192) (n := 1024) (m (c, main_arg7))

theorem lt16 (t : Fin cfg0.N) : t.val < 16 := lt_of_lt_of_eq t.isLt (show cfg0.N = 16 from N_0)

theorem coord0 (t : Fin cfg0.N) : (grid0.coords t 0).val = t.val :=
  (by decide +kernel : ∀ t : Fin cfg0.N, (grid0.coords t 0).val = t.val) t

theorem idx0 : ∀ t : Fin cfg0.N, win0_0.index t = ![t.val, 0] := by decide +kernel
theorem idx1 : ∀ t : Fin cfg0.N, win0_1.index t = ![t.val, 1] := by decide +kernel
theorem idx2 : ∀ t : Fin cfg0.N, win0_2.index t = ![t.val, 2] := by decide +kernel
theorem idx3 : ∀ t : Fin cfg0.N, win0_3.index t = ![t.val, 5] := by decide +kernel
theorem idx4 : ∀ t : Fin cfg0.N, win0_4.index t = ![32 * t.val - 1, 1] := by decide +kernel
theorem idx5 : ∀ t : Fin cfg0.N, win0_5.index t = ![32 * t.val - 1, 2] := by decide +kernel
theorem idx6 : ∀ t : Fin cfg0.N, win0_6.index t = ![min (32 * (t.val + 1)) 511, 1] := by decide +kernel
theorem idx7 : ∀ t : Fin cfg0.N, win0_7.index t = ![min (32 * (t.val + 1)) 511, 2] := by decide +kernel
theorem idx8 : ∀ t : Fin cfg0.N, win0_8.index t = ![t.val, 0] := by decide +kernel
theorem idx9 : ∀ t : Fin cfg0.N, win0_9.index t = ![t.val, 0] := by decide +kernel
theorem idx10 : ∀ t : Fin cfg0.N, win0_10.index t = ![0, 0] := by decide +kernel
theorem idx11 : ∀ t : Fin cfg0.N, win0_11.index t = ![0, 0] := by decide +kernel
theorem idx12 : ∀ t : Fin cfg0.N, win0_12.index t = ![0, 0] := by decide +kernel
theorem idx13 : ∀ t : Fin cfg0.N, win0_13.index t = ![0, 0] := by decide +kernel
theorem idx14 : ∀ t : Fin cfg0.N, win0_14.index t = ![t.val, 0] := by decide +kernel

theorem v5_eq (c : Dev nD) : (V m c main_v5 : FVec Ideal S8192x3200 .bf16) = m (c, main_arg0) := by
  unfold V
  after_reads_simp
  rfl

theorem v6_eq (c : Dev nD) : (V m c main_v6 : FVec Ideal S8192x512 .bf16) = m (c, main_arg1) := by
  unfold V
  after_reads_simp
  rfl

theorem v7_eq (c : Dev nD) : (V m c main_v7 : FVec Ideal S8192x512 .bf16) = m (c, main_arg2) := by
  unfold V
  after_reads_simp
  rfl

theorem v8_eq (c : Dev nD) : (V m c main_v8 : FVec Ideal S1024x1024 .bf16) = m (c, main_arg5) := by
  unfold V
  after_reads_simp
  rfl

theorem rd0 (c : Dev nD) (t : Fin cfg0.N) (r d : ℕ) (hr : r < 512) (hd : d < 512) :
    at2 (α := EReal) (m := 512) (n := 512) (X0_0 m c t) r d = P m c (512 * t.val + r) d := by
  have ht := lt16 t
  have e := idx0 t
  have hV := v5_eq m c
  refine Eq.trans ?_ (congrFun (congrFun (congrArg (at2 (α := EReal) (m := 8192) (n := 3200)) hV) _) _)
  unfold at2 X0_0 Pipeline.Window.fill
  rw [dif_pos (moved0_0 t _)]
  blk_ext [iblk, e]
  all_goals simp only [Fin.val_ofNat]
  all_goals omega

theorem rd1 (c : Dev nD) (t : Fin cfg0.N) (r d : ℕ) (hr : r < 512) (hd : d < 512) :
    at2 (α := EReal) (m := 512) (n := 512) (X0_1 m c t) r d = P m c (512 * t.val + r) (512 + d) := by
  have ht := lt16 t
  have e := idx1 t
  have hV := v5_eq m c
  refine Eq.trans ?_ (congrFun (congrFun (congrArg (at2 (α := EReal) (m := 8192) (n := 3200)) hV) _) _)
  unfold at2 X0_1 Pipeline.Window.fill
  rw [dif_pos (moved0_1 t _)]
  blk_ext [iblk, e]
  all_goals simp only [Fin.val_ofNat]
  all_goals omega

theorem rd2 (c : Dev nD) (t : Fin cfg0.N) (r d : ℕ) (hr : r < 512) (hd : d < 512) :
    at2 (α := EReal) (m := 512) (n := 512) (X0_2 m c t) r d = P m c (512 * t.val + r) (1024 + d) := by
  have ht := lt16 t
  have e := idx2 t
  have hV := v5_eq m c
  refine Eq.trans ?_ (congrFun (congrFun (congrArg (at2 (α := EReal) (m := 8192) (n := 3200)) hV) _) _)
  unfold at2 X0_2 Pipeline.Window.fill
  rw [dif_pos (moved0_2 t _)]
  blk_ext [iblk, e]
  all_goals simp only [Fin.val_ofNat]
  all_goals omega

theorem rd3 (c : Dev nD) (t : Fin cfg0.N) (r d : ℕ) (hr : r < 512) (hd : d < 512) :
    at2 (α := EReal) (m := 512) (n := 512) (X0_3 m c t) r d = P m c (512 * t.val + r) (2560 + d) := by
  have ht := lt16 t
  have e := idx3 t
  have hV := v5_eq m c
  refine Eq.trans ?_ (congrFun (congrFun (congrArg (at2 (α := EReal) (m := 8192) (n := 3200)) hV) _) _)
  unfold at2 X0_3 Pipeline.Window.fill
  rw [dif_pos (moved0_3 t _)]
  blk_ext [iblk, e]
  all_goals simp only [Fin.val_ofNat]
  all_goals omega

theorem rd4 (c : Dev nD) (t : Fin cfg0.N) (r d : ℕ) (hr : r < 8) (hd : d < 512) (h0 : 0 < t.val) :
    at2 (α := EReal) (m := 16) (n := 512) (X0_4 m c t) (8 + r) d = P m c (512 * t.val + r - 8) (512 + d) := by
  have ht := lt16 t
  have e := idx4 t
  have hV := v5_eq m c
  refine Eq.trans ?_ (congrFun (congrFun (congrArg (at2 (α := EReal) (m := 8192) (n := 3200)) hV) _) _)
  unfold at2 X0_4 Pipeline.Window.fill
  rw [dif_pos (moved0_4 t _)]
  blk_ext [iblk, e]
  all_goals simp only [Fin.val_ofNat]
  all_goals omega

theorem rd5 (c : Dev nD) (t : Fin cfg0.N) (r d : ℕ) (hr : r < 8) (hd : d < 512) (h0 : 0 < t.val) :
    at2 (α := EReal) (m := 16) (n := 512) (X0_5 m c t) (8 + r) d = P m c (512 * t.val + r - 8) (1024 + d) := by
  have ht := lt16 t
  have e := idx5 t
  have hV := v5_eq m c
  refine Eq.trans ?_ (congrFun (congrFun (congrArg (at2 (α := EReal) (m := 8192) (n := 3200)) hV) _) _)
  unfold at2 X0_5 Pipeline.Window.fill
  rw [dif_pos (moved0_5 t _)]
  blk_ext [iblk, e]
  all_goals simp only [Fin.val_ofNat]
  all_goals omega

theorem rd6 (c : Dev nD) (t : Fin cfg0.N) (r d : ℕ) (hr : r < 8) (hd : d < 512) (h0 : t.val < 15) :
    at2 (α := EReal) (m := 16) (n := 512) (X0_6 m c t) r d = P m c (512 * t.val + 512 + r) (512 + d) := by
  have ht := lt16 t
  have e := idx6 t
  have hV := v5_eq m c
  refine Eq.trans ?_ (congrFun (congrFun (congrArg (at2 (α := EReal) (m := 8192) (n := 3200)) hV) _) _)
  unfold at2 X0_6 Pipeline.Window.fill
  rw [dif_pos (moved0_6 t _)]
  blk_ext [iblk, e]
  all_goals simp only [Fin.val_ofNat]
  all_goals omega

theorem rd7 (c : Dev nD) (t : Fin cfg0.N) (r d : ℕ) (hr : r < 8) (hd : d < 512) (h0 : t.val < 15) :
    at2 (α := EReal) (m := 16) (n := 512) (X0_7 m c t) r d = P m c (512 * t.val + 512 + r) (1024 + d) := by
  have ht := lt16 t
  have e := idx7 t
  have hV := v5_eq m c
  refine Eq.trans ?_ (congrFun (congrFun (congrArg (at2 (α := EReal) (m := 8192) (n := 3200)) hV) _) _)
  unfold at2 X0_7 Pipeline.Window.fill
  rw [dif_pos (moved0_7 t _)]
  blk_ext [iblk, e]
  all_goals simp only [Fin.val_ofNat]
  all_goals omega

theorem rd8 (c : Dev nD) (t : Fin cfg0.N) (r d : ℕ) (hr : r < 512) (hd : d < 512) :
    at2 (α := EReal) (m := 512) (n := 512) (iblk m c 8 t) r d = OF m c (512 * t.val + r) d := by
  have ht := lt16 t
  have e := idx8 t
  have hV := v6_eq m c
  refine Eq.trans ?_ (congrFun (congrFun (congrArg (at2 (α := EReal) (m := 8192) (n := 512)) hV) _) _)
  unfold at2
  blk_ext [iblk, e]
  all_goals simp only [Fin.val_ofNat]
  all_goals omega

theorem rd9 (c : Dev nD) (t : Fin cfg0.N) (r d : ℕ) (hr : r < 512) (hd : d < 512) :
    at2 (α := EReal) (m := 512) (n := 512) (iblk m c 9 t) r d = OB m c (512 * t.val + r) d := by
  have ht := lt16 t
  have e := idx9 t
  have hV := v7_eq m c
  refine Eq.trans ?_ (congrFun (congrFun (congrArg (at2 (α := EReal) (m := 8192) (n := 512)) hV) _) _)
  unfold at2
  blk_ext [iblk, e]
  all_goals simp only [Fin.val_ofNat]
  all_goals omega

theorem rd10 (c : Dev nD) (t : Fin cfg0.N) (r d : ℕ) :
    at2 (α := EReal) (m := 3) (n := 512) (iblk m c 10 t) r d = CW m c r d := by
  have ht := lt16 t
  have e := idx10 t
  have hV := (show (V m c main_arg3 : FVec Ideal S3x512 .f32) = m (c, main_arg3) from V_main_arg3 m c)
  refine Eq.trans ?_ (congrFun (congrFun (congrArg (at2 (α := EReal) (m := 3) (n := 512)) hV) _) _)
  unfold at2
  blk_ext [iblk, e]
  all_goals simp only [Fin.val_ofNat]
  all_goals omega

theorem rd12 (c : Dev nD) (t : Fin cfg0.N) (r d : ℕ) :
    at2 (α := EReal) (m := 1024) (n := 1024) (iblk m c 12 t) r d = WO m c r d := by
  have ht := lt16 t
  have e := idx12 t
  have hV := v8_eq m c
  refine Eq.trans ?_ (congrFun (congrFun (congrArg (at2 (α := EReal) (m := 1024) (n := 1024)) hV) _) _)
  unfold at2
  blk_ext [iblk, e]
  all_goals simp only [Fin.val_ofNat]
  all_goals omega

theorem rd13 (c : Dev nD) (t : Fin cfg0.N) (r d : ℕ) :
    at2 (α := EReal) (m := 1) (n := 1024) (iblk m c 13 t) r d = G2 m c r d := by
  have ht := lt16 t
  have e := idx13 t
  have hV := (show (V m c main_arg6 : FVec Ideal S1x1024 .f32) = m (c, main_arg6) from V_main_arg6 m c)
  refine Eq.trans ?_ (congrFun (congrFun (congrArg (at2 (α := EReal) (m := 1) (n := 1024)) hV) _) _)
  unfold at2
  blk_ext [iblk, e]
  all_goals simp only [Fin.val_ofNat]
  all_goals omega

theorem rd14 (c : Dev nD) (t : Fin cfg0.N) (r d : ℕ) (hr : r < 512) :
    at2 (α := EReal) (m := 512) (n := 1024) (iblk m c 14 t) r d = X m c (512 * t.val + r) d := by
  have ht := lt16 t
  have e := idx14 t
  have hV := (show (V m c main_arg7 : FVec Ideal S8192x1024 .f32) = m (c, main_arg7) from V_main_arg7 m c)
  refine Eq.trans ?_ (congrFun (congrFun (congrArg (at2 (α := EReal) (m := 8192) (n := 1024)) hV) _) _)
  unfold at2
  blk_ext [iblk, e]
  all_goals simp only [Fin.val_ofNat]
  all_goals omega

/-- The head norm's scale is the same over the four heads. -/
theorem gh_at (c : Dev nD) (n : ℕ) (hn : n < 512) : (at2 (α := EReal) (m := 1) (n := 512) (V m c main_v4)) 0 n = GH m c 0 (n % 128) := by
  have h : ∀ i : S1x512.Idx, V m c main_v4 i = m (c, main_arg4) (ix2 0 ⟨(i 1).val % 128, by omega⟩) := by
    intro i
    entry_read
    pointwise
  refine (at2_fin (α := EReal) (m := 1) (n := 512) (V m c main_v4) 0 ⟨n, hn⟩).trans ((h _).trans ?_)
  exact (at2_fin (α := EReal) (m := 1) (n := 128) (m (c, main_arg4)) 0 ⟨n % 128, by omega⟩).symm

theorem rd11 (c : Dev nD) (t : Fin cfg0.N) (d : ℕ) (hd : d < 512) : at2 (α := EReal) (m := 1) (n := 512) (iblk m c 11 t) 0 d = GH m c 0 (d % 128) := by
  have e := idx11 t
  refine Eq.trans ?_ (gh_at m c d hd)
  unfold at2
  blk_ext [iblk, e]
  all_goals simp only [Fin.val_ofNat]
  all_goals omega

/-- The product that the short convolution runs over. -/
def GV (c : Dev nD) (R n : ℕ) : EReal := P m c R (512 + n) * P m c R (1024 + n)

/-- A tile's rows with zeros beyond the ends of the array. -/
theorem hal_eq (c : Dev nD) (t : Fin cfg0.N) (k n : ℕ) (h0 : 7 ≤ k) (h1 : k ≤ 520) (hn : n < 512) :
    hal (BitVec.ofNat 32 t.val) (at2 (α := EReal) (m := 16) (n := 512) (X0_4 m c t)) (at2 (α := EReal) (m := 16) (n := 512) (X0_5 m c t)) (at2 (α := EReal) (m := 512) (n := 512) (X0_1 m c t)) (at2 (α := EReal) (m := 512) (n := 512) (X0_2 m c t)) (at2 (α := EReal) (m := 16) (n := 512) (X0_6 m c t)) (at2 (α := EReal) (m := 16) (n := 512) (X0_7 m c t)) k n = padF (GV m c) (512 * t.val + k - 7) n := by
  have ht := lt16 t
  unfold hal padF
  by_cases h2 : k < 8
  · rw [if_pos h2, select_eq, select_eq]
    by_cases h3 : t.val = 0
    · have h4 := (ofNat_eq t.val 0 (by omega) (by omega)).mpr h3
      rw [if_pos h4, if_pos h4, if_pos (by omega), mul_zero]
    · have h4 := fun h => h3 ((ofNat_eq t.val 0 (by omega) (by omega)).mp h)
      rw [if_neg h4, if_neg h4, if_neg (by omega), if_pos (by omega), rd4 m c t k n h2 hn (by omega), rd5 m c t k n h2 hn (by omega)]
      have e : 512 * t.val + k - 8 = 512 * t.val + k - 7 - 1 := by omega
      rw [e]
      rfl
  · rw [if_neg h2]
    by_cases h3 : k - 8 < 512
    · rw [if_pos h3, if_neg (by omega), if_pos (by omega), rd1 m c t _ n h3 hn, rd2 m c t _ n h3 hn]
      have e : 512 * t.val + (k - 8) = 512 * t.val + k - 7 - 1 := by omega
      rw [e]
      rfl
    · rw [if_neg h3, select_eq, select_eq]
      by_cases h5 : t.val = 15
      · have h4 := (ofNat_eq t.val 15 (by omega) (by omega)).mpr h5
        rw [if_pos h4, if_pos h4, if_neg (by omega), if_neg (by omega), mul_zero]
      · have h4 := fun h => h5 ((ofNat_eq t.val 15 (by omega) (by omega)).mp h)
        rw [if_neg h4, if_neg h4, if_neg (by omega), if_pos (by omega), rd6 m c t _ n (by omega) hn (by omega), rd7 m c t _ n (by omega) hn (by omega)]
        have e : 512 * t.val + 512 + (k - 8 - 512) = 512 * t.val + k - 7 - 1 := by omega
        rw [e]
        rfl

/-- The gated short convolution. -/
def YA (c : Dev nD) (R n : ℕ) : EReal := P m c R n * cvF (CW m c) (GV m c) R n

theorem YA_eq (c : Dev nD) (t : Fin cfg0.N) (r n : ℕ) (hr : r < 512) (hn : n < 512) :
    yaT (BitVec.ofNat 32 t.val) (at2 (α := EReal) (m := 512) (n := 512) (X0_0 m c t)) (at2 (α := EReal) (m := 16) (n := 512) (X0_4 m c t)) (at2 (α := EReal) (m := 16) (n := 512) (X0_5 m c t)) (at2 (α := EReal) (m := 512) (n := 512) (X0_1 m c t)) (at2 (α := EReal) (m := 512) (n := 512) (X0_2 m c t)) (at2 (α := EReal) (m := 16) (n := 512) (X0_6 m c t)) (at2 (α := EReal) (m := 16) (n := 512) (X0_7 m c t)) (at2 (α := EReal) (m := 3) (n := 512) (iblk m c 10 t)) r n = YA m c (512 * t.val + r) n := by
  have ht := lt16 t
  unfold yaT YA cvF
  rw [rd10, rd10, rd10, hal_eq m c t _ n (by omega) (by omega) hn, hal_eq m c t _ n (by omega) (by omega) hn, rd0 m c t r n hr hn, rd1 m c t r n hr hn, rd2 m c t r n hr hn]
  have p : padF (GV m c) (1 + (512 * t.val + r)) n = GV m c (512 * t.val + r) n := by
    unfold padF
    rw [if_neg (by omega), if_pos (by omega)]
    congr 1
    omega
  have q0 : 512 * t.val + (7 + r) - 7 = 512 * t.val + r := by omega
  have q2 : 512 * t.val + (9 + r) - 7 = 2 + (512 * t.val + r) := by omega
  rw [p, q0, q2]
  rfl

/-- The gated, head-normalised rows. -/
def YB (c : Dev nD) (R n : ℕ) : EReal := P m c R (2560 + n) * sgm (P m c R (2560 + n)) * (hnm (oS (OF m c) (OB m c)) R n * GH m c 0 (n % 128))

theorem hnm_eq (c : Dev nD) (t : Fin cfg0.N) (r n : ℕ) (hr : r < 512) (hn : n < 512) :
    hnm (oS (at2 (α := EReal) (m := 512) (n := 512) (iblk m c 8 t)) (at2 (α := EReal) (m := 512) (n := 512) (iblk m c 9 t))) r n = hnm (oS (OF m c) (OB m c)) (512 * t.val + r) n := by
  have e : ∀ d, d < 512 → oS (at2 (α := EReal) (m := 512) (n := 512) (iblk m c 8 t)) (at2 (α := EReal) (m := 512) (n := 512) (iblk m c 9 t)) r d = oS (OF m c) (OB m c) (512 * t.val + r) d := by
    intro d hd
    unfold oS
    rw [rd8 m c t r d hr hd, rd9 m c t r d hr hd]
  unfold hnm hrs
  have e' : ∀ k : Fin 128, oS (at2 (α := EReal) (m := 512) (n := 512) (iblk m c 8 t)) (at2 (α := EReal) (m := 512) (n := 512) (iblk m c 9 t)) r (128 * (n / 128) + k.val) = oS (OF m c) (OB m c) (512 * t.val + r) (128 * (n / 128) + k.val) :=
    fun k => e _ (by omega)
  rw [e n hn]
  simp only [e']

/-- Both mixers' rows side by side. -/
def YC (c : Dev nD) (R n : ℕ) : EReal := if n < 512 then YA m c R n else YB m c R (n - 512)

theorem YC_eq (c : Dev nD) (t : Fin cfg0.N) (r n : ℕ) (hr : r < 512) (hn : n < 1024) :
    ycT (BitVec.ofNat 32 t.val) (at2 (α := EReal) (m := 512) (n := 512) (X0_0 m c t)) (at2 (α := EReal) (m := 16) (n := 512) (X0_4 m c t)) (at2 (α := EReal) (m := 16) (n := 512) (X0_5 m c t)) (at2 (α := EReal) (m := 512) (n := 512) (X0_1 m c t)) (at2 (α := EReal) (m := 512) (n := 512) (X0_2 m c t)) (at2 (α := EReal) (m := 16) (n := 512) (X0_6 m c t)) (at2 (α := EReal) (m := 16) (n := 512) (X0_7 m c t)) (at2 (α := EReal) (m := 3) (n := 512) (iblk m c 10 t)) (at2 (α := EReal) (m := 512) (n := 512) (X0_3 m c t)) (oS (at2 (α := EReal) (m := 512) (n := 512) (iblk m c 8 t)) (at2 (α := EReal) (m := 512) (n := 512) (iblk m c 9 t))) (at2 (α := EReal) (m := 1) (n := 512) (iblk m c 11 t)) r n = YC m c (512 * t.val + r) n := by
  unfold ycT YC
  by_cases h : n < 512
  · rw [if_pos h, if_pos h, YA_eq m c t r n hr h]
  · rw [if_neg h, if_neg h, rd3 m c t r _ hr (by omega), rd11 m c t _ (by omega), hnm_eq m c t r _ hr (by omega)]
    rfl

/-- The product with the output projection. -/
def Y (c : Dev nD) : ℕ → ℕ → EReal := yT (YC m c) (WO m c)

theorem Y_eq (c : Dev nD) (t : Fin cfg0.N) (r d : ℕ) (hr : r < 512) :
    yT (ycT (BitVec.ofNat 32 t.val) (at2 (α := EReal) (m := 512) (n := 512) (X0_0 m c t)) (at2 (α := EReal) (m := 16) (n := 512) (X0_4 m c t)) (at2 (α := EReal) (m := 16) (n := 512) (X0_5 m c t)) (at2 (α := EReal) (m := 512) (n := 512) (X0_1 m c t)) (at2 (α := EReal) (m := 512) (n := 512) (X0_2 m c t)) (at2 (α := EReal) (m := 16) (n := 512) (X0_6 m c t)) (at2 (α := EReal) (m := 16) (n := 512) (X0_7 m c t)) (at2 (α := EReal) (m := 3) (n := 512) (iblk m c 10 t)) (at2 (α := EReal) (m := 512) (n := 512) (X0_3 m c t)) (oS (at2 (α := EReal) (m := 512) (n := 512) (iblk m c 8 t)) (at2 (α := EReal) (m := 512) (n := 512) (iblk m c 9 t))) (at2 (α := EReal) (m := 1) (n := 512) (iblk m c 11 t))) (at2 (α := EReal) (m := 1024) (n := 1024) (iblk m c 12 t)) r d = Y m c (512 * t.val + r) d :=
  Finset.sum_congr rfl fun k _ => congrArg₂ (· * ·) (YC_eq m c t r _ hr k.isLt) (rd12 m c t _ d)

/-- The rows with the normalised product added. -/
def X1 (c : Dev nD) (R d : ℕ) : EReal := X m c R d + nrmF (Y m c) (G2 m c) R d

theorem X1_eq (c : Dev nD) (t : Fin cfg0.N) (r d : ℕ) (hr : r < 512) (hd : d < 1024) :
    (at2 (α := EReal) (m := 512) (n := 1024) (iblk m c 14 t)) r d + nrmF (yT (ycT (BitVec.ofNat 32 t.val) (at2 (α := EReal) (m := 512) (n := 512) (X0_0 m c t)) (at2 (α := EReal) (m := 16) (n := 512) (X0_4 m c t)) (at2 (α := EReal) (m := 16) (n := 512) (X0_5 m c t)) (at2 (α := EReal) (m := 512) (n := 512) (X0_1 m c t)) (at2 (α := EReal) (m := 512) (n := 512) (X0_2 m c t)) (at2 (α := EReal) (m := 16) (n := 512) (X0_6 m c t)) (at2 (α := EReal) (m := 16) (n := 512) (X0_7 m c t)) (at2 (α := EReal) (m := 3) (n := 512) (iblk m c 10 t)) (at2 (α := EReal) (m := 512) (n := 512) (X0_3 m c t)) (oS (at2 (α := EReal) (m := 512) (n := 512) (iblk m c 8 t)) (at2 (α := EReal) (m := 512) (n := 512) (iblk m c 9 t))) (at2 (α := EReal) (m := 1) (n := 512) (iblk m c 11 t))) (at2 (α := EReal) (m := 1024) (n := 1024) (iblk m c 12 t))) (at2 (α := EReal) (m := 1) (n := 1024) (iblk m c 13 t)) r d = X1 m c (512 * t.val + r) d := by
  unfold X1
  have hg : (at2 (α := EReal) (m := 1) (n := 1024) (iblk m c 13 t)) = G2 m c := funext fun r => funext fun d => rd13 m c t r d
  rw [hg, rd14 m c t r d hr, nrmF_congr (fun d _ => Y_eq m c t r d hr) _ d hd]

end Cert.MixIdeal.Hand

end
-- ==== Proof.MixFin.lean ====
/- The forward combine of the mixers: the arrays the kernel leaves. -/
module

public import proofs.«01_k».proof.Proof.MixArr

@[expose] public section

set_option maxRecDepth 16384

noncomputable section

namespace Cert.MixIdeal.Hand

open Cert.MixIdeal.Gen Cert.KernelIdeal.Hand
open Cert.FfnIdeal.Hand (nrmF nrmF_congr sgm_sgr hz2)
open Idealize.ShloMosaic Idealize.ShloMosaic.TcCoe Idealize.ShloMosaic.Tactic
open Idealize.SL Idealize.SL.Sem

variable (m : (ℓ : Loc nD τ sig) → Buf (Elt Ideal) ℓ)

theorem idxo : ∀ t : Fin cfg0.N, win0_15.index t = ![t.val, 0] ∧ win0_16.index t = ![t.val, 0] ∧ win0_17.index t = ![t.val, 0] := by
  decide +kernel

/-- Both mixers' rows side by side. -/
def aC (c : Dev nD) : Buf (Elt Ideal) ((c.tc : Thread nD τ).loc main_v9_0) := fun (i : S8192x1024.Idx) => (YC m c (i 0).val (i 1).val : EReal)

theorem flushed_aC (c : Dev nD) (t : Fin cfg0.N) : (dats m 0 c).flushed 15 t = ((cfg0.win 15).blk t).view.read (Elt Ideal) (aC m c) := by
  rw [Value.flushed15_A m c t]
  have e0 : win0_15.index t (0 : Fin 2) = t.val := congrFun (idxo t).1 0
  have e1 : win0_15.index t (1 : Fin 2) = 0 := congrFun (idxo t).1 1
  funext y
  have hb0 : (((cfg0.win 15).blk t).view.emb y 0).val = win0_15.index t (0 : Fin 2) * 512 + 1 * (y 0).val := rfl
  have hb1 : (((cfg0.win 15).blk t).view.emb y 1).val = win0_15.index t (1 : Fin 2) * 1024 + 1 * (y 1).val := rfl
  have ht := lt16 t
  have hy0 : ((cfg0.win 15).xinj (grid0.coords t) y 0).val < 512 := (y 0).isLt
  have hy1 : ((cfg0.win 15).xinj (grid0.coords t) y 1).val < 1024 := (y 1).isLt
  refine (out15_at c (grid0.coords t) _ _ _ _ _ _ _ _ _ _ _ _ _ _ _ _ _ _ _ _ _ _ _ _ _ _ _ _ _ _ _ _ _ _ _ _ (X0_0 m c t) (X0_1 m c t) (X0_2 m c t) (X0_3 m c t) (X0_4 m c t) (X0_5 m c t) (X0_6 m c t) (X0_7 m c t) (iblk m c 8 t) (iblk m c 9 t) (iblk m c 10 t) (iblk m c 11 t) (iblk m c 12 t) (iblk m c 13 t) (iblk m c 14 t) ((cfg0.win 15).xinj (grid0.coords t) y)).trans ?_
  rw [coord0 t]
  refine (YC_eq m c t _ _ hy0 hy1).trans ?_
  show _ = aC m c (((cfg0.win 15).blk t).view.emb y)
  unfold aC
  have f0 : 512 * t.val + ((cfg0.win 15).xinj (grid0.coords t) y 0).val = (((cfg0.win 15).blk t).view.emb y 0).val := by
    rw [hb0, e0]; show 512 * t.val + (y 0).val = _; omega
  have f1 : ((cfg0.win 15).xinj (grid0.coords t) y 1).val = (((cfg0.win 15).blk t).view.emb y 1).val := by
    rw [hb1, e1]; show (y 1).val = _; omega
  rw [f0, f1]

theorem final_aC (c : Dev nD) : (dats m 0 c).arrAt 15 cfg0.N = aC m c :=
  (dats m 0 c).arrAt_eq_of_cover 15 _ (fun t _ => flushed_aC m c t) ((by decide +kernel : (cfg0.win 15).Covers).cover _ (Memref.isWhole_whole _))

/-- The product with the output projection. -/
def aY (c : Dev nD) : Buf (Elt Ideal) ((c.tc : Thread nD τ).loc main_v9_1) := fun (i : S8192x1024.Idx) => (Y m c (i 0).val (i 1).val : EReal)

theorem flushed_aY (c : Dev nD) (t : Fin cfg0.N) : (dats m 0 c).flushed 16 t = ((cfg0.win 16).blk t).view.read (Elt Ideal) (aY m c) := by
  rw [Value.flushed16_A m c t]
  have e0 : win0_16.index t (0 : Fin 2) = t.val := congrFun (idxo t).2.1 0
  have e1 : win0_16.index t (1 : Fin 2) = 0 := congrFun (idxo t).2.1 1
  funext y
  have hb0 : (((cfg0.win 16).blk t).view.emb y 0).val = win0_16.index t (0 : Fin 2) * 512 + 1 * (y 0).val := rfl
  have hb1 : (((cfg0.win 16).blk t).view.emb y 1).val = win0_16.index t (1 : Fin 2) * 1024 + 1 * (y 1).val := rfl
  have ht := lt16 t
  have hy0 : ((cfg0.win 16).xinj (grid0.coords t) y 0).val < 512 := (y 0).isLt
  have hy1 : ((cfg0.win 16).xinj (grid0.coords t) y 1).val < 1024 := (y 1).isLt
  refine (out16_at c (grid0.coords t) _ _ _ _ _ _ _ _ _ _ _ _ _ _ _ _ _ _ _ _ _ _ _ _ _ _ _ _ _ _ _ _ _ _ _ _ (X0_0 m c t) (X0_1 m c t) (X0_2 m c t) (X0_3 m c t) (X0_4 m c t) (X0_5 m c t) (X0_6 m c t) (X0_7 m c t) (iblk m c 8 t) (iblk m c 9 t) (iblk m c 10 t) (iblk m c 11 t) (iblk m c 12 t) (iblk m c 13 t) (iblk m c 14 t) ((cfg0.win 16).xinj (grid0.coords t) y)).trans ?_
  rw [coord0 t]
  refine (Y_eq m c t _ _ hy0).trans ?_
  show _ = aY m c (((cfg0.win 16).blk t).view.emb y)
  unfold aY
  have f0 : 512 * t.val + ((cfg0.win 16).xinj (grid0.coords t) y 0).val = (((cfg0.win 16).blk t).view.emb y 0).val := by
    rw [hb0, e0]; show 512 * t.val + (y 0).val = _; omega
  have f1 : ((cfg0.win 16).xinj (grid0.coords t) y 1).val = (((cfg0.win 16).blk t).view.emb y 1).val := by
    rw [hb1, e1]; show (y 1).val = _; omega
  rw [f0, f1]

theorem final_aY (c : Dev nD) : (dats m 0 c).arrAt 16 cfg0.N = aY m c :=
  (dats m 0 c).arrAt_eq_of_cover 16 _ (fun t _ => flushed_aY m c t) ((by decide +kernel : (cfg0.win 16).Covers).cover _ (Memref.isWhole_whole _))

/-- The rows with the normalised product added. -/
def aX (c : Dev nD) : Buf (Elt Ideal) ((c.tc : Thread nD τ).loc main_v9_2) := fun (i : S8192x1024.Idx) => (X1 m c (i 0).val (i 1).val : EReal)

theorem flushed_aX (c : Dev nD) (t : Fin cfg0.N) : (dats m 0 c).flushed 17 t = ((cfg0.win 17).blk t).view.read (Elt Ideal) (aX m c) := by
  rw [Value.flushed17_A m c t]
  have e0 : win0_17.index t (0 : Fin 2) = t.val := congrFun (idxo t).2.2 0
  have e1 : win0_17.index t (1 : Fin 2) = 0 := congrFun (idxo t).2.2 1
  funext y
  have hb0 : (((cfg0.win 17).blk t).view.emb y 0).val = win0_17.index t (0 : Fin 2) * 512 + 1 * (y 0).val := rfl
  have hb1 : (((cfg0.win 17).blk t).view.emb y 1).val = win0_17.index t (1 : Fin 2) * 1024 + 1 * (y 1).val := rfl
  have ht := lt16 t
  have hy0 : ((cfg0.win 17).xinj (grid0.coords t) y 0).val < 512 := (y 0).isLt
  have hy1 : ((cfg0.win 17).xinj (grid0.coords t) y 1).val < 1024 := (y 1).isLt
  refine (out17_at c (grid0.coords t) _ _ _ _ _ _ _ _ _ _ _ _ _ _ _ _ _ _ _ _ _ _ _ _ _ _ _ _ _ _ _ _ _ _ _ _ (X0_0 m c t) (X0_1 m c t) (X0_2 m c t) (X0_3 m c t) (X0_4 m c t) (X0_5 m c t) (X0_6 m c t) (X0_7 m c t) (iblk m c 8 t) (iblk m c 9 t) (iblk m c 10 t) (iblk m c 11 t) (iblk m c 12 t) (iblk m c 13 t) (iblk m c 14 t) ((cfg0.win 17).xinj (grid0.coords t) y)).trans ?_
  rw [coord0 t]
  refine (X1_eq m c t _ _ hy0 hy1).trans ?_
  show _ = aX m c (((cfg0.win 17).blk t).view.emb y)
  unfold aX
  have f0 : 512 * t.val + ((cfg0.win 17).xinj (grid0.coords t) y 0).val = (((cfg0.win 17).blk t).view.emb y 0).val := by
    rw [hb0, e0]; show 512 * t.val + (y 0).val = _; omega
  have f1 : ((cfg0.win 17).xinj (grid0.coords t) y 1).val = (((cfg0.win 17).blk t).view.emb y 1).val := by
    rw [hb1, e1]; show (y 1).val = _; omega
  rw [f0, f1]

theorem final_aX (c : Dev nD) : (dats m 0 c).arrAt 17 cfg0.N = aX m c :=
  (dats m 0 c).arrAt_eq_of_cover 17 _ (fun t _ => flushed_aX m c t) ((by decide +kernel : (cfg0.win 17).Covers).cover _ (Memref.isWhole_whole _))

end Cert.MixIdeal.Hand

end
-- ==== Proof.Mix.lean ====
/- The forward combine of the mixers: the reference and the claims. -/
module

public import proofs.«01_k».proof.Defs
public import proofs.«01_k».proof.Proof.MixFin
public import proofs.«01_k».proof.Proof.Gen.MixRefIdeal.Read
public import proofs.«01_k».proof.Proof.Gen.MixRefIdeal.Run

@[expose] public section

set_option maxRecDepth 16384

noncomputable section

namespace Cert.MixIdeal.Hand

open Cert.MixIdeal.Gen Cert.KernelIdeal.Hand
open Cert.FfnIdeal.Hand (nrmF nrmF_congr sgm_sgr hz2)
open Idealize.ShloMosaic Idealize.ShloMosaic.TcCoe Idealize.ShloMosaic.Tactic
open Idealize.SL Idealize.SL.Sem

variable (m : (ℓ : Loc nD τ sig) → Buf (Elt Ideal) ℓ)

variable (x0 : FVec Ideal S8192x3200 .f32) (x1 x2 : FVec Ideal S8192x512 .f32) (x3 : FVec Ideal S3x512 .f32) (x4 : FVec Ideal S1x128 .f32) (x5 : FVec Ideal S1024x1024 .f32) (x6 : FVec Ideal S1x1024 .f32) (x7 : FVec Ideal S8192x1024 .f32)

/-- The product that the short convolution runs over. -/
def gvF (p : ℕ → ℕ → EReal) (R n : ℕ) : EReal := p R (512 + n) * p R (1024 + n)

theorem ref_v0 (i : S8192x512.Idx) : (Cert.MixRefIdeal.Read.val_main_v0 (F := Ideal) x0 i : EReal) = (at2 (α := EReal) (m := 8192) (n := 3200) x0) (i 0).val (i 1).val :=
  (Cert.MixRefIdeal.Read.val_main_v0_apply (F := Ideal) x0 i).trans (Cert.Parts.at2_idx (m := 8192) (n := 3200) x0 _ _ _ rfl rfl)

theorem ref_v1 (i : S8192x512.Idx) : (Cert.MixRefIdeal.Read.val_main_v1 (F := Ideal) x0 i : EReal) = (at2 (α := EReal) (m := 8192) (n := 3200) x0) (i 0).val (512 + (i 1).val) :=
  (Cert.MixRefIdeal.Read.val_main_v1_apply (F := Ideal) x0 i).trans (Cert.Parts.at2_idx (m := 8192) (n := 3200) x0 _ _ _ rfl rfl)

theorem ref_v2 (i : S8192x512.Idx) : (Cert.MixRefIdeal.Read.val_main_v2 (F := Ideal) x0 i : EReal) = (at2 (α := EReal) (m := 8192) (n := 3200) x0) (i 0).val (1024 + (i 1).val) :=
  (Cert.MixRefIdeal.Read.val_main_v2_apply (F := Ideal) x0 i).trans (Cert.Parts.at2_idx (m := 8192) (n := 3200) x0 _ _ _ rfl rfl)

theorem ref_v6 (i : S8192x512.Idx) : (Cert.MixRefIdeal.Read.val_main_v6 (F := Ideal) x0 i : EReal) = (at2 (α := EReal) (m := 8192) (n := 3200) x0) (i 0).val (2560 + (i 1).val) :=
  (Cert.MixRefIdeal.Read.val_main_v6_apply (F := Ideal) x0 i).trans (Cert.Parts.at2_idx (m := 8192) (n := 3200) x0 _ _ _ rfl rfl)

theorem ref_v8 (i : S8192x512.Idx) : (Cert.MixRefIdeal.Read.val_main_v8 (F := Ideal) x0 i : EReal) = gvF (at2 (α := EReal) (m := 8192) (n := 3200) x0) (i 0).val (i 1).val :=
  (Cert.MixRefIdeal.Read.val_main_v8_apply (F := Ideal) x0 i).trans (congrArg₂ (fun s t : EReal => s * t) (ref_v1 x0 i) (ref_v2 x0 i))

theorem ref_v10 (i : Cert.MixRefIdeal.S8194x512.Idx) : (Cert.MixRefIdeal.Read.val_main_v10 (F := Ideal) x0 i : EReal) = padF (gvF (at2 (α := EReal) (m := 8192) (n := 3200) x0)) (i 0).val (i 1).val := by
  have hp := ref_v8 x0
  unfold Cert.MixRefIdeal.Read.val_main_v10 Cert.MixRefIdeal.Read.val_main_v9 Cert.MixRefIdeal.Read.val_main_cst
  generalize Cert.MixRefIdeal.Read.val_main_v8 (F := Ideal) x0 = u at hp ⊢
  pointwise
  unfold padF
  by_cases h1 : (i 0).val < 1
  · rw [dif_pos h1, if_pos h1]
  · rw [dif_neg h1, if_neg h1]
    by_cases h2 : (i 0).val - 1 < 8192
    · rw [dif_pos h2, if_pos h2]; exact hp _
    · rw [dif_neg h2, if_neg h2]

theorem ref_v30 (i : S8192x512.Idx) : (Cert.MixRefIdeal.Read.val_main_v30 (F := Ideal) x0 x3 i : EReal) = cvF (at2 (α := EReal) (m := 3) (n := 512) x3) (gvF (at2 (α := EReal) (m := 8192) (n := 3200) x0)) (i 0).val (i 1).val := by
  have hp := ref_v10 x0
  have h0 : (i 0).val < 8192 := (i 0).isLt
  unfold Cert.MixRefIdeal.Read.val_main_v30 Cert.MixRefIdeal.Read.val_main_v29 Cert.MixRefIdeal.Read.val_main_v28 Cert.MixRefIdeal.Read.val_main_v27 Cert.MixRefIdeal.Read.val_main_v26 Cert.MixRefIdeal.Read.val_main_v25 Cert.MixRefIdeal.Read.val_main_v24 Cert.MixRefIdeal.Read.val_main_v23 Cert.MixRefIdeal.Read.val_main_v22 Cert.MixRefIdeal.Read.val_main_v21 Cert.MixRefIdeal.Read.val_main_v20 Cert.MixRefIdeal.Read.val_main_v19 Cert.MixRefIdeal.Read.val_main_v18 Cert.MixRefIdeal.Read.val_main_v17 Cert.MixRefIdeal.Read.val_main_v16 Cert.MixRefIdeal.Read.val_main_v15 Cert.MixRefIdeal.Read.val_main_v14 Cert.MixRefIdeal.Read.val_main_v13 Cert.MixRefIdeal.Read.val_main_v12 Cert.MixRefIdeal.Read.val_main_v11
  generalize Cert.MixRefIdeal.Read.val_main_v10 (F := Ideal) x0 = p at hp ⊢
  pointwise
  have c0 : (at2 (α := EReal) (m := 3) (n := 512) x3) 0 (i 1).val = x3 (ix2 0 (i 1)) := at2_fin (m := 3) (n := 512) x3 0 (i 1)
  have c1 : (at2 (α := EReal) (m := 3) (n := 512) x3) 1 (i 1).val = x3 (ix2 1 (i 1)) := at2_fin (m := 3) (n := 512) x3 1 (i 1)
  have c2 : (at2 (α := EReal) (m := 3) (n := 512) x3) 2 (i 1).val = x3 (ix2 2 (i 1)) := at2_fin (m := 3) (n := 512) x3 2 (i 1)
  unfold cvF
  rw [c0, c1, c2]
  simp only [hp]
  rfl

theorem ref_v31 (i : S8192x512.Idx) : (Cert.MixRefIdeal.Read.val_main_v31 (F := Ideal) x0 x3 i : EReal) = (at2 (α := EReal) (m := 8192) (n := 3200) x0) (i 0).val (i 1).val * cvF (at2 (α := EReal) (m := 3) (n := 512) x3) (gvF (at2 (α := EReal) (m := 8192) (n := 3200) x0)) (i 0).val (i 1).val :=
  (Cert.MixRefIdeal.Read.val_main_v31_apply (F := Ideal) x0 x3 i).trans (congrArg₂ (fun s t : EReal => s * t) (ref_v0 x0 i) (ref_v30 x0 x3 i))

theorem ref_v32 (i : S8192x512.Idx) : (Cert.MixRefIdeal.Read.val_main_v32 (F := Ideal) x1 x2 i : EReal) = oS (at2 (α := EReal) (m := 8192) (n := 512) x1) (at2 (α := EReal) (m := 8192) (n := 512) x2) (i 0).val (i 1).val :=
  (Cert.MixRefIdeal.Read.val_main_v32_apply (F := Ideal) x1 x2 i).trans (congrArg₂ (fun s t : EReal => s + t) (at2_eq (m := 8192) (n := 512) x1 i).symm (at2_eq (m := 8192) (n := 512) x2 i).symm)

theorem ref_v33 (i : Cert.MixRefIdeal.S8192x4x128.Idx) : (Cert.MixRefIdeal.Read.val_main_v33 (F := Ideal) x1 x2 i : EReal) = oS (at2 (α := EReal) (m := 8192) (n := 512) x1) (at2 (α := EReal) (m := 8192) (n := 512) x2) (i 0).val (128 * (i 1).val + (i 2).val) := by
  have h0 : (i 0).val < 8192 := (i 0).isLt
  have h1 : (i 1).val < 4 := (i 1).isLt
  have h2 : (i 2).val < 128 := (i 2).isLt
  refine (Cert.MixRefIdeal.Read.val_main_v33_apply (F := Ideal) x1 x2 i).trans ((ref_v32 x1 x2 _).trans ?_)
  have e0 : (Cert.MixRefIdeal.Read.idx_main_v33 i 0).val = (i 0).val := by
    show (((i 0).val * 4 + (i 1).val) * 128 + (i 2).val) / 512 = _
    omega
  have e1 : (Cert.MixRefIdeal.Read.idx_main_v33 i 1).val = 128 * (i 1).val + (i 2).val := by
    show (((i 0).val * 4 + (i 1).val) * 128 + (i 2).val) % 512 = _
    omega
  rw [e0, e1]

theorem ref_v43 (i : Cert.MixRefIdeal.S8192x4x128.Idx) : (Cert.MixRefIdeal.Read.val_main_v43 (F := Ideal) x1 x2 i : EReal)
    = oS (at2 (α := EReal) (m := 8192) (n := 512) x1) (at2 (α := EReal) (m := 8192) (n := 512) x2) (i 0).val (128 * (i 1).val + (i 2).val) * hrs (oS (at2 (α := EReal) (m := 8192) (n := 512) x1) (at2 (α := EReal) (m := 8192) (n := 512) x2)) (i 0).val (128 * (i 1).val) := by
  have hp := ref_v33 x1 x2
  unfold Cert.MixRefIdeal.Read.val_main_v43 Cert.MixRefIdeal.Read.val_main_v42 Cert.MixRefIdeal.Read.val_main_v41 Cert.MixRefIdeal.Read.val_main_v40 Cert.MixRefIdeal.Read.val_main_v39 Cert.MixRefIdeal.Read.val_main_v38 Cert.MixRefIdeal.Read.val_main_v37 Cert.MixRefIdeal.Read.val_main_v36 Cert.MixRefIdeal.Read.val_main_v35 Cert.MixRefIdeal.Read.val_main_v34 Cert.MixRefIdeal.Read.val_main_cst_0 Cert.MixRefIdeal.Read.val_main_cst_1 Cert.MixRefIdeal.Read.val_main_cst_2 hrs
  generalize Cert.MixRefIdeal.Read.val_main_v33 (F := Ideal) x1 x2 = o at hp ⊢
  pointwise
  simp only [hp]
  rfl

theorem ref_v47 (i : Cert.MixRefIdeal.S8192x4x128.Idx) : (Cert.MixRefIdeal.Read.val_main_v47 (F := Ideal) x1 x2 x4 i : EReal)
    = oS (at2 (α := EReal) (m := 8192) (n := 512) x1) (at2 (α := EReal) (m := 8192) (n := 512) x2) (i 0).val (128 * (i 1).val + (i 2).val) * hrs (oS (at2 (α := EReal) (m := 8192) (n := 512) x1) (at2 (α := EReal) (m := 8192) (n := 512) x2)) (i 0).val (128 * (i 1).val) * (at2 (α := EReal) (m := 1) (n := 128) x4) 0 (i 2).val := by
  refine (Cert.MixRefIdeal.Read.val_main_v47_apply (F := Ideal) x1 x2 x4 i).trans (congrArg₂ (fun s t : EReal => s * t) (ref_v43 x1 x2 i) ?_)
  have e : (at2 (α := EReal) (m := 1) (n := 128) x4) 0 (i 2).val = x4 (ix2 0 (i 2)) := at2_fin (m := 1) (n := 128) x4 0 (i 2)
  rw [e]
  unfold Cert.MixRefIdeal.Read.val_main_v46 Cert.MixRefIdeal.Read.val_main_v45 Cert.MixRefIdeal.Read.val_main_v44
  pointwise

theorem ref_v49 (i : S8192x512.Idx) : (Cert.MixRefIdeal.Read.val_main_v49 (F := Ideal) x1 x2 x4 i : EReal) = hnm (oS (at2 (α := EReal) (m := 8192) (n := 512) x1) (at2 (α := EReal) (m := 8192) (n := 512) x2)) (i 0).val (i 1).val * (at2 (α := EReal) (m := 1) (n := 128) x4) 0 ((i 1).val % 128) := by
  have h0 : (i 0).val < 8192 := (i 0).isLt
  have h1 : (i 1).val < 512 := (i 1).isLt
  refine (Cert.MixRefIdeal.Read.val_main_v49_apply (F := Ideal) x1 x2 x4 i).trans ((ref_v47 x1 x2 x4 _).trans ?_)
  have e0 : (Cert.MixRefIdeal.Read.idx_main_v49 i 0).val = (i 0).val := by
    show ((i 0).val * 512 + (i 1).val) / 512 = _
    omega
  have e1 : (Cert.MixRefIdeal.Read.idx_main_v49 i 1).val = (i 1).val / 128 := by
    show ((i 0).val * 512 + (i 1).val) / 128 % 4 = _
    omega
  have e2 : (Cert.MixRefIdeal.Read.idx_main_v49 i 2).val = (i 1).val % 128 := by
    show ((i 0).val * 512 + (i 1).val) % 128 = _
    omega
  rw [e0, e1, e2, Nat.div_add_mod]
  rfl

theorem ref_sg (i : S8192x512.Idx) : (Cert.MixRefIdeal.Read.val_main_call0_v5 (F := Ideal) x0 i : EReal) = sgm ((at2 (α := EReal) (m := 8192) (n := 3200) x0) (i 0).val (2560 + (i 1).val)) := by
  rw [sgm_sgr, ← ref_v6 x0 i]
  pointwise [Cert.MixRefIdeal.Read.val_main_call0_v5, Cert.MixRefIdeal.Read.val_main_call0_v4, Cert.MixRefIdeal.Read.val_main_call0_cst_0, Cert.MixRefIdeal.Read.val_main_call0_v3, Cert.MixRefIdeal.Read.val_main_call0_v2, Cert.MixRefIdeal.Read.val_main_call0_cst, Cert.MixRefIdeal.Read.val_main_call0_v1, Cert.MixRefIdeal.Read.val_main_call0_v0]
  rfl

/-- The gated, head-normalised rows. -/
def ybR (R n : ℕ) : EReal := (at2 (α := EReal) (m := 8192) (n := 3200) x0) R (2560 + n) * sgm ((at2 (α := EReal) (m := 8192) (n := 3200) x0) R (2560 + n)) * (hnm (oS (at2 (α := EReal) (m := 8192) (n := 512) x1) (at2 (α := EReal) (m := 8192) (n := 512) x2)) R n * (at2 (α := EReal) (m := 1) (n := 128) x4) 0 (n % 128))

theorem ref_v50 (i : S8192x512.Idx) : (Cert.MixRefIdeal.Read.val_main_v50 (F := Ideal) x0 x1 x2 x4 i : EReal) = ybR x0 x1 x2 x4 (i 0).val (i 1).val := by
  refine (Cert.MixRefIdeal.Read.val_main_v50_apply (F := Ideal) x0 x1 x2 x4 i).trans (congrArg₂ (fun s t : EReal => s * t) ?_ (ref_v49 x1 x2 x4 i))
  exact (Cert.MixRefIdeal.Read.val_main_v48_apply (F := Ideal) x0 i).trans (congrArg₂ (fun s t : EReal => s * t) (ref_v6 x0 i) (ref_sg x0 i))

/-- Both mixers' rows side by side. -/
def ycR (R n : ℕ) : EReal := if n < 512 then (at2 (α := EReal) (m := 8192) (n := 3200) x0) R n * cvF (at2 (α := EReal) (m := 3) (n := 512) x3) (gvF (at2 (α := EReal) (m := 8192) (n := 3200) x0)) R n else ybR x0 x1 x2 x4 R (n - 512)

theorem ref_v51 (i : S8192x1024.Idx) : (Cert.MixRefIdeal.Read.val_main_v51 (F := Ideal) x0 x1 x2 x3 x4 i : EReal) = ycR x0 x1 x2 x3 x4 (i 0).val (i 1).val := by
  have h0 : (i 1).val < 1024 := (i 1).isLt
  have hy := ref_v31 x0 x3
  have hz := ref_v50 x0 x1 x2 x4
  unfold Cert.MixRefIdeal.Read.val_main_v51 ycR
  generalize Cert.MixRefIdeal.Read.val_main_v31 (F := Ideal) x0 x3 = y at hy ⊢
  generalize Cert.MixRefIdeal.Read.val_main_v50 (F := Ideal) x0 x1 x2 x4 = z at hz ⊢
  pointwise
  by_cases h1 : (i 1).val < 512
  · rw [if_pos h1]
    exact (dif_pos h1).trans (hy (ix2 (i 0) ⟨(i 1).val, h1⟩))
  · rw [if_neg h1]
    exact (dif_neg h1).trans (hz (ix2 (i 0) ⟨(i 1).val - 512, by omega⟩))

theorem ref_v52 (i : S8192x1024.Idx) : (Cert.MixRefIdeal.Read.val_main_v52 (F := Ideal) x0 x1 x2 x3 x4 x5 i : EReal) = yT (ycR x0 x1 x2 x3 x4) (at2 (α := EReal) (m := 1024) (n := 1024) x5) (i 0).val (i 1).val := by
  refine (Cert.MixRefIdeal.Read.val_main_v52_apply x0 x1 x2 x3 x4 x5 i).trans ?_
  refine Finset.sum_congr rfl fun k _ => congrArg₂ (fun s t : EReal => s * t) (ref_v51 x0 x1 x2 x3 x4 _) ?_
  exact Cert.Parts.at2_idx (m := 1024) (n := 1024) x5 _ _ _ rfl rfl

theorem ref_v67 (i : S8192x1024.Idx) : (Cert.MixRefIdeal.Read.val_main_v67 (F := Ideal) x0 x1 x2 x3 x4 x5 x6 i : EReal) = nrmF (yT (ycR x0 x1 x2 x3 x4) (at2 (α := EReal) (m := 1024) (n := 1024) x5)) (at2 (α := EReal) (m := 1) (n := 1024) x6) (i 0).val (i 1).val := by
  have hp := ref_v52 x0 x1 x2 x3 x4 x5
  unfold Cert.MixRefIdeal.Read.val_main_v67 Cert.MixRefIdeal.Read.val_main_v66 Cert.MixRefIdeal.Read.val_main_v65 Cert.MixRefIdeal.Read.val_main_v64 Cert.MixRefIdeal.Read.val_main_v63 Cert.MixRefIdeal.Read.val_main_v62 Cert.MixRefIdeal.Read.val_main_v61 Cert.MixRefIdeal.Read.val_main_v60 Cert.MixRefIdeal.Read.val_main_v59 Cert.MixRefIdeal.Read.val_main_v58 Cert.MixRefIdeal.Read.val_main_v57 Cert.MixRefIdeal.Read.val_main_v56 Cert.MixRefIdeal.Read.val_main_v55 Cert.MixRefIdeal.Read.val_main_v54 Cert.MixRefIdeal.Read.val_main_cst_3 Cert.MixRefIdeal.Read.val_main_cst_4 Cert.MixRefIdeal.Read.val_main_cst_5 nrmF Cert.KernelIdeal.Hand.rsv
  generalize Cert.MixRefIdeal.Read.val_main_v52 (F := Ideal) x0 x1 x2 x3 x4 x5 = y at hp ⊢
  pointwise
  have e : ∀ k : Fin 1024, yT (ycR x0 x1 x2 x3 x4) (at2 (α := EReal) (m := 1024) (n := 1024) x5) (i 0).val k.val = y (ix2 (i 0) k) := fun k => (hp (ix2 (i 0) k)).symm
  have e1 : yT (ycR x0 x1 x2 x3 x4) (at2 (α := EReal) (m := 1024) (n := 1024) x5) (i 0).val (i 1).val = y i := (hp i).symm
  have e2 : (at2 (α := EReal) (m := 1) (n := 1024) x6) 0 (i 1).val = x6 (ix2 0 (i 1)) := at2_fin (m := 1) (n := 1024) x6 0 (i 1)
  rw [e1, e2]
  simp only [e]

theorem ref_v68 (i : S8192x1024.Idx) : (Cert.MixRefIdeal.Read.val_main_v68 (F := Ideal) x0 x1 x2 x3 x4 x5 x6 x7 i : EReal)
    = (at2 (α := EReal) (m := 8192) (n := 1024) x7) (i 0).val (i 1).val + nrmF (yT (ycR x0 x1 x2 x3 x4) (at2 (α := EReal) (m := 1024) (n := 1024) x5)) (at2 (α := EReal) (m := 1) (n := 1024) x6) (i 0).val (i 1).val :=
  (Cert.MixRefIdeal.Read.val_main_v68_apply (F := Ideal) x0 x1 x2 x3 x4 x5 x6 x7 i).trans (congrArg₂ (fun s t : EReal => s + t) (at2_eq (m := 8192) (n := 1024) x7 i).symm (ref_v67 x0 x1 x2 x3 x4 x5 x6 i))

/-! ## The claims -/

theorem same_aC (c : Dev nD) : Cert.MixRefIdeal.Read.val_main_v53 (F := Ideal) (m (c, main_arg0)) (m (c, main_arg1)) (m (c, main_arg2)) (m (c, main_arg3)) (m (c, main_arg4)) = aC m c :=
  funext fun i => ref_v51 (m (c, main_arg0)) (m (c, main_arg1)) (m (c, main_arg2)) (m (c, main_arg3)) (m (c, main_arg4)) i

theorem same_aY (c : Dev nD) : Cert.MixRefIdeal.Read.val_main_v52 (F := Ideal) (m (c, main_arg0)) (m (c, main_arg1)) (m (c, main_arg2)) (m (c, main_arg3)) (m (c, main_arg4)) (m (c, main_arg5)) = aY m c :=
  funext fun i => ref_v52 (m (c, main_arg0)) (m (c, main_arg1)) (m (c, main_arg2)) (m (c, main_arg3)) (m (c, main_arg4)) (m (c, main_arg5)) i

theorem same_aX (c : Dev nD) : Cert.MixRefIdeal.Read.val_main_v68 (F := Ideal) (m (c, main_arg0)) (m (c, main_arg1)) (m (c, main_arg2)) (m (c, main_arg3)) (m (c, main_arg4)) (m (c, main_arg5)) (m (c, main_arg6)) (m (c, main_arg7)) = aX m c :=
  funext fun i => ref_v68 (m (c, main_arg0)) (m (c, main_arg1)) (m (c, main_arg2)) (m (c, main_arg3)) (m (c, main_arg4)) (m (c, main_arg5)) (m (c, main_arg6)) (m (c, main_arg7)) i

/-- The reference runs, leaves its arguments unchanged, and every semaphore ends at zero. -/
theorem reference_frame : Cert.quiescent_MixRefIdeal := by
  intro m g _
  exact (θ_run Cert.MixRefIdeal.defs _ _).mono (fun r h => ⟨fun c => (h c).2.2.2, sem_eq_zero_of_no_sems (by decide) r.2⟩)
    (Cert.MixRefIdeal.Value.run (F := Ideal) m g)

/-- From equal arguments the kernel and the reference end with equal results. -/
theorem equal_results : Cert.algebraic_MixIdeal_MixRefIdeal := by
  intro m g m' g' _ hagree
  refine ⟨aC m, aY m, aX m, (θ_run defs _ _).mono (fun r h c => ⟨(h c).1.trans (final_aC m c), (h c).2.1.trans (final_aY m c), (h c).2.2.1.trans (final_aX m c), (h c).2.2.2⟩) (Value.run_blocks (F := Ideal) m g), ?_⟩
  refine (θ_run Cert.MixRefIdeal.defs _ _).mono (fun r h c => ?_) (Cert.MixRefIdeal.Value.run (F := Ideal) m' g')
  obtain ⟨e0, e1, e2, e3, e4, e5, e6, e7⟩ := hagree c
  obtain ⟨r0, r1, r2, rest⟩ := h c
  have q0 : r.2.mem ((c.tc : Thread Cert.MixRefIdeal.nD Cert.MixRefIdeal.τ).loc Cert.MixRefIdeal.main_v53) = Cert.MixRefIdeal.Read.val_main_v53 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) := r0.trans (Cert.MixRefIdeal.Read.val_main_v53_eq (F := Ideal) m' c)
  have q1 : r.2.mem ((c.tc : Thread Cert.MixRefIdeal.nD Cert.MixRefIdeal.τ).loc Cert.MixRefIdeal.main_v52) = Cert.MixRefIdeal.Read.val_main_v52 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) := r1.trans (Cert.MixRefIdeal.Read.val_main_v52_eq (F := Ideal) m' c)
  have q2 : r.2.mem ((c.tc : Thread Cert.MixRefIdeal.nD Cert.MixRefIdeal.τ).loc Cert.MixRefIdeal.main_v68) = Cert.MixRefIdeal.Read.val_main_v68 (F := Ideal) (m' ((c.tc : Thread Cert.MixRefIdeal.nD Cert.MixRefIdeal.τ).loc Cert.MixRefIdeal.main_arg0)) (m' ((c.tc : Thread Cert.MixRefIdeal.nD Cert.MixRefIdeal.τ).loc Cert.MixRefIdeal.main_arg1)) (m' ((c.tc : Thread Cert.MixRefIdeal.nD Cert.MixRefIdeal.τ).loc Cert.MixRefIdeal.main_arg2)) (m' ((c.tc : Thread Cert.MixRefIdeal.nD Cert.MixRefIdeal.τ).loc Cert.MixRefIdeal.main_arg3)) (m' ((c.tc : Thread Cert.MixRefIdeal.nD Cert.MixRefIdeal.τ).loc Cert.MixRefIdeal.main_arg4)) (m' ((c.tc : Thread Cert.MixRefIdeal.nD Cert.MixRefIdeal.τ).loc Cert.MixRefIdeal.main_arg5)) (m' ((c.tc : Thread Cert.MixRefIdeal.nD Cert.MixRefIdeal.τ).loc Cert.MixRefIdeal.main_arg6)) (m' ((c.tc : Thread Cert.MixRefIdeal.nD Cert.MixRefIdeal.τ).loc Cert.MixRefIdeal.main_arg7)) := r2.trans (Cert.MixRefIdeal.Read.val_main_v68_eq (F := Ideal) m' c)
  rw [e0, e1, e2, e3, e4] at q0
  rw [e0, e1, e2, e3, e4, e5] at q1
  rw [e0, e1, e2, e3, e4, e5, e6, e7] at q2
  exact ⟨q0.trans (same_aC m c), q1.trans (same_aY m c), q2.trans (same_aX m c), rest⟩

end Cert.MixIdeal.Hand

end
-- ==== Proof.AdamStep.lean ====
/-
  The optimiser's step on one entry, on vectors of any shape: the two moments and the change of the weight.
-/
module

public import Idealize.ShloMosaic.PureOps.Ideal

@[expose] public section

noncomputable section

namespace Cert.AdamStep

open Idealize.ShloMosaic

theorem zero_pair : (![0, 0] : Fin 2 → Nat) = fun _ => 0 := funext fun a => by fin_cases a <;> rfl

variable {s : Shape} (w g m v : FVec Ideal s .f32)

/-- The new first moment. -/
def mom : FVec Ideal s .f32 :=
  addf (mulf (broadcast s (Scalar.ofBits .f32 0x3F666666#32)) m) (mulf (broadcast s (Scalar.ofBits .f32 0x3DCCCCCD#32)) g)

/-- The new second moment. -/
def vel : FVec Ideal s .f32 :=
  addf (mulf (broadcast s (Scalar.ofBits .f32 0x3F7FBE77#32)) v) (mulf (broadcast s (Scalar.ofBits .f32 0x3A83126F#32)) (mulf g g))

/-- The change of the weight: the moments without their bias, their quotient, and the decay. -/
def delta : FVec Ideal s .f32 :=
  mulf (broadcast s (Scalar.ofBits .f32 0xBA83126F#32)) (addf
    (divf (divf (mom g m) (broadcast s (Scalar.ofBits .f32 0x3F26BD02#32)))
      (addf (sqrt (divf (vel g v) (broadcast s (Scalar.ofBits .f32 0x3C231ACC#32)))) (broadcast s (Scalar.ofBits .f32 0x322BCC77#32))))
    (mulf (broadcast s (Scalar.ofBits .f32 0x3C23D70A#32)) w))

/-- The step on a part of an array, seen under another shape, is that part of the step on the whole. -/
theorem step_part {b t : Shape} (h : s.ShapeCasts b) (e : t.Idx → b.Idx) {w' g' m' v' : FVec Ideal t .f32}
    (hb : w' = (fun y => shapeCast b w h (e y)) ∧ g' = (fun y => shapeCast b g h (e y)) ∧ m' = (fun y => shapeCast b m h (e y)) ∧ v' = (fun y => shapeCast b v h (e y))) :
    delta w' g' m' v' = (fun y => shapeCast b (delta w g m v) h (e y)) ∧ mom g' m' = (fun y => shapeCast b (mom g m) h (e y))
    ∧ vel g' v' = (fun y => shapeCast b (vel g v) h (e y)) := by
  obtain ⟨rfl, rfl, rfl, rfl⟩ := hb
  exact ⟨rfl, rfl, rfl⟩

/-- Three results of equal arguments are equal, whatever else holds beside them. -/
theorem carry {A B : Type} (f : A → A → A → A → B) (f₁ f₂ : A → A → B) {w g m v w' g' m' v' : A} {r r₁ r₂ : B} {P : Prop}
    (e : w' = w ∧ g' = g ∧ m' = m ∧ v' = v) (h : r = f w' g' m' v' ∧ r₁ = f₁ g' m' ∧ r₂ = f₂ g' v' ∧ P) :
    r = f w g m v ∧ r₁ = f₁ g m ∧ r₂ = f₂ g v ∧ P := by
  obtain ⟨rfl, rfl, rfl, rfl⟩ := e
  exact h

end Cert.AdamStep

end
-- ==== Proof.AdamBig.lean ====
/-
  The optimiser on the four large weights: the kernel and the reference agree entry by entry.
-/
module

public import proofs.«01_k».proof.Defs
public import proofs.«01_k».proof.Proof.AdamStep
public import proofs.«01_k».proof.Proof.Gen.AdamUp.Frame
public import proofs.«01_k».proof.Proof.Gen.AdamUpIdeal.Value
public import proofs.«01_k».proof.Proof.Gen.AdamUpRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamOut.Frame
public import proofs.«01_k».proof.Proof.Gen.AdamOutIdeal.Value
public import proofs.«01_k».proof.Proof.Gen.AdamOutRefIdeal.Run
public import proofs.«01_k».proof.Proof.Gen.AdamDown.Frame
public import proofs.«01_k».proof.Proof.Gen.AdamDownIdeal.Value
public import proofs.«01_k».proof.Proof.Gen.AdamDownRefIdeal.Run
public import Idealize.ShloMosaic.Lib.Pipeline.ValueKit
public import Idealize.ShloMosaic.Lib.StableHlo.RunRead
public import Idealize.ShloMosaic.Lib.Quiescent

@[expose] public section

noncomputable section

open Idealize.ShloMosaic Idealize.ShloMosaic.TcCoe Idealize.SL.Sem Cert.AdamStep

namespace Cert.AdamUpIdeal.Hand

open Cert.AdamUpIdeal Cert.AdamUpIdeal.Gen

variable (m : (ℓ : Loc nD τ sig) → Buf (Elt Ideal) ℓ)

/-- An array as a matrix. -/
abbrev row (x : FVec Ideal S4x1024x1408 .f32) : FVec Ideal S4096x1408 .f32 := shapeCast S4096x1408 x shapeCasts_S4x1024x1408_S4096x1408

theorem blocks (c : Dev nD) (t : Fin cfg0.N) :
    iblk m c 0 t = (fun y => row (m (c, main_arg0)) (((cfg0.win 4).blk t).view.emb y)) ∧ iblk m c 1 t = (fun y => row (m (c, main_arg1)) (((cfg0.win 4).blk t).view.emb y))
    ∧ iblk m c 2 t = (fun y => row (m (c, main_arg2)) (((cfg0.win 4).blk t).view.emb y)) ∧ iblk m c 3 t = (fun y => row (m (c, main_arg3)) (((cfg0.win 4).blk t).view.emb y)) := by
  unfold iblk V
  refine ⟨?_, ?_, ?_, ?_⟩ <;> (after_reads_simp; rfl)

theorem outs (w g a v : Vec Ideal _ .f32) : out0_4 (F := Ideal) w g a v = delta w g a v ∧ out0_5 (F := Ideal) w g a v = mom g a ∧ out0_6 (F := Ideal) w g a v = vel g v := by
  unfold out0_4 out0_5 out0_6
  refine ⟨?_, ?_, ?_⟩ <;>
  · rw [View.canon_unit_zero zero_pair]
    repeat rw [View.ld_unit_zero zero_pair]
    simp only [k0_pay4, k0_pay3, k0_pay2, k0_pay1, shapeCast_self]
    rfl

theorem finals (c : Dev nD) : (dats m 0 c).arrAt 4 cfg0.N = row (delta (m (c, main_arg0)) (m (c, main_arg1)) (m (c, main_arg2)) (m (c, main_arg3)))
    ∧ (dats m 0 c).arrAt 5 cfg0.N = row (mom (m (c, main_arg1)) (m (c, main_arg2))) ∧ (dats m 0 c).arrAt 6 cfg0.N = row (vel (m (c, main_arg1)) (m (c, main_arg3))) :=
  have p := fun t => step_part _ _ _ _ shapeCasts_S4x1024x1408_S4096x1408 (((cfg0.win 4).blk t).view.emb) (blocks m c t)
  ⟨(dats m 0 c).arrAt_eq_of_covers 4 _ (by decide +kernel) fun t _ => congrFun ((after0_4 m c t).trans ((outs ..).1.trans (p t).1)),
    (dats m 0 c).arrAt_eq_of_covers 5 _ (by decide +kernel) fun t _ => congrFun ((after0_5 m c t).trans ((outs ..).2.1.trans (p t).2.1)),
    (dats m 0 c).arrAt_eq_of_covers 6 _ (by decide +kernel) fun t _ => congrFun ((after0_6 m c t).trans ((outs ..).2.2.trans (p t).2.2))⟩

/-- The reference runs, leaves its arguments unchanged, and every semaphore ends at zero. -/
theorem reference_frame : Cert.quiescent_AdamUpRefIdeal := fun m g _ =>
  (θ_run Cert.AdamUpRefIdeal.defs _ _).mono (fun r h => ⟨fun c => (h c).2.2.2, sem_eq_zero_of_no_sems (by decide) r.2⟩) (Cert.AdamUpRefIdeal.Value.run (F := Ideal) m g)

/-- From equal arguments the kernel and the reference end with equal results. -/
theorem equal_results : Cert.algebraic_AdamUpIdeal_AdamUpRefIdeal := by
  intro m g m' g' _ hagree
  refine ⟨_, _, _, (θ_run defs _ _).mono (fun r h c => ⟨(h c).1.trans (finals m c).1, (h c).2.1.trans (finals m c).2.1, (h c).2.2.1.trans (finals m c).2.2, (h c).2.2.2⟩) (Value.run_blocks (F := Ideal) m g), ?_⟩
  exact (θ_run Cert.AdamUpRefIdeal.defs _ _).mono (fun _ h c => carry (fun w g a v => row (delta w g a v)) (fun g a => row (mom g a)) (fun g v => row (vel g v)) (hagree c) (h c)) (Cert.AdamUpRefIdeal.Value.run (F := Ideal) m' g')

end Cert.AdamUpIdeal.Hand

namespace Cert.AdamInIdeal.Hand

open Cert.AdamInIdeal Cert.AdamInIdeal.Gen

variable (m : (ℓ : Loc nD τ sig) → Buf (Elt Ideal) ℓ)

/-- An array as a matrix. -/
abbrev row (x : FVec Ideal S4x1024x776 .f32) : FVec Ideal S4096x776 .f32 := shapeCast S4096x776 x shapeCasts_S4x1024x776_S4096x776

theorem blocks (c : Dev nD) (t : Fin cfg0.N) :
    iblk m c 0 t = (fun y => row (m (c, main_arg0)) (((cfg0.win 4).blk t).view.emb y)) ∧ iblk m c 1 t = (fun y => row (m (c, main_arg1)) (((cfg0.win 4).blk t).view.emb y))
    ∧ iblk m c 2 t = (fun y => row (m (c, main_arg2)) (((cfg0.win 4).blk t).view.emb y)) ∧ iblk m c 3 t = (fun y => row (m (c, main_arg3)) (((cfg0.win 4).blk t).view.emb y)) := by
  unfold iblk V
  refine ⟨?_, ?_, ?_, ?_⟩ <;> (after_reads_simp; rfl)

theorem outs (w g a v : Vec Ideal _ .f32) : out0_4 (F := Ideal) w g a v = delta w g a v ∧ out0_5 (F := Ideal) w g a v = mom g a ∧ out0_6 (F := Ideal) w g a v = vel g v := by
  unfold out0_4 out0_5 out0_6
  refine ⟨?_, ?_, ?_⟩ <;>
  · rw [View.canon_unit_zero zero_pair]
    repeat rw [View.ld_unit_zero zero_pair]
    simp only [k0_pay4, k0_pay3, k0_pay2, k0_pay1, shapeCast_self]
    rfl

theorem finals (c : Dev nD) : (dats m 0 c).arrAt 4 cfg0.N = row (delta (m (c, main_arg0)) (m (c, main_arg1)) (m (c, main_arg2)) (m (c, main_arg3)))
    ∧ (dats m 0 c).arrAt 5 cfg0.N = row (mom (m (c, main_arg1)) (m (c, main_arg2))) ∧ (dats m 0 c).arrAt 6 cfg0.N = row (vel (m (c, main_arg1)) (m (c, main_arg3))) :=
  have p := fun t => step_part _ _ _ _ shapeCasts_S4x1024x776_S4096x776 (((cfg0.win 4).blk t).view.emb) (blocks m c t)
  ⟨(dats m 0 c).arrAt_eq_of_covers 4 _ (by decide +kernel) fun t _ => congrFun ((after0_4 m c t).trans ((outs ..).1.trans (p t).1)),
    (dats m 0 c).arrAt_eq_of_covers 5 _ (by decide +kernel) fun t _ => congrFun ((after0_5 m c t).trans ((outs ..).2.1.trans (p t).2.1)),
    (dats m 0 c).arrAt_eq_of_covers 6 _ (by decide +kernel) fun t _ => congrFun ((after0_6 m c t).trans ((outs ..).2.2.trans (p t).2.2))⟩

/-- The reference runs, leaves its arguments unchanged, and every semaphore ends at zero. -/
theorem reference_frame : Cert.quiescent_AdamInRefIdeal := fun m g _ =>
  (θ_run Cert.AdamInRefIdeal.defs _ _).mono (fun r h => ⟨fun c => (h c).2.2.2, sem_eq_zero_of_no_sems (by decide) r.2⟩) (Cert.AdamInRefIdeal.Value.run (F := Ideal) m g)

/-- From equal arguments the kernel and the reference end with equal results. -/
theorem equal_results : Cert.algebraic_AdamInIdeal_AdamInRefIdeal := by
  intro m g m' g' _ hagree
  refine ⟨_, _, _, (θ_run defs _ _).mono (fun r h c => ⟨(h c).1.trans (finals m c).1, (h c).2.1.trans (finals m c).2.1, (h c).2.2.1.trans (finals m c).2.2, (h c).2.2.2⟩) (Value.run_blocks (F := Ideal) m g), ?_⟩
  exact (θ_run Cert.AdamInRefIdeal.defs _ _).mono (fun _ h c => carry (fun w g a v => row (delta w g a v)) (fun g a => row (mom g a)) (fun g v => row (vel g v)) (hagree c) (h c)) (Cert.AdamInRefIdeal.Value.run (F := Ideal) m' g')

end Cert.AdamInIdeal.Hand

namespace Cert.AdamOutIdeal.Hand

open Cert.AdamOutIdeal Cert.AdamOutIdeal.Gen

variable (m : (ℓ : Loc nD τ sig) → Buf (Elt Ideal) ℓ)

/-- An array as a matrix. -/
abbrev row (x : FVec Ideal S4x256x1024 .f32) : FVec Ideal S1024x1024 .f32 := shapeCast S1024x1024 x shapeCasts_S4x256x1024_S1024x1024

theorem blocks (c : Dev nD) (t : Fin cfg0.N) :
    iblk m c 0 t = (fun y => row (m (c, main_arg0)) (((cfg0.win 4).blk t).view.emb y)) ∧ iblk m c 1 t = (fun y => row (m (c, main_arg1)) (((cfg0.win 4).blk t).view.emb y))
    ∧ iblk m c 2 t = (fun y => row (m (c, main_arg2)) (((cfg0.win 4).blk t).view.emb y)) ∧ iblk m c 3 t = (fun y => row (m (c, main_arg3)) (((cfg0.win 4).blk t).view.emb y)) := by
  unfold iblk V
  refine ⟨?_, ?_, ?_, ?_⟩ <;> (after_reads_simp; rfl)

theorem outs (w g a v : Vec Ideal _ .f32) : out0_4 (F := Ideal) w g a v = delta w g a v ∧ out0_5 (F := Ideal) w g a v = mom g a ∧ out0_6 (F := Ideal) w g a v = vel g v := by
  unfold out0_4 out0_5 out0_6
  refine ⟨?_, ?_, ?_⟩ <;>
  · rw [View.canon_unit_zero zero_pair]
    repeat rw [View.ld_unit_zero zero_pair]
    simp only [k0_pay4, k0_pay3, k0_pay2, k0_pay1, shapeCast_self]
    rfl

theorem finals (c : Dev nD) : (dats m 0 c).arrAt 4 cfg0.N = row (delta (m (c, main_arg0)) (m (c, main_arg1)) (m (c, main_arg2)) (m (c, main_arg3)))
    ∧ (dats m 0 c).arrAt 5 cfg0.N = row (mom (m (c, main_arg1)) (m (c, main_arg2))) ∧ (dats m 0 c).arrAt 6 cfg0.N = row (vel (m (c, main_arg1)) (m (c, main_arg3))) :=
  have p := fun t => step_part _ _ _ _ shapeCasts_S4x256x1024_S1024x1024 (((cfg0.win 4).blk t).view.emb) (blocks m c t)
  ⟨(dats m 0 c).arrAt_eq_of_covers 4 _ (by decide +kernel) fun t _ => congrFun ((after0_4 m c t).trans ((outs ..).1.trans (p t).1)),
    (dats m 0 c).arrAt_eq_of_covers 5 _ (by decide +kernel) fun t _ => congrFun ((after0_5 m c t).trans ((outs ..).2.1.trans (p t).2.1)),
    (dats m 0 c).arrAt_eq_of_covers 6 _ (by decide +kernel) fun t _ => congrFun ((after0_6 m c t).trans ((outs ..).2.2.trans (p t).2.2))⟩

/-- The reference runs, leaves its arguments unchanged, and every semaphore ends at zero. -/
theorem reference_frame : Cert.quiescent_AdamOutRefIdeal := fun m g _ =>
  (θ_run Cert.AdamOutRefIdeal.defs _ _).mono (fun r h => ⟨fun c => (h c).2.2.2, sem_eq_zero_of_no_sems (by decide) r.2⟩) (Cert.AdamOutRefIdeal.Value.run (F := Ideal) m g)

/-- From equal arguments the kernel and the reference end with equal results. -/
theorem equal_results : Cert.algebraic_AdamOutIdeal_AdamOutRefIdeal := by
  intro m g m' g' _ hagree
  refine ⟨_, _, _, (θ_run defs _ _).mono (fun r h c => ⟨(h c).1.trans (finals m c).1, (h c).2.1.trans (finals m c).2.1, (h c).2.2.1.trans (finals m c).2.2, (h c).2.2.2⟩) (Value.run_blocks (F := Ideal) m g), ?_⟩
  exact (θ_run Cert.AdamOutRefIdeal.defs _ _).mono (fun _ h c => carry (fun w g a v => row (delta w g a v)) (fun g a => row (mom g a)) (fun g v => row (vel g v)) (hagree c) (h c)) (Cert.AdamOutRefIdeal.Value.run (F := Ideal) m' g')

end Cert.AdamOutIdeal.Hand

namespace Cert.AdamDownIdeal.Hand

open Cert.AdamDownIdeal Cert.AdamDownIdeal.Gen

variable (m : (ℓ : Loc nD τ sig) → Buf (Elt Ideal) ℓ)

/-- An array as a matrix. -/
abbrev row (x : FVec Ideal S4x704x1024 .f32) : FVec Ideal S2816x1024 .f32 := shapeCast S2816x1024 x shapeCasts_S4x704x1024_S2816x1024

theorem blocks (c : Dev nD) (t : Fin cfg0.N) :
    iblk m c 0 t = (fun y => row (m (c, main_arg0)) (((cfg0.win 4).blk t).view.emb y)) ∧ iblk m c 1 t = (fun y => row (m (c, main_arg1)) (((cfg0.win 4).blk t).view.emb y))
    ∧ iblk m c 2 t = (fun y => row (m (c, main_arg2)) (((cfg0.win 4).blk t).view.emb y)) ∧ iblk m c 3 t = (fun y => row (m (c, main_arg3)) (((cfg0.win 4).blk t).view.emb y)) := by
  unfold iblk V
  refine ⟨?_, ?_, ?_, ?_⟩ <;> (after_reads_simp; rfl)

theorem outs (w g a v : Vec Ideal _ .f32) : out0_4 (F := Ideal) w g a v = delta w g a v ∧ out0_5 (F := Ideal) w g a v = mom g a ∧ out0_6 (F := Ideal) w g a v = vel g v := by
  unfold out0_4 out0_5 out0_6
  refine ⟨?_, ?_, ?_⟩ <;>
  · rw [View.canon_unit_zero zero_pair]
    repeat rw [View.ld_unit_zero zero_pair]
    simp only [k0_pay4, k0_pay3, k0_pay2, k0_pay1, shapeCast_self]
    rfl

theorem finals (c : Dev nD) : (dats m 0 c).arrAt 4 cfg0.N = row (delta (m (c, main_arg0)) (m (c, main_arg1)) (m (c, main_arg2)) (m (c, main_arg3)))
    ∧ (dats m 0 c).arrAt 5 cfg0.N = row (mom (m (c, main_arg1)) (m (c, main_arg2))) ∧ (dats m 0 c).arrAt 6 cfg0.N = row (vel (m (c, main_arg1)) (m (c, main_arg3))) :=
  have p := fun t => step_part _ _ _ _ shapeCasts_S4x704x1024_S2816x1024 (((cfg0.win 4).blk t).view.emb) (blocks m c t)
  ⟨(dats m 0 c).arrAt_eq_of_covers 4 _ (by decide +kernel) fun t _ => congrFun ((after0_4 m c t).trans ((outs ..).1.trans (p t).1)),
    (dats m 0 c).arrAt_eq_of_covers 5 _ (by decide +kernel) fun t _ => congrFun ((after0_5 m c t).trans ((outs ..).2.1.trans (p t).2.1)),
    (dats m 0 c).arrAt_eq_of_covers 6 _ (by decide +kernel) fun t _ => congrFun ((after0_6 m c t).trans ((outs ..).2.2.trans (p t).2.2))⟩

/-- The reference runs, leaves its arguments unchanged, and every semaphore ends at zero. -/
theorem reference_frame : Cert.quiescent_AdamDownRefIdeal := fun m g _ =>
  (θ_run Cert.AdamDownRefIdeal.defs _ _).mono (fun r h => ⟨fun c => (h c).2.2.2, sem_eq_zero_of_no_sems (by decide) r.2⟩) (Cert.AdamDownRefIdeal.Value.run (F := Ideal) m g)

/-- From equal arguments the kernel and the reference end with equal results. -/
theorem equal_results : Cert.algebraic_AdamDownIdeal_AdamDownRefIdeal := by
  intro m g m' g' _ hagree
  refine ⟨_, _, _, (θ_run defs _ _).mono (fun r h c => ⟨(h c).1.trans (finals m c).1, (h c).2.1.trans (finals m c).2.1, (h c).2.2.1.trans (finals m c).2.2, (h c).2.2.2⟩) (Value.run_blocks (F := Ideal) m g), ?_⟩
  exact (θ_run Cert.AdamDownRefIdeal.defs _ _).mono (fun _ h c => carry (fun w g a v => row (delta w g a v)) (fun g a => row (mom g a)) (fun g v => row (vel g v)) (hagree c) (h c)) (Cert.AdamDownRefIdeal.Value.run (F := Ideal) m' g')

end Cert.AdamDownIdeal.Hand

end
-- ==== Proof.AdamSmall.lean ====
/-
  The optimiser on the taps of the convolutions and the gate weights: the kernel and the reference agree entry by entry.
-/
module

public import proofs.«01_k».proof.Defs
public import proofs.«01_k».proof.Proof.AdamStep
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamGate.Frame
public import proofs.«01_k».proof.Proof.Gen.AdamGateIdeal.Value
public import proofs.«01_k».proof.Proof.Gen.AdamGateRefIdeal.Run
public import proofs.«01_k».proof.Proof.Gen.AdamConvF.Frame
public import proofs.«01_k».proof.Proof.Gen.AdamConvFIdeal.Value
public import proofs.«01_k».proof.Proof.Gen.AdamConvFRefIdeal.Run
public import Idealize.ShloMosaic.Lib.Pipeline.ValueKit
public import Idealize.ShloMosaic.Lib.StableHlo.RunRead
public import Idealize.ShloMosaic.Lib.Quiescent

@[expose] public section

noncomputable section

open Idealize.ShloMosaic Idealize.ShloMosaic.TcCoe Idealize.SL.Sem Cert.AdamStep

namespace Cert.AdamConvIdeal.Hand

open Cert.AdamConvIdeal Cert.AdamConvIdeal.Gen

variable (m : (ℓ : Loc nD τ sig) → Buf (Elt Ideal) ℓ)

/-- An array as a matrix. -/
abbrev row (x : FVec Ideal S4x3x128 .f32) : FVec Ideal S12x128 .f32 := shapeCast S12x128 x shapeCasts_S4x3x128_S12x128

theorem blocks (c : Dev nD) (t : Fin cfg0.N) :
    iblk m c 0 t = (fun y => row (m (c, main_arg0)) (((cfg0.win 4).blk t).view.emb y)) ∧ iblk m c 1 t = (fun y => row (m (c, main_arg1)) (((cfg0.win 4).blk t).view.emb y))
    ∧ iblk m c 2 t = (fun y => row (m (c, main_arg2)) (((cfg0.win 4).blk t).view.emb y)) ∧ iblk m c 3 t = (fun y => row (m (c, main_arg3)) (((cfg0.win 4).blk t).view.emb y)) := by
  unfold iblk V
  refine ⟨?_, ?_, ?_, ?_⟩ <;> (after_reads_simp; rfl)

theorem outs (w g a v : Vec Ideal _ .f32) : out0_4 (F := Ideal) w g a v = delta w g a v ∧ out0_5 (F := Ideal) w g a v = mom g a ∧ out0_6 (F := Ideal) w g a v = vel g v := by
  unfold out0_4 out0_5 out0_6
  refine ⟨?_, ?_, ?_⟩ <;>
  · rw [View.canon_unit_zero zero_pair]
    repeat rw [View.ld_unit_zero zero_pair]
    simp only [k0_pay4, k0_pay3, k0_pay2, k0_pay1, shapeCast_self]
    rfl

theorem finals (c : Dev nD) : (dats m 0 c).arrAt 4 cfg0.N = row (delta (m (c, main_arg0)) (m (c, main_arg1)) (m (c, main_arg2)) (m (c, main_arg3)))
    ∧ (dats m 0 c).arrAt 5 cfg0.N = row (mom (m (c, main_arg1)) (m (c, main_arg2))) ∧ (dats m 0 c).arrAt 6 cfg0.N = row (vel (m (c, main_arg1)) (m (c, main_arg3))) :=
  have p := fun t => step_part _ _ _ _ shapeCasts_S4x3x128_S12x128 (((cfg0.win 4).blk t).view.emb) (blocks m c t)
  ⟨(dats m 0 c).arrAt_eq_of_covers 4 _ (by decide +kernel) fun t _ => congrFun ((after0_4 m c t).trans ((outs ..).1.trans (p t).1)),
    (dats m 0 c).arrAt_eq_of_covers 5 _ (by decide +kernel) fun t _ => congrFun ((after0_5 m c t).trans ((outs ..).2.1.trans (p t).2.1)),
    (dats m 0 c).arrAt_eq_of_covers 6 _ (by decide +kernel) fun t _ => congrFun ((after0_6 m c t).trans ((outs ..).2.2.trans (p t).2.2))⟩

/-- The reference runs, leaves its arguments unchanged, and every semaphore ends at zero. -/
theorem reference_frame : Cert.quiescent_AdamConvRefIdeal := fun m g _ =>
  (θ_run Cert.AdamConvRefIdeal.defs _ _).mono (fun r h => ⟨fun c => (h c).2.2.2, sem_eq_zero_of_no_sems (by decide) r.2⟩) (Cert.AdamConvRefIdeal.Value.run (F := Ideal) m g)

/-- From equal arguments the kernel and the reference end with equal results. -/
theorem equal_results : Cert.algebraic_AdamConvIdeal_AdamConvRefIdeal := by
  intro m g m' g' _ hagree
  refine ⟨_, _, _, (θ_run defs _ _).mono (fun r h c => ⟨(h c).1.trans (finals m c).1, (h c).2.1.trans (finals m c).2.1, (h c).2.2.1.trans (finals m c).2.2, (h c).2.2.2⟩) (Value.run_blocks (F := Ideal) m g), ?_⟩
  exact (θ_run Cert.AdamConvRefIdeal.defs _ _).mono (fun _ h c => carry (fun w g a v => row (delta w g a v)) (fun g a => row (mom g a)) (fun g v => row (vel g v)) (hagree c) (h c)) (Cert.AdamConvRefIdeal.Value.run (F := Ideal) m' g')

end Cert.AdamConvIdeal.Hand

namespace Cert.AdamGateIdeal.Hand

open Cert.AdamGateIdeal Cert.AdamGateIdeal.Gen

variable (m : (ℓ : Loc nD τ sig) → Buf (Elt Ideal) ℓ)

/-- An array as a matrix. -/
abbrev row (x : FVec Ideal S4x16x64 .f32) : FVec Ideal S64x64 .f32 := shapeCast S64x64 x shapeCasts_S4x16x64_S64x64

theorem blocks (c : Dev nD) (t : Fin cfg0.N) :
    iblk m c 0 t = (fun y => row (m (c, main_arg0)) (((cfg0.win 4).blk t).view.emb y)) ∧ iblk m c 1 t = (fun y => row (m (c, main_arg1)) (((cfg0.win 4).blk t).view.emb y))
    ∧ iblk m c 2 t = (fun y => row (m (c, main_arg2)) (((cfg0.win 4).blk t).view.emb y)) ∧ iblk m c 3 t = (fun y => row (m (c, main_arg3)) (((cfg0.win 4).blk t).view.emb y)) := by
  unfold iblk V
  refine ⟨?_, ?_, ?_, ?_⟩ <;> (after_reads_simp; rfl)

theorem outs (w g a v : Vec Ideal _ .f32) : out0_4 (F := Ideal) w g a v = delta w g a v ∧ out0_5 (F := Ideal) w g a v = mom g a ∧ out0_6 (F := Ideal) w g a v = vel g v := by
  unfold out0_4 out0_5 out0_6
  refine ⟨?_, ?_, ?_⟩ <;>
  · rw [View.canon_unit_zero zero_pair]
    repeat rw [View.ld_unit_zero zero_pair]
    simp only [k0_pay4, k0_pay3, k0_pay2, k0_pay1, shapeCast_self]
    rfl

theorem finals (c : Dev nD) : (dats m 0 c).arrAt 4 cfg0.N = row (delta (m (c, main_arg0)) (m (c, main_arg1)) (m (c, main_arg2)) (m (c, main_arg3)))
    ∧ (dats m 0 c).arrAt 5 cfg0.N = row (mom (m (c, main_arg1)) (m (c, main_arg2))) ∧ (dats m 0 c).arrAt 6 cfg0.N = row (vel (m (c, main_arg1)) (m (c, main_arg3))) :=
  have p := fun t => step_part _ _ _ _ shapeCasts_S4x16x64_S64x64 (((cfg0.win 4).blk t).view.emb) (blocks m c t)
  ⟨(dats m 0 c).arrAt_eq_of_covers 4 _ (by decide +kernel) fun t _ => congrFun ((after0_4 m c t).trans ((outs ..).1.trans (p t).1)),
    (dats m 0 c).arrAt_eq_of_covers 5 _ (by decide +kernel) fun t _ => congrFun ((after0_5 m c t).trans ((outs ..).2.1.trans (p t).2.1)),
    (dats m 0 c).arrAt_eq_of_covers 6 _ (by decide +kernel) fun t _ => congrFun ((after0_6 m c t).trans ((outs ..).2.2.trans (p t).2.2))⟩

/-- The reference runs, leaves its arguments unchanged, and every semaphore ends at zero. -/
theorem reference_frame : Cert.quiescent_AdamGateRefIdeal := fun m g _ =>
  (θ_run Cert.AdamGateRefIdeal.defs _ _).mono (fun r h => ⟨fun c => (h c).2.2.2, sem_eq_zero_of_no_sems (by decide) r.2⟩) (Cert.AdamGateRefIdeal.Value.run (F := Ideal) m g)

/-- From equal arguments the kernel and the reference end with equal results. -/
theorem equal_results : Cert.algebraic_AdamGateIdeal_AdamGateRefIdeal := by
  intro m g m' g' _ hagree
  refine ⟨_, _, _, (θ_run defs _ _).mono (fun r h c => ⟨(h c).1.trans (finals m c).1, (h c).2.1.trans (finals m c).2.1, (h c).2.2.1.trans (finals m c).2.2, (h c).2.2.2⟩) (Value.run_blocks (F := Ideal) m g), ?_⟩
  exact (θ_run Cert.AdamGateRefIdeal.defs _ _).mono (fun _ h c => carry (fun w g a v => row (delta w g a v)) (fun g a => row (mom g a)) (fun g v => row (vel g v)) (hagree c) (h c)) (Cert.AdamGateRefIdeal.Value.run (F := Ideal) m' g')

end Cert.AdamGateIdeal.Hand

namespace Cert.AdamConvFIdeal.Hand

open Cert.AdamConvFIdeal Cert.AdamConvFIdeal.Gen

variable (m : (ℓ : Loc nD τ sig) → Buf (Elt Ideal) ℓ)

/-- An array as a matrix. -/
abbrev row (x : FVec Ideal S4x3x1408 .f32) : FVec Ideal S12x1408 .f32 := shapeCast S12x1408 x shapeCasts_S4x3x1408_S12x1408

theorem blocks (c : Dev nD) (t : Fin cfg0.N) :
    iblk m c 0 t = (fun y => row (m (c, main_arg0)) (((cfg0.win 4).blk t).view.emb y)) ∧ iblk m c 1 t = (fun y => row (m (c, main_arg1)) (((cfg0.win 4).blk t).view.emb y))
    ∧ iblk m c 2 t = (fun y => row (m (c, main_arg2)) (((cfg0.win 4).blk t).view.emb y)) ∧ iblk m c 3 t = (fun y => row (m (c, main_arg3)) (((cfg0.win 4).blk t).view.emb y)) := by
  unfold iblk V
  refine ⟨?_, ?_, ?_, ?_⟩ <;> (after_reads_simp; rfl)

theorem outs (w g a v : Vec Ideal _ .f32) : out0_4 (F := Ideal) w g a v = delta w g a v ∧ out0_5 (F := Ideal) w g a v = mom g a ∧ out0_6 (F := Ideal) w g a v = vel g v := by
  unfold out0_4 out0_5 out0_6
  refine ⟨?_, ?_, ?_⟩ <;>
  · rw [View.canon_unit_zero zero_pair]
    repeat rw [View.ld_unit_zero zero_pair]
    simp only [k0_pay4, k0_pay3, k0_pay2, k0_pay1, shapeCast_self]
    rfl

theorem finals (c : Dev nD) : (dats m 0 c).arrAt 4 cfg0.N = row (delta (m (c, main_arg0)) (m (c, main_arg1)) (m (c, main_arg2)) (m (c, main_arg3)))
    ∧ (dats m 0 c).arrAt 5 cfg0.N = row (mom (m (c, main_arg1)) (m (c, main_arg2))) ∧ (dats m 0 c).arrAt 6 cfg0.N = row (vel (m (c, main_arg1)) (m (c, main_arg3))) :=
  have p := fun t => step_part _ _ _ _ shapeCasts_S4x3x1408_S12x1408 (((cfg0.win 4).blk t).view.emb) (blocks m c t)
  ⟨(dats m 0 c).arrAt_eq_of_covers 4 _ (by decide +kernel) fun t _ => congrFun ((after0_4 m c t).trans ((outs ..).1.trans (p t).1)),
    (dats m 0 c).arrAt_eq_of_covers 5 _ (by decide +kernel) fun t _ => congrFun ((after0_5 m c t).trans ((outs ..).2.1.trans (p t).2.1)),
    (dats m 0 c).arrAt_eq_of_covers 6 _ (by decide +kernel) fun t _ => congrFun ((after0_6 m c t).trans ((outs ..).2.2.trans (p t).2.2))⟩

/-- The reference runs, leaves its arguments unchanged, and every semaphore ends at zero. -/
theorem reference_frame : Cert.quiescent_AdamConvFRefIdeal := fun m g _ =>
  (θ_run Cert.AdamConvFRefIdeal.defs _ _).mono (fun r h => ⟨fun c => (h c).2.2.2, sem_eq_zero_of_no_sems (by decide) r.2⟩) (Cert.AdamConvFRefIdeal.Value.run (F := Ideal) m g)

/-- From equal arguments the kernel and the reference end with equal results. -/
theorem equal_results : Cert.algebraic_AdamConvFIdeal_AdamConvFRefIdeal := by
  intro m g m' g' _ hagree
  refine ⟨_, _, _, (θ_run defs _ _).mono (fun r h c => ⟨(h c).1.trans (finals m c).1, (h c).2.1.trans (finals m c).2.1, (h c).2.2.1.trans (finals m c).2.2, (h c).2.2.2⟩) (Value.run_blocks (F := Ideal) m g), ?_⟩
  exact (θ_run Cert.AdamConvFRefIdeal.defs _ _).mono (fun _ h c => carry (fun w g a v => row (delta w g a v)) (fun g a => row (mom g a)) (fun g v => row (vel g v)) (hagree c) (h c)) (Cert.AdamConvFRefIdeal.Value.run (F := Ideal) m' g')

end Cert.AdamConvFIdeal.Hand

end
-- ==== Proof.AdamFlat.lean ====
/-
  The optimiser on the weights that are matrices already: the kernel and the reference agree entry by entry.
-/
module

public import proofs.«01_k».proof.Defs
public import proofs.«01_k».proof.Proof.AdamStep
public import proofs.«01_k».proof.Proof.Gen.AdamNorm.Frame
public import proofs.«01_k».proof.Proof.Gen.AdamNormIdeal.Value
public import proofs.«01_k».proof.Proof.Gen.AdamNormRefIdeal.Run
public import proofs.«01_k».proof.Proof.Gen.AdamBias.Frame
public import proofs.«01_k».proof.Proof.Gen.AdamBiasIdeal.Value
public import proofs.«01_k».proof.Proof.Gen.AdamBiasRefIdeal.Run
public import proofs.«01_k».proof.Proof.Gen.AdamHead.Frame
public import proofs.«01_k».proof.Proof.Gen.AdamHeadIdeal.Value
public import proofs.«01_k».proof.Proof.Gen.AdamHeadRefIdeal.Run
public import Idealize.ShloMosaic.Lib.Pipeline.ValueKit
public import Idealize.ShloMosaic.Lib.StableHlo.RunRead
public import Idealize.ShloMosaic.Lib.Quiescent

@[expose] public section

noncomputable section

open Idealize.ShloMosaic Idealize.ShloMosaic.TcCoe Idealize.SL.Sem Cert.AdamStep

namespace Cert.AdamNormIdeal.Hand

open Cert.AdamNormIdeal Cert.AdamNormIdeal.Gen

/-- The reference runs, leaves its arguments unchanged, and every semaphore ends at zero. -/
theorem reference_frame : Cert.quiescent_AdamNormRefIdeal := fun m g _ =>
  (θ_run Cert.AdamNormRefIdeal.defs _ _).mono (fun r h => ⟨fun c => (h c).2.2.2, sem_eq_zero_of_no_sems (by decide) r.2⟩) (Cert.AdamNormRefIdeal.Value.run (F := Ideal) m g)

/-- From equal arguments the kernel and the reference end with equal results. -/
theorem equal_results : Cert.algebraic_AdamNormIdeal_AdamNormRefIdeal := by
  intro m g m' g' _ hagree
  exact ⟨_, _, _, Value.run (F := Ideal) m g, (θ_run Cert.AdamNormRefIdeal.defs _ _).mono (fun _ h c => carry delta mom vel (hagree c) (h c)) (Cert.AdamNormRefIdeal.Value.run (F := Ideal) m' g')⟩

end Cert.AdamNormIdeal.Hand

namespace Cert.AdamBiasIdeal.Hand

open Cert.AdamBiasIdeal Cert.AdamBiasIdeal.Gen

/-- The reference runs, leaves its arguments unchanged, and every semaphore ends at zero. -/
theorem reference_frame : Cert.quiescent_AdamBiasRefIdeal := fun m g _ =>
  (θ_run Cert.AdamBiasRefIdeal.defs _ _).mono (fun r h => ⟨fun c => (h c).2.2.2, sem_eq_zero_of_no_sems (by decide) r.2⟩) (Cert.AdamBiasRefIdeal.Value.run (F := Ideal) m g)

/-- From equal arguments the kernel and the reference end with equal results. -/
theorem equal_results : Cert.algebraic_AdamBiasIdeal_AdamBiasRefIdeal := by
  intro m g m' g' _ hagree
  exact ⟨_, _, _, Value.run (F := Ideal) m g, (θ_run Cert.AdamBiasRefIdeal.defs _ _).mono (fun _ h c => carry delta mom vel (hagree c) (h c)) (Cert.AdamBiasRefIdeal.Value.run (F := Ideal) m' g')⟩

end Cert.AdamBiasIdeal.Hand

namespace Cert.AdamHeadIdeal.Hand

open Cert.AdamHeadIdeal Cert.AdamHeadIdeal.Gen

/-- The reference runs, leaves its arguments unchanged, and every semaphore ends at zero. -/
theorem reference_frame : Cert.quiescent_AdamHeadRefIdeal := fun m g _ =>
  (θ_run Cert.AdamHeadRefIdeal.defs _ _).mono (fun r h => ⟨fun c => (h c).2.2.2, sem_eq_zero_of_no_sems (by decide) r.2⟩) (Cert.AdamHeadRefIdeal.Value.run (F := Ideal) m g)

/-- From equal arguments the kernel and the reference end with equal results. -/
theorem equal_results : Cert.algebraic_AdamHeadIdeal_AdamHeadRefIdeal := by
  intro m g m' g' _ hagree
  exact ⟨_, _, _, Value.run (F := Ideal) m g, (θ_run Cert.AdamHeadRefIdeal.defs _ _).mono (fun _ h c => carry delta mom vel (hagree c) (h c)) (Cert.AdamHeadRefIdeal.Value.run (F := Ideal) m' g')⟩

end Cert.AdamHeadIdeal.Hand

end
-- ==== Proof.KRuns.lean ====
/- What the two cases of the backward block share when its outputs are left unnamed: the state on entry, the branch
   conditions over the grid, the staging buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1320000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(Pipeline.RDat.FramePost.arr_in h c 13 rfl).trans ((hA c 13).trans (V_main_arg0 m c)),
      (Pipeline.RDat.FramePost.arr_in h c 15 rfl).trans ((hA c 15).trans (V_main_arg1 m c)),
      ((h c).2 main_arg2 (Pipeline.mem_restRefs_of main_arg2 (by decide) (by decide))).trans (V_main_arg2 m c),
      (Pipeline.RDat.FramePost.arr_in h c 10 rfl).trans ((hA c 10).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 14 rfl).trans ((hA c 14).trans (V_main_arg6 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (t : Fin cfg0.N) : Memref sig .tc .vmem S256x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x2816 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S16x2816 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S16x2816 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x2816 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S16x2816 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S16x2816 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x5632 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x5632 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S2816x1024 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S4x1024x1408 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S256x1024 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S256x1024 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x1024 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S256x2816 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S256x2816 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S256x1024 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x1024 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S8x2816 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S8x2816 .f32 := win0_21.stage (cfg0.slots t 21)
abbrev hs0_21 (t : Fin cfg0.N) : (ms0_21 t).IsWhole := hstage0_21 ((cfg0.slots t 21).cast nbuf0_21)

end Cert.Kernel.Whole

end
-- ==== Proof.KRunA.lean ====
/- The block at the first grid point, its outputs left at some contents. -/
module

public import proofs.«01_k».proof.Proof.KRuns

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1384000 in
/-- The body's triple IN CASE A (`scf.if` 0 taken: points 0): on whole staging memrefs — the inputs' at their contents,
    the FORGOTTEN outputs' (16, 17, 18, 19, 20, 21) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x1024 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S256x2816 .bf16) (harg4 : arg4.IsWhole) (arg5 : Memref sig .tc .vmem S16x2816 .bf16) (harg5 : arg5.IsWhole) (arg6 : Memref sig .tc .vmem S16x2816 .bf16) (harg6 : arg6.IsWhole) (arg7 : Memref sig .tc .vmem S256x2816 .bf16) (harg7 : arg7.IsWhole) (arg8 : Memref sig .tc .vmem S16x2816 .bf16) (harg8 : arg8.IsWhole) (arg9 : Memref sig .tc .vmem S16x2816 .bf16) (harg9 : arg9.IsWhole) (arg10 : Memref sig .tc .vmem S256x5632 .bf16) (harg10 : arg10.IsWhole) (arg11 : Memref sig .tc .vmem S3x5632 .f32) (harg11 : arg11.IsWhole) (arg12 : Memref sig .tc .vmem S2816x1024 .bf16) (harg12 : arg12.IsWhole) (arg13 : Memref sig .tc .vmem S4x1024x1408 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S1x1024 .f32) (harg16 : arg16.IsWhole) (arg17 : Memref sig .tc .vmem S256x2816 .bf16) (harg17 : arg17.IsWhole) (arg18 : Memref sig .tc .vmem S256x2816 .bf16) (harg18 : arg18.IsWhole) (arg19 : Memref sig .tc .vmem S256x1024 .f32) (harg19 : arg19.IsWhole) (arg20 : Memref sig .tc .vmem S1x1024 .f32) (harg20 : arg20.IsWhole) (arg21 : Memref sig .tc .vmem S8x2816 .f32) (harg21 : arg21.IsWhole) (arg22 : Memref sig .tc .vmem S8x2816 .f32) (harg22 : arg22.IsWhole) (hc0 : cond0_0 i)
    (x0 : Vec F S256x1024 .bf16) (x1 : Vec F S16x1024 .bf16) (x2 : Vec F S16x1024 .bf16) (x3 : Vec F S256x2816 .bf16) (x4 : Vec F S16x2816 .bf16) (x5 : Vec F S16x2816 .bf16) (x6 : Vec F S256x2816 .bf16) (x7 : Vec F S16x2816 .bf16) (x8 : Vec F S16x2816 .bf16) (x9 : Vec F S256x5632 .bf16) (x10 : Vec F S3x5632 .f32) (x11 : Vec F S2816x1024 .bf16) (x12 : Vec F S4x1024x1408 .bf16) (x13 : Vec F S256x1024 .f32) (x14 : Vec F S256x1024 .f32) (x15 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_ffn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.Kernel.Whole

end
-- ==== Proof.KRunB.lean ====
/- The block at every later grid point, its outputs left at some contents. -/
module

public import proofs.«01_k».proof.Proof.KRunA

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1360000 in
/-- The body's triple IN CASE B (`scf.if` 0 not taken: points 1, 2, … 31: 31 of 32): on whole staging memrefs — the inputs' at their contents,
    the FORGOTTEN outputs' (16, 17, 18, 19, 20, 21) at anything, handed back at some contents nothing names —
    the body runs to the continuation holding the inputs' as they were: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x1024 .bf16) (harg1 : arg1.IsWhole) (arg2 : Memref sig .tc .vmem S16x1024 .bf16) (harg2 : arg2.IsWhole) (arg3 : Memref sig .tc .vmem S16x1024 .bf16) (harg3 : arg3.IsWhole) (arg4 : Memref sig .tc .vmem S256x2816 .bf16) (harg4 : arg4.IsWhole) (arg5 : Memref sig .tc .vmem S16x2816 .bf16) (harg5 : arg5.IsWhole) (arg6 : Memref sig .tc .vmem S16x2816 .bf16) (harg6 : arg6.IsWhole) (arg7 : Memref sig .tc .vmem S256x2816 .bf16) (harg7 : arg7.IsWhole) (arg8 : Memref sig .tc .vmem S16x2816 .bf16) (harg8 : arg8.IsWhole) (arg9 : Memref sig .tc .vmem S16x2816 .bf16) (harg9 : arg9.IsWhole) (arg10 : Memref sig .tc .vmem S256x5632 .bf16) (harg10 : arg10.IsWhole) (arg11 : Memref sig .tc .vmem S3x5632 .f32) (harg11 : arg11.IsWhole) (arg12 : Memref sig .tc .vmem S2816x1024 .bf16) (harg12 : arg12.IsWhole) (arg13 : Memref sig .tc .vmem S4x1024x1408 .bf16) (harg13 : arg13.IsWhole) (arg14 : Memref sig .tc .vmem S256x1024 .f32) (harg14 : arg14.IsWhole) (arg15 : Memref sig .tc .vmem S256x1024 .f32) (harg15 : arg15.IsWhole) (arg16 : Memref sig .tc .vmem S1x1024 .f32) (harg16 : arg16.IsWhole) (arg17 : Memref sig .tc .vmem S256x2816 .bf16) (harg17 : arg17.IsWhole) (arg18 : Memref sig .tc .vmem S256x2816 .bf16) (harg18 : arg18.IsWhole) (arg19 : Memref sig .tc .vmem S256x1024 .f32) (harg19 : arg19.IsWhole) (arg20 : Memref sig .tc .vmem S1x1024 .f32) (harg20 : arg20.IsWhole) (arg21 : Memref sig .tc .vmem S8x2816 .f32) (harg21 : arg21.IsWhole) (arg22 : Memref sig .tc .vmem S8x2816 .f32) (harg22 : arg22.IsWhole) (hc0 : ¬cond0_0 i)
    (x0 : Vec F S256x1024 .bf16) (x1 : Vec F S16x1024 .bf16) (x2 : Vec F S16x1024 .bf16) (x3 : Vec F S256x2816 .bf16) (x4 : Vec F S16x2816 .bf16) (x5 : Vec F S16x2816 .bf16) (x6 : Vec F S256x2816 .bf16) (x7 : Vec F S16x2816 .bf16) (x8 : Vec F S16x2816 .bf16) (x9 : Vec F S256x5632 .bf16) (x10 : Vec F S3x5632 .f32) (x11 : Vec F S2816x1024 .bf16) (x12 : Vec F S4x1024x1408 .bf16) (x13 : Vec F S256x1024 .f32) (x14 : Vec F S256x1024 .f32) (x15 : Vec F S1x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d)) -∗ K ⟨⟩))
          ⊢ wp frame (wpE (defs₀ (F := F)) Variants.none c none) E (cc0_ffn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
    intro E K
    simp only [cc0_ffn_bwd_eq_skeleton]; unfold cc0_ffn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    iexists _, _; isplitr; swap; · iexact H21
    ipureintro; rfl

end Cert.Kernel.Whole

end
-- ==== Proof.KFrame.lean ====
/- The run of the kernel with its outputs unnamed: the arguments end unchanged and every semaphore at zero. -/
module

public import proofs.«01_k».proof.Proof.KRunB
public import Idealize.ShloMosaic.Lib.Claim

@[expose] public section

set_option maxRecDepth 16384

noncomputable section

namespace Cert.Kernel.Whole

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (16, 17, 18, 19, 20, 21): nothing reads what the kernel leaves in them, so nothing
    of it is named (Lib/Pipeline/Dat.lean `Dat.toRForget`). -/
def forgets0 : Fin 22 → Bool := fun w => w.val == 16 || w.val == 17 || w.val == 18 || w.val == 19 || w.val == 20 || w.val == 21

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ (∃ d, owns (c : Thread nD τ) (ms0_16 t) fullShare d)
    ∗ (∃ d, owns (c : Thread nD τ) (ms0_17 t) fullShare d)
    ∗ (∃ d, owns (c : Thread nD τ) (ms0_18 t) fullShare d)
    ∗ (∃ d, owns (c : Thread nD τ) (ms0_19 t) fullShare d)
    ∗ (∃ d, owns (c : Thread nD τ) (ms0_20 t) fullShare d)
    ∗ (∃ d, owns (c : Thread nD τ) (ms0_21 t) fullShare d))

set_option maxHeartbeats 4000000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  have hN : t.val < 32 := lt_of_lt_of_eq t.isLt (show cfg0.N = 32 from N_0)
  by_cases h0 : t.val % 32 = 0
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iintro ⟨H0, H1, H2, H3, H4, H5, H6, H7, H8, H9, H10, H11, H12, H13, H14, H15, H16, H17, H18, H19, H20, H21⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iintro ⟨H0, H1, H2, H3, H4, H5, H6, H7, H8, H9, H10, H11, H12, H13, H14, H15, H16, H17, H18, H19, H20, H21⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 16, 17, 18, 19, 20, 21) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Whole

end
-- ==== Proof.Block2.lean ====
module

public import proofs.«01_k».proof.Proof.Block
public import proofs.«01_k».proof.Proof.RunB
public import Idealize.ShloMosaic.Lib.Pointwise
public import Idealize.ShloMosaic.Lib.WritesUnit

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S256x1024 .bf16) (harg1 : arg1.IsWhole) (arg2 : Memref sig .tc .vmem S16x1024 .bf16) (harg2 : arg2.IsWhole)
variable (arg3 : Memref sig .tc .vmem S16x1024 .bf16) (harg3 : arg3.IsWhole) (arg4 : Memref sig .tc .vmem S256x2816 .bf16) (harg4 : arg4.IsWhole) (arg5 : Memref sig .tc .vmem S16x2816 .bf16)
variable (harg5 : arg5.IsWhole) (arg6 : Memref sig .tc .vmem S16x2816 .bf16) (harg6 : arg6.IsWhole) (arg7 : Memref sig .tc .vmem S256x2816 .bf16) (harg7 : arg7.IsWhole)
variable (arg8 : Memref sig .tc .vmem S16x2816 .bf16) (harg8 : arg8.IsWhole) (arg9 : Memref sig .tc .vmem S16x2816 .bf16) (harg9 : arg9.IsWhole) (arg10 : Memref sig .tc .vmem S256x5632 .bf16)
variable (harg10 : arg10.IsWhole) (arg11 : Memref sig .tc .vmem S3x5632 .f32) (harg11 : arg11.IsWhole) (arg12 : Memref sig .tc .vmem S2816x1024 .bf16) (harg12 : arg12.IsWhole)
variable (arg13 : Memref sig .tc .vmem S4x1024x1408 .bf16) (harg13 : arg13.IsWhole) (arg14 : Memref sig .tc .vmem S256x1024 .f32) (harg14 : arg14.IsWhole) (arg15 : Memref sig .tc .vmem S256x1024 .f32)
variable (harg15 : arg15.IsWhole) (arg16 : Memref sig .tc .vmem S1x1024 .f32) (harg16 : arg16.IsWhole) (arg17 : Memref sig .tc .vmem S256x2816 .bf16) (harg17 : arg17.IsWhole)
variable (arg18 : Memref sig .tc .vmem S256x2816 .bf16) (harg18 : arg18.IsWhole) (arg19 : Memref sig .tc .vmem S256x1024 .f32) (harg19 : arg19.IsWhole) (arg20 : Memref sig .tc .vmem S1x1024 .f32)
variable (harg20 : arg20.IsWhole) (arg21 : Memref sig .tc .vmem S8x2816 .f32) (harg21 : arg21.IsWhole) (arg22 : Memref sig .tc .vmem S8x2816 .f32) (harg22 : arg22.IsWhole)
variable (hc0 : cond0_0 i) (hc1 : ¬cond0_0 i) (x0 : Vec Ideal S256x1024 .bf16) (x1 : Vec Ideal S16x1024 .bf16) (x2 : Vec Ideal S16x1024 .bf16) (x3 : Vec Ideal S256x2816 .bf16)
variable (x4 : Vec Ideal S16x2816 .bf16) (x5 : Vec Ideal S16x2816 .bf16) (x6 : Vec Ideal S256x2816 .bf16) (x7 : Vec Ideal S16x2816 .bf16) (x8 : Vec Ideal S16x2816 .bf16)
variable (x9 : Vec Ideal S256x5632 .bf16) (x10 : Vec Ideal S3x5632 .f32) (x11 : Vec Ideal S2816x1024 .bf16) (x12 : Vec Ideal S4x1024x1408 .bf16) (x13 : Vec Ideal S256x1024 .f32)
variable (x14 : Vec Ideal S256x1024 .f32) (x15 : Vec Ideal S1x1024 .f32) (xo19 : Vec Ideal S1x1024 .f32) (xo20 : Vec Ideal S8x2816 .f32) (xo21 : Vec Ideal S8x2816 .f32)

theorem P184 :
    k0_pay184 (runA.sl.r_101 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12) (runA.sl.r_106 (F := Ideal) c i arg1 harg1 arg2 harg2 arg3 harg3 arg4 harg4 arg5 harg5 arg6 harg6 arg11 harg11 arg12 harg12 x0 x1 x2 x3 x4 x5 x10 x11) (View.readAt (Elt Ideal) arg13.view (Rect.unit (s := S4x1024x1408) ![3, 0, 1024] S1x1024x384.size inb_S4x1024x1408_S1x1024x384_3_0_1024).toLoadRect (harg13.unread x12)) = fun y => accS (BitVec.ofNat 32 (i 0).val) x0 x1 x2 x3 x4 x5 x6 x7 x8 x10 x11 x12 (y 0).val (y 1).val := by
  funext y
  simp only [A_r_101, A_r_106]
  unfold_payloads
  pointwise
  simp only [rd2, rd3, ix2v0, ix2v1, ix3v0, ix3v1, ix3v2, Fin.val_zero, Nat.add_zero, Nat.zero_add, accS, pdt, ← Nat.add_assoc, Nat.reduceAdd]
  repeat' first | rfl | (refine congrArg₂ (· + ·) ?_ ?_)

theorem rdw {m n : ℕ} [NeZero m] [NeZero n] {e : EltTy} (A : Memref sig .tc .vmem ⟨2, ![m, n]⟩ e) (hA : A.IsWhole)
    (x : Vec Ideal ⟨2, ![m, n]⟩ e) (inb : ∀ k, (![0, 0] : Fin 2 → ℕ) k + (![m, n] : Fin 2 → ℕ) k ≤ (⟨2, ![m, n]⟩ : Shape).size k) :
    View.readAt (Elt Ideal) A.view (Rect.unit (s := ⟨2, ![m, n]⟩) ![0, 0] ![m, n] inb).toLoadRect (hA.unread x) = x :=
  funext fun y => (rd2 A hA x inb y).trans (by rw [Nat.zero_add, Nat.zero_add]; exact at2_eq x y)

theorem P187 (a : FVec Ideal S256x1024 .f32) (b : FVec Ideal S256x384 .bf16) (w : Vec Ideal S1x1024x384 .bf16) (x : Vec Ideal S256x1024 .f32)
    (g : Vec Ideal S1x1024 .f32) (z : Vec Ideal S256x1024 .f32) (f : ℕ → ℕ → EReal) (h : k0_pay184 a b w = fun y => f (y 0).val (y 1).val) :
    k0_pay187 a b w x g z = fun y => at2 z (y 0).val (y 1).val + nb f (at2 x) (at2 g) (y 0).val (y 1).val := by
  funext y
  simp only [k0_pay187, k0_pay186, k0_pay185]
  rw [h]
  pointwise
  simp only [nb, rsv, ← at2_eq x, ← at2_eq z, ← at2_eq g, ix2v0, ix2v1, Fin.val_zero]
  all_goals try rfl

theorem P188 (a : FVec Ideal S256x1024 .f32) (b : FVec Ideal S256x384 .bf16) (w : Vec Ideal S1x1024x384 .bf16) (x : Vec Ideal S256x1024 .f32)
    (v : Vec Ideal S1x1024 .f32) (f : ℕ → ℕ → EReal) (h : k0_pay184 a b w = fun y => f (y 0).val (y 1).val) :
    k0_pay188 a b w x v = fun y => v y + ∑ r : Fin 256, f r.val (y 1).val * (at2 x r.val (y 1).val * rsv (at2 x) r.val) := by
  funext y
  simp only [k0_pay188, k0_pay186, k0_pay185]
  rw [h]
  pointwise
  simp only [rsv, ← at2_eq x, ix2v0, ix2v1, Fin.val_zero]
  all_goals try rfl

theorem P18 :
    k0_pay187 (runA.sl.r_101 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12) (runA.sl.r_106 (F := Ideal) c i arg1 harg1 arg2 harg2 arg3 harg3 arg4 harg4 arg5 harg5 arg6 harg6 arg11 harg11 arg12 harg12 x0 x1 x2 x3 x4 x5 x10 x11) (View.readAt (Elt Ideal) arg13.view (Rect.unit (s := S4x1024x1408) ![3, 0, 1024] S1x1024x384.size inb_S4x1024x1408_S1x1024x384_3_0_1024).toLoadRect (harg13.unread x12)) (View.readAt (Elt Ideal) arg14.view (Rect.unit (s := S256x1024) ![0, 0] S256x1024.size inb_S256x1024_S256x1024_0_0).toLoadRect (harg14.unread x13)) (View.readAt (Elt Ideal) arg16.view (Rect.unit (s := S1x1024) ![0, 0] S1x1024.size inb_S1x1024_S1x1024_0_0).toLoadRect (harg16.unread x15)) (View.readAt (Elt Ideal) arg15.view (Rect.unit (s := S256x1024) ![0, 0] S256x1024.size inb_S256x1024_S256x1024_0_0).toLoadRect (harg15.unread x14)) = blkX (BitVec.ofNat 32 (i 0).val) x0 x1 x2 x3 x4 x5 x6 x7 x8 x10 x11 x12 x13 x14 x15 :=
  (P187 _ _ _ _ _ _ _ (P184 c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12)).trans (by rw [rdw, rdw, rdw]; rfl)

theorem P19 (v : Vec Ideal S1x1024 .f32) :
    k0_pay188 (runA.sl.r_101 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12) (runA.sl.r_106 (F := Ideal) c i arg1 harg1 arg2 harg2 arg3 harg3 arg4 harg4 arg5 harg5 arg6 harg6 arg11 harg11 arg12 harg12 x0 x1 x2 x3 x4 x5 x10 x11) (View.readAt (Elt Ideal) arg13.view (Rect.unit (s := S4x1024x1408) ![3, 0, 1024] S1x1024x384.size inb_S4x1024x1408_S1x1024x384_3_0_1024).toLoadRect (harg13.unread x12)) (View.readAt (Elt Ideal) arg14.view (Rect.unit (s := S256x1024) ![0, 0] S256x1024.size inb_S256x1024_S256x1024_0_0).toLoadRect (harg14.unread x13)) v = fun y => v y + blkD (BitVec.ofNat 32 (i 0).val) x0 x1 x2 x3 x4 x5 x6 x7 x8 x10 x11 x12 x13 (y 1).val :=
  (P188 _ _ _ _ _ _ (P184 c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12)).trans (by rw [rdw]; rfl)

/-- The piece a point writes of the cotangent of the rows. -/
def L18 : List (View.Piece (Elt Ideal) S256x1024 .f32) :=
  [⟨Rect.unit ![0, 0] ![256, 1024] inb_S256x1024_S256x1024_0_0, k0_pay187 (runA.sl.r_101 (F := Ideal) c i arg1 harg1 arg2 harg2 arg3 harg3 arg4 harg4 arg5 harg5 arg6 harg6 arg7 harg7 arg8 harg8 arg9 harg9 arg11 harg11 arg12 harg12 arg13 harg13 x0 x1 x2 x3 x4 x5 x6 x7 x8 x10 x11 x12) (runA.sl.r_106 (F := Ideal) c i arg1 harg1 arg2 harg2 arg3 harg3 arg4 harg4 arg5 harg5 arg6 harg6 arg11 harg11 arg12 harg12 x0 x1 x2 x3 x4 x5 x10 x11) (View.readAt (Elt Ideal) arg13.view (Rect.unit (s := S4x1024x1408) ![3, 0, 1024] S1x1024x384.size inb_S4x1024x1408_S1x1024x384_3_0_1024).toLoadRect (harg13.unread x12)) (View.readAt (Elt Ideal) arg14.view (Rect.unit (s := S256x1024) ![0, 0] S256x1024.size inb_S256x1024_S256x1024_0_0).toLoadRect (harg14.unread x13)) (View.readAt (Elt Ideal) arg16.view (Rect.unit (s := S1x1024) ![0, 0] S1x1024.size inb_S1x1024_S1x1024_0_0).toLoadRect (harg16.unread x15)) (View.readAt (Elt Ideal) arg15.view (Rect.unit (s := S256x1024) ![0, 0] S256x1024.size inb_S256x1024_S256x1024_0_0).toLoadRect (harg15.unread x14))⟩]

theorem A_L18 : (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.1 = L18 c i arg1 harg1 arg2 harg2 arg3 harg3 arg4 harg4 arg5 harg5 arg6 harg6 arg7 harg7 arg8 harg8 arg9 harg9 arg11 harg11 arg12 harg12 arg13 harg13 arg14 harg14 arg15 harg15 arg16 harg16 x0 x1 x2 x3 x4 x5 x6 x7 x8 x10 x11 x12 x13 x14 x15 := rfl

theorem B_L18 : (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 x0 x1 x2 x3 x4 x5 x6 x7 x8 x9 x10 x11 x12 x13 x14 x15 xo19 xo20 xo21).2.2.1 = L18 c i arg1 harg1 arg2 harg2 arg3 harg3 arg4 harg4 arg5 harg5 arg6 harg6 arg7 harg7 arg8 harg8 arg9 harg9 arg11 harg11 arg12 harg12 arg13 harg13 arg14 harg14 arg15 harg15 arg16 harg16 x0 x1 x2 x3 x4 x5 x6 x7 x8 x10 x11 x12 x13 x14 x15 := rfl

theorem read_L18
    (arg19 : Memref sig .tc .vmem S256x1024 .f32) (f) :
    arg19.view.read (Elt Ideal) (arg19.view.writes (Elt Ideal) f (L18 c i arg1 harg1 arg2 harg2 arg3 harg3 arg4 harg4 arg5 harg5 arg6 harg6 arg7 harg7 arg8 harg8 arg9 harg9 arg11 harg11 arg12 harg12 arg13 harg13 arg14 harg14 arg15 harg15 arg16 harg16 x0 x1 x2 x3 x4 x5 x6 x7 x8 x10 x11 x12 x13 x14 x15)) = blkX (BitVec.ofNat 32 (i 0).val) x0 x1 x2 x3 x4 x5 x6 x7 x8 x10 x11 x12 x13 x14 x15 := by
  funext y
  refine (View.read_writes_cons_unit_of_mem arg19.view f inb_S256x1024_S256x1024_0_0 _ [] y y rfl ?_).trans ?_
  · intro a
    fin_cases a
    · exact (Nat.zero_add _).symm
    · exact (Nat.zero_add _).symm
  · exact congrFun (P18 c i arg1 harg1 arg2 harg2 arg3 harg3 arg4 harg4 arg5 harg5 arg6 harg6 arg7 harg7 arg8 harg8 arg9 harg9 arg11 harg11 arg12 harg12 arg13 harg13 arg14 harg14 arg15 harg15 arg16 harg16 x0 x1 x2 x3 x4 x5 x6 x7 x8 x10 x11 x12 x13 x14 x15) y

theorem read_A19 (f) :
    arg20.view.read (Elt Ideal) (arg20.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 x0 x1 x2 x3 x4 x5 x6 x7 x8 x9 x10 x11 x12 x13 x14 x15).2.2.2.1)
      = fun y => blkD (BitVec.ofNat 32 (i 0).val) x0 x1 x2 x3 x4 x5 x6 x7 x8 x10 x11 x12 x13 (y 1).val := by
  funext y
  refine (View.read_writes_cons_unit_of_mem arg20.view f inb_S1x1024_S1x1024_0_0 _ _ y y rfl ?_).trans ?_
  · intro a
    fin_cases a
    · exact (Nat.zero_add _).symm
    · exact (Nat.zero_add _).symm
  · have h : runA.sl.v899 (F := Ideal) c arg20 = fun _ => 0 := by
      unfold runA.sl.v899 runA.sl.H19_1
      refine (View.readCov_cons_toLoadRect _ _ _ _).trans ?_
      funext z
      unfold_payloads
      pointwise
    refine (congrFun (P19 c i arg1 harg1 arg2 harg2 arg3 harg3 arg4 harg4 arg5 harg5 arg6 harg6 arg7 harg7 arg8 harg8 arg9 harg9 arg11 harg11 arg12 harg12 arg13 harg13 arg14 harg14 x0 x1 x2 x3 x4 x5 x6 x7 x8 x10 x11 x12 x13 (runA.sl.v899 (F := Ideal) c arg20)) y).trans ?_
    rw [h]
    exact zero_add _

theorem read_B19 (f) :
    arg20.view.read (Elt Ideal) (arg20.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc1 x0 x1 x2 x3 x4 x5 x6 x7 x8 x9 x10 x11 x12 x13 x14 x15 xo19 xo20 xo21).2.2.2.1)
      = fun y => xo19 y + blkD (BitVec.ofNat 32 (i 0).val) x0 x1 x2 x3 x4 x5 x6 x7 x8 x10 x11 x12 x13 (y 1).val := by
  funext y
  refine (View.read_writes_cons_unit_of_mem arg20.view f inb_S1x1024_S1x1024_0_0 _ _ y y rfl ?_).trans ?_
  · intro a
    fin_cases a
    · exact (Nat.zero_add _).symm
    · exact (Nat.zero_add _).symm
  · refine (congrFun (P19 c i arg1 harg1 arg2 harg2 arg3 harg3 arg4 harg4 arg5 harg5 arg6 harg6 arg7 harg7 arg8 harg8 arg9 harg9 arg11 harg11 arg12 harg12 arg13 harg13 arg14 harg14 x0 x1 x2 x3 x4 x5 x6 x7 x8 x10 x11 x12 x13 (View.readAt (Elt Ideal) arg20.view (Rect.unit (s := S1x1024) ![0, 0] S1x1024.size inb_S1x1024_S1x1024_0_0).toLoadRect (harg20.unread xo19))) y).trans ?_
    simp only [rd2, Nat.zero_add, at2_eq]

end Cert.KernelIdeal.Hand
end
-- ==== Proof.Exact.lean ====
module

public import proofs.«01_k».proof.Proof.Block2
public import Idealize.ShloMosaic.Lib.Claim

@[expose] public section

set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What point `t` adds to the cotangent of the norm's weight, at column `d`. -/
def addD (c : Dev nD) (t : Fin cfg0.N) (d : ℕ) : EReal := blkD (BitVec.ofNat 32 (grid0.coords t 0).val) (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) d

/-- What the points up to `n` add to it together. -/
def sumD (c : Dev nD) (n : ℕ) (d : ℕ) : EReal := ∑ s ∈ Finset.range (n + 1), if h : s < cfg0.N then addD m c ⟨s, h⟩ d else 0

theorem sumD_zero (c : Dev nD) (t : Fin cfg0.N) (h : t.val = 0) (d : ℕ) : sumD m c t.val d = addD m c t d := by
  have e : t = ⟨0, h ▸ t.isLt⟩ := Fin.ext h
  unfold sumD
  rw [h, Finset.sum_range_one, dif_pos (h ▸ t.isLt : 0 < cfg0.N), ← e]

theorem sumD_succ (c : Dev nD) (t : Fin cfg0.N) (h : t.val ≠ 0) (d : ℕ) :
    sumD m c t.val d = sumD m c (t.val - 1) d + addD m c t d := by
  unfold sumD
  rw [Finset.sum_range_succ, dif_pos t.isLt, Nat.sub_add_cancel (Nat.one_le_iff_ne_zero.mpr h)]

/-- The two windows of the conv weights' cotangents: nothing is said of what they hold. -/
def fgt : Fin 22 → Bool := fun w => w.val == 20 || w.val == 21

/-- What the body leaves point by point: an input's block, a row output's block, the running sum of the norm's weight. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => blkG (BitVec.ofNat 32 (grid0.coords t 0).val) (iblk m c 0 t) (iblk m c 1 t) (iblk m c 2 t) (iblk m c 3 t) (iblk m c 4 t) (iblk m c 5 t) (iblk m c 6 t) (iblk m c 7 t) (iblk m c 8 t) (iblk m c 10 t) (iblk m c 11 t)
    | ⟨17, _⟩ => blkV (BitVec.ofNat 32 (grid0.coords t 0).val) (iblk m c 0 t) (iblk m c 1 t) (iblk m c 2 t) (iblk m c 3 t) (iblk m c 4 t) (iblk m c 5 t) (iblk m c 10 t) (iblk m c 11 t)
    | ⟨18, _⟩ => blkX (BitVec.ofNat 32 (grid0.coords t 0).val) (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (iblk m c 14 t) (iblk m c 15 t)
    | ⟨19, _⟩ => fun y : S1x1024.Idx => sumD m c t.val (y 1).val
    | ⟨20, h⟩ => Pipeline.Dat.unnamed (cfg := cfg0) ⟨20, h⟩ t
    | ⟨21, h⟩ => Pipeline.Dat.unnamed (cfg := cfg0) ⟨21, h⟩ t
    | ⟨_ + 22, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = blkG (BitVec.ofNat 32 (grid0.coords t 0).val) (iblk m c 0 t) (iblk m c 1 t) (iblk m c 2 t) (iblk m c 3 t) (iblk m c 4 t) (iblk m c 5 t) (iblk m c 6 t) (iblk m c 7 t) (iblk m c 8 t) (iblk m c 10 t) (iblk m c 11 t) := by dsimp only [dats]
theorem after0_17 (c : Dev nD) (t : Fin cfg0.N) : (dats m 0 c).after 17 t = blkV (BitVec.ofNat 32 (grid0.coords t 0).val) (iblk m c 0 t) (iblk m c 1 t) (iblk m c 2 t) (iblk m c 3 t) (iblk m c 4 t) (iblk m c 5 t) (iblk m c 10 t) (iblk m c 11 t) := by dsimp only [dats]
theorem after0_18 (c : Dev nD) (t : Fin cfg0.N) : (dats m 0 c).after 18 t = blkX (BitVec.ofNat 32 (grid0.coords t 0).val) (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = fun y : S1x1024.Idx => sumD m c t.val (y 1).val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- At a point after the first, the running sum is what the point before left. -/
theorem before0_19 (c : Dev nD) (t : Fin cfg0.N) (h : t.val ≠ 0) (d) :
    (dats m 0 c).before 19 t d = fun y : S1x1024.Idx => sumD m c (t.val - 1) (y 1).val :=
  ((dats m 0 c).before_out_kept 19 rfl t h
    ((by decide +kernel : ∀ t : Fin cfg0.N, t.val ≠ 0 → (cfg0.win 19).flush ⟨t.val - 1, Nat.lt_of_le_of_lt (Nat.sub_le _ _) t.isLt⟩ = false) t h)
    (fun _ => rfl) (fun _ _ => rfl) d).trans (after0_19 m c _)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare d)
    ∗ (∃ d, owns (c : Thread nD τ) (ms0_21 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ (∃ d, owns (c : Thread nD τ) (ms0_20 t) fullShare d)
    ∗ (∃ d, owns (c : Thread nD τ) (ms0_21 t) fullShare d))

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  have hN : t.val < 32 := lt_of_lt_of_eq t.isLt (show cfg0.N = 32 from N_0)
  by_cases h0 : t.val % 32 = 0
  · have h00 : t.val = 0 := by omega
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%e21, H21⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro
      exact (congrArg (fun L => (ms0_16 t).view.read (Elt Ideal) ((ms0_16 t).view.writes (Elt Ideal) e16 L)) (A_L16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))).trans (read_L16 ..)
    isplitl [H17]
    · unfold owns; iexists _; isplitr
      swap; · iexact H17
      ipureintro
      exact (congrArg (fun L => (ms0_17 t).view.read (Elt Ideal) ((ms0_17 t).view.writes (Elt Ideal) e17 L)) (A_L17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))).trans (read_L17 ..)
    isplitl [H18]
    · unfold owns; iexists _; isplitr
      swap; · iexact H18
      ipureintro
      exact (congrArg (fun L => (ms0_18 t).view.read (Elt Ideal) ((ms0_18 t).view.writes (Elt Ideal) e18 L)) (A_L18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t))).trans (read_L18 ..)
    isplitl [H19]
    · unfold owns; iexists _; isplitr
      swap; · iexact H19
      ipureintro
      refine (read_A19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) e19).trans ?_
      funext y
      exact (sumD_zero m c t h00 _).symm
    isplitl [H20]
    · iexists _; unfold owns; iexists _; isplitr
      swap; · iexact H20
      ipureintro; rfl
    · iexists _; unfold owns; iexists _; isplitr
      swap; · iexact H21
      ipureintro; rfl
  · have ht : t.val ≠ 0 := by omega
    simp only [before0_19 m c t ht]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
    iapply ((runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun y : S1x1024.Idx => sumD m c (t.val - 1) (y 1).val) d20 d21).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexact H19
    isplitl [H20]; · iexact H20
    isplitl [H21]; · iexact H21
    iintro ⟨H0, H1, H2, H3, H4, H5, H6, H7, H8, H9, H10, H11, H12, H13, H14, H15, ⟨%e16, H16⟩, ⟨%e17, H17⟩, ⟨%e18, H18⟩, H19, H20, H21⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro
      exact (congrArg (fun L => (ms0_16 t).view.read (Elt Ideal) ((ms0_16 t).view.writes (Elt Ideal) e16 L)) (B_L16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun y : S1x1024.Idx => sumD m c (t.val - 1) (y 1).val) d20 d21)).trans (read_L16 ..)
    isplitl [H17]
    · unfold owns; iexists _; isplitr
      swap; · iexact H17
      ipureintro
      exact (congrArg (fun L => (ms0_17 t).view.read (Elt Ideal) ((ms0_17 t).view.writes (Elt Ideal) e17 L)) (B_L17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun y : S1x1024.Idx => sumD m c (t.val - 1) (y 1).val) d20 d21)).trans (read_L17 ..)
    isplitl [H18]
    · unfold owns; iexists _; isplitr
      swap; · iexact H18
      ipureintro
      exact (congrArg (fun L => (ms0_18 t).view.read (Elt Ideal) ((ms0_18 t).view.writes (Elt Ideal) e18 L)) (B_L18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun y : S1x1024.Idx => sumD m c (t.val - 1) (y 1).val) d20 d21)).trans (read_L18 ..)
    isplitl [H19]
    · unfold owns; iexists _; isplitr
      swap; · iexact H19
      ipureintro
      refine (read_B19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (fun y : S1x1024.Idx => sumD m c (t.val - 1) (y 1).val) d20 d21 ((hs0_19 t).unread (fun y : S1x1024.Idx => sumD m c (t.val - 1) (y 1).val))).trans ?_
      funext y
      exact (sumD_succ m c t ht _).symm
    isplitl [H20]
    · iexists _; unfold owns; iexists _; isplitr
      swap; · iexact H20
      ipureintro; rfl
    · iexists _; unfold owns; iexists _; isplitr
      swap; · iexact H21
      ipureintro; rfl

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ fgt := fun t => by
  rw [bigSep_W0, bigSep_W0, defs₀_row]
  exact triple_restated (sound_body m c t) rfl .rfl fun _ => .rfl

set_option backward.isDefEq.respectTransparency.types false in
/-- The launch: every array as the points leave it, every counter back at zero. -/
theorem run_main : θ_run defs (onTc (τ := τ) (main (F := Ideal))) (s₀ m ρ)
    (fun r => (Pipeline.RDat.FramePost (cfgs 0) (fun c => (dats m 0 c).toRForget fgt) (V m)) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

end Cert.KernelIdeal.Hand

end
-- ==== Proof.Arr.lean ====
module

public import proofs.«01_k».proof.Proof.Exact
public import proofs.«01_k».proof.Proof.Glob
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

theorem coord0 (t : Fin cfg0.N) : (grid0.coords t 0).val = t.val :=
  (by decide +kernel : ∀ t : Fin cfg0.N, (grid0.coords t 0).val = t.val) t

theorem lt32 (t : Fin cfg0.N) : t.val < 32 := lt_of_lt_of_eq t.isLt (show cfg0.N = 32 from N_0)

/-- Where each window's block lies. -/
theorem idxs : ∀ t : Fin cfg0.N, win0_0.index t = ![t.val, 0] ∧ win0_1.index t = ![16 * t.val - 1, 0] ∧ win0_2.index t = ![min (16 * (t.val + 1)) 511, 0]
  ∧ win0_3.index t = ![t.val, 0] ∧ win0_4.index t = ![16 * t.val - 1, 0] ∧ win0_5.index t = ![min (16 * (t.val + 1)) 511, 0]
  ∧ win0_6.index t = ![t.val, 0] ∧ win0_7.index t = ![16 * t.val - 1, 0] ∧ win0_8.index t = ![min (16 * (t.val + 1)) 511, 0]
  ∧ win0_10.index t = ![0, 0] ∧ win0_11.index t = ![0, 0] ∧ win0_12.index t = ![0, 0, 0] ∧ win0_13.index t = ![t.val, 0]
  ∧ win0_14.index t = ![t.val, 0] ∧ win0_15.index t = ![0, 0] ∧ win0_16.index t = ![t.val, 0] ∧ win0_17.index t = ![t.val, 0] ∧ win0_18.index t = ![t.val, 0] := by
  decide +kernel

/-- The arrays the region finds, entry by entry. -/
def Ct (c : Dev nD) : ℕ → ℕ → EReal := at2 (α := EReal) (m := 8192) (n := 1024) (V m c main_v41)
def Gg (c : Dev nD) : ℕ → ℕ → EReal := at2 (α := EReal) (m := 8192) (n := 2816) (V m c main_v42)
def Vv (c : Dev nD) : ℕ → ℕ → EReal := at2 (α := EReal) (m := 8192) (n := 2816) (V m c main_v43)
def Wd (c : Dev nD) : ℕ → ℕ → EReal := at2 (α := EReal) (m := 2816) (n := 1024) (V m c main_v45)
def W4 (c : Dev nD) : ℕ → ℕ → ℕ → EReal := at3 (α := EReal) (l := 4) (m := 1024) (n := 1408) (V m c main_v46)
def Cw (c : Dev nD) : ℕ → ℕ → EReal := at2 (α := EReal) (m := 3) (n := 5632) (V m c main_arg3)
def Xx (c : Dev nD) : ℕ → ℕ → EReal := at2 (α := EReal) (m := 8192) (n := 1024) (V m c main_arg0)
def Dr (c : Dev nD) : ℕ → ℕ → EReal := at2 (α := EReal) (m := 8192) (n := 1024) (V m c main_arg6)
def Gm (c : Dev nD) : ℕ → ℕ → EReal := at2 (α := EReal) (m := 1) (n := 1024) (V m c main_arg1)

theorem rdb0 (c : Dev nD) (t : Fin cfg0.N) (r : ℕ) (hr : r < 256) (d : ℕ) :
    at2 (α := EReal) (m := 256) (n := 1024) (iblk m c 0 t) r d = Ct m c (256 * t.val + r) d := by
  have ht := lt32 t
  have e := (idxs t).1
  unfold Ct at2
  blk_ext [iblk, e]
  simp only [Fin.val_ofNat]
  omega

theorem rdb1 (c : Dev nD) (t : Fin cfg0.N) (h : 0 < t.val) (r : ℕ) (hr : r < 16) (d : ℕ) :
    at2 (α := EReal) (m := 16) (n := 1024) (iblk m c 1 t) r d = Ct m c (256 * t.val - 16 + r) d := by
  have ht := lt32 t
  have e := (idxs t).2.1
  unfold Ct at2
  blk_ext [iblk, e]
  simp only [Fin.val_ofNat]
  omega

theorem rdb2 (c : Dev nD) (t : Fin cfg0.N) (h : t.val < 31) (r : ℕ) (hr : r < 16) (d : ℕ) :
    at2 (α := EReal) (m := 16) (n := 1024) (iblk m c 2 t) r d = Ct m c (256 * t.val + 256 + r) d := by
  have ht := lt32 t
  have e := (idxs t).2.2.1
  unfold Ct at2
  blk_ext [iblk, e]
  simp only [Fin.val_ofNat]
  omega

theorem rdb3 (c : Dev nD) (t : Fin cfg0.N) (r : ℕ) (hr : r < 256) (d : ℕ) :
    at2 (α := EReal) (m := 256) (n := 2816) (iblk m c 3 t) r d = Gg m c (256 * t.val + r) d := by
  have ht := lt32 t
  have e := (idxs t).2.2.2.1
  unfold Gg at2
  blk_ext [iblk, e]
  simp only [Fin.val_ofNat]
  omega

theorem rdb4 (c : Dev nD) (t : Fin cfg0.N) (h : 0 < t.val) (r : ℕ) (hr : r < 16) (d : ℕ) :
    at2 (α := EReal) (m := 16) (n := 2816) (iblk m c 4 t) r d = Gg m c (256 * t.val - 16 + r) d := by
  have ht := lt32 t
  have e := (idxs t).2.2.2.2.1
  unfold Gg at2
  blk_ext [iblk, e]
  simp only [Fin.val_ofNat]
  omega

theorem rdb5 (c : Dev nD) (t : Fin cfg0.N) (h : t.val < 31) (r : ℕ) (hr : r < 16) (d : ℕ) :
    at2 (α := EReal) (m := 16) (n := 2816) (iblk m c 5 t) r d = Gg m c (256 * t.val + 256 + r) d := by
  have ht := lt32 t
  have e := (idxs t).2.2.2.2.2.1
  unfold Gg at2
  blk_ext [iblk, e]
  simp only [Fin.val_ofNat]
  omega

theorem rdb6 (c : Dev nD) (t : Fin cfg0.N) (r : ℕ) (hr : r < 256) (d : ℕ) :
    at2 (α := EReal) (m := 256) (n := 2816) (iblk m c 6 t) r d = Vv m c (256 * t.val + r) d := by
  have ht := lt32 t
  have e := (idxs t).2.2.2.2.2.2.1
  unfold Vv at2
  blk_ext [iblk, e]
  simp only [Fin.val_ofNat]
  omega

theorem rdb7 (c : Dev nD) (t : Fin cfg0.N) (h : 0 < t.val) (r : ℕ) (hr : r < 16) (d : ℕ) :
    at2 (α := EReal) (m := 16) (n := 2816) (iblk m c 7 t) r d = Vv m c (256 * t.val - 16 + r) d := by
  have ht := lt32 t
  have e := (idxs t).2.2.2.2.2.2.2.1
  unfold Vv at2
  blk_ext [iblk, e]
  simp only [Fin.val_ofNat]
  omega

theorem rdb8 (c : Dev nD) (t : Fin cfg0.N) (h : t.val < 31) (r : ℕ) (hr : r < 16) (d : ℕ) :
    at2 (α := EReal) (m := 16) (n := 2816) (iblk m c 8 t) r d = Vv m c (256 * t.val + 256 + r) d := by
  have ht := lt32 t
  have e := (idxs t).2.2.2.2.2.2.2.2.1
  unfold Vv at2
  blk_ext [iblk, e]
  simp only [Fin.val_ofNat]
  omega

theorem rdb13 (c : Dev nD) (t : Fin cfg0.N) (r : ℕ) (hr : r < 256) (d : ℕ) :
    at2 (α := EReal) (m := 256) (n := 1024) (iblk m c 13 t) r d = Xx m c (256 * t.val + r) d := by
  have ht := lt32 t
  have e := (idxs t).2.2.2.2.2.2.2.2.2.2.2.2.1
  unfold Xx at2
  blk_ext [iblk, e]
  simp only [Fin.val_ofNat]
  omega

theorem rdb14 (c : Dev nD) (t : Fin cfg0.N) (r : ℕ) (hr : r < 256) (d : ℕ) :
    at2 (α := EReal) (m := 256) (n := 1024) (iblk m c 14 t) r d = Dr m c (256 * t.val + r) d := by
  have ht := lt32 t
  have e := (idxs t).2.2.2.2.2.2.2.2.2.2.2.2.2.1
  unfold Dr at2
  blk_ext [iblk, e]
  simp only [Fin.val_ofNat]
  omega

theorem rdb10 (c : Dev nD) (t : Fin cfg0.N) : at2 (α := EReal) (m := 3) (n := 5632) (iblk m c 10 t) = Cw m c := by
  have e := (idxs t).2.2.2.2.2.2.2.2.2.1
  funext r d
  unfold Cw at2
  blk_ext [iblk, e]

theorem rdb11 (c : Dev nD) (t : Fin cfg0.N) : at2 (α := EReal) (m := 2816) (n := 1024) (iblk m c 11 t) = Wd m c := by
  have e := (idxs t).2.2.2.2.2.2.2.2.2.2.1
  funext r d
  unfold Wd at2
  blk_ext [iblk, e]

theorem rdb15 (c : Dev nD) (t : Fin cfg0.N) : at2 (α := EReal) (m := 1) (n := 1024) (iblk m c 15 t) = Gm m c := by
  have e := (idxs t).2.2.2.2.2.2.2.2.2.2.2.2.2.2.1
  funext r d
  unfold Gm at2
  blk_ext [iblk, e]

theorem rdb12 (c : Dev nD) (t : Fin cfg0.N) : at3 (α := EReal) (l := 4) (m := 1024) (n := 1408) (iblk m c 12 t) = W4 m c := by
  have e := (idxs t).2.2.2.2.2.2.2.2.2.2.2.1
  funext b r d
  unfold W4 at3
  blk_ext [iblk, e]

/-- The two halves of the hidden state's cotangent on the whole array. -/
def uG (c : Dev nD) : ℕ → ℕ → EReal := duG (Cw m c) (cG (Ct m c) (Wd m c) (Gg m c) (Vv m c)) 0
def uV (c : Dev nD) : ℕ → ℕ → EReal := duG (Cw m c) (cV (Ct m c) (Wd m c) (Gg m c)) 2816

theorem duG_blk (c : Dev nD) (t : Fin cfg0.N) (r n : ℕ) (hr : r < 256) :
    du (BitVec.ofNat 32 (grid0.coords t 0).val) (at2 (α := EReal) (m := 3) (n := 5632) (iblk m c 10 t)) (cG (ext3 (at2 (α := EReal) (m := 16) (n := 1024) (iblk m c 1 t)) (at2 (α := EReal) (m := 256) (n := 1024) (iblk m c 0 t)) (at2 (α := EReal) (m := 16) (n := 1024) (iblk m c 2 t)))
      (at2 (α := EReal) (m := 2816) (n := 1024) (iblk m c 11 t)) (ext3 (at2 (α := EReal) (m := 16) (n := 2816) (iblk m c 4 t)) (at2 (α := EReal) (m := 256) (n := 2816) (iblk m c 3 t)) (at2 (α := EReal) (m := 16) (n := 2816) (iblk m c 5 t)))
      (ext3 (at2 (α := EReal) (m := 16) (n := 2816) (iblk m c 7 t)) (at2 (α := EReal) (m := 256) (n := 2816) (iblk m c 6 t)) (at2 (α := EReal) (m := 16) (n := 2816) (iblk m c 8 t)))) 0 r n
    = uG m c (256 * t.val + r) n := by
  rw [coord0, rdb10, rdb11]
  refine du_glob t.val (lt32 t) _ _ _ _ r n hr fun k hk h1 h2 => ?_
  refine cG_congr _ _ _ _ _ _ _ _ _ _ (fun d => ?_) (fun d => ?_) (fun d => ?_)
  · exact ext3_glob t.val _ _ _ _ (rdb1 m c t) (rdb0 m c t) (rdb2 m c t) k d hk h1 h2
  · exact ext3_glob t.val _ _ _ _ (rdb4 m c t) (rdb3 m c t) (rdb5 m c t) k d hk h1 h2
  · exact ext3_glob t.val _ _ _ _ (rdb7 m c t) (rdb6 m c t) (rdb8 m c t) k d hk h1 h2

theorem duV_blk (c : Dev nD) (t : Fin cfg0.N) (r n : ℕ) (hr : r < 256) :
    du (BitVec.ofNat 32 (grid0.coords t 0).val) (at2 (α := EReal) (m := 3) (n := 5632) (iblk m c 10 t)) (cV (ext3 (at2 (α := EReal) (m := 16) (n := 1024) (iblk m c 1 t)) (at2 (α := EReal) (m := 256) (n := 1024) (iblk m c 0 t)) (at2 (α := EReal) (m := 16) (n := 1024) (iblk m c 2 t)))
      (at2 (α := EReal) (m := 2816) (n := 1024) (iblk m c 11 t)) (ext3 (at2 (α := EReal) (m := 16) (n := 2816) (iblk m c 4 t)) (at2 (α := EReal) (m := 256) (n := 2816) (iblk m c 3 t)) (at2 (α := EReal) (m := 16) (n := 2816) (iblk m c 5 t)))) 2816 r n
    = uV m c (256 * t.val + r) n := by
  rw [coord0, rdb10, rdb11]
  refine du_glob t.val (lt32 t) _ _ _ _ r n hr fun k hk h1 h2 => ?_
  refine cV_congr _ _ _ _ _ _ _ _ (fun d => ?_) (fun d => ?_)
  · exact ext3_glob t.val _ _ _ _ (rdb1 m c t) (rdb0 m c t) (rdb2 m c t) k d hk h1 h2
  · exact ext3_glob t.val _ _ _ _ (rdb4 m c t) (rdb3 m c t) (rdb5 m c t) k d hk h1 h2

theorem acc_blk (c : Dev nD) (wu : ℕ → ℕ → EReal) (hw : ∀ b d k, b < 4 → d < 1024 → k < 1408 → W4 m c b d k = wu d (1408 * b + k))
    (t : Fin cfg0.N) (r d : ℕ) (hr : r < 256) (hd : d < 1024) :
    accS (BitVec.ofNat 32 (grid0.coords t 0).val) (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) r d = accG (uG m c) (uV m c) wu (256 * t.val + r) d := by
  have h12 := rdb12 m c t
  unfold accS
  refine twelve _ _ (at3 (α := EReal) (l := 4) (m := 1024) (n := 1408) (iblk m c 12 t)) wu (uG m c) (uV m c) r (256 * t.val + r) d (fun b k hb hk => ?_) (fun n => duG_blk m c t r n hr) (fun n => duV_blk m c t r n hr)
  rw [h12]; exact hw b d k hb hd hk

theorem blkX_blk (c : Dev nD) (wu : ℕ → ℕ → EReal) (hw : ∀ b d k, b < 4 → d < 1024 → k < 1408 → W4 m c b d k = wu d (1408 * b + k))
    (t : Fin cfg0.N) (y : S256x1024.Idx) :
    blkX (BitVec.ofNat 32 (grid0.coords t 0).val) (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t) (iblk m c 13 t) (iblk m c 14 t) (iblk m c 15 t) y
      = Dr m c (256 * t.val + (y 0).val) (y 1).val + nb (accG (uG m c) (uV m c) wu) (Xx m c) (Gm m c) (256 * t.val + (y 0).val) (y 1).val := by
  have hy : (y 0).val < 256 := (y 0).isLt
  have hy1 : (y 1).val < 1024 := (y 1).isLt
  have h1 := rdb14 m c t (y 0).val hy (y 1).val
  have h15 := rdb15 m c t
  have h2 := nb_congr (accS (BitVec.ofNat 32 (grid0.coords t 0).val) (iblk m c 0 t) (iblk m c 1 t) (iblk m c 2 t) (iblk m c 3 t) (iblk m c 4 t) (iblk m c 5 t) (iblk m c 6 t) (iblk m c 7 t) (iblk m c 8 t) (iblk m c 10 t) (iblk m c 11 t) (iblk m c 12 t)) (accG (uG m c) (uV m c) wu)
    (at2 (α := EReal) (m := 256) (n := 1024) (iblk m c 13 t)) (Xx m c) (Gm m c) (y 0).val (256 * t.val + (y 0).val) (y 1).val
    (fun e he => acc_blk m c wu hw t _ e hy he) (fun e => rdb13 m c t _ hy e) hy1
  rw [← h15] at h2 ⊢
  unfold blkX
  exact congrArg₂ (fun a b : EReal => a + b) h1 h2

end Cert.KernelIdeal.Hand

end
-- ==== Proof.Arr2.lean ====
module

public import proofs.«01_k».proof.Proof.Arr
public import Idealize.ShloMosaic.Lib.Pipeline.ValueKit

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ)

/-- The gate's half of the hidden state's cotangent, as the points leave it. -/
theorem arr16 (c : Dev nD) : (dats m 0 c).arrAt 16 cfg0.N = (fun i : S8192x2816.Idx => uG m c (i 0).val (i 1).val) := by
  refine (dats m 0 c).arrAt_eq_of_covers 16 _ (by decide +kernel) fun t hf y => ?_
  have e := (idxs t).2.2.2.2.2.2.2.2.2.2.2.2.2.2.2.1
  blk_simp
  rw [after0_16]
  refine (duG_blk m c t (y 0).val (y 1).val (y 0).isLt).trans ?_
  congr 1
  · blk_simp [e]; omega
  · blk_simp [e]

theorem arr17 (c : Dev nD) : (dats m 0 c).arrAt 17 cfg0.N = (fun i : S8192x2816.Idx => uV m c (i 0).val (i 1).val) := by
  refine (dats m 0 c).arrAt_eq_of_covers 17 _ (by decide +kernel) fun t hf y => ?_
  have e := (idxs t).2.2.2.2.2.2.2.2.2.2.2.2.2.2.2.2.1
  blk_simp
  rw [after0_17]
  refine (duV_blk m c t (y 0).val (y 1).val (y 0).isLt).trans ?_
  congr 1
  · blk_simp [e]; omega
  · blk_simp [e]

theorem arr18 (c : Dev nD) (wu : ℕ → ℕ → EReal) (hw : ∀ b d k, b < 4 → d < 1024 → k < 1408 → W4 m c b d k = wu d (1408 * b + k)) :
    (dats m 0 c).arrAt 18 cfg0.N = (fun i : S8192x1024.Idx => Dr m c (i 0).val (i 1).val + nb (accG (uG m c) (uV m c) wu) (Xx m c) (Gm m c) (i 0).val (i 1).val) := by
  refine (dats m 0 c).arrAt_eq_of_covers 18 _ (by decide +kernel) fun t hf y => ?_
  have e := (idxs t).2.2.2.2.2.2.2.2.2.2.2.2.2.2.2.2.2
  blk_simp
  rw [after0_18]
  refine (blkX_blk m c wu hw t y).trans ?_
  have e0 : win0_18.index t 0 = t.val := by rw [e]; rfl
  have e1 : win0_18.index t 1 = 0 := by rw [e]; rfl
  rw [e0, e1, Nat.zero_mul, Nat.zero_add, Nat.mul_comm t.val 256]

/-- The last point. -/
def tl : Fin cfg0.N := ⟨31, by rw [show cfg0.N = 32 from N_0]; omega⟩

theorem arr19 (c : Dev nD) (wu : ℕ → ℕ → EReal) (hw : ∀ b d k, b < 4 → d < 1024 → k < 1408 → W4 m c b d k = wu d (1408 * b + k)) :
    (dats m 0 c).arrAt 19 cfg0.N = (fun i : S1x1024.Idx => ∑ R : Fin 8192, accG (uG m c) (uV m c) wu R.val (i 1).val * (Xx m c R.val (i 1).val * rsv (Xx m c) R.val)) := by
  have hN : cfg0.N = 32 := N_0
  refine (dats m 0 c).arrAt_eq_of_after_last 19 tl (by decide +kernel) _ fun j => ?_
  blk_simp
  rw [after0_19]
  have hj : (j 1).val < 1024 := (j 1).isLt
  refine Eq.trans ?_ (sum_rows (fun R => accG (uG m c) (uV m c) wu R (j 1).val * (Xx m c R (j 1).val * rsv (Xx m c) R)))
  show sumD m c 31 (j 1).val = _
  unfold sumD
  refine Finset.sum_congr rfl fun s hs => ?_
  have hs' : s < 32 := Finset.mem_range.1 hs
  rw [dif_pos (show s < cfg0.N by omega)]
  unfold addD blkD
  refine Finset.sum_congr rfl fun r _ => ?_
  have ha := acc_blk m c wu hw ⟨s, by omega⟩ r.val (j 1).val r.isLt hj
  have hx := rdb13 m c ⟨s, by omega⟩ r.val r.isLt
  have hr : rsv (at2 (α := EReal) (m := 256) (n := 1024) (iblk m c 13 ⟨s, by omega⟩)) r.val = rsv (Xx m c) (256 * s + r.val) := by
    unfold rsv; simp only [hx]
  exact congrArg₂ (fun a b : EReal => a * b) ha (congrArg₂ (fun a b : EReal => a * b) (hx _) hr)

end Cert.KernelIdeal.Hand

end
-- ==== Proof.Result.lean ====
module

public import proofs.«01_k».proof.Proof.Host
public import proofs.«01_k».proof.Proof.Arr2

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.Sem
open Idealize.ShloMosaic.Pipeline (Dat Cfg Window)

/-! ## The results as functions of the seven arrays -/

/-- The gate's columns of the convolved rows. -/
def gF (x g w cw : ℕ → ℕ → EReal) (R n : ℕ) : EReal := cvF cw (upF x g w) R n
/-- The value's columns of the convolved rows. -/
def vF (x g w cw : ℕ → ℕ → EReal) (R n : ℕ) : EReal := cvF cw (upF x g w) R (2816 + n)
/-- The cotangent of the gate's columns of the up projection. -/
def oG (x g w cw wd ct : ℕ → ℕ → EReal) : ℕ → ℕ → EReal := duG cw (cG ct wd (gF x g w cw) (vF x g w cw)) 0
/-- The cotangent of the value's columns of the up projection. -/
def oV (x g w cw wd ct : ℕ → ℕ → EReal) : ℕ → ℕ → EReal := duG cw (cV ct wd (gF x g w cw)) 2816
/-- The cotangent of the normalised rows. -/
def oA (x g w cw wd ct : ℕ → ℕ → EReal) : ℕ → ℕ → EReal := accG (oG x g w cw wd ct) (oV x g w cw wd ct) w
/-- The cotangent of the rows. -/
def oX (x g w cw wd ct dr : ℕ → ℕ → EReal) (R d : ℕ) : EReal := dr R d + nb (oA x g w cw wd ct) x g R d
/-- The cotangent of the gain. -/
def oD (x g w cw wd ct : ℕ → ℕ → EReal) (d : ℕ) : EReal := ∑ R : Fin 8192, oA x g w cw wd ct R.val d * (x R.val d * rsv x R.val)

theorem duG_congr (cw f f' : ℕ → ℕ → EReal) (co R n : ℕ) (hR : R < 8192) (h : ∀ k, k < 8192 → f k n = f' k n) : duG cw f co R n = duG cw f' co R n := by
  unfold duG
  rw [h R hR]
  by_cases h1 : R + 1 < 8192
  · rw [if_pos h1, if_pos h1, h _ h1]
    by_cases h2 : R = 0
    · rw [if_pos h2, if_pos h2]
    · rw [if_neg h2, if_neg h2, h _ (by omega)]
  · rw [if_neg h1, if_neg h1]
    by_cases h2 : R = 0
    · rw [if_pos h2, if_pos h2]
    · rw [if_neg h2, if_neg h2, h _ (by omega)]

theorem accG_congr (a a' b b' wu : ℕ → ℕ → EReal) (R d : ℕ) (ha : ∀ n, n < 2816 → a R n = a' R n) (hb : ∀ n, n < 2816 → b R n = b' R n) :
    accG a b wu R d = accG a' b' wu R d := by
  unfold accG
  congr 1
  · exact Finset.sum_congr rfl fun n _ => by rw [ha n.val n.isLt]
  · exact Finset.sum_congr rfl fun n _ => by rw [hb n.val n.isLt]

variable (m : (ℓ : Loc nD τ sig) → Buf (Elt Ideal) ℓ)

/-- The seven arrays at the launch. -/
def a0 (c : Dev nD) : ℕ → ℕ → EReal := at2 (α := EReal) (m := 8192) (n := 1024) (m (c, main_arg0))
def a1 (c : Dev nD) : ℕ → ℕ → EReal := at2 (α := EReal) (m := 1) (n := 1024) (m (c, main_arg1))
def a2 (c : Dev nD) : ℕ → ℕ → EReal := at2 (α := EReal) (m := 1024) (n := 5632) (m (c, main_arg2))
def a3 (c : Dev nD) : ℕ → ℕ → EReal := at2 (α := EReal) (m := 3) (n := 5632) (m (c, main_arg3))
def a4 (c : Dev nD) : ℕ → ℕ → EReal := at2 (α := EReal) (m := 2816) (n := 1024) (m (c, main_arg4))
def a5 (c : Dev nD) : ℕ → ℕ → EReal := at2 (α := EReal) (m := 8192) (n := 1024) (m (c, main_arg5))
def a6 (c : Dev nD) : ℕ → ℕ → EReal := at2 (α := EReal) (m := 8192) (n := 1024) (m (c, main_arg6))

theorem Ct_eq (c : Dev nD) : Ct m c = a5 m c := V41_at m c
theorem Wd_eq (c : Dev nD) : Wd m c = a4 m c := V45_at m c
theorem Cw_eq (c : Dev nD) : Cw m c = a3 m c := by unfold Cw a3; rw [V_main_arg3 m c]
theorem Xx_eq (c : Dev nD) : Xx m c = a0 m c := by unfold Xx a0; rw [V_main_arg0 m c]
theorem Dr_eq (c : Dev nD) : Dr m c = a6 m c := by unfold Dr a6; rw [V_main_arg6 m c]
theorem Gm_eq (c : Dev nD) : Gm m c = a1 m c := by unfold Gm a1; rw [V_main_arg1 m c]
theorem W4_eq (c : Dev nD) (b d k : ℕ) (hb : b < 4) (hd : d < 1024) (hk : k < 1408) : W4 m c b d k = a2 m c d (1408 * b + k) := V46_at m c b d k hb hd hk
theorem Gg_eq (c : Dev nD) (R n : ℕ) (hR : R < 8192) (hn : n < 2816) : Gg m c R n = gF (a0 m c) (a1 m c) (a2 m c) (a3 m c) R n := V42_at m c R n hR hn
theorem Vv_eq (c : Dev nD) (R n : ℕ) (hR : R < 8192) (hn : n < 2816) : Vv m c R n = vF (a0 m c) (a1 m c) (a2 m c) (a3 m c) R n := V43_at m c R n hR hn

theorem uG_eq (c : Dev nD) (R n : ℕ) (hR : R < 8192) (hn : n < 2816) :
    uG m c R n = oG (a0 m c) (a1 m c) (a2 m c) (a3 m c) (a4 m c) (a5 m c) R n := by
  unfold uG oG
  rw [Cw_eq, Ct_eq, Wd_eq]
  refine duG_congr _ _ _ 0 R n hR fun k hk => ?_
  unfold cG
  rw [Gg_eq m c k n hk hn, Vv_eq m c k n hk hn]

theorem uV_eq (c : Dev nD) (R n : ℕ) (hR : R < 8192) (hn : n < 2816) :
    uV m c R n = oV (a0 m c) (a1 m c) (a2 m c) (a3 m c) (a4 m c) (a5 m c) R n := by
  unfold uV oV
  rw [Cw_eq, Ct_eq, Wd_eq]
  refine duG_congr _ _ _ 2816 R n hR fun k hk => ?_
  unfold cV
  rw [Gg_eq m c k n hk hn]

theorem acc_eq (c : Dev nD) (R d : ℕ) (hR : R < 8192) :
    accG (uG m c) (uV m c) (a2 m c) R d = oA (a0 m c) (a1 m c) (a2 m c) (a3 m c) (a4 m c) (a5 m c) R d :=
  accG_congr _ _ _ _ _ R d (fun n hn => uG_eq m c R n hR hn) (fun n hn => uV_eq m c R n hR hn)

theorem row_eq (c : Dev nD) (R d : ℕ) (hR : R < 8192) (hd : d < 1024) :
    Dr m c R d + nb (accG (uG m c) (uV m c) (a2 m c)) (Xx m c) (Gm m c) R d
      = oX (a0 m c) (a1 m c) (a2 m c) (a3 m c) (a4 m c) (a5 m c) (a6 m c) R d := by
  unfold oX
  rw [Dr_eq, Xx_eq, Gm_eq, nb_congr (accG (uG m c) (uV m c) (a2 m c)) (oA (a0 m c) (a1 m c) (a2 m c) (a3 m c) (a4 m c) (a5 m c)) (a0 m c) (a0 m c) (a1 m c) R R d
    (fun e _ => acc_eq m c R e hR) (fun _ => rfl) hd]

theorem sum_eq (c : Dev nD) (d : ℕ) :
    ∑ R : Fin 8192, accG (uG m c) (uV m c) (a2 m c) R.val d * (Xx m c R.val d * rsv (Xx m c) R.val)
      = oD (a0 m c) (a1 m c) (a2 m c) (a3 m c) (a4 m c) (a5 m c) d := by
  unfold oD
  rw [Xx_eq]
  refine Finset.sum_congr rfl fun R _ => ?_
  rw [acc_eq m c R.val d R.isLt]

/-- The four results of a device. -/
def out0 (c : Dev nD) : S8192x2816.Idx → EReal := fun i => oG (a0 m c) (a1 m c) (a2 m c) (a3 m c) (a4 m c) (a5 m c) (i 0).val (i 1).val
def out1 (c : Dev nD) : S8192x2816.Idx → EReal := fun i => oV (a0 m c) (a1 m c) (a2 m c) (a3 m c) (a4 m c) (a5 m c) (i 0).val (i 1).val
def out2 (c : Dev nD) : S8192x1024.Idx → EReal := fun i => oX (a0 m c) (a1 m c) (a2 m c) (a3 m c) (a4 m c) (a5 m c) (a6 m c) (i 0).val (i 1).val
def out3 (c : Dev nD) : S1x1024.Idx → EReal := fun i => oD (a0 m c) (a1 m c) (a2 m c) (a3 m c) (a4 m c) (a5 m c) (i 1).val

theorem res16 (c : Dev nD) : (dats m 0 c).arrAt 16 cfg0.N = out0 m c :=
  (arr16 m c).trans (funext fun i => uG_eq m c _ _ (i 0).isLt (i 1).isLt)
theorem res17 (c : Dev nD) : (dats m 0 c).arrAt 17 cfg0.N = out1 m c :=
  (arr17 m c).trans (funext fun i => uV_eq m c _ _ (i 0).isLt (i 1).isLt)
theorem res18 (c : Dev nD) : (dats m 0 c).arrAt 18 cfg0.N = out2 m c := by
  refine (arr18 m c (a2 m c) (W4_eq m c)).trans (funext fun i => ?_)
  have h := row_eq m c (i 0).val (i 1).val (i 0).isLt (i 1).isLt
  exact h
theorem res19 (c : Dev nD) : (dats m 0 c).arrAt 19 cfg0.N = out3 m c := by
  refine (arr19 m c (a2 m c) (W4_eq m c)).trans (funext fun i => ?_)
  have h := sum_eq m c (i 1).val
  exact h

/-- A window whose array is kept holds what the points leave there. -/
theorem kept (M : (ℓ : Loc nD τ sig) → Buf (Elt Ideal) ℓ) (c : Dev nD)
    (h : ∀ w, ((dats m 0 c).toRForget fgt).ArrAt w cfg0.N (M ((cfg0.win w).arr.view.loc (c.tc : Thread nD τ)))) (w : Fin cfg0.W) (hw : fgt w = false) :
    M ((cfg0.win w).arr.view.loc (c.tc : Thread nD τ)) = (dats m 0 c).arrAt w cfg0.N :=
  ((dats m 0 c).toRForget_arrAt_iff hw cfg0.N _).1 (h w)

variable (ρ : Dev nD → PrngReg)

set_option maxHeartbeats 2000000 in
/-- Every run leaves the four results, the arguments and the counters as stated. -/
theorem run_results : θ_run defs (onTc (τ := τ) (main (F := Ideal))) ⟨m, fun _ => 0, ρ⟩ (fun r => (∀ c : Dev nD,
      r.2.mem ((c.tc : Thread nD τ).loc main_v47_0) = out0 m c
      ∧ r.2.mem ((c.tc : Thread nD τ).loc main_v47_1) = out1 m c
      ∧ r.2.mem ((c.tc : Thread nD τ).loc main_v47_2) = out2 m c
      ∧ r.2.mem ((c.tc : Thread nD τ).loc main_v47_3) = out3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r hh => ⟨fun c => ?_, hh.2⟩) (run_main m ρ)
  have h := hh.1
  have k := kept m r.2.mem c (fun w => (h c).1 w)
  have k0 : r.2.mem ((c.tc : Thread nD τ).loc main_v47_0) = out0 m c := (k 16 rfl).trans (res16 m c)
  have k1 : r.2.mem ((c.tc : Thread nD τ).loc main_v47_1) = out1 m c := (k 17 rfl).trans (res17 m c)
  have k2 : r.2.mem ((c.tc : Thread nD τ).loc main_v47_2) = out2 m c := (k 18 rfl).trans (res18 m c)
  have k3 : r.2.mem ((c.tc : Thread nD τ).loc main_v47_3) = out3 m c := (k 19 rfl).trans (res19 m c)
  have g0 : r.2.mem ((c.tc : Thread nD τ).loc main_arg0) = m ((c.tc : Thread nD τ).loc main_arg0) := (Pipeline.RDat.FramePost.arr_in h c 13 rfl).trans ((A_eq m c 13).trans (V_main_arg0 m c))
  have g1 : r.2.mem ((c.tc : Thread nD τ).loc main_arg1) = m ((c.tc : Thread nD τ).loc main_arg1) := (Pipeline.RDat.FramePost.arr_in h c 15 rfl).trans ((A_eq m c 15).trans (V_main_arg1 m c))
  have g2 : r.2.mem ((c.tc : Thread nD τ).loc main_arg2) = m ((c.tc : Thread nD τ).loc main_arg2) := ((h c).2 main_arg2 (Pipeline.mem_restRefs_of main_arg2 (by decide) (by decide))).trans (V_main_arg2 m c)
  have g3 : r.2.mem ((c.tc : Thread nD τ).loc main_arg3) = m ((c.tc : Thread nD τ).loc main_arg3) := (Pipeline.RDat.FramePost.arr_in h c 10 rfl).trans ((A_eq m c 10).trans (V_main_arg3 m c))
  have g4 : r.2.mem ((c.tc : Thread nD τ).loc main_arg4) = m ((c.tc : Thread nD τ).loc main_arg4) := ((h c).2 main_arg4 (Pipeline.mem_restRefs_of main_arg4 (by decide) (by decide))).trans (V_main_arg4 m c)
  have g5 : r.2.mem ((c.tc : Thread nD τ).loc main_arg5) = m ((c.tc : Thread nD τ).loc main_arg5) := ((h c).2 main_arg5 (Pipeline.mem_restRefs_of main_arg5 (by decide) (by decide))).trans (V_main_arg5 m c)
  have g6 : r.2.mem ((c.tc : Thread nD τ).loc main_arg6) = m ((c.tc : Thread nD τ).loc main_arg6) := (Pipeline.RDat.FramePost.arr_in h c 14 rfl).trans ((A_eq m c 14).trans (V_main_arg6 m c))
  exact ⟨k0, k1, k2, k3, g0, g1, g2, g3, g4, g5, g6⟩

end Cert.KernelIdeal.Hand

end
-- ==== Proof.Ref.lean ====
module

public import proofs.«01_k».proof.Proof.Result
public import proofs.«01_k».proof.Proof.Eq
public import proofs.«01_k».proof.Proof.Gen.ReferenceIdeal.Read

@[expose] public section

set_option maxRecDepth 16384

noncomputable section

namespace Cert.KernelIdeal.Hand

open Cert.ReferenceIdeal Cert.ReferenceIdeal.Gen Cert.ReferenceIdeal.Read
open Idealize.ShloMosaic Idealize.ShloMosaic.TcCoe Idealize.ShloMosaic.Tactic

variable (x0 : FVec Ideal S8192x1024 .f32) (x1 : FVec Ideal S1x1024 .f32) (x2 : FVec Ideal S1024x5632 .f32) (x3 : FVec Ideal S3x5632 .f32)
  (x4 : FVec Ideal S2816x1024 .f32) (x5 x6 : FVec Ideal S8192x1024 .f32)

/-- The reference's forward rows are those the kernel's host code makes. -/
theorem ref41 : val_main_v41 (F := Ideal) x0 x1 x2 x3 = hostH x3 (hostP (hostU x0 x1 x2)) := rfl

/-- The arrays, read at two natural numbers. -/
abbrev X0 : ℕ → ℕ → EReal := at2 (α := EReal) (m := 8192) (n := 1024) x0
abbrev X1 : ℕ → ℕ → EReal := at2 (α := EReal) (m := 1) (n := 1024) x1
abbrev X2 : ℕ → ℕ → EReal := at2 (α := EReal) (m := 1024) (n := 5632) x2
abbrev X3 : ℕ → ℕ → EReal := at2 (α := EReal) (m := 3) (n := 5632) x3
abbrev X4 : ℕ → ℕ → EReal := at2 (α := EReal) (m := 2816) (n := 1024) x4
abbrev X5 : ℕ → ℕ → EReal := at2 (α := EReal) (m := 8192) (n := 1024) x5

theorem ref41_at (R n : ℕ) (hR : R < 8192) (hn : n < 5632) :
    val_main_v41 (F := Ideal) x0 x1 x2 x3 (ix2 ⟨R, hR⟩ ⟨n, hn⟩) = cvF (X3 x3) (upF (X0 x0) (X1 x1) (X2 x2)) R n := by
  rw [ref41]
  exact hid_apply x0 x1 x2 x3 (ix2 ⟨R, hR⟩ ⟨n, hn⟩)

theorem ref8 (i : S8192x1.Idx) : val_main_v8 (F := Ideal) x0 i = rsv (X0 x0) (i 0).val := by
  pointwise [val_main_v8, val_main_v7, val_main_v6, val_main_cst_1, val_main_v5, val_main_v4, val_main_cst_0, val_main_v3, val_main_v2, val_main_cst, val_main_v1]
  unfold rsv
  have hs : ∀ e : Fin 1024, X0 x0 (i 0).val e.val = x0 (ix2 (i 0) e) := fun e => at2_fin (m := 8192) (n := 1024) x0 (i 0) e
  simp only [hs]

theorem ref11 (i : S8192x1.Idx) : val_main_v11 (F := Ideal) x0 i
    = Ideal.ofBits FTy.f32 3204448256#32 * Ideal.div (rsv (X0 x0) (i 0).val) (msv (X0 x0) (i 0).val) := by
  pointwise [val_main_v11, val_main_v10, val_main_cst_2, val_main_v9, val_main_v7, val_main_v6, val_main_cst_1, val_main_v5, val_main_v4, val_main_cst_0, val_main_v3, val_main_v2, val_main_cst, val_main_v1]
  rw [ref8]
  unfold msv
  have hs : ∀ e : Fin 1024, X0 x0 (i 0).val e.val = x0 (ix2 (i 0) e) := fun e => at2_fin (m := 8192) (n := 1024) x0 (i 0) e
  simp only [hs]

theorem ref44 (R n : ℕ) (hR : R < 8192) (hn : n < 2816) : val_main_v44_2 (F := Ideal) x0 x1 x2 x3 (ix2 ⟨R, hR⟩ ⟨n, hn⟩) = sgr (gF (X0 x0) (X1 x1) (X2 x2) (X3 x3) R n) := by
  pointwise [val_main_v44_2, val_main_call0_v4, val_main_call0_cst_0, val_main_call0_v3, val_main_call0_v2, val_main_call0_cst, val_main_call0_v1, val_main_call0_v0, val_main_v42]
  rw [ref41_at]
  rfl

theorem ref49 (R n : ℕ) (hR : R < 8192) (hn : n < 2816) : val_main_v49 (F := Ideal) x4 x5 (ix2 ⟨R, hR⟩ ⟨n, hn⟩) = dzv (X5 x5) (X4 x4) R n := by
  pointwise [val_main_v49]
  unfold dzv
  refine Finset.sum_congr rfl fun d _ => ?_
  rw [show X5 x5 R d.val = x5 (ix2 ⟨R, hR⟩ d) from at2_fin (m := 8192) (n := 1024) x5 ⟨R, hR⟩ d,
    show X4 x4 n d.val = x4 (ix2 ⟨n, hn⟩ d) from at2_fin (m := 2816) (n := 1024) x4 ⟨n, hn⟩ d]

/-- The gate's cotangent as the reference writes it. -/
def rG (dy wd g v : ℕ → ℕ → EReal) (R n : ℕ) : EReal :=
  dzv dy wd R n * v R n * sgr (g R n) + g R n * (dzv dy wd R n * v R n) * (sgr (g R n) * (1 - sgr (g R n)))
/-- The value's cotangent as the reference writes it. -/
def rV (dy wd g : ℕ → ℕ → EReal) (R n : ℕ) : EReal := g R n * sgr (g R n) * dzv dy wd R n

theorem ref52 (R n : ℕ) (hR : R < 8192) (hn : n < 2816) : val_main_v52 (F := Ideal) x0 x1 x2 x3 x4 x5 (ix2 ⟨R, hR⟩ ⟨n, hn⟩)
    = rG (X5 x5) (X4 x4) (gF (X0 x0) (X1 x1) (X2 x2) (X3 x3)) (vF (X0 x0) (X1 x1) (X2 x2) (X3 x3)) R n := by
  pointwise [val_main_v52, val_main_call1_v2, val_main_call1_v1, val_main_call1_v0, val_main_v51, val_main_v44_1, val_main_call0_v7, val_main_call0_v6, val_main_call0_cst_1, val_main_v42, val_main_v43]
  rw [ref41_at, ref41_at, ref44, ref49]
  rfl

theorem ref50 (R n : ℕ) (hR : R < 8192) (hn : n < 2816) : val_main_v50 (F := Ideal) x0 x1 x2 x3 x4 x5 (ix2 ⟨R, hR⟩ ⟨n, hn⟩)
    = rV (X5 x5) (X4 x4) (gF (X0 x0) (X1 x1) (X2 x2) (X3 x3)) R n := by
  pointwise [val_main_v50, val_main_v44_0, val_main_v42]
  rw [ref41_at, ref44, ref49]
  rfl

/-- The two halves side by side. -/
def rH (R n : ℕ) : EReal :=
  if n < 2816 then rG (X5 x5) (X4 x4) (gF (X0 x0) (X1 x1) (X2 x2) (X3 x3)) (vF (X0 x0) (X1 x1) (X2 x2) (X3 x3)) R n
  else rV (X5 x5) (X4 x4) (gF (X0 x0) (X1 x1) (X2 x2) (X3 x3)) R (n - 2816)

theorem ref53 (R n : ℕ) (hR : R < 8192) (hn : n < 5632) : val_main_v53 (F := Ideal) x0 x1 x2 x3 x4 x5 (ix2 ⟨R, hR⟩ ⟨n, hn⟩) = rH x0 x1 x2 x3 x4 x5 R n := by
  pointwise [val_main_v53]
  unfold rH
  by_cases h : n < 2816
  · rw [dif_pos h, if_pos h, ref52]
  · rw [dif_neg h, if_neg h, ref50]

theorem ref36 (n : ℕ) (hn : n < 5632) : val_main_v36 (F := Ideal) x3 (ix1 ⟨n, hn⟩) = X3 x3 2 n := by
  pointwise [val_main_v36, val_main_v35]
  exact (at2_fin (m := 3) (n := 5632) x3 2 ⟨n, hn⟩).symm
theorem ref29 (n : ℕ) (hn : n < 5632) : val_main_v29 (F := Ideal) x3 (ix1 ⟨n, hn⟩) = X3 x3 1 n := by
  pointwise [val_main_v29, val_main_v28]
  exact (at2_fin (m := 3) (n := 5632) x3 1 ⟨n, hn⟩).symm
theorem ref23 (n : ℕ) (hn : n < 5632) : val_main_v23 (F := Ideal) x3 (ix1 ⟨n, hn⟩) = X3 x3 0 n := by
  pointwise [val_main_v23, val_main_v22]
  exact (at2_fin (m := 3) (n := 5632) x3 0 ⟨n, hn⟩).symm

theorem duG_zero (cw f : ℕ → ℕ → EReal) (R n : ℕ) : duG cw f 0 R n
    = cw 0 n * (if R + 1 < 8192 then f (R + 1) n else 0) + cw 1 n * f R n + cw 2 n * (if R = 0 then 0 else f (R - 1) n) := by
  unfold duG; simp only [Nat.zero_add]

theorem conv_rows (w2 w1 w0 : EReal) (f : Fin 8192 → EReal) (F : ℕ → EReal) (R n : ℕ) (hR : R < 8192) (hn : n < 5632) (hf : ∀ k (hk : k < 8192), f ⟨k, hk⟩ = F k)
    (l2 : (2 ≤ 1 + R ∧ 1 + R - 2 < 8192) ∧ n < 5632 → 1 + R - 2 < 8192) (l1 : R < 8192 ∧ n < 5632 → R < 8192) (l0 : 1 + R < 8192 ∧ n < 5632 → 1 + R < 8192) :
    ((if h : (2 ≤ 1 + R ∧ 1 + R - 2 < 8192) ∧ n < 5632 then w2 * f ⟨1 + R - 2, l2 h⟩ else 0) + (if h : R < 8192 ∧ n < 5632 then w1 * f ⟨R, l1 h⟩ else 0))
      + (if h : 1 + R < 8192 ∧ n < 5632 then w0 * f ⟨1 + R, l0 h⟩ else 0)
    = w0 * (if R + 1 < 8192 then F (R + 1) else 0) + w1 * F R + w2 * (if R = 0 then 0 else F (R - 1)) := by
  rw [dif_pos (⟨hR, hn⟩ : R < 8192 ∧ n < 5632), hf]
  by_cases h0 : R = 0
  · rw [dif_neg (fun h => by omega), if_pos h0, mul_zero, zero_add, add_zero]
    by_cases h1 : R + 1 < 8192
    · rw [dif_pos (⟨by omega, hn⟩ : 1 + R < 8192 ∧ n < 5632), if_pos h1, hf, Nat.add_comm 1 R, add_comm]
    · rw [dif_neg (fun h => by omega), if_neg h1, mul_zero, zero_add, add_zero]
  · rw [dif_pos (⟨⟨by omega, by omega⟩, hn⟩ : (2 ≤ 1 + R ∧ 1 + R - 2 < 8192) ∧ n < 5632), if_neg h0, hf, show 1 + R - 2 = R - 1 by omega]
    by_cases h1 : R + 1 < 8192
    · rw [dif_pos (⟨by omega, hn⟩ : 1 + R < 8192 ∧ n < 5632), if_pos h1, hf, Nat.add_comm 1 R, add_comm, add_comm (w2 * _), add_assoc]
    · rw [dif_neg (fun h => by omega), if_neg h1, mul_zero, zero_add, add_zero, add_comm]

theorem ref86 (R n : ℕ) (hR : R < 8192) (hn : n < 5632) : val_main_v86 (F := Ideal) x0 x1 x2 x3 x4 x5 (ix2 ⟨R, hR⟩ ⟨n, hn⟩)
    = duG (X3 x3) (rH x0 x1 x2 x3 x4 x5) 0 R n := by
  pointwise [val_main_v86, val_main_v81, val_main_v80, val_main_cst_16, val_main_v75, val_main_v74, val_main_v70, val_main_v69, val_main_cst_12, val_main_v64, val_main_v63, val_main_v60, val_main_cst_8, val_main_v55, val_main_v54,
    val_main_v38, val_main_v31, val_main_v25]
  refine (conv_rows (val_main_v36 (F := Ideal) x3 (ix1 ⟨n, hn⟩)) (val_main_v29 (F := Ideal) x3 (ix1 ⟨n, hn⟩)) (val_main_v23 (F := Ideal) x3 (ix1 ⟨n, hn⟩)) (fun k => val_main_v53 (F := Ideal) x0 x1 x2 x3 x4 x5 (ix2 k ⟨n, hn⟩)) (fun k => rH x0 x1 x2 x3 x4 x5 k n) R n hR hn
    (fun k hk => ref53 x0 x1 x2 x3 x4 x5 k n hk hn) (fun h => h.1.2) (fun h => h.1) (fun h => h.1)).trans ?_
  rw [ref36, ref29, ref23, duG_zero]

variable (h0 : ∀ r c, Fint (X0 x0 r c)) (h1 : ∀ r c, Fint (X1 x1 r c)) (h2 : ∀ r c, Fint (X2 x2 r c)) (h3 : ∀ r c, Fint (X3 x3 r c))
  (h4 : ∀ r c, Fint (X4 x4 r c)) (h5 : ∀ r c, Fint (X5 x5 r c))

theorem fin_cv (cw x g w : ℕ → ℕ → EReal) (hc : ∀ r c, Fint (cw r c)) (hx : ∀ r c, Fint (x r c)) (hg : ∀ r c, Fint (g r c)) (hw : ∀ r c, Fint (w r c))
    (R n : ℕ) : Fint (cvF cw (upF x g w) R n) := by
  have hu : ∀ R n, Fint (upF x g w R n) := fun R n => Fint.sum _ _ fun d => (((hx _ _).mul (Fint.rsv x hx R)).mul (hg _ _)).mul (hw _ _)
  have hp : ∀ k, Fint (padF (upF x g w) k n) := fun k => Fint.ite Fint.zero (Fint.ite (hu _ _) Fint.zero)
  exact (((hc _ _).mul (hp _)).add ((hc _ _).mul (hp _))).add ((hc _ _).mul (hp _))

theorem fin_dz (dy wd : ℕ → ℕ → EReal) (hd : ∀ r c, Fint (dy r c)) (hw : ∀ r c, Fint (wd r c)) (R n : ℕ) : Fint (dzv dy wd R n) :=
  Fint.sum _ _ fun d => (hd _ _).mul (hw _ _)

theorem fin_du (cw f : ℕ → ℕ → EReal) (hc : ∀ r c, Fint (cw r c)) (hf : ∀ r c, Fint (f r c)) (co R n : ℕ) : Fint (duG cw f co R n) :=
  (((hc _ _).mul (Fint.ite (hf _ _) Fint.zero)).add ((hc _ _).mul (hf _ _))).add ((hc _ _).mul (Fint.ite Fint.zero (hf _ _)))

theorem fin_acc (a b w : ℕ → ℕ → EReal) (ha : ∀ r c, Fint (a r c)) (hb : ∀ r c, Fint (b r c)) (hw : ∀ r c, Fint (w r c)) (R d : ℕ) : Fint (accG a b w R d) :=
  (Fint.sum _ _ fun n => (ha _ _).mul (hw _ _)).add (Fint.sum _ _ fun n => (hb _ _).mul (hw _ _))

include h0 h1 h2 h3 h4 h5

theorem fin_oA (R d : ℕ) : Fint (oA (X0 x0) (X1 x1) (X2 x2) (X3 x3) (X4 x4) (X5 x5) R d) := by
  have hg := fin_cv _ _ _ _ h3 h0 h1 h2
  have hz := fin_dz _ _ h5 h4
  have hs : ∀ g, Fint g → Fint (dsl g) := fun g hg => hg.sgm.add ((hg.mul hg.sgm).mul (Fint.one.sub hg.sgm))
  refine fin_acc _ _ _ (fin_du _ _ h3 ?_ 0) (fin_du _ _ h3 ?_ 2816) h2 R d
  · exact fun r c => ((hz _ _).mul (hg _ _)).mul (hs _ (hg _ _))
  · exact fun r c => (hz _ _).mul ((hg _ _).mul (hg _ _).sgm)

theorem rG_eq (R n : ℕ) : rG (X5 x5) (X4 x4) (gF (X0 x0) (X1 x1) (X2 x2) (X3 x3)) (vF (X0 x0) (X1 x1) (X2 x2) (X3 x3)) R n
    = cG (X5 x5) (X4 x4) (gF (X0 x0) (X1 x1) (X2 x2) (X3 x3)) (vF (X0 x0) (X1 x1) (X2 x2) (X3 x3)) R n :=
  gate_eq (fin_dz _ _ h5 h4 R n) (fin_cv _ _ _ _ h3 h0 h1 h2 R (2816 + n)) (fin_cv _ _ _ _ h3 h0 h1 h2 R n)

theorem rV_eq (R n : ℕ) : rV (X5 x5) (X4 x4) (gF (X0 x0) (X1 x1) (X2 x2) (X3 x3)) R n
    = cV (X5 x5) (X4 x4) (gF (X0 x0) (X1 x1) (X2 x2) (X3 x3)) R n :=
  value_eq (fin_cv _ _ _ _ h3 h0 h1 h2 R n)

theorem ref_oG (R n : ℕ) (hn : n < 2816) : duG (X3 x3) (rH x0 x1 x2 x3 x4 x5) 0 R n = oG (X0 x0) (X1 x1) (X2 x2) (X3 x3) (X4 x4) (X5 x5) R n := by
  have e : ∀ k, rH x0 x1 x2 x3 x4 x5 k n = cG (X5 x5) (X4 x4) (gF (X0 x0) (X1 x1) (X2 x2) (X3 x3)) (vF (X0 x0) (X1 x1) (X2 x2) (X3 x3)) k n := fun k => by
    unfold rH; rw [if_pos hn]; exact rG_eq x0 x1 x2 x3 x4 x5 h0 h1 h2 h3 h4 h5 k n
  unfold oG duG
  rw [e, e, e]

theorem ref_oV (R n : ℕ) (hn : n < 2816) : duG (X3 x3) (rH x0 x1 x2 x3 x4 x5) 0 R (2816 + n) = oV (X0 x0) (X1 x1) (X2 x2) (X3 x3) (X4 x4) (X5 x5) R n := by
  have e : ∀ k, rH x0 x1 x2 x3 x4 x5 k (2816 + n) = cV (X5 x5) (X4 x4) (gF (X0 x0) (X1 x1) (X2 x2) (X3 x3)) k n := fun k => by
    unfold rH; rw [if_neg (by omega), show 2816 + n - 2816 = n by omega]; exact rV_eq x0 x1 x2 x3 x4 x5 h0 h1 h2 h3 h4 h5 k n
  unfold oV duG
  rw [e, e, e, Nat.zero_add]

theorem ref90 (R d : ℕ) (hR : R < 8192) (hd : d < 1024) : val_main_v90 (F := Ideal) x0 x1 x2 x3 x4 x5 (ix2 ⟨R, hR⟩ ⟨d, hd⟩)
    = oA (X0 x0) (X1 x1) (X2 x2) (X3 x3) (X4 x4) (X5 x5) R d := by
  pointwise [val_main_v90]
  unfold oA accG
  refine (Fin.sum_univ_add (a := 2816) (b := 2816) _).trans (congrArg₂ (· + ·) (Finset.sum_congr rfl fun n _ => ?_) (Finset.sum_congr rfl fun n _ => ?_))
  · have hn : n.val < 5632 := by omega
    show val_main_v86 (F := Ideal) x0 x1 x2 x3 x4 x5 (ix2 ⟨R, hR⟩ ⟨n.val, hn⟩) * x2 (ix2 ⟨d, hd⟩ ⟨n.val, hn⟩) = _
    rw [ref86, ref_oG x0 x1 x2 x3 x4 x5 h0 h1 h2 h3 h4 h5 R n.val n.isLt]
    congr 1
    exact (at2_fin (m := 1024) (n := 5632) x2 ⟨d, hd⟩ ⟨n.val, hn⟩).symm
  · have hn : 2816 + n.val < 5632 := by omega
    show val_main_v86 (F := Ideal) x0 x1 x2 x3 x4 x5 (ix2 ⟨R, hR⟩ ⟨2816 + n.val, hn⟩) * x2 (ix2 ⟨d, hd⟩ ⟨2816 + n.val, hn⟩) = _
    rw [ref86, ref_oV x0 x1 x2 x3 x4 x5 h0 h1 h2 h3 h4 h5 R n.val n.isLt]
    congr 1
    exact (at2_fin (m := 1024) (n := 5632) x2 ⟨d, hd⟩ ⟨2816 + n.val, hn⟩).symm

omit h0 h1 h2 h3 h4 h5 in
theorem ref14 (i : S1x1024.Idx) (hi : (i 0).val = 0) : val_main_v14 (F := Ideal) x1 i = X1 x1 0 (i 1).val := by
  have ei : i = ix2 (n0 := 1) (n1 := 1024) 0 (i 1) := by
    ext a; fin_cases a
    · exact hi
    · rfl
  have e : val_main_v14 (F := Ideal) x1 (ix2 (n0 := 1) (n1 := 1024) 0 (i 1)) = x1 (ix2 (n0 := 1) (n1 := 1024) 0 (i 1)) := by
    pointwise [val_main_v14, val_main_v0]
    exact congrArg x1 ei
  exact (congrArg (val_main_v14 (F := Ideal) x1) ei).trans (e.trans (at2_fin (m := 1) (n := 1024) x1 0 (i 1)).symm)

theorem ref106 (R d : ℕ) (hR : R < 8192) (hd : d < 1024) : val_main_v106 (F := Ideal) x0 x1 x2 x3 x4 x5 (ix2 ⟨R, hR⟩ ⟨d, hd⟩)
    = cfac (oA (X0 x0) (X1 x1) (X2 x2) (X3 x3) (X4 x4) (X5 x5)) (X0 x0) (X1 x1) R := by
  pointwise [val_main_v106, val_main_v105, val_main_cst_22, val_main_v104, val_main_v103, val_main_cst_21, val_main_v102, val_main_v99, val_main_v98, val_main_cst_20, val_main_v97, val_main_v95, val_main_v94]
  rw [Fin.sum_univ_one, ref11]
  unfold cfac
  congr 2
  refine Finset.sum_congr rfl fun e _ => ?_
  rw [ref14 _ _ rfl]
  refine congrArg₂ (· * ·) (at2_fin (m := 8192) (n := 1024) x0 ⟨R, hR⟩ e).symm (congrArg (· * X1 x1 0 e.val) ?_)
  exact ref90 x0 x1 x2 x3 x4 x5 h0 h1 h2 h3 h4 h5 R e.val hR e.isLt

theorem ref115 (i : S8192x1024.Idx) : val_main_v115 (F := Ideal) x0 x1 x2 x3 x4 x5 x6 i
    = oX (X0 x0) (X1 x1) (X2 x2) (X3 x3) (X4 x4) (X5 x5) (at2 (α := EReal) (m := 8192) (n := 1024) x6) (i 0).val (i 1).val := by
  have ei : i = ix2 ⟨(i 0).val, (i 0).isLt⟩ ⟨(i 1).val, (i 1).isLt⟩ := by
    ext a; fin_cases a <;> rfl
  have e90 := (congrArg (val_main_v90 (F := Ideal) x0 x1 x2 x3 x4 x5) ei).trans (ref90 x0 x1 x2 x3 x4 x5 h0 h1 h2 h3 h4 h5 (i 0).val (i 1).val (i 0).isLt (i 1).isLt)
  have e106 := (congrArg (val_main_v106 (F := Ideal) x0 x1 x2 x3 x4 x5) ei).trans (ref106 x0 x1 x2 x3 x4 x5 h0 h1 h2 h3 h4 h5 (i 0).val (i 1).val (i 0).isLt (i 1).isLt)
  pointwise [val_main_v115, val_main_v110, val_main_v109, val_main_v108, val_main_v107, val_main_v101, val_main_v100, val_main_v95, val_main_v94]
  rw [e90, e106, ref14 _ _ rfl, ref8]
  unfold oX
  rw [← norm_eq _ _ _ (fin_oA x0 x1 x2 x3 x4 x5 h0 h1 h2 h3 h4 h5) h0 h1, at2_eq x6 i, show X0 x0 (i 0).val (i 1).val = x0 i from at2_eq x0 i]
  rfl

theorem ref116 (i : S1x1024.Idx) : val_main_v116 (F := Ideal) x0 x1 x2 x3 x4 x5 i
    = oD (X0 x0) (X1 x1) (X2 x2) (X3 x3) (X4 x4) (X5 x5) (i 1).val := by
  pointwise [val_main_v116, val_main_v96, val_main_cst_19, val_main_v93, val_main_v92, val_main_cst_18, val_main_v91, val_main_v13, val_main_v12]
  rw [Fin.sum_univ_one]
  unfold oD
  refine Finset.sum_congr rfl fun R _ => ?_
  rw [ref8, mul_comm]
  refine congrArg₂ (· * ·) (ref90 x0 x1 x2 x3 x4 x5 h0 h1 h2 h3 h4 h5 R.val (i 1).val R.isLt (i 1).isLt) (congrArg (· * rsv (X0 x0) R.val) ?_)
  exact (at2_fin (m := 8192) (n := 1024) x0 R (i 1)).symm

theorem ref112 (i : S8192x2816.Idx) : val_main_v112 (F := Ideal) x0 x1 x2 x3 x4 x5 i
    = oG (X0 x0) (X1 x1) (X2 x2) (X3 x3) (X4 x4) (X5 x5) (i 0).val (i 1).val := by
  have hi : (i 1).val < 2816 := (i 1).isLt
  rw [← ref_oG x0 x1 x2 x3 x4 x5 h0 h1 h2 h3 h4 h5 _ _ hi]
  pointwise [val_main_v112, val_main_v111]
  exact ref86 x0 x1 x2 x3 x4 x5 (i 0).val (i 1).val (i 0).isLt (by omega)

theorem ref114 (i : S8192x2816.Idx) : val_main_v114 (F := Ideal) x0 x1 x2 x3 x4 x5 i
    = oV (X0 x0) (X1 x1) (X2 x2) (X3 x3) (X4 x4) (X5 x5) (i 0).val (i 1).val := by
  have hi : (i 1).val < 2816 := (i 1).isLt
  rw [← ref_oV x0 x1 x2 x3 x4 x5 h0 h1 h2 h3 h4 h5 _ _ hi]
  pointwise [val_main_v114, val_main_v113]
  exact ref86 x0 x1 x2 x3 x4 x5 (i 0).val (2816 + (i 1).val) (i 0).isLt (by omega)

end Cert.KernelIdeal.Hand

end
-- ==== Proof.Pre.lean ====
module

public import proofs.«01_k».proof.Proof.Ref
public import proofs.«01_k».proof.Proof.Gen.Pre_finite
public import Idealize.ShloMosaic.Lib.ReduceAll

@[expose] public section

set_option maxRecDepth 16384

noncomputable section

namespace Cert.KernelIdeal.Hand

open Idealize.ShloMosaic Idealize.ShloMosaic.TcCoe Idealize.ShloMosaic.Tactic

/-- An extended real whose absolute value is below infinity is a real number. -/
theorem fint_of_lt (x : EReal) (h : Ideal.cmp .olt (max x (-x)) (Ideal.ofBits FTy.f32 2139095040#32) = 1#1) : Fint x := by
  have ht : Ideal.ofBits FTy.f32 2139095040#32 = ⊤ := by simp [Ideal.ofBits, Ideal.ieee]
  rw [ht] at h
  have hlt : max x (-x) < ⊤ := by
    by_contra hc
    have hz : Ideal.cmp .olt (max x (-x)) ⊤ = 0#1 := by
      show BitVec.ofBool (decide (max x (-x) < ⊤)) = 0#1
      rw [decide_eq_false hc]; rfl
    rw [hz] at h
    exact absurd h (by decide)
  have h1 : x < ⊤ := lt_of_le_of_lt (le_max_left _ _) hlt
  have h2 : -x < ⊤ := lt_of_le_of_lt (le_max_right _ _) hlt
  induction x using EReal.rec with
  | bot => exact absurd h2 (by simp)
  | top => exact absurd h1 (lt_irrefl _)
  | coe r => exact ⟨r, rfl⟩

theorem and_one (a b : BitVec 1) (h : a &&& b = 1#1) : a = 1#1 ∧ b = 1#1 := by
  revert a b; decide

theorem andi_one (a b : IVec Cert.Pre_finite.S_ 1) (h : andi a b ix0 = 1#1) : a ix0 = 1#1 ∧ b ix0 = 1#1 := and_one _ _ h

theorem pre_all (x0 : FVec Ideal Cert.Pre_finite.S8192x1024 .f32) (x1 : FVec Ideal Cert.Pre_finite.S1x1024 .f32) (x2 : FVec Ideal Cert.Pre_finite.S1024x5632 .f32) (x3 : FVec Ideal Cert.Pre_finite.S3x5632 .f32)
    (x4 : FVec Ideal Cert.Pre_finite.S2816x1024 .f32) (x5 x6 : FVec Ideal Cert.Pre_finite.S8192x1024 .f32)
    (h : Cert.Pre_finite.fn (F := Ideal) x0 x1 x2 x3 x4 x5 x6 = fun _ => 1#1) :
    (∀ i, Fint (x0 i)) ∧ (∀ i, Fint (x1 i)) ∧ (∀ i, Fint (x2 i)) ∧ (∀ i, Fint (x3 i)) ∧ (∀ i, Fint (x4 i)) ∧ (∀ i, Fint (x5 i)) := by
  haveI : Subsingleton Cert.Pre_finite.S_.Idx := ⟨fun a b => funext fun k => k.elim0⟩
  have e := congrFun h ix0
  unfold Cert.Pre_finite.fn Cert.Pre_finite.fn_part1 at e
  obtain ⟨e, q5⟩ := andi_one _ _ e
  obtain ⟨e, q4⟩ := andi_one _ _ e
  obtain ⟨e, q3⟩ := andi_one _ _ e
  obtain ⟨e, q2⟩ := andi_one _ _ e
  obtain ⟨e, q1⟩ := andi_one _ _ e
  obtain ⟨e, q0⟩ := andi_one _ _ e
  exact ⟨fun i => fint_of_lt _ (Host.reduce_andi_all _ _ _ _ _ q0 i), fun i => fint_of_lt _ (Host.reduce_andi_all _ _ _ _ _ q1 i),
    fun i => fint_of_lt _ (Host.reduce_andi_all _ _ _ _ _ q2 i), fun i => fint_of_lt _ (Host.reduce_andi_all _ _ _ _ _ q3 i),
    fun i => fint_of_lt _ (Host.reduce_andi_all _ _ _ _ _ q4 i), fun i => fint_of_lt _ (Host.reduce_andi_all _ _ _ _ _ q5 i)⟩

end Cert.KernelIdeal.Hand

end
-- ==== Proof.Final.lean ====
module

public import proofs.«01_k».proof.Defs
public import proofs.«01_k».proof.Proof.Result
public import proofs.«01_k».proof.Proof.Ref
public import proofs.«01_k».proof.Proof.Pre
public import proofs.«01_k».proof.Proof.Gen.ReferenceIdeal.Run
public import proofs.«01_k».proof.Proof.Gen.ReferenceIdeal.Read

@[expose] public section

noncomputable section

namespace Cert.KernelIdeal.Hand

open Idealize.ShloMosaic Idealize.ShloMosaic.TcCoe Idealize.SL.Sem

variable (m : (ℓ : Loc Cert.KernelIdeal.nD Cert.KernelIdeal.τ Cert.KernelIdeal.sig) → Buf (Elt Ideal) ℓ) (c : Dev Cert.KernelIdeal.nD)

/-- The reference's first result, of finite arguments, is the kernel's. -/
theorem same0 (h : Cert.Pre_KernelIdeal_finite m) : Cert.ReferenceIdeal.Read.val_main_v112 (F := Ideal) (m (c, Cert.KernelIdeal.main_arg0)) (m (c, Cert.KernelIdeal.main_arg1)) (m (c, Cert.KernelIdeal.main_arg2)) (m (c, Cert.KernelIdeal.main_arg3)) (m (c, Cert.KernelIdeal.main_arg4)) (m (c, Cert.KernelIdeal.main_arg5)) = out0 m c := by
  obtain ⟨h0, h1, h2, h3, h4, h5⟩ := pre_all _ _ _ _ _ _ _ (h c)
  funext i
  exact ref112 (m (c, Cert.KernelIdeal.main_arg0)) (m (c, Cert.KernelIdeal.main_arg1)) (m (c, Cert.KernelIdeal.main_arg2)) (m (c, Cert.KernelIdeal.main_arg3)) (m (c, Cert.KernelIdeal.main_arg4)) (m (c, Cert.KernelIdeal.main_arg5)) (fun _ _ => h0 _) (fun _ _ => h1 _) (fun _ _ => h2 _) (fun _ _ => h3 _) (fun _ _ => h4 _) (fun _ _ => h5 _) i

/-- The reference's second result, of finite arguments, is the kernel's. -/
theorem same1 (h : Cert.Pre_KernelIdeal_finite m) : Cert.ReferenceIdeal.Read.val_main_v114 (F := Ideal) (m (c, Cert.KernelIdeal.main_arg0)) (m (c, Cert.KernelIdeal.main_arg1)) (m (c, Cert.KernelIdeal.main_arg2)) (m (c, Cert.KernelIdeal.main_arg3)) (m (c, Cert.KernelIdeal.main_arg4)) (m (c, Cert.KernelIdeal.main_arg5)) = out1 m c := by
  obtain ⟨h0, h1, h2, h3, h4, h5⟩ := pre_all _ _ _ _ _ _ _ (h c)
  funext i
  exact ref114 (m (c, Cert.KernelIdeal.main_arg0)) (m (c, Cert.KernelIdeal.main_arg1)) (m (c, Cert.KernelIdeal.main_arg2)) (m (c, Cert.KernelIdeal.main_arg3)) (m (c, Cert.KernelIdeal.main_arg4)) (m (c, Cert.KernelIdeal.main_arg5)) (fun _ _ => h0 _) (fun _ _ => h1 _) (fun _ _ => h2 _) (fun _ _ => h3 _) (fun _ _ => h4 _) (fun _ _ => h5 _) i

/-- The reference's third result, of finite arguments, is the kernel's. -/
theorem same2 (h : Cert.Pre_KernelIdeal_finite m) : Cert.ReferenceIdeal.Read.val_main_v115 (F := Ideal) (m (c, Cert.KernelIdeal.main_arg0)) (m (c, Cert.KernelIdeal.main_arg1)) (m (c, Cert.KernelIdeal.main_arg2)) (m (c, Cert.KernelIdeal.main_arg3)) (m (c, Cert.KernelIdeal.main_arg4)) (m (c, Cert.KernelIdeal.main_arg5)) (m (c, Cert.KernelIdeal.main_arg6)) = out2 m c := by
  obtain ⟨h0, h1, h2, h3, h4, h5⟩ := pre_all _ _ _ _ _ _ _ (h c)
  funext i
  exact ref115 (m (c, Cert.KernelIdeal.main_arg0)) (m (c, Cert.KernelIdeal.main_arg1)) (m (c, Cert.KernelIdeal.main_arg2)) (m (c, Cert.KernelIdeal.main_arg3)) (m (c, Cert.KernelIdeal.main_arg4)) (m (c, Cert.KernelIdeal.main_arg5)) (m (c, Cert.KernelIdeal.main_arg6)) (fun _ _ => h0 _) (fun _ _ => h1 _) (fun _ _ => h2 _) (fun _ _ => h3 _) (fun _ _ => h4 _) (fun _ _ => h5 _) i

/-- The reference's fourth result, of finite arguments, is the kernel's. -/
theorem same3 (h : Cert.Pre_KernelIdeal_finite m) : Cert.ReferenceIdeal.Read.val_main_v116 (F := Ideal) (m (c, Cert.KernelIdeal.main_arg0)) (m (c, Cert.KernelIdeal.main_arg1)) (m (c, Cert.KernelIdeal.main_arg2)) (m (c, Cert.KernelIdeal.main_arg3)) (m (c, Cert.KernelIdeal.main_arg4)) (m (c, Cert.KernelIdeal.main_arg5)) = out3 m c := by
  obtain ⟨h0, h1, h2, h3, h4, h5⟩ := pre_all _ _ _ _ _ _ _ (h c)
  funext i
  exact ref116 (m (c, Cert.KernelIdeal.main_arg0)) (m (c, Cert.KernelIdeal.main_arg1)) (m (c, Cert.KernelIdeal.main_arg2)) (m (c, Cert.KernelIdeal.main_arg3)) (m (c, Cert.KernelIdeal.main_arg4)) (m (c, Cert.KernelIdeal.main_arg5)) (fun _ _ => h0 _) (fun _ _ => h1 _) (fun _ _ => h2 _) (fun _ _ => h3 _) (fun _ _ => h4 _) (fun _ _ => h5 _) i

/-- The reference runs, leaves its arguments unchanged, and every semaphore ends at zero. -/
theorem reference_frame : Cert.quiescent_ReferenceIdeal := by
  intro m g _
  exact (θ_run Cert.ReferenceIdeal.defs _ _).mono (fun r h => ⟨fun c => (h c).2.2.2.2, sem_eq_zero_of_no_sems (by decide) r.2⟩)
    (Cert.ReferenceIdeal.Value.run (F := Ideal) m g)

/-- From equal finite arguments the kernel and the reference end with equal results. -/
theorem equal_results : Cert.algebraic_KernelIdeal_ReferenceIdeal_pre_finite := by
  intro m g m' g' hpre hagree
  refine ⟨out0 m, out1 m, out2 m, out3 m, (θ_run Cert.KernelIdeal.defs _ _).mono (fun r h c => h.1 c) (run_results m g), ?_⟩
  refine (θ_run Cert.ReferenceIdeal.defs _ _).mono (fun r h c => ?_) (Cert.ReferenceIdeal.Value.run (F := Ideal) m' g')
  obtain ⟨e0, e1, e2, e3, e4, e5, e6⟩ := hagree c
  obtain ⟨r0, r1, r2, r3, rest⟩ := h c
  have q0 : r.2.mem ((c.tc : Thread Cert.ReferenceIdeal.nD Cert.ReferenceIdeal.τ).loc Cert.ReferenceIdeal.main_v112) = Cert.ReferenceIdeal.Read.val_main_v112 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := r0.trans (Cert.ReferenceIdeal.Read.val_main_v112_eq (F := Ideal) (StableHlo.launchContents m' c))
  rw [e0, e1, e2, e3, e4, e5] at q0
  have q1 : r.2.mem ((c.tc : Thread Cert.ReferenceIdeal.nD Cert.ReferenceIdeal.τ).loc Cert.ReferenceIdeal.main_v114) = Cert.ReferenceIdeal.Read.val_main_v114 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := r1.trans (Cert.ReferenceIdeal.Read.val_main_v114_eq (F := Ideal) (StableHlo.launchContents m' c))
  rw [e0, e1, e2, e3, e4, e5] at q1
  have q2 : r.2.mem ((c.tc : Thread Cert.ReferenceIdeal.nD Cert.ReferenceIdeal.τ).loc Cert.ReferenceIdeal.main_v115) = Cert.ReferenceIdeal.Read.val_main_v115 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) := r2.trans (Cert.ReferenceIdeal.Read.val_main_v115_eq (F := Ideal) (StableHlo.launchContents m' c))
  rw [e0, e1, e2, e3, e4, e5, e6] at q2
  have q3 : r.2.mem ((c.tc : Thread Cert.ReferenceIdeal.nD Cert.ReferenceIdeal.τ).loc Cert.ReferenceIdeal.main_v116) = Cert.ReferenceIdeal.Read.val_main_v116 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := r3.trans (Cert.ReferenceIdeal.Read.val_main_v116_eq (F := Ideal) (StableHlo.launchContents m' c))
  rw [e0, e1, e2, e3, e4, e5] at q3
  exact ⟨q0.trans (same0 m c hpre), q1.trans (same1 m c hpre), q2.trans (same2 m c hpre), q3.trans (same3 m c hpre), rest⟩

end Cert.KernelIdeal.Hand

end
-- ==== Proof.lean ====
/- The claims. The backward pass of the gated feed-forward block: the kernel and its ideal run and leave their arguments
   unchanged, and from finite arguments the ideal kernel's four results are the reference's. The gradients of the down,
   input and up projections' weights, the input projection itself, the forward passes of the feed-forward block and of the
   mixers' output, and the optimiser on every weight: the same, from any arguments. -/
module

public import proofs.«01_k».proof.Proof.DwDown
public import proofs.«01_k».proof.Proof.Gen.DwDown.Frame
public import proofs.«01_k».proof.Proof.Gen.DwDownIdeal.Frame
public import proofs.«01_k».proof.Proof.DwIn
public import proofs.«01_k».proof.Proof.Gen.DwIn.Frame
public import proofs.«01_k».proof.Proof.Gen.DwInIdeal.Frame
public import proofs.«01_k».proof.Proof.DwGate
public import proofs.«01_k».proof.Proof.Gen.DwGate.Frame
public import proofs.«01_k».proof.Proof.Gen.DwGateIdeal.Frame
public import proofs.«01_k».proof.Proof.DwVal
public import proofs.«01_k».proof.Proof.Gen.DwVal.Frame
public import proofs.«01_k».proof.Proof.Gen.DwValIdeal.Frame
public import proofs.«01_k».proof.Proof.ProjIn
public import proofs.«01_k».proof.Proof.Gen.ProjIn.Frame
public import proofs.«01_k».proof.Proof.Gen.ProjInIdeal.Frame
public import proofs.«01_k».proof.Proof.Ffn
public import proofs.«01_k».proof.Proof.Gen.Ffn.Frame
public import proofs.«01_k».proof.Proof.Gen.FfnIdeal.Frame
public import proofs.«01_k».proof.Proof.Mix
public import proofs.«01_k».proof.Proof.AdamBig
public import proofs.«01_k».proof.Proof.AdamSmall
public import proofs.«01_k».proof.Proof.AdamFlat
public import proofs.«01_k».proof.Proof.Gen.AdamUpIdeal.Frame
public import proofs.«01_k».proof.Proof.Gen.AdamInIdeal.Frame
public import proofs.«01_k».proof.Proof.Gen.AdamOutIdeal.Frame
public import proofs.«01_k».proof.Proof.Gen.AdamDownIdeal.Frame
public import proofs.«01_k».proof.Proof.Gen.AdamNormIdeal.Frame
public import proofs.«01_k».proof.Proof.Gen.AdamConvIdeal.Frame
public import proofs.«01_k».proof.Proof.Gen.AdamGateIdeal.Frame
public import proofs.«01_k».proof.Proof.Gen.AdamBiasIdeal.Frame
public import proofs.«01_k».proof.Proof.Gen.AdamHeadIdeal.Frame
public import proofs.«01_k».proof.Proof.Gen.AdamConvFIdeal.Frame
public import proofs.«01_k».proof.Proof.Gen.Mix.Frame
public import proofs.«01_k».proof.Proof.Gen.MixIdeal.Frame
public import proofs.«01_k».proof.Defs
public import proofs.«01_k».proof.Proof.KFrame
public import proofs.«01_k».proof.Proof.Final
public import proofs.«01_k».proof.Proof.Gen.Pre_finite

@[expose] public section

noncomputable section

namespace Cert.Proof

open Idealize.ShloMosaic Idealize.SL.Sem Cert.KernelIdeal.Hand

/-- The ideal kernel runs, leaves its arguments unchanged, and every semaphore ends at zero. -/
theorem ideal_frame : Cert.quiescent_KernelIdeal := fun m g _ =>
  (θ_run Cert.KernelIdeal.defs _ _).mono (fun _ h => ⟨fun c => (h.1 c).2.2.2.2, h.2⟩) (run_results m g)

theorem claim : Cert.Claim := ⟨Cert.Kernel.Gen.facts, Cert.KernelIdeal.Gen.facts, Cert.ReferenceIdeal.Gen.facts,
  Cert.DwDown.Gen.facts, Cert.DwDownIdeal.Gen.facts, Cert.DwDownRefIdeal.Gen.facts,
  Cert.DwIn.Gen.facts, Cert.DwInIdeal.Gen.facts, Cert.DwInRefIdeal.Gen.facts,
  Cert.DwGate.Gen.facts, Cert.DwGateIdeal.Gen.facts, Cert.DwGateRefIdeal.Gen.facts,
  Cert.DwVal.Gen.facts, Cert.DwValIdeal.Gen.facts, Cert.DwValRefIdeal.Gen.facts,
  Cert.ProjIn.Gen.facts, Cert.ProjInIdeal.Gen.facts, Cert.ProjInRefIdeal.Gen.facts,
  Cert.Ffn.Gen.facts, Cert.FfnIdeal.Gen.facts, Cert.FfnRefIdeal.Gen.facts,
  Cert.Mix.Gen.facts, Cert.MixIdeal.Gen.facts, Cert.MixRefIdeal.Gen.facts,
  Cert.AdamUp.Gen.facts, Cert.AdamUpIdeal.Gen.facts, Cert.AdamUpRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamDown.Gen.facts, Cert.AdamDownIdeal.Gen.facts, Cert.AdamDownRefIdeal.Gen.facts,
  Cert.AdamNorm.Gen.facts, Cert.AdamNormIdeal.Gen.facts, Cert.AdamNormRefIdeal.Gen.facts,
  Cert.AdamConv.Gen.facts, Cert.AdamConvIdeal.Gen.facts, Cert.AdamConvRefIdeal.Gen.facts,
  Cert.AdamGate.Gen.facts, Cert.AdamGateIdeal.Gen.facts, Cert.AdamGateRefIdeal.Gen.facts,
  Cert.AdamBias.Gen.facts, Cert.AdamBiasIdeal.Gen.facts, Cert.AdamBiasRefIdeal.Gen.facts,
  Cert.AdamHead.Gen.facts, Cert.AdamHeadIdeal.Gen.facts, Cert.AdamHeadRefIdeal.Gen.facts,
  Cert.AdamConvF.Gen.facts, Cert.AdamConvFIdeal.Gen.facts, Cert.AdamConvFRefIdeal.Gen.facts,
  Cert.Pre_finite.Gen.facts,
  fun m ρ _ => Cert.Kernel.Whole.frame m ρ, ideal_frame, fun m g _ => ideal_frame m g trivial, reference_frame,
  fun m g _ => reference_frame m g trivial,
  fun m ρ _ => Cert.DwDown.Gen.frame m ρ, fun m ρ _ => Cert.DwDownIdeal.Gen.frame m ρ, Cert.DwDownIdeal.Hand.reference_frame,
  fun m ρ _ => Cert.DwIn.Gen.frame m ρ, fun m ρ _ => Cert.DwInIdeal.Gen.frame m ρ, Cert.DwInIdeal.Hand.reference_frame,
  fun m ρ _ => Cert.DwGate.Gen.frame m ρ, fun m ρ _ => Cert.DwGateIdeal.Gen.frame m ρ, Cert.DwGateIdeal.Hand.reference_frame,
  fun m ρ _ => Cert.DwVal.Gen.frame m ρ, fun m ρ _ => Cert.DwValIdeal.Gen.frame m ρ, Cert.DwValIdeal.Hand.reference_frame,
  fun m ρ _ => Cert.ProjIn.Gen.frame m ρ, fun m ρ _ => Cert.ProjInIdeal.Gen.frame m ρ, Cert.ProjInIdeal.Hand.reference_frame,
  fun m ρ _ => Cert.Ffn.Gen.frame m ρ, fun m ρ _ => Cert.FfnIdeal.Gen.frame m ρ, Cert.FfnIdeal.Hand.reference_frame,
  fun m ρ _ => Cert.Mix.Gen.frame m ρ, fun m ρ _ => Cert.MixIdeal.Gen.frame m ρ, Cert.MixIdeal.Hand.reference_frame,
  fun m ρ _ => Cert.AdamUp.Gen.frame m ρ, fun m ρ _ => Cert.AdamUpIdeal.Gen.frame m ρ, Cert.AdamUpIdeal.Hand.reference_frame,
  fun m ρ _ => Cert.AdamIn.Gen.frame m ρ, fun m ρ _ => Cert.AdamInIdeal.Gen.frame m ρ, Cert.AdamInIdeal.Hand.reference_frame,
  fun m ρ _ => Cert.AdamOut.Gen.frame m ρ, fun m ρ _ => Cert.AdamOutIdeal.Gen.frame m ρ, Cert.AdamOutIdeal.Hand.reference_frame,
  fun m ρ _ => Cert.AdamDown.Gen.frame m ρ, fun m ρ _ => Cert.AdamDownIdeal.Gen.frame m ρ, Cert.AdamDownIdeal.Hand.reference_frame,
  fun m ρ _ => Cert.AdamNorm.Gen.frame m ρ, fun m ρ _ => Cert.AdamNormIdeal.Gen.frame m ρ, Cert.AdamNormIdeal.Hand.reference_frame,
  fun m ρ _ => Cert.AdamConv.Gen.frame m ρ, fun m ρ _ => Cert.AdamConvIdeal.Gen.frame m ρ, Cert.AdamConvIdeal.Hand.reference_frame,
  fun m ρ _ => Cert.AdamGate.Gen.frame m ρ, fun m ρ _ => Cert.AdamGateIdeal.Gen.frame m ρ, Cert.AdamGateIdeal.Hand.reference_frame,
  fun m ρ _ => Cert.AdamBias.Gen.frame m ρ, fun m ρ _ => Cert.AdamBiasIdeal.Gen.frame m ρ, Cert.AdamBiasIdeal.Hand.reference_frame,
  fun m ρ _ => Cert.AdamHead.Gen.frame m ρ, fun m ρ _ => Cert.AdamHeadIdeal.Gen.frame m ρ, Cert.AdamHeadIdeal.Hand.reference_frame,
  fun m ρ _ => Cert.AdamConvF.Gen.frame m ρ, fun m ρ _ => Cert.AdamConvFIdeal.Gen.frame m ρ, Cert.AdamConvFIdeal.Hand.reference_frame,
  trivial, equal_results,
  trivial, Cert.DwDownIdeal.Hand.equal_results,
  trivial, Cert.DwInIdeal.Hand.equal_results,
  trivial, Cert.DwGateIdeal.Hand.equal_results,
  trivial, Cert.DwValIdeal.Hand.equal_results,
  trivial, Cert.ProjInIdeal.Hand.equal_results,
  trivial, Cert.FfnIdeal.Hand.equal_results,
  trivial, Cert.MixIdeal.Hand.equal_results,
  trivial, Cert.AdamUpIdeal.Hand.equal_results,
  trivial, Cert.AdamInIdeal.Hand.equal_results,
  trivial, Cert.AdamOutIdeal.Hand.equal_results,
  trivial, Cert.AdamDownIdeal.Hand.equal_results,
  trivial, Cert.AdamNormIdeal.Hand.equal_results,
  trivial, Cert.AdamConvIdeal.Hand.equal_results,
  trivial, Cert.AdamGateIdeal.Hand.equal_results,
  trivial, Cert.AdamBiasIdeal.Hand.equal_results,
  trivial, Cert.AdamHeadIdeal.Hand.equal_results,
  trivial, Cert.AdamConvFIdeal.Hand.equal_results⟩

end Cert.Proof

end
